-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjRefIdeal (m : (ℓ : Loc Cert.DwProjRefIdeal.nD Cert.DwProjRefIdeal.τ Cert.DwProjRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_DxFfn (m : (ℓ : Loc Cert.DxFfn.nD Cert.DxFfn.τ Cert.DxFfn.sig) → Buf (Elt Bits) ℓ) : Prop :=
  True

def Pre_DxFfnIdeal (m : (ℓ : Loc Cert.DxFfnIdeal.nD Cert.DxFfnIdeal.τ Cert.DxFfnIdeal.sig) → Buf (Elt Ideal) ℓ) : Prop :=
  True

def Pre_DxFfnRefIdeal (m : (ℓ : Loc Cert.DxFfnRefIdeal.nD Cert.DxFfnRefIdeal.τ Cert.DxFfnRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_swiglu [hPre_finite_swiglu : Cert.Pre_finite_swiglu.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))) = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_finite_swiglu [hPre_finite_swiglu : Cert.Pre_finite_swiglu.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))) = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdRefIdeal (m : (ℓ : Loc Cert.PleBwdRefIdeal.nD Cert.PleBwdRefIdeal.τ Cert.PleBwdRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_MmProj (m : (ℓ : Loc Cert.MmProj.nD Cert.MmProj.τ Cert.MmProj.sig) → Buf (Elt Bits) ℓ) : Prop :=
  True

def Pre_MmProjIdeal (m : (ℓ : Loc Cert.MmProjIdeal.nD Cert.MmProjIdeal.τ Cert.MmProjIdeal.sig) → Buf (Elt Ideal) ℓ) : Prop :=
  True

def Pre_MmProjRefIdeal (m : (ℓ : Loc Cert.MmProjRefIdeal.nD Cert.MmProjRefIdeal.τ Cert.MmProjRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_head [hPre_finite_head : Cert.Pre_finite_head.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_head [hPre_finite_head : Cert.Pre_finite_head.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjRefIdeal [hDwProjRefIdeal : Cert.DwProjRefIdeal.Facts] : Prop :=
  ∀ (m : (ℓ : Loc Cert.DwProjRefIdeal.nD Cert.DwProjRefIdeal.τ Cert.DwProjRefIdeal.sig) → Buf (Elt Ideal) ℓ) (g : Dev Cert.DwProjRefIdeal.nD → PrngReg), Pre_DwProjRefIdeal m →
    θ_run (Cert.DwProjRefIdeal.defs (F := Ideal)) (onTc (τ := Cert.DwProjRefIdeal.τ) (Cert.DwProjRefIdeal.main (F := Ideal))) ⟨m, fun _ => 0, g⟩ (fun r => (∀ c : Dev Cert.DwProjRefIdeal.nD,
      r.2.mem ((c.tc : Thread Cert.DwProjRefIdeal.nD Cert.DwProjRefIdeal.τ).loc Cert.DwProjRefIdeal.main_arg0) = m ((c.tc : Thread Cert.DwProjRefIdeal.nD Cert.DwProjRefIdeal.τ).loc Cert.DwProjRefIdeal.main_arg0)
      ∧ r.2.mem ((c.tc : Thread Cert.DwProjRefIdeal.nD Cert.DwProjRefIdeal.τ).loc Cert.DwProjRefIdeal.main_arg1) = m ((c.tc : Thread Cert.DwProjRefIdeal.nD Cert.DwProjRefIdeal.τ).loc Cert.DwProjRefIdeal.main_arg1))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_DxFfn [hDxFfn : Cert.DxFfn.Facts] : Prop :=
  ∀ (m : (ℓ : Loc Cert.DxFfn.nD Cert.DxFfn.τ Cert.DxFfn.sig) → Buf (Elt Bits) ℓ) (g : Dev Cert.DxFfn.nD → PrngReg), Pre_DxFfn m →
    θ_run (Cert.DxFfn.defs (F := Bits)) (onTc (τ := Cert.DxFfn.τ) (Cert.DxFfn.main (F := Bits))) ⟨m, fun _ => 0, g⟩ (fun r => (∀ c : Dev Cert.DxFfn.nD,
      r.2.mem ((c.tc : Thread Cert.DxFfn.nD Cert.DxFfn.τ).loc Cert.DxFfn.main_arg0) = m ((c.tc : Thread Cert.DxFfn.nD Cert.DxFfn.τ).loc Cert.DxFfn.main_arg0)
      ∧ r.2.mem ((c.tc : Thread Cert.DxFfn.nD Cert.DxFfn.τ).loc Cert.DxFfn.main_arg1) = m ((c.tc : Thread Cert.DxFfn.nD Cert.DxFfn.τ).loc Cert.DxFfn.main_arg1)
      ∧ r.2.mem ((c.tc : Thread Cert.DxFfn.nD Cert.DxFfn.τ).loc Cert.DxFfn.main_arg2) = m ((c.tc : Thread Cert.DxFfn.nD Cert.DxFfn.τ).loc Cert.DxFfn.main_arg2)
      ∧ r.2.mem ((c.tc : Thread Cert.DxFfn.nD Cert.DxFfn.τ).loc Cert.DxFfn.main_arg3) = m ((c.tc : Thread Cert.DxFfn.nD Cert.DxFfn.τ).loc Cert.DxFfn.main_arg3))
      ∧ r.2.sem = fun _ => 0)

def quiescent_DxFfnIdeal [hDxFfnIdeal : Cert.DxFfnIdeal.Facts] : Prop :=
  ∀ (m : (ℓ : Loc Cert.DxFfnIdeal.nD Cert.DxFfnIdeal.τ Cert.DxFfnIdeal.sig) → Buf (Elt Ideal) ℓ) (g : Dev Cert.DxFfnIdeal.nD → PrngReg), Pre_DxFfnIdeal m →
    θ_run (Cert.DxFfnIdeal.defs (F := Ideal)) (onTc (τ := Cert.DxFfnIdeal.τ) (Cert.DxFfnIdeal.main (F := Ideal))) ⟨m, fun _ => 0, g⟩ (fun r => (∀ c : Dev Cert.DxFfnIdeal.nD,
      r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
      ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
      ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
      ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3))
      ∧ r.2.sem = fun _ => 0)

def quiescent_DxFfnRefIdeal [hDxFfnRefIdeal : Cert.DxFfnRefIdeal.Facts] : Prop :=
  ∀ (m : (ℓ : Loc Cert.DxFfnRefIdeal.nD Cert.DxFfnRefIdeal.τ Cert.DxFfnRefIdeal.sig) → Buf (Elt Ideal) ℓ) (g : Dev Cert.DxFfnRefIdeal.nD → PrngReg), Pre_DxFfnRefIdeal m →
    θ_run (Cert.DxFfnRefIdeal.defs (F := Ideal)) (onTc (τ := Cert.DxFfnRefIdeal.τ) (Cert.DxFfnRefIdeal.main (F := Ideal))) ⟨m, fun _ => 0, g⟩ (fun r => (∀ c : Dev Cert.DxFfnRefIdeal.nD,
      r.2.mem ((c.tc : Thread Cert.DxFfnRefIdeal.nD Cert.DxFfnRefIdeal.τ).loc Cert.DxFfnRefIdeal.main_arg0) = m ((c.tc : Thread Cert.DxFfnRefIdeal.nD Cert.DxFfnRefIdeal.τ).loc Cert.DxFfnRefIdeal.main_arg0)
      ∧ r.2.mem ((c.tc : Thread Cert.DxFfnRefIdeal.nD Cert.DxFfnRefIdeal.τ).loc Cert.DxFfnRefIdeal.main_arg1) = m ((c.tc : Thread Cert.DxFfnRefIdeal.nD Cert.DxFfnRefIdeal.τ).loc Cert.DxFfnRefIdeal.main_arg1)
      ∧ r.2.mem ((c.tc : Thread Cert.DxFfnRefIdeal.nD Cert.DxFfnRefIdeal.τ).loc Cert.DxFfnRefIdeal.main_arg2) = m ((c.tc : Thread Cert.DxFfnRefIdeal.nD Cert.DxFfnRefIdeal.τ).loc Cert.DxFfnRefIdeal.main_arg2)
      ∧ r.2.mem ((c.tc : Thread Cert.DxFfnRefIdeal.nD Cert.DxFfnRefIdeal.τ).loc Cert.DxFfnRefIdeal.main_arg3) = m ((c.tc : Thread Cert.DxFfnRefIdeal.nD Cert.DxFfnRefIdeal.τ).loc Cert.DxFfnRefIdeal.main_arg3))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdIdeal_pre_finite_swiglu [hSwigluBwdIdeal : Cert.SwigluBwdIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_swiglu m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_SwigluBwdRefIdeal_pre_finite_swiglu [hSwigluBwdRefIdeal : Cert.SwigluBwdRefIdeal.Facts] [hPre_finite_swiglu : Cert.Pre_finite_swiglu.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_finite_swiglu m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1)
      ∧ r.2.mem ((c.tc : Thread Cert.SwigluFwd.nD Cert.SwigluFwd.τ).loc Cert.SwigluFwd.main_arg2) = m ((c.tc : Thread Cert.SwigluFwd.nD Cert.SwigluFwd.τ).loc Cert.SwigluFwd.main_arg2))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1)
      ∧ r.2.mem ((c.tc : Thread Cert.SwigluFwdIdeal.nD Cert.SwigluFwdIdeal.τ).loc Cert.SwigluFwdIdeal.main_arg2) = m ((c.tc : Thread Cert.SwigluFwdIdeal.nD Cert.SwigluFwdIdeal.τ).loc Cert.SwigluFwdIdeal.main_arg2))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1)
      ∧ r.2.mem ((c.tc : Thread Cert.SwigluFwdRefIdeal.nD Cert.SwigluFwdRefIdeal.τ).loc Cert.SwigluFwdRefIdeal.main_arg2) = m ((c.tc : Thread Cert.SwigluFwdRefIdeal.nD Cert.SwigluFwdRefIdeal.τ).loc Cert.SwigluFwdRefIdeal.main_arg2))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3))
      ∧ r.2.sem = fun _ => 0)

def quiescent_MmProj [hMmProj : Cert.MmProj.Facts] : Prop :=
  ∀ (m : (ℓ : Loc Cert.MmProj.nD Cert.MmProj.τ Cert.MmProj.sig) → Buf (Elt Bits) ℓ) (g : Dev Cert.MmProj.nD → PrngReg), Pre_MmProj m →
    θ_run (Cert.MmProj.defs (F := Bits)) (onTc (τ := Cert.MmProj.τ) (Cert.MmProj.main (F := Bits))) ⟨m, fun _ => 0, g⟩ (fun r => (∀ c : Dev Cert.MmProj.nD,
      r.2.mem ((c.tc : Thread Cert.MmProj.nD Cert.MmProj.τ).loc Cert.MmProj.main_arg0) = m ((c.tc : Thread Cert.MmProj.nD Cert.MmProj.τ).loc Cert.MmProj.main_arg0)
      ∧ r.2.mem ((c.tc : Thread Cert.MmProj.nD Cert.MmProj.τ).loc Cert.MmProj.main_arg1) = m ((c.tc : Thread Cert.MmProj.nD Cert.MmProj.τ).loc Cert.MmProj.main_arg1))
      ∧ r.2.sem = fun _ => 0)

def quiescent_MmProjIdeal [hMmProjIdeal : Cert.MmProjIdeal.Facts] : Prop :=
  ∀ (m : (ℓ : Loc Cert.MmProjIdeal.nD Cert.MmProjIdeal.τ Cert.MmProjIdeal.sig) → Buf (Elt Ideal) ℓ) (g : Dev Cert.MmProjIdeal.nD → PrngReg), Pre_MmProjIdeal m →
    θ_run (Cert.MmProjIdeal.defs (F := Ideal)) (onTc (τ := Cert.MmProjIdeal.τ) (Cert.MmProjIdeal.main (F := Ideal))) ⟨m, fun _ => 0, g⟩ (fun r => (∀ c : Dev Cert.MmProjIdeal.nD,
      r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
      ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ r.2.sem = fun _ => 0)

def quiescent_MmProjRefIdeal [hMmProjRefIdeal : Cert.MmProjRefIdeal.Facts] : Prop :=
  ∀ (m : (ℓ : Loc Cert.MmProjRefIdeal.nD Cert.MmProjRefIdeal.τ Cert.MmProjRefIdeal.sig) → Buf (Elt Ideal) ℓ) (g : Dev Cert.MmProjRefIdeal.nD → PrngReg), Pre_MmProjRefIdeal m →
    θ_run (Cert.MmProjRefIdeal.defs (F := Ideal)) (onTc (τ := Cert.MmProjRefIdeal.τ) (Cert.MmProjRefIdeal.main (F := Ideal))) ⟨m, fun _ => 0, g⟩ (fun r => (∀ c : Dev Cert.MmProjRefIdeal.nD,
      r.2.mem ((c.tc : Thread Cert.MmProjRefIdeal.nD Cert.MmProjRefIdeal.τ).loc Cert.MmProjRefIdeal.main_arg0) = m ((c.tc : Thread Cert.MmProjRefIdeal.nD Cert.MmProjRefIdeal.τ).loc Cert.MmProjRefIdeal.main_arg0)
      ∧ r.2.mem ((c.tc : Thread Cert.MmProjRefIdeal.nD Cert.MmProjRefIdeal.τ).loc Cert.MmProjRefIdeal.main_arg1) = m ((c.tc : Thread Cert.MmProjRefIdeal.nD Cert.MmProjRefIdeal.τ).loc Cert.MmProjRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_head [hLossHeadIdeal : Cert.LossHeadIdeal.Facts] [hPre_finite_head : Cert.Pre_finite_head.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_head m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_head [hLossHeadRefIdeal : Cert.LossHeadRefIdeal.Facts] [hPre_finite_head : Cert.Pre_finite_head.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_head m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v174) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_v175) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v8) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwProj_DwProjIdeal : Prop :=
  True

def algebraic_DwProjIdeal_DwProjRefIdeal [hDwProjIdeal : Cert.DwProjIdeal.Facts] [hDwProjRefIdeal : Cert.DwProjRefIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjRefIdeal.nD Cert.DwProjRefIdeal.τ Cert.DwProjRefIdeal.sig) → Buf (Elt Ideal) ℓ) (g' : Dev Cert.DwProjRefIdeal.nD → PrngReg), Pre_DwProjIdeal m →
    (∀ c : Dev Cert.DwProjIdeal.nD,
      m' ((c.tc : Thread Cert.DwProjRefIdeal.nD Cert.DwProjRefIdeal.τ).loc Cert.DwProjRefIdeal.main_arg0) = m ((c.tc : Thread Cert.DwProjIdeal.nD Cert.DwProjIdeal.τ).loc Cert.DwProjIdeal.main_arg0)
      ∧ m' ((c.tc : Thread Cert.DwProjRefIdeal.nD Cert.DwProjRefIdeal.τ).loc Cert.DwProjRefIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v0)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v0) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjRefIdeal.defs (F := Ideal)) (onTc (τ := Cert.DwProjRefIdeal.τ) (Cert.DwProjRefIdeal.main (F := Ideal))) ⟨m', fun _ => 0, g'⟩ (fun r => ∀ c : Dev Cert.DwProjRefIdeal.nD,
          r.2.mem ((c.tc : Thread Cert.DwProjRefIdeal.nD Cert.DwProjRefIdeal.τ).loc Cert.DwProjRefIdeal.main_v8) = v0 c
          ∧ r.2.mem ((c.tc : Thread Cert.DwProjRefIdeal.nD Cert.DwProjRefIdeal.τ).loc Cert.DwProjRefIdeal.main_arg0) = m' ((c.tc : Thread Cert.DwProjRefIdeal.nD Cert.DwProjRefIdeal.τ).loc Cert.DwProjRefIdeal.main_arg0)
          ∧ r.2.mem ((c.tc : Thread Cert.DwProjRefIdeal.nD Cert.DwProjRefIdeal.τ).loc Cert.DwProjRefIdeal.main_arg1) = m' ((c.tc : Thread Cert.DwProjRefIdeal.nD Cert.DwProjRefIdeal.τ).loc Cert.DwProjRefIdeal.main_arg1))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)) →
    ∃ (v0 : (c : Dev Cert.DxInIdeal.nD) → Buf (Elt Ideal) ((c.tc : Thread Cert.DxInIdeal.nD Cert.DxInIdeal.τ).loc Cert.DxInIdeal.main_v4)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v4) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v4) = v0 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v4)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v4) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v4) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_DxFfn_DxFfnIdeal : Prop :=
  True

def algebraic_DxFfnIdeal_DxFfnRefIdeal [hDxFfnIdeal : Cert.DxFfnIdeal.Facts] [hDxFfnRefIdeal : Cert.DxFfnRefIdeal.Facts] : Prop :=
  ∀ (m : (ℓ : Loc Cert.DxFfnIdeal.nD Cert.DxFfnIdeal.τ Cert.DxFfnIdeal.sig) → Buf (Elt Ideal) ℓ) (g : Dev Cert.DxFfnIdeal.nD → PrngReg)
    (m' : (ℓ : Loc Cert.DxFfnRefIdeal.nD Cert.DxFfnRefIdeal.τ Cert.DxFfnRefIdeal.sig) → Buf (Elt Ideal) ℓ) (g' : Dev Cert.DxFfnRefIdeal.nD → PrngReg), Pre_DxFfnIdeal m →
    (∀ c : Dev Cert.DxFfnIdeal.nD,
      m' ((c.tc : Thread Cert.DxFfnRefIdeal.nD Cert.DxFfnRefIdeal.τ).loc Cert.DxFfnRefIdeal.main_arg0) = m ((c.tc : Thread Cert.DxFfnIdeal.nD Cert.DxFfnIdeal.τ).loc Cert.DxFfnIdeal.main_arg0)
      ∧ m' ((c.tc : Thread Cert.DxFfnRefIdeal.nD Cert.DxFfnRefIdeal.τ).loc Cert.DxFfnRefIdeal.main_arg1) = m ((c.tc : Thread Cert.DxFfnIdeal.nD Cert.DxFfnIdeal.τ).loc Cert.DxFfnIdeal.main_arg1)
      ∧ m' ((c.tc : Thread Cert.DxFfnRefIdeal.nD Cert.DxFfnRefIdeal.τ).loc Cert.DxFfnRefIdeal.main_arg2) = m ((c.tc : Thread Cert.DxFfnIdeal.nD Cert.DxFfnIdeal.τ).loc Cert.DxFfnIdeal.main_arg2)
      ∧ m' ((c.tc : Thread Cert.DxFfnRefIdeal.nD Cert.DxFfnRefIdeal.τ).loc Cert.DxFfnRefIdeal.main_arg3) = m ((c.tc : Thread Cert.DxFfnIdeal.nD Cert.DxFfnIdeal.τ).loc Cert.DxFfnIdeal.main_arg3)) →
    ∃ (v0 : (c : Dev Cert.DxFfnIdeal.nD) → Buf (Elt Ideal) ((c.tc : Thread Cert.DxFfnIdeal.nD Cert.DxFfnIdeal.τ).loc Cert.DxFfnIdeal.main_v8)),
      θ_run (Cert.DxFfnIdeal.defs (F := Ideal)) (onTc (τ := Cert.DxFfnIdeal.τ) (Cert.DxFfnIdeal.main (F := Ideal))) ⟨m, fun _ => 0, g⟩ (fun r => ∀ c : Dev Cert.DxFfnIdeal.nD,
          r.2.mem ((c.tc : Thread Cert.DxFfnIdeal.nD Cert.DxFfnIdeal.τ).loc Cert.DxFfnIdeal.main_v8) = v0 c
          ∧ r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
          ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
          ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
          ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3))
      ∧ θ_run (Cert.DxFfnRefIdeal.defs (F := Ideal)) (onTc (τ := Cert.DxFfnRefIdeal.τ) (Cert.DxFfnRefIdeal.main (F := Ideal))) ⟨m', fun _ => 0, g'⟩ (fun r => ∀ c : Dev Cert.DxFfnRefIdeal.nD,
          r.2.mem ((c.tc : Thread Cert.DxFfnRefIdeal.nD Cert.DxFfnRefIdeal.τ).loc Cert.DxFfnRefIdeal.main_v8) = v0 c
          ∧ r.2.mem ((c.tc : Thread Cert.DxFfnRefIdeal.nD Cert.DxFfnRefIdeal.τ).loc Cert.DxFfnRefIdeal.main_arg0) = m' ((c.tc : Thread Cert.DxFfnRefIdeal.nD Cert.DxFfnRefIdeal.τ).loc Cert.DxFfnRefIdeal.main_arg0)
          ∧ r.2.mem ((c.tc : Thread Cert.DxFfnRefIdeal.nD Cert.DxFfnRefIdeal.τ).loc Cert.DxFfnRefIdeal.main_arg1) = m' ((c.tc : Thread Cert.DxFfnRefIdeal.nD Cert.DxFfnRefIdeal.τ).loc Cert.DxFfnRefIdeal.main_arg1)
          ∧ r.2.mem ((c.tc : Thread Cert.DxFfnRefIdeal.nD Cert.DxFfnRefIdeal.τ).loc Cert.DxFfnRefIdeal.main_arg2) = m' ((c.tc : Thread Cert.DxFfnRefIdeal.nD Cert.DxFfnRefIdeal.τ).loc Cert.DxFfnRefIdeal.main_arg2)
          ∧ r.2.mem ((c.tc : Thread Cert.DxFfnRefIdeal.nD Cert.DxFfnRefIdeal.τ).loc Cert.DxFfnRefIdeal.main_arg3) = m' ((c.tc : Thread Cert.DxFfnRefIdeal.nD Cert.DxFfnRefIdeal.τ).loc Cert.DxFfnRefIdeal.main_arg3))

def preserves_SwigluBwd_SwigluBwdIdeal : Prop :=
  True

def algebraic_SwigluBwdIdeal_SwigluBwdRefIdeal_pre_finite_swiglu [hSwigluBwdIdeal : Cert.SwigluBwdIdeal.Facts] [hSwigluBwdRefIdeal : Cert.SwigluBwdRefIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_finite_swiglu m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)
      ∧ m' ((c.tc : Thread Cert.SwigluBwdRefIdeal.nD Cert.SwigluBwdRefIdeal.τ).loc Cert.SwigluBwdRefIdeal.main_arg3) = m ((c.tc : Thread Cert.SwigluBwdIdeal.nD Cert.SwigluBwdIdeal.τ).loc Cert.SwigluBwdIdeal.main_arg3)) →
    ∃ (v0 : (c : Dev Cert.SwigluBwdIdeal.nD) → Buf (Elt Ideal) ((c.tc : Thread Cert.SwigluBwdIdeal.nD Cert.SwigluBwdIdeal.τ).loc Cert.SwigluBwdIdeal.main_v4_0)) (v1 : (c : Dev Cert.SwigluBwdIdeal.nD) → Buf (Elt Ideal) ((c.tc : Thread Cert.SwigluBwdIdeal.nD Cert.SwigluBwdIdeal.τ).loc Cert.SwigluBwdIdeal.main_v4_1)) (v2 : (c : Dev Cert.SwigluBwdIdeal.nD) → Buf (Elt Ideal) ((c.tc : Thread Cert.SwigluBwdIdeal.nD Cert.SwigluBwdIdeal.τ).loc Cert.SwigluBwdIdeal.main_v4_2)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v4_0) = v0 c
          ∧ r.2.mem ((c.tc : Thread Cert.SwigluBwdIdeal.nD Cert.SwigluBwdIdeal.τ).loc Cert.SwigluBwdIdeal.main_v4_1) = v1 c
          ∧ r.2.mem ((c.tc : Thread Cert.SwigluBwdIdeal.nD Cert.SwigluBwdIdeal.τ).loc Cert.SwigluBwdIdeal.main_v4_2) = v2 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v10) = v0 c
          ∧ r.2.mem ((c.tc : Thread Cert.SwigluBwdRefIdeal.nD Cert.SwigluBwdRefIdeal.τ).loc Cert.SwigluBwdRefIdeal.main_v11) = v1 c
          ∧ r.2.mem ((c.tc : Thread Cert.SwigluBwdRefIdeal.nD Cert.SwigluBwdRefIdeal.τ).loc Cert.SwigluBwdRefIdeal.main_v14) = v2 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2)
          ∧ r.2.mem ((c.tc : Thread Cert.SwigluBwdRefIdeal.nD Cert.SwigluBwdRefIdeal.τ).loc Cert.SwigluBwdRefIdeal.main_arg3) = m' ((c.tc : Thread Cert.SwigluBwdRefIdeal.nD Cert.SwigluBwdRefIdeal.τ).loc Cert.SwigluBwdRefIdeal.main_arg3))

def preserves_PleBwd_PleBwdIdeal : Prop :=
  True

def algebraic_PleBwdIdeal_PleBwdRefIdeal [hPleBwdIdeal : Cert.PleBwdIdeal.Facts] [hPleBwdRefIdeal : Cert.PleBwdRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)) →
    ∃ (v0 : (c : Dev Cert.PleBwdIdeal.nD) → Buf (Elt Ideal) ((c.tc : Thread Cert.PleBwdIdeal.nD Cert.PleBwdIdeal.τ).loc Cert.PleBwdIdeal.main_v0_0)) (v1 : (c : Dev Cert.PleBwdIdeal.nD) → Buf (Elt Ideal) ((c.tc : Thread Cert.PleBwdIdeal.nD Cert.PleBwdIdeal.τ).loc Cert.PleBwdIdeal.main_v0_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v0_0) = v0 c
          ∧ r.2.mem ((c.tc : Thread Cert.PleBwdIdeal.nD Cert.PleBwdIdeal.τ).loc Cert.PleBwdIdeal.main_v0_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v15) = v0 c
          ∧ r.2.mem ((c.tc : Thread Cert.PleBwdRefIdeal.nD Cert.PleBwdRefIdeal.τ).loc Cert.PleBwdRefIdeal.main_v16) = v1 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v4)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v4) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v1) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)) →
    ∃ (v0 : (c : Dev Cert.MmOutIdeal.nD) → Buf (Elt Ideal) ((c.tc : Thread Cert.MmOutIdeal.nD Cert.MmOutIdeal.τ).loc Cert.MmOutIdeal.main_v4)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v4) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v2) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v4)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v4) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v2) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)
      ∧ m' ((c.tc : Thread Cert.SwigluFwdRefIdeal.nD Cert.SwigluFwdRefIdeal.τ).loc Cert.SwigluFwdRefIdeal.main_arg2) = m ((c.tc : Thread Cert.SwigluFwdIdeal.nD Cert.SwigluFwdIdeal.τ).loc Cert.SwigluFwdIdeal.main_arg2)) →
    ∃ (v0 : (c : Dev Cert.SwigluFwdIdeal.nD) → Buf (Elt Ideal) ((c.tc : Thread Cert.SwigluFwdIdeal.nD Cert.SwigluFwdIdeal.τ).loc Cert.SwigluFwdIdeal.main_v8_0)) (v1 : (c : Dev Cert.SwigluFwdIdeal.nD) → Buf (Elt Ideal) ((c.tc : Thread Cert.SwigluFwdIdeal.nD Cert.SwigluFwdIdeal.τ).loc Cert.SwigluFwdIdeal.main_v8_1)) (v2 : (c : Dev Cert.SwigluFwdIdeal.nD) → Buf (Elt Ideal) ((c.tc : Thread Cert.SwigluFwdIdeal.nD Cert.SwigluFwdIdeal.τ).loc Cert.SwigluFwdIdeal.main_v8_2)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v8_0) = v0 c
          ∧ r.2.mem ((c.tc : Thread Cert.SwigluFwdIdeal.nD Cert.SwigluFwdIdeal.τ).loc Cert.SwigluFwdIdeal.main_v8_1) = v1 c
          ∧ r.2.mem ((c.tc : Thread Cert.SwigluFwdIdeal.nD Cert.SwigluFwdIdeal.τ).loc Cert.SwigluFwdIdeal.main_v8_2) = v2 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1)
          ∧ r.2.mem ((c.tc : Thread Cert.SwigluFwdIdeal.nD Cert.SwigluFwdIdeal.τ).loc Cert.SwigluFwdIdeal.main_arg2) = m ((c.tc : Thread Cert.SwigluFwdIdeal.nD Cert.SwigluFwdIdeal.τ).loc Cert.SwigluFwdIdeal.main_arg2))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v5) = v0 c
          ∧ r.2.mem ((c.tc : Thread Cert.SwigluFwdRefIdeal.nD Cert.SwigluFwdRefIdeal.τ).loc Cert.SwigluFwdRefIdeal.main_v6) = v1 c
          ∧ r.2.mem ((c.tc : Thread Cert.SwigluFwdRefIdeal.nD Cert.SwigluFwdRefIdeal.τ).loc Cert.SwigluFwdRefIdeal.main_v7) = v2 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1)
          ∧ r.2.mem ((c.tc : Thread Cert.SwigluFwdRefIdeal.nD Cert.SwigluFwdRefIdeal.τ).loc Cert.SwigluFwdRefIdeal.main_arg2) = m' ((c.tc : Thread Cert.SwigluFwdRefIdeal.nD Cert.SwigluFwdRefIdeal.τ).loc Cert.SwigluFwdRefIdeal.main_arg2))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)) →
    ∃ (v0 : (c : Dev Cert.PleFwdIdeal.nD) → Buf (Elt Ideal) ((c.tc : Thread Cert.PleFwdIdeal.nD Cert.PleFwdIdeal.τ).loc Cert.PleFwdIdeal.main_v4_0)) (v1 : (c : Dev Cert.PleFwdIdeal.nD) → Buf (Elt Ideal) ((c.tc : Thread Cert.PleFwdIdeal.nD Cert.PleFwdIdeal.τ).loc Cert.PleFwdIdeal.main_v4_1)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v4_0) = v0 c
          ∧ r.2.mem ((c.tc : Thread Cert.PleFwdIdeal.nD Cert.PleFwdIdeal.τ).loc Cert.PleFwdIdeal.main_v4_1) = v1 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v10) = v0 c
          ∧ r.2.mem ((c.tc : Thread Cert.PleFwdRefIdeal.nD Cert.PleFwdRefIdeal.τ).loc Cert.PleFwdRefIdeal.main_v11) = v1 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3))

def preserves_MmProj_MmProjIdeal : Prop :=
  True

def algebraic_MmProjIdeal_MmProjRefIdeal [hMmProjIdeal : Cert.MmProjIdeal.Facts] [hMmProjRefIdeal : Cert.MmProjRefIdeal.Facts] : Prop :=
  ∀ (m : (ℓ : Loc Cert.MmProjIdeal.nD Cert.MmProjIdeal.τ Cert.MmProjIdeal.sig) → Buf (Elt Ideal) ℓ) (g : Dev Cert.MmProjIdeal.nD → PrngReg)
    (m' : (ℓ : Loc Cert.MmProjRefIdeal.nD Cert.MmProjRefIdeal.τ Cert.MmProjRefIdeal.sig) → Buf (Elt Ideal) ℓ) (g' : Dev Cert.MmProjRefIdeal.nD → PrngReg), Pre_MmProjIdeal m →
    (∀ c : Dev Cert.MmProjIdeal.nD,
      m' ((c.tc : Thread Cert.MmProjRefIdeal.nD Cert.MmProjRefIdeal.τ).loc Cert.MmProjRefIdeal.main_arg0) = m ((c.tc : Thread Cert.MmProjIdeal.nD Cert.MmProjIdeal.τ).loc Cert.MmProjIdeal.main_arg0)
      ∧ m' ((c.tc : Thread Cert.MmProjRefIdeal.nD Cert.MmProjRefIdeal.τ).loc Cert.MmProjRefIdeal.main_arg1) = m ((c.tc : Thread Cert.MmProjIdeal.nD Cert.MmProjIdeal.τ).loc Cert.MmProjIdeal.main_arg1)) →
    ∃ (v0 : (c : Dev Cert.MmProjIdeal.nD) → Buf (Elt Ideal) ((c.tc : Thread Cert.MmProjIdeal.nD Cert.MmProjIdeal.τ).loc Cert.MmProjIdeal.main_v4)),
      θ_run (Cert.MmProjIdeal.defs (F := Ideal)) (onTc (τ := Cert.MmProjIdeal.τ) (Cert.MmProjIdeal.main (F := Ideal))) ⟨m, fun _ => 0, g⟩ (fun r => ∀ c : Dev Cert.MmProjIdeal.nD,
          r.2.mem ((c.tc : Thread Cert.MmProjIdeal.nD Cert.MmProjIdeal.τ).loc Cert.MmProjIdeal.main_v4) = v0 c
          ∧ r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
          ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ θ_run (Cert.MmProjRefIdeal.defs (F := Ideal)) (onTc (τ := Cert.MmProjRefIdeal.τ) (Cert.MmProjRefIdeal.main (F := Ideal))) ⟨m', fun _ => 0, g'⟩ (fun r => ∀ c : Dev Cert.MmProjRefIdeal.nD,
          r.2.mem ((c.tc : Thread Cert.MmProjRefIdeal.nD Cert.MmProjRefIdeal.τ).loc Cert.MmProjRefIdeal.main_v2) = v0 c
          ∧ r.2.mem ((c.tc : Thread Cert.MmProjRefIdeal.nD Cert.MmProjRefIdeal.τ).loc Cert.MmProjRefIdeal.main_arg0) = m' ((c.tc : Thread Cert.MmProjRefIdeal.nD Cert.MmProjRefIdeal.τ).loc Cert.MmProjRefIdeal.main_arg0)
          ∧ r.2.mem ((c.tc : Thread Cert.MmProjRefIdeal.nD Cert.MmProjRefIdeal.τ).loc Cert.MmProjRefIdeal.main_arg1) = m' ((c.tc : Thread Cert.MmProjRefIdeal.nD Cert.MmProjRefIdeal.τ).loc Cert.MmProjRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v2)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v23) = v0 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v3_0)) (v1 : (c : Dev Cert.LnBwdIdeal.nD) → Buf (Elt Ideal) ((c.tc : Thread Cert.LnBwdIdeal.nD Cert.LnBwdIdeal.τ).loc Cert.LnBwdIdeal.main_v3_1)) (v2 : (c : Dev Cert.LnBwdIdeal.nD) → Buf (Elt Ideal) ((c.tc : Thread Cert.LnBwdIdeal.nD Cert.LnBwdIdeal.τ).loc Cert.LnBwdIdeal.main_v3_2)) (v3 : (c : Dev Cert.LnBwdIdeal.nD) → Buf (Elt Ideal) ((c.tc : Thread Cert.LnBwdIdeal.nD Cert.LnBwdIdeal.τ).loc Cert.LnBwdIdeal.main_v3_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v3_0) = v0 c
          ∧ r.2.mem ((c.tc : Thread Cert.LnBwdIdeal.nD Cert.LnBwdIdeal.τ).loc Cert.LnBwdIdeal.main_v3_1) = v1 c
          ∧ r.2.mem ((c.tc : Thread Cert.LnBwdIdeal.nD Cert.LnBwdIdeal.τ).loc Cert.LnBwdIdeal.main_v3_2) = v2 c
          ∧ r.2.mem ((c.tc : Thread Cert.LnBwdIdeal.nD Cert.LnBwdIdeal.τ).loc Cert.LnBwdIdeal.main_v3_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v59) = v0 c
          ∧ r.2.mem ((c.tc : Thread Cert.LnBwdRefIdeal.nD Cert.LnBwdRefIdeal.τ).loc Cert.LnBwdRefIdeal.main_v60) = v1 c
          ∧ r.2.mem ((c.tc : Thread Cert.LnBwdRefIdeal.nD Cert.LnBwdRefIdeal.τ).loc Cert.LnBwdRefIdeal.main_v61) = v2 c
          ∧ r.2.mem ((c.tc : Thread Cert.LnBwdRefIdeal.nD Cert.LnBwdRefIdeal.τ).loc Cert.LnBwdRefIdeal.main_v63) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_SguFwd_SguFwdIdeal : Prop :=
  IdealRules.named_const.Statement Cert.SguFwdIdeal.κ "gelu_c" .f32 0x3D372713#32 ((8943 / 200000 : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v70) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_LossHead_LossHeadIdeal : Prop :=
  True

def algebraic_LossHeadIdeal_LossHeadRefIdeal_pre_finite_head [hLossHeadIdeal : Cert.LossHeadIdeal.Facts] [hLossHeadRefIdeal : Cert.LossHeadRefIdeal.Facts] [hPre_finite_head : Cert.Pre_finite_head.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_head m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hKernel : Cert.Kernel.Facts) (hKernelIdeal : Cert.KernelIdeal.Facts) (hReferenceIdeal : Cert.ReferenceIdeal.Facts) (hDwGate : Cert.DwGate.Facts) (hDwGateIdeal : Cert.DwGateIdeal.Facts) (hDwGateRefIdeal : Cert.DwGateRefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDwProj : Cert.DwProj.Facts) (hDwProjIdeal : Cert.DwProjIdeal.Facts) (hDwProjRefIdeal : Cert.DwProjRefIdeal.Facts) (hDxIn : Cert.DxIn.Facts) (hDxInIdeal : Cert.DxInIdeal.Facts) (hDxInRefIdeal : Cert.DxInRefIdeal.Facts) (hDxOut : Cert.DxOut.Facts) (hDxOutIdeal : Cert.DxOutIdeal.Facts) (hDxOutRefIdeal : Cert.DxOutRefIdeal.Facts) (hDxFfn : Cert.DxFfn.Facts) (hDxFfnIdeal : Cert.DxFfnIdeal.Facts) (hDxFfnRefIdeal : Cert.DxFfnRefIdeal.Facts) (hSwigluBwd : Cert.SwigluBwd.Facts) (hSwigluBwdIdeal : Cert.SwigluBwdIdeal.Facts) (hSwigluBwdRefIdeal : Cert.SwigluBwdRefIdeal.Facts) (hPleBwd : Cert.PleBwd.Facts) (hPleBwdIdeal : Cert.PleBwdIdeal.Facts) (hPleBwdRefIdeal : Cert.PleBwdRefIdeal.Facts) (hMmIn : Cert.MmIn.Facts) (hMmInIdeal : Cert.MmInIdeal.Facts) (hMmInRefIdeal : Cert.MmInRefIdeal.Facts) (hMmOut : Cert.MmOut.Facts) (hMmOutIdeal : Cert.MmOutIdeal.Facts) (hMmOutRefIdeal : Cert.MmOutRefIdeal.Facts) (hMmDown : Cert.MmDown.Facts) (hMmDownIdeal : Cert.MmDownIdeal.Facts) (hMmDownRefIdeal : Cert.MmDownRefIdeal.Facts) (hSwigluFwd : Cert.SwigluFwd.Facts) (hSwigluFwdIdeal : Cert.SwigluFwdIdeal.Facts) (hSwigluFwdRefIdeal : Cert.SwigluFwdRefIdeal.Facts) (hPleFwd : Cert.PleFwd.Facts) (hPleFwdIdeal : Cert.PleFwdIdeal.Facts) (hPleFwdRefIdeal : Cert.PleFwdRefIdeal.Facts) (hMmProj : Cert.MmProj.Facts) (hMmProjIdeal : Cert.MmProjIdeal.Facts) (hMmProjRefIdeal : Cert.MmProjRefIdeal.Facts) (hRmsFwd : Cert.RmsFwd.Facts) (hRmsFwdIdeal : Cert.RmsFwdIdeal.Facts) (hRmsFwdRefIdeal : Cert.RmsFwdRefIdeal.Facts) (hLnFwd : Cert.LnFwd.Facts) (hLnFwdIdeal : Cert.LnFwdIdeal.Facts) (hLnFwdRefIdeal : Cert.LnFwdRefIdeal.Facts) (hLnBwd : Cert.LnBwd.Facts) (hLnBwdIdeal : Cert.LnBwdIdeal.Facts) (hLnBwdRefIdeal : Cert.LnBwdRefIdeal.Facts) (hSguFwd : Cert.SguFwd.Facts) (hSguFwdIdeal : Cert.SguFwdIdeal.Facts) (hSguFwdRefIdeal : Cert.SguFwdRefIdeal.Facts) (hLossHead : Cert.LossHead.Facts) (hLossHeadIdeal : Cert.LossHeadIdeal.Facts) (hLossHeadRefIdeal : Cert.LossHeadRefIdeal.Facts) (hAdamW : Cert.AdamW.Facts) (hAdamWIdeal : Cert.AdamWIdeal.Facts) (hAdamWRefIdeal : Cert.AdamWRefIdeal.Facts) (hPre_finite : Cert.Pre_finite.Facts) (hPre_finite_swiglu : Cert.Pre_finite_swiglu.Facts) (hPre_finite_ln : Cert.Pre_finite_ln.Facts) (hPre_finite_head : Cert.Pre_finite_head.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwProj (hDwProj := hDwProj)
    ∧ quiescent_DwProjIdeal (hDwProjIdeal := hDwProjIdeal)
    ∧ quiescent_DwProjRefIdeal (hDwProjRefIdeal := hDwProjRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_DxFfn (hDxFfn := hDxFfn)
    ∧ quiescent_DxFfnIdeal (hDxFfnIdeal := hDxFfnIdeal)
    ∧ quiescent_DxFfnRefIdeal (hDxFfnRefIdeal := hDxFfnRefIdeal)
    ∧ quiescent_SwigluBwd (hSwigluBwd := hSwigluBwd)
    ∧ quiescent_SwigluBwdIdeal (hSwigluBwdIdeal := hSwigluBwdIdeal)
    ∧ quiescent_SwigluBwdIdeal_pre_finite_swiglu (hSwigluBwdIdeal := hSwigluBwdIdeal) (hPre_finite_swiglu := hPre_finite_swiglu)
    ∧ quiescent_SwigluBwdRefIdeal (hSwigluBwdRefIdeal := hSwigluBwdRefIdeal)
    ∧ quiescent_SwigluBwdRefIdeal_pre_finite_swiglu (hSwigluBwdRefIdeal := hSwigluBwdRefIdeal) (hPre_finite_swiglu := hPre_finite_swiglu)
    ∧ quiescent_PleBwd (hPleBwd := hPleBwd)
    ∧ quiescent_PleBwdIdeal (hPleBwdIdeal := hPleBwdIdeal)
    ∧ quiescent_PleBwdRefIdeal (hPleBwdRefIdeal := hPleBwdRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_MmProj (hMmProj := hMmProj)
    ∧ quiescent_MmProjIdeal (hMmProjIdeal := hMmProjIdeal)
    ∧ quiescent_MmProjRefIdeal (hMmProjRefIdeal := hMmProjRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_LossHead (hLossHead := hLossHead)
    ∧ quiescent_LossHeadIdeal (hLossHeadIdeal := hLossHeadIdeal)
    ∧ quiescent_LossHeadIdeal_pre_finite_head (hLossHeadIdeal := hLossHeadIdeal) (hPre_finite_head := hPre_finite_head)
    ∧ quiescent_LossHeadRefIdeal (hLossHeadRefIdeal := hLossHeadRefIdeal)
    ∧ quiescent_LossHeadRefIdeal_pre_finite_head (hLossHeadRefIdeal := hLossHeadRefIdeal) (hPre_finite_head := hPre_finite_head)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwGate_DwGateIdeal
    ∧ algebraic_DwGateIdeal_DwGateRefIdeal (hDwGateIdeal := hDwGateIdeal) (hDwGateRefIdeal := hDwGateRefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DwProj_DwProjIdeal
    ∧ algebraic_DwProjIdeal_DwProjRefIdeal (hDwProjIdeal := hDwProjIdeal) (hDwProjRefIdeal := hDwProjRefIdeal)
    ∧ preserves_DxIn_DxInIdeal
    ∧ algebraic_DxInIdeal_DxInRefIdeal (hDxInIdeal := hDxInIdeal) (hDxInRefIdeal := hDxInRefIdeal)
    ∧ preserves_DxOut_DxOutIdeal
    ∧ algebraic_DxOutIdeal_DxOutRefIdeal (hDxOutIdeal := hDxOutIdeal) (hDxOutRefIdeal := hDxOutRefIdeal)
    ∧ preserves_DxFfn_DxFfnIdeal
    ∧ algebraic_DxFfnIdeal_DxFfnRefIdeal (hDxFfnIdeal := hDxFfnIdeal) (hDxFfnRefIdeal := hDxFfnRefIdeal)
    ∧ preserves_SwigluBwd_SwigluBwdIdeal
    ∧ algebraic_SwigluBwdIdeal_SwigluBwdRefIdeal_pre_finite_swiglu (hSwigluBwdIdeal := hSwigluBwdIdeal) (hSwigluBwdRefIdeal := hSwigluBwdRefIdeal) (hPre_finite_swiglu := hPre_finite_swiglu)
    ∧ preserves_PleBwd_PleBwdIdeal
    ∧ algebraic_PleBwdIdeal_PleBwdRefIdeal (hPleBwdIdeal := hPleBwdIdeal) (hPleBwdRefIdeal := hPleBwdRefIdeal)
    ∧ preserves_MmIn_MmInIdeal
    ∧ algebraic_MmInIdeal_MmInRefIdeal (hMmInIdeal := hMmInIdeal) (hMmInRefIdeal := hMmInRefIdeal)
    ∧ preserves_MmOut_MmOutIdeal
    ∧ algebraic_MmOutIdeal_MmOutRefIdeal (hMmOutIdeal := hMmOutIdeal) (hMmOutRefIdeal := hMmOutRefIdeal)
    ∧ preserves_MmDown_MmDownIdeal
    ∧ algebraic_MmDownIdeal_MmDownRefIdeal (hMmDownIdeal := hMmDownIdeal) (hMmDownRefIdeal := hMmDownRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_PleFwd_PleFwdIdeal
    ∧ algebraic_PleFwdIdeal_PleFwdRefIdeal (hPleFwdIdeal := hPleFwdIdeal) (hPleFwdRefIdeal := hPleFwdRefIdeal)
    ∧ preserves_MmProj_MmProjIdeal
    ∧ algebraic_MmProjIdeal_MmProjRefIdeal (hMmProjIdeal := hMmProjIdeal) (hMmProjRefIdeal := hMmProjRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_LnFwd_LnFwdIdeal
    ∧ algebraic_LnFwdIdeal_LnFwdRefIdeal (hLnFwdIdeal := hLnFwdIdeal) (hLnFwdRefIdeal := hLnFwdRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_SguFwd_SguFwdIdeal
    ∧ algebraic_SguFwdIdeal_SguFwdRefIdeal (hSguFwdIdeal := hSguFwdIdeal) (hSguFwdRefIdeal := hSguFwdRefIdeal)
    ∧ preserves_LossHead_LossHeadIdeal
    ∧ algebraic_LossHeadIdeal_LossHeadRefIdeal_pre_finite_head (hLossHeadIdeal := hLossHeadIdeal) (hLossHeadRefIdeal := hLossHeadRefIdeal) (hPre_finite_head := hPre_finite_head)
    ∧ preserves_AdamW_AdamWIdeal
    ∧ algebraic_AdamWIdeal_AdamWRefIdeal (hAdamWIdeal := hAdamWIdeal) (hAdamWRefIdeal := hAdamWRefIdeal)
-- ==== Pre_finite.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg4 : FVec F S4x128x128 .f32) (main_arg5 : FVec F S4x128 .f32) (main_v14 : IVec S_ 1) (main_v15 : FVec F S4x128 .f32) (main_v16 : FVec F S4x128 .f32) : IVec S_ 1 :=
  let main_v17 : IVec S4x128 1 := cmpf .olt main_v15 main_v16
  let main_c_5 : IVec S_ 1 := constantI S_ 1 1#1
  let main_v18 : IVec S_ 1 := (fun x v => Host.reduce IntOp.andi x v reducesTo_S4x128_S_d0_1 h_S_) main_v17 main_c_5
  let main_v19 : IVec S_ 1 := andi main_v14 main_v18
  let main_v20 : FVec F S4x128x128 .f32 := Host.absf main_arg4
  let main_cst_6 : FVec F S_ .f32 := constant S_ .f32 0x7F800000#32
  let main_v21 : FVec F S4x128x128 .f32 := broadcastInDim S4x128x128 ![] bcast_S_S4x128x128 main_cst_6
  let main_v22 : IVec S4x128x128 1 := cmpf .olt main_v20 main_v21
  let main_c_7 : IVec S_ 1 := constantI S_ 1 1#1
  let main_v23 : IVec S_ 1 := (fun x v => Host.reduce IntOp.andi x v reducesTo_S4x128x128_S_d0_1_2 h_S_) main_v22 main_c_7
  let main_v24 : IVec S_ 1 := andi main_v19 main_v23
  let main_v25 : FVec F S4x128 .f32 := Host.absf main_arg5
  let main_cst_8 : FVec F S_ .f32 := constant S_ .f32 0x7F800000#32
  let main_v26 : FVec F S4x128 .f32 := broadcastInDim S4x128 ![] bcast_S_S4x128 main_cst_8
  let main_v27 : IVec S4x128 1 := cmpf .olt main_v25 main_v26
  let main_c_9 : IVec S_ 1 := constantI S_ 1 1#1
  let main_v28 : IVec S_ 1 := (fun x v => Host.reduce IntOp.andi x v reducesTo_S4x128_S_d0_1 h_S_) main_v27 main_c_9
  let main_v29 : IVec S_ 1 := andi main_v24 main_v28
  main_v29

def fn {F : FTy → Type} [FloatOps F] (main_arg0 : FVec F S4096x4096 .f32) (main_arg1 : FVec F S4096x2048 .bf16) (main_arg2 : FVec F S4x128 .f32) (main_arg3 : FVec F S4x128 .f32) (main_arg4 : FVec F S4x128x128 .f32) (main_arg5 : FVec F S4x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S4x128 .f32 := Host.absf main_arg2
  let main_cst_2 : FVec F S_ .f32 := constant S_ .f32 0x7F800000#32
  let main_v11 : FVec F S4x128 .f32 := broadcastInDim S4x128 ![] bcast_S_S4x128 main_cst_2
  let main_v12 : IVec S4x128 1 := cmpf .olt main_v10 main_v11
  let main_c_3 : IVec S_ 1 := constantI S_ 1 1#1
  let main_v13 : IVec S_ 1 := (fun x v => Host.reduce IntOp.andi x v reducesTo_S4x128_S_d0_1 h_S_) main_v12 main_c_3
  let main_v14 : IVec S_ 1 := andi main_v9 main_v13
  let main_v15 : FVec F S4x128 .f32 := Host.absf main_arg3
  let main_cst_4 : FVec F S_ .f32 := constant S_ .f32 0x7F800000#32
  let main_v16 : FVec F S4x128 .f32 := broadcastInDim S4x128 ![] bcast_S_S4x128 main_cst_4
  fn_part1 (F := F) main_arg4 main_arg5 main_v14 main_v15 main_v16
-- ==== Pre_finite_head.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_finite_ln.lean ====
abbrev S4096x512 : Shape := ⟨2, ![4096, 512]⟩
abbrev S4096x2048 : Shape := ⟨2, ![4096, 2048]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  main_v19

def fn {F : FTy → Type} [FloatOps F] (main_arg0 : FVec F S4096x512 .f32) (main_arg1 : FVec F S4096x2048 .bf16) (main_arg2 : FVec F S512 .f32) (main_arg3 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S512 .f32 := Host.absf main_arg2
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_v14 main_v15 main_v16
-- ==== Pre_finite_swiglu.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bcast_S_S5632x2048 : S_.BroadcastsInDim S5632x2048 (![] : Fin 0 → Fin S5632x2048.rank)
  reducesTo_S5632x2048_S_d0_1 : S5632x2048.ReducesTo [0, 1] S_
  h_S_ : 0 < S_.numel
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .bf16) (main_arg1 : FVec F S5632x2048 .f32) (main_arg2 : FVec F S4096x5632 .bf16) (main_arg3 : FVec F S4096x5632 .bf16) : IVec S_ 1 :=
  let main_v0 : FVec F S5632x2048 .f32 := Host.absf main_arg1
  let main_cst : FVec F S_ .f32 := constant S_ .f32 0x7F800000#32
  let main_v1 : FVec F S5632x2048 .f32 := broadcastInDim S5632x2048 ![] bcast_S_S5632x2048 main_cst
  let main_v2 : IVec S5632x2048 1 := cmpf .olt main_v0 main_v1
  let main_c : IVec S_ 1 := constantI S_ 1 1#1
  let main_v3 : IVec S_ 1 := (fun x v => Host.reduce IntOp.andi x v reducesTo_S5632x2048_S_d0_1 h_S_) main_v2 main_c
  let main_v4 : FVec F S4096x2048 .f32 := (extf .f32 · bitsLt_bf16_f32) main_arg0
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S4096x5632 .f32 := (extf .f32 · bitsLt_bf16_f32) main_arg3
  let main_v11 : FVec F S4096x5632 .f32 := Host.absf main_v10
  let main_cst_2 : FVec F S_ .f32 := constant S_ .f32 0x7F800000#32
  let main_v12 : FVec F S4096x5632 .f32 := broadcastInDim S4096x5632 ![] bcast_S_S4096x5632 main_cst_2
  let main_v13 : IVec S4096x5632 1 := cmpf .olt main_v11 main_v12
  let main_c_3 : IVec S_ 1 := constantI S_ 1 1#1
  let main_v14 : IVec S_ 1 := (fun x v => Host.reduce IntOp.andi x v reducesTo_S4096x5632_S_d0_1 h_S_) main_v13 main_c_3
  let main_v15 : IVec S_ 1 := andi main_v9 main_v14
  main_v15
-- ==== Kernel.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S4x1x128 : Shape := ⟨3, ![4, 1, 128]⟩
abbrev S4x128x1 : Shape := ⟨3, ![4, 128, 1]⟩
abbrev S4096x512 : Shape := ⟨2, ![4096, 512]⟩
abbrev S1024x128 : Shape := ⟨2, ![1024, 128]⟩
abbrev S1x1x128 : Shape := ⟨3, ![1, 1, 128]⟩
abbrev S1x128x128 : Shape := ⟨3, ![1, 128, 128]⟩
abbrev S1x128x1 : Shape := ⟨3, ![1, 128, 1]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 16
  | .vmem => 27
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S4x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S4x1x128, .f32⟩
  | .hbm, ⟨7, _⟩ => ⟨S4x1x128, .f32⟩
  | .hbm, ⟨8, _⟩ => ⟨S4x128x1, .f32⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4x1x128, .f32⟩
  | .hbm, ⟨13, _⟩ => ⟨S4x1x128, .f32⟩
  | .hbm, ⟨14, _⟩ => ⟨S4x128x128, .f32⟩
  | .hbm, ⟨15, _⟩ => ⟨S4x128x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .bf16⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x128x128, .f32⟩
  | .local _ .vmem, ⟨11, _⟩ => ⟨S1x128x128, .f32⟩
  | .local _ .vmem, ⟨12, _⟩ => ⟨S1x128x1, .f32⟩
  | .local _ .vmem, ⟨13, _⟩ => ⟨S1x128x1, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x128x128, .f32⟩
  | .local _ .vmem, ⟨23, _⟩ => ⟨S1x128x128, .f32⟩
  | .local _ .vmem, ⟨24, _⟩ => ⟨S1x128x1, .f32⟩
  | .local _ .vmem, ⟨25, _⟩ => ⟨S1x128x1, .f32⟩
  | .local _ .vmem, ⟨26, _⟩ => ⟨S128x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v1280 : BitVec 1 := Scalar.cmpi .eq arg1 c3_i32
  let v1281 : BitVec 32 := Scalar.extui v1280
  let c0_i32_519 : BitVec 32 := 0#32
  let v1282 : BitVec 1 := Scalar.cmpi .ne v1281 c0_i32_519
  v1282

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S4096x512 : Shape := ⟨2, ![4096, 512]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S128x4x1 : Shape := ⟨3, ![128, 4, 1]⟩
abbrev S1x128x4x1 : Shape := ⟨4, ![1, 128, 4, 1]⟩
abbrev S4x1x128 : Shape := ⟨3, ![4, 1, 128]⟩
abbrev S4x128x1 : Shape := ⟨3, ![4, 128, 1]⟩

abbrev nBuf : Space → Nat
  | .hbm => 239
  | .vmem => 0
  | .smem => 0
  | _ => 0

abbrev hbmTy0_0 (i : Nat) : BufTy := match i % 128 with
  | 0 => ⟨S4096x4096, .f32⟩
  | 1 => ⟨S4096x2048, .bf16⟩
  | 2 => ⟨S4x128, .f32⟩
  | 3 => ⟨S4x128, .f32⟩
  | 4 => ⟨S4x128x128, .f32⟩
  | 5 => ⟨S4x128, .f32⟩
  | 6 => ⟨S4096x512, .f32⟩
  | 7 => ⟨S4096x512, .f32⟩
  | 8 => ⟨S4096x512, .bf16⟩
  | 9 => ⟨S4096x512, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S4096x4x128, .f32⟩
  | 65 => ⟨S_, .f32⟩
  | 66 => ⟨S4096x4, .f32⟩
  | 67 => ⟨S4096x4x1, .f32⟩
  | 68 => ⟨S_, .f32⟩
  | 69 => ⟨S4096x4x1, .f32⟩
  | 70 => ⟨S4096x4x1, .f32⟩
  | 71 => ⟨S4096x4x128, .f32⟩
  | 72 => ⟨S4096x4x128, .f32⟩
  | 73 => ⟨S4096x4x128, .f32⟩
  | 74 => ⟨S_, .f32⟩
  | 75 => ⟨S4096x4, .f32⟩
  | 76 => ⟨S4096x4x1, .f32⟩
  | 77 => ⟨S_, .f32⟩
  | 78 => ⟨S4096x4x1, .f32⟩
  | 79 => ⟨S4096x4x1, .f32⟩
  | 80 => ⟨S_, .f32⟩
  | 81 => ⟨S4096x4x1, .f32⟩
  | 82 => ⟨S4096x4x1, .f32⟩
  | 83 => ⟨S4096x4x1, .f32⟩
  | 84 => ⟨S4096x4x1, .f32⟩
  | 85 => ⟨S_, .f32⟩
  | 86 => ⟨S4096x4x1, .f32⟩
  | 87 => ⟨S4096x4x1, .f32⟩
  | 88 => ⟨S4096x4x128, .f32⟩
  | 89 => ⟨S4096x4x128, .f32⟩
  | 90 => ⟨S1x4x128, .f32⟩
  | 91 => ⟨S4096x4x128, .f32⟩
  | 92 => ⟨S4096x4x128, .f32⟩
  | 93 => ⟨S1x4x128, .f32⟩
  | 94 => ⟨S4096x4x128, .f32⟩
  | 95 => ⟨S4096x4x128, .f32⟩
  | 96 => ⟨S32x128x4x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S_, .f32⟩
  | 110 => ⟨S4x128x128, .i1⟩
  | 111 => ⟨S4x128x128, .f32⟩
  | 112 => ⟨S4x128x128, .f32⟩
  | 113 => ⟨S_, .f32⟩
  | 114 => ⟨S4x128x128, .f32⟩
  | 115 => ⟨S4x32x128x128, .f32⟩
  | 116 => ⟨S32x128x4x128, .f32⟩
  | 117 => ⟨S128x4, .f32⟩
  | 118 => ⟨S128x4x1, .f32⟩
  | 119 => ⟨S1x128x4x1, .f32⟩
  | 120 => ⟨S32x128x4x128, .f32⟩
  | 121 => ⟨S32x128x4x128, .f32⟩
  | 122 => ⟨S32x128x4x128, .f32⟩
  | 123 => ⟨S32x128x4x128, .f32⟩
  | 124 => ⟨S4096x512, .f32⟩
  | 125 => ⟨S32x128x4x128, .f32⟩
  | 126 => ⟨S32x128x4x128, .f32⟩
  | 127 => ⟨S32x128x4x128, .f32⟩
  | _ => ⟨S4096x4096, .f32⟩

abbrev hbmTy0_1 (i : Nat) : BufTy := match i % 128 with
  | 0 => ⟨S4096x512, .f32⟩
  | 1 => ⟨S_, .f32⟩
  | 2 => ⟨S128x4, .f32⟩
  | 3 => ⟨S1x128x4x1, .f32⟩
  | 4 => ⟨S_, .f32⟩
  | 5 => ⟨S128x4, .f32⟩
  | 6 => ⟨S128x4x1, .f32⟩
  | 7 => ⟨S_, .f32⟩
  | 8 => ⟨S128x4, .f32⟩
  | 9 => ⟨S4x128, .f32⟩
  | 10 => ⟨S4x32x128x128, .f32⟩
  | 11 => ⟨S4x128x128, .f32⟩
  | 12 => ⟨S4x32x128x128, .f32⟩
  | 13 => ⟨S32x128x4x128, .f32⟩
  | 14 => ⟨S_, .f32⟩
  | 15 => ⟨S4x128x128, .f32⟩
  | 16 => ⟨S4x128x128, .f32⟩
  | 17 => ⟨S4096x4x128, .f32⟩
  | 18 => ⟨S_, .f32⟩
  | 19 => ⟨S4x128, .f32⟩
  | 20 => ⟨S1x4x128, .f32⟩
  | 21 => ⟨S_, .f32⟩
  | 22 => ⟨S4x128, .f32⟩
  | 23 => ⟨S4096x4x128, .f32⟩
  | 24 => ⟨S_, .f32⟩
  | 25 => ⟨S4x128, .f32⟩
  | 26 => ⟨S1x4x128, .f32⟩
  | 27 => ⟨S4096x4x128, .f32⟩
  | 28 => ⟨S4096x4x128, .f32⟩
  | 29 => ⟨S_, .f32⟩
  | 30 => ⟨S4x128, .f32⟩
  | 31 => ⟨S4096x4x128, .f32⟩
  | 32 => ⟨S_, .f32⟩
  | 33 => ⟨S4096x4, .f32⟩
  | 34 => ⟨S4096x4x1, .f32⟩
  | 35 => ⟨S4096x4x128, .f32⟩
  | 36 => ⟨S4096x4x128, .f32⟩
  | 37 => ⟨S4096x4x1, .f32⟩
  | 38 => ⟨S_, .f32⟩
  | 39 => ⟨S4096x4x1, .f32⟩
  | 40 => ⟨S4096x4x1, .f32⟩
  | 41 => ⟨S_, .f32⟩
  | 42 => ⟨S4096x4, .f32⟩
  | 43 => ⟨S4096x4x128, .f32⟩
  | 44 => ⟨S4096x4x128, .f32⟩
  | 45 => ⟨S4096x4x128, .f32⟩
  | 46 => ⟨S4096x4x128, .f32⟩
  | 47 => ⟨S4096x4x128, .f32⟩
  | 48 => ⟨S4096x4x128, .f32⟩
  | 49 => ⟨S_, .f32⟩
  | 50 => ⟨S4096x4, .f32⟩
  | 51 => ⟨S4096x4x1, .f32⟩
  | 52 => ⟨S_, .f32⟩
  | 53 => ⟨S4096x4x1, .f32⟩
  | 54 => ⟨S4096x4x1, .f32⟩
  | 55 => ⟨S_, .f32⟩
  | 56 => ⟨S4096x4, .f32⟩
  | 57 => ⟨S4096x4x128, .f32⟩
  | 58 => ⟨S4096x4x128, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .bf16⟩
  | 107 => ⟨S4096x512, .bf16⟩
  | 108 => ⟨S4x1x128, .f32⟩
  | 109 => ⟨S4x1x128, .f32⟩
  | 110 => ⟨S4x128x1, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c : Ref sig .tc := ⟨.hbm, 97, rfl⟩
abbrev main_v71 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74_1 : Ref sig .tc := ⟨.hbm, 110, rfl⟩
abbrev main_call1_v1 : Ref sig .tc := ⟨.hbm, 111, rfl⟩
abbrev main_v74_0 : Ref sig .tc := ⟨.hbm, 112, rfl⟩
abbrev main_call1_cst : Ref sig .tc := ⟨.hbm, 113, rfl⟩
abbrev main_v74_2 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_v92 : Ref sig .tc := ⟨.hbm, 134, rfl⟩
abbrev main_cst_22 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_call2_cst : Ref sig .tc := ⟨.hbm, 142, rfl⟩
abbrev main_call2_v0 : Ref sig .tc := ⟨.hbm, 143, rfl⟩
abbrev main_v99 : Ref sig .tc := ⟨.hbm, 144, rfl⟩
abbrev main_v100 : Ref sig .tc := ⟨.hbm, 145, rfl⟩
abbrev main_cst_23 : Ref sig .tc := ⟨.hbm, 146, rfl⟩
abbrev main_v101 : Ref sig .tc := ⟨.hbm, 147, rfl⟩
abbrev main_v102 : Ref sig .tc := ⟨.hbm, 148, rfl⟩
abbrev main_cst_24 : Ref sig .tc := ⟨.hbm, 149, rfl⟩
abbrev main_v103 : Ref sig .tc := ⟨.hbm, 150, rfl⟩
abbrev main_v104 : Ref sig .tc := ⟨.hbm, 151, rfl⟩
abbrev main_cst_25 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_26 : Ref sig .tc := ⟨.hbm, 157, rfl⟩
abbrev main_v109 : Ref sig .tc := ⟨.hbm, 158, rfl⟩
abbrev main_v110 : Ref sig .tc := ⟨.hbm, 159, rfl⟩
abbrev main_cst_27 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_28 : Ref sig .tc := ⟨.hbm, 166, rfl⟩
abbrev main_v116 : Ref sig .tc := ⟨.hbm, 167, rfl⟩
abbrev main_v117 : Ref sig .tc := ⟨.hbm, 168, rfl⟩
abbrev main_cst_29 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_30 : Ref sig .tc := ⟨.hbm, 177, rfl⟩
abbrev main_v125 : Ref sig .tc := ⟨.hbm, 178, rfl⟩
abbrev main_v126 : Ref sig .tc := ⟨.hbm, 179, rfl⟩
abbrev main_cst_31 : Ref sig .tc := ⟨.hbm, 180, rfl⟩
abbrev main_v127 : Ref sig .tc := ⟨.hbm, 181, rfl⟩
abbrev main_v128 : Ref sig .tc := ⟨.hbm, 182, rfl⟩
abbrev main_cst_32 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_33 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_34 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_35 : Ref sig .tc := ⟨.hbm, 198, rfl⟩
abbrev main_v141 : Ref sig .tc := ⟨.hbm, 199, rfl⟩
abbrev main_v142 : Ref sig .tc := ⟨.hbm, 200, rfl⟩
abbrev main_cst_36 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_37 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_38 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_39 : Ref sig .tc := ⟨.hbm, 221, rfl⟩
abbrev main_v160 : Ref sig .tc := ⟨.hbm, 222, rfl⟩
abbrev main_v161 : Ref sig .tc := ⟨.hbm, 223, rfl⟩
abbrev main_cst_40 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩

abbrev nD : Nat := 1
abbrev τ : Topo := Topo.v7x

variable {F : FTy → Type} [FloatOps F]
-- ==== DwGate.lean ====
abbrev S4096x2048 : Shape := ⟨2, ![4096, 2048]⟩
abbrev S4096x5632 : Shape := ⟨2, ![4096, 5632]⟩
abbrev S4x2048x1408 : Shape := ⟨3, ![4, 2048, 1408]⟩
abbrev S4096x512 : Shape := ⟨2, ![4096, 512]⟩
abbrev S4096x1408 : Shape := ⟨2, ![4096, 1408]⟩
abbrev S1x512x1408 : Shape := ⟨3, ![1, 512, 1408]⟩
abbrev S512x512 : Shape := ⟨2, ![512, 512]⟩
abbrev S1x512x512 : Shape := ⟨3, ![1, 512, 512]⟩
abbrev S4096x384 : Shape := ⟨2, ![4096, 384]⟩
abbrev S512x384 : Shape := ⟨2, ![512, 384]⟩
abbrev S1x512x384 : Shape := ⟨3, ![1, 512, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwGateRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwDown.lean ====
abbrev S4096x5632 : Shape := ⟨2, ![4096, 5632]⟩
abbrev S4096x2048 : Shape := ⟨2, ![4096, 2048]⟩
abbrev S4x1408x2048 : Shape := ⟨3, ![4, 1408, 2048]⟩
abbrev S4096x1408 : Shape := ⟨2, ![4096, 1408]⟩
abbrev S4096x512 : Shape := ⟨2, ![4096, 512]⟩
abbrev S1x1408x512 : Shape := ⟨3, ![1, 1408, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x1408x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1x1408x512, .bf16⟩
  | .local _ .vmem, ⟨5, _⟩ => ⟨S1x1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S4x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwIn.lean ====
abbrev S4096x2048 : Shape := ⟨2, ![4096, 2048]⟩
abbrev S4096x4096 : Shape := ⟨2, ![4096, 4096]⟩
abbrev S4x2048x1024 : Shape := ⟨3, ![4, 2048, 1024]⟩
abbrev S4096x512 : Shape := ⟨2, ![4096, 512]⟩
abbrev S4096x1024 : Shape := ⟨2, ![4096, 1024]⟩
abbrev S1x512x1024 : Shape := ⟨3, ![1, 512, 1024]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x4x1024, .bf16⟩
  | .hbm, ⟨11, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwOut.lean ====
abbrev S4096x2048 : Shape := ⟨2, ![4096, 2048]⟩
abbrev S4x512x2048 : Shape := ⟨3, ![4, 512, 2048]⟩
abbrev S4096x512 : Shape := ⟨2, ![4096, 512]⟩
abbrev S4096x1024 : Shape := ⟨2, ![4096, 1024]⟩
abbrev S1x512x1024 : Shape := ⟨3, ![1, 512, 1024]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x512x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutRefIdeal.lean ====
abbrev S4096x2048 : Shape := ⟨2, ![4096, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwProj.lean ====
abbrev S4096x256 : Shape := ⟨2, ![4096, 256]⟩
abbrev S4096x2048 : Shape := ⟨2, ![4096, 2048]⟩
abbrev S4x256x512 : Shape := ⟨3, ![4, 256, 512]⟩
abbrev S4096x512 : Shape := ⟨2, ![4096, 512]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4x256x512, .bf16⟩
  | .local _ .vmem, ⟨0, _⟩ => ⟨S4096x256, .bf16⟩
  | .local _ .vmem, ⟨1, _⟩ => ⟨S4096x512, .bf16⟩
  | .local _ .vmem, ⟨2, _⟩ => ⟨S4096x512, .bf16⟩
  | .local _ .vmem, ⟨3, _⟩ => ⟨S1x256x512, .bf16⟩
  | .local _ .vmem, ⟨4, _⟩ => ⟨S1x256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwProjRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x4x512 : Shape := ⟨3, ![256, 4, 512]⟩
abbrev S4x256x512 : Shape := ⟨3, ![4, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | .hbm, ⟨10, _⟩ => ⟨S256x4x512, .bf16⟩
  | .hbm, ⟨11, _⟩ => ⟨S4x256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DxIn.lean ====
abbrev S4096x4096 : Shape := ⟨2, ![4096, 4096]⟩
abbrev S2048x4096 : Shape := ⟨2, ![2048, 4096]⟩
abbrev S2x1024x4x1024 : Shape := ⟨4, ![2, 1024, 4, 1024]⟩
abbrev S4x2x1024x1024 : Shape := ⟨4, ![4, 2, 1024, 1024]⟩
abbrev S8x1024x1024 : Shape := ⟨3, ![8, 1024, 1024]⟩
abbrev S4096x2048 : Shape := ⟨2, ![4096, 2048]⟩
abbrev S1024x4096 : Shape := ⟨2, ![1024, 4096]⟩
abbrev S1x512x1024 : Shape := ⟨3, ![1, 512, 1024]⟩
abbrev S1024x512 : Shape := ⟨2, ![1024, 512]⟩
abbrev S1x256x1024 : Shape := ⟨3, ![1, 256, 1024]⟩
abbrev S256x1024 : Shape := ⟨2, ![256, 1024]⟩
abbrev S1024x1024 : Shape := ⟨2, ![1024, 1024]⟩
abbrev S1024x256 : Shape := ⟨2, ![1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S2048x4096, .bf16⟩
  | .hbm, ⟨3, _⟩ => ⟨S2x1024x4x1024, .bf16⟩
  | .hbm, ⟨4, _⟩ => ⟨S4x2x1024x1024, .bf16⟩
  | .hbm, ⟨5, _⟩ => ⟨S8x1024x1024, .bf16⟩
  | .hbm, ⟨6, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DxInRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S4096x2048, .f32⟩
  | .hbm, ⟨7, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxOut.lean ====
abbrev S4096x2048 : Shape := ⟨2, ![4096, 2048]⟩
abbrev S2048x2048 : Shape := ⟨2, ![2048, 2048]⟩
abbrev S4x512x2x1024 : Shape := ⟨4, ![4, 512, 2, 1024]⟩
abbrev S4x2x512x1024 : Shape := ⟨4, ![4, 2, 512, 1024]⟩
abbrev S8x512x1024 : Shape := ⟨3, ![8, 512, 1024]⟩
abbrev S1024x2048 : Shape := ⟨2, ![1024, 2048]⟩
abbrev S1x512x1024 : Shape := ⟨3, ![1, 512, 1024]⟩
abbrev S1024x512 : Shape := ⟨2, ![1024, 512]⟩
abbrev S1x256x1024 : Shape := ⟨3, ![1, 256, 1024]⟩
abbrev S256x1024 : Shape := ⟨2, ![256, 1024]⟩
abbrev S1024x1024 : Shape := ⟨2, ![1024, 1024]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4x512x2x1024, .bf16⟩
  | .hbm, ⟨4, _⟩ => ⟨S4x2x512x1024, .bf16⟩
  | .hbm, ⟨5, _⟩ => ⟨S8x512x1024, .bf16⟩
  | .hbm, ⟨6, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1024x512, .bf16⟩
  | .local _ .vmem, ⟨7, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DxOutRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxFfn.lean ====
abbrev S4096x5632 : Shape := ⟨2, ![4096, 5632]⟩
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S8x1024x1408 : Shape := ⟨3, ![8, 1024, 1408]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2x1024x4x1408, .bf16⟩
  | .hbm, ⟨6, _⟩ => ⟨S4x2x1024x1408, .bf16⟩
  | .hbm, ⟨7, _⟩ => ⟨S8x1024x1408, .bf16⟩
  | .hbm, ⟨8, _⟩ => ⟨S2048x5632, .bf16⟩
  | .hbm, ⟨9, _⟩ => ⟨S2x1024x4x1408, .bf16⟩
  | .hbm, ⟨10, _⟩ => ⟨S4x2x1024x1408, .bf16⟩
  | .hbm, ⟨11, _⟩ => ⟨S8x1024x1408, .bf16⟩
  | .hbm, ⟨12, _⟩ => ⟨S4096x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.divsi arg1 c1_i32_5
  let c0_i32_6 : BitVec 32 := 0#32
  let v19 : BitVec 1 := Scalar.cmpi .sgt arg1 c0_i32_6
  let v20 : BitVec 32 := Scalar.extui v19
  let c0_i32_7 : BitVec 32 := 0#32
  let v21 : BitVec 1 := Scalar.cmpi .slt arg1 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg1 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg1 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg2 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.divsi arg1 c1_i32_5
  let c0_i32_6 : BitVec 32 := 0#32
  let v19 : BitVec 1 := Scalar.cmpi .sgt arg1 c0_i32_6
  let v20 : BitVec 32 := Scalar.extui v19
  let c0_i32_7 : BitVec 32 := 0#32
  let v21 : BitVec 1 := Scalar.cmpi .slt arg1 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg1 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg1 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg2 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DxFfnRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x2048, .f32⟩
  | .hbm, ⟨8, _⟩ => ⟨S4096x5632, .f32⟩
  | .hbm, ⟨9, _⟩ => ⟨S4096x5632, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SwigluBwd.lean ====
abbrev S4096x2048 : Shape := ⟨2, ![4096, 2048]⟩
abbrev S5632x2048 : Shape := ⟨2, ![5632, 2048]⟩
abbrev S4096x5632 : Shape := ⟨2, ![4096, 5632]⟩
abbrev S4x1408x2x1024 : Shape := ⟨4, ![4, 1408, 2, 1024]⟩
abbrev S4x2x1408x1024 : Shape := ⟨4, ![4, 2, 1408, 1024]⟩
abbrev S8x1408x1024 : Shape := ⟨3, ![8, 1408, 1024]⟩
abbrev S512x2048 : Shape := ⟨2, ![512, 2048]⟩
abbrev S1x1408x1024 : Shape := ⟨3, ![1, 1408, 1024]⟩
abbrev S512x1408 : Shape := ⟨2, ![512, 1408]⟩
abbrev S1x256x1024 : Shape := ⟨3, ![1, 256, 1024]⟩
abbrev S256x1024 : Shape := ⟨2, ![256, 1024]⟩
abbrev S512x1024 : Shape := ⟨2, ![512, 1024]⟩
abbrev S512x256 : Shape := ⟨2, ![512, 256]⟩
abbrev S1x128x1024 : Shape := ⟨3, ![1, 128, 1024]⟩
abbrev S128x1024 : Shape := ⟨2, ![128, 1024]⟩
abbrev S512x128 : Shape := ⟨2, ![512, 128]⟩

abbrev nBuf : Space → Nat
  | .hbm => 11
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S5632x2048, .bf16⟩
  | .hbm, ⟨5, _⟩ => ⟨S4x1408x2x1024, .bf16⟩
  | .hbm, ⟨6, _⟩ => ⟨S4x2x1408x1024, .bf16⟩
  | .hbm, ⟨7, _⟩ => ⟨S8x1408x1024, .bf16⟩
  | .hbm, ⟨8, _⟩ => ⟨S4096x5632, .bf16⟩
  | .hbm, ⟨9, _⟩ => ⟨S4096x5632, .bf16⟩
  | .hbm, ⟨10, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwigluBwdRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | .hbm, ⟨31, _⟩ => ⟨S4096x5632, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩

abbrev nD : Nat := 1
abbrev τ : Topo := Topo.v7x

variable {F : FTy → Type} [FloatOps F]
-- ==== PleBwd.lean ====
abbrev S4096x2048 : Shape := ⟨2, ![4096, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBwdRefIdeal.lean ====
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MmIn.lean ====
abbrev S4096x2048 : Shape := ⟨2, ![4096, 2048]⟩
abbrev S2048x4096 : Shape := ⟨2, ![2048, 4096]⟩
abbrev S2x1024x4x1024 : Shape := ⟨4, ![2, 1024, 4, 1024]⟩
abbrev S4x2x1024x1024 : Shape := ⟨4, ![4, 2, 1024, 1024]⟩
abbrev S8x1024x1024 : Shape := ⟨3, ![8, 1024, 1024]⟩
abbrev S4096x4096 : Shape := ⟨2, ![4096, 4096]⟩
abbrev S1024x2048 : Shape := ⟨2, ![1024, 2048]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S2048x4096, .bf16⟩
  | .hbm, ⟨3, _⟩ => ⟨S2x1024x4x1024, .bf16⟩
  | .hbm, ⟨4, _⟩ => ⟨S4x2x1024x1024, .bf16⟩
  | .hbm, ⟨5, _⟩ => ⟨S8x1024x1024, .bf16⟩
  | .hbm, ⟨6, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmInRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S4096x2048, .f32⟩
  | .hbm, ⟨3, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmOut.lean ====
abbrev S4096x2048 : Shape := ⟨2, ![4096, 2048]⟩
abbrev S2048x2048 : Shape := ⟨2, ![2048, 2048]⟩
abbrev S4x512x2x1024 : Shape := ⟨4, ![4, 512, 2, 1024]⟩
abbrev S4x2x512x1024 : Shape := ⟨4, ![4, 2, 512, 1024]⟩
abbrev S8x512x1024 : Shape := ⟨3, ![8, 512, 1024]⟩
abbrev S1024x2048 : Shape := ⟨2, ![1024, 2048]⟩
abbrev S1x512x1024 : Shape := ⟨3, ![1, 512, 1024]⟩
abbrev S1024x1024 : Shape := ⟨2, ![1024, 1024]⟩
abbrev S1x512x256 : Shape := ⟨3, ![1, 512, 256]⟩
abbrev S512x256 : Shape := ⟨2, ![512, 256]⟩
abbrev S1024x512 : Shape := ⟨2, ![1024, 512]⟩
abbrev S1024x256 : Shape := ⟨2, ![1024, 256]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4x512x2x1024, .bf16⟩
  | .hbm, ⟨5, _⟩ => ⟨S4x2x512x1024, .bf16⟩
  | .hbm, ⟨6, _⟩ => ⟨S8x512x1024, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c6_i32 : BitVec 32 := 6#32
  let v17 : BitVec 32 := Scalar.addi c6_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MmOutRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MmDown.lean ====
abbrev S4096x5632 : Shape := ⟨2, ![4096, 5632]⟩
abbrev S5632x2048 : Shape := ⟨2, ![5632, 2048]⟩
abbrev S4096x2048 : Shape := ⟨2, ![4096, 2048]⟩
abbrev S4x1408x2x1024 : Shape := ⟨4, ![4, 1408, 2, 1024]⟩
abbrev S4x2x1408x1024 : Shape := ⟨4, ![4, 2, 1408, 1024]⟩
abbrev S8x1408x1024 : Shape := ⟨3, ![8, 1408, 1024]⟩
abbrev S1024x5632 : Shape := ⟨2, ![1024, 5632]⟩
abbrev S1x1408x512 : Shape := ⟨3, ![1, 1408, 512]⟩
abbrev S1024x512 : Shape := ⟨2, ![1024, 512]⟩
abbrev S1x1408x256 : Shape := ⟨3, ![1, 1408, 256]⟩
abbrev S1408x256 : Shape := ⟨2, ![1408, 256]⟩
abbrev S1024x1408 : Shape := ⟨2, ![1024, 1408]⟩
abbrev S1024x256 : Shape := ⟨2, ![1024, 256]⟩

abbrev nBuf : Space → Nat
  | .hbm => 8
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S5632x2048, .bf16⟩
  | .hbm, ⟨4, _⟩ => ⟨S4x1408x2x1024, .bf16⟩
  | .hbm, ⟨5, _⟩ => ⟨S4x2x1408x1024, .bf16⟩
  | .hbm, ⟨6, _⟩ => ⟨S8x1408x1024, .bf16⟩
  | .hbm, ⟨7, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x1408x512, .bf16⟩
  | .local _ .vmem, ⟨3, _⟩ => ⟨S1x1408x512, .bf16⟩
  | .local _ .vmem, ⟨4, _⟩ => ⟨S1x1408x512, .bf16⟩
  | .local _ .vmem, ⟨5, _⟩ => ⟨S1x1408x512, .bf16⟩
  | .local _ .vmem, ⟨6, _⟩ => ⟨S1x1408x512, .bf16⟩
  | .local _ .vmem, ⟨7, _⟩ => ⟨S1x1408x512, .bf16⟩
  | .local _ .vmem, ⟨8, _⟩ => ⟨S1x1408x512, .bf16⟩
  | .local _ .vmem, ⟨9, _⟩ => ⟨S1x1408x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MmDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x5632, .f32⟩
  | .hbm, ⟨4, _⟩ => ⟨S4096x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SwigluFwd.lean ====
abbrev S4096x2048 : Shape := ⟨2, ![4096, 2048]⟩
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S8x1024x1408 : Shape := ⟨3, ![8, 1024, 1408]⟩
abbrev S4096x5632 : Shape := ⟨2, ![4096, 5632]⟩
abbrev S512x2048 : Shape := ⟨2, ![512, 2048]⟩
abbrev S1x1024x1408 : Shape := ⟨3, ![1, 1024, 1408]⟩
abbrev S512x1408 : Shape := ⟨2, ![512, 1408]⟩
abbrev S1x1024x256 : Shape := ⟨3, ![1, 1024, 256]⟩
abbrev S1024x256 : Shape := ⟨2, ![1024, 256]⟩
abbrev S512x1024 : Shape := ⟨2, ![512, 1024]⟩
abbrev S512x256 : Shape := ⟨2, ![512, 256]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 14
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2x1024x4x1408, .bf16⟩
  | .hbm, ⟨5, _⟩ => ⟨S4x2x1024x1408, .bf16⟩
  | .hbm, ⟨6, _⟩ => ⟨S8x1024x1408, .bf16⟩
  | .hbm, ⟨7, _⟩ => ⟨S2048x5632, .bf16⟩
  | .hbm, ⟨8, _⟩ => ⟨S2x1024x4x1408, .bf16⟩
  | .hbm, ⟨9, _⟩ => ⟨S4x2x1024x1408, .bf16⟩
  | .hbm, ⟨10, _⟩ => ⟨S8x1024x1408, .bf16⟩
  | .hbm, ⟨11, _⟩ => ⟨S4096x5632, .bf16⟩
  | .hbm, ⟨12, _⟩ => ⟨S4096x5632, .bf16⟩
  | .hbm, ⟨13, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwigluFwdRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .bf16⟩
  | .hbm, ⟨17, _⟩ => ⟨S4096x5632, .bf16⟩
  | .hbm, ⟨18, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== PleFwd.lean ====
abbrev S4096x2048 : Shape := ⟨2, ![4096, 2048]⟩
abbrev S2048x2048 : Shape := ⟨2, ![2048, 2048]⟩
abbrev S4x512x2x1024 : Shape := ⟨4, ![4, 512, 2, 1024]⟩
abbrev S4x2x512x1024 : Shape := ⟨4, ![4, 2, 512, 1024]⟩
abbrev S8x512x1024 : Shape := ⟨3, ![8, 512, 1024]⟩
abbrev S1024x2048 : Shape := ⟨2, ![1024, 2048]⟩
abbrev S1x512x1024 : Shape := ⟨3, ![1, 512, 1024]⟩
abbrev S1024x1024 : Shape := ⟨2, ![1024, 1024]⟩
abbrev S1x512x256 : Shape := ⟨3, ![1, 512, 256]⟩
abbrev S512x256 : Shape := ⟨2, ![512, 256]⟩
abbrev S1024x512 : Shape := ⟨2, ![1024, 512]⟩
abbrev S1024x256 : Shape := ⟨2, ![1024, 256]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4x512x2x1024, .bf16⟩
  | .hbm, ⟨6, _⟩ => ⟨S4x2x512x1024, .bf16⟩
  | .hbm, ⟨7, _⟩ => ⟨S8x512x1024, .bf16⟩
  | .hbm, ⟨8, _⟩ => ⟨S4096x2048, .f32⟩
  | .hbm, ⟨9, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c6_i32 : BitVec 32 := 6#32
  let v17 : BitVec 32 := Scalar.addi c6_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PleFwdRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== MmProj.lean ====
abbrev S4096x256 : Shape := ⟨2, ![4096, 256]⟩
abbrev S256x2048 : Shape := ⟨2, ![256, 2048]⟩
abbrev S2x128x4x512 : Shape := ⟨4, ![2, 128, 4, 512]⟩
abbrev S4x2x128x512 : Shape := ⟨4, ![4, 2, 128, 512]⟩
abbrev S8x128x512 : Shape := ⟨3, ![8, 128, 512]⟩
abbrev S4096x2048 : Shape := ⟨2, ![4096, 2048]⟩
abbrev S1024x256 : Shape := ⟨2, ![1024, 256]⟩
abbrev S1x128x512 : Shape := ⟨3, ![1, 128, 512]⟩
abbrev S1024x512 : Shape := ⟨2, ![1024, 512]⟩
abbrev S1x128x256 : Shape := ⟨3, ![1, 128, 256]⟩
abbrev S128x256 : Shape := ⟨2, ![128, 256]⟩
abbrev S1024x128 : Shape := ⟨2, ![1024, 128]⟩

abbrev nBuf : Space → Nat
  | .hbm => 7
  | .vmem => 8
  | .smem => 0
  | _ => 0

abbrev bufTy : (tb : Table) → Fin (tcTables nBuf tb) → BufTy
  | .hbm, ⟨0, _⟩ => ⟨S4096x256, .bf16⟩
  | .hbm, ⟨1, _⟩ => ⟨S256x2048, .f32⟩
  | .hbm, ⟨2, _⟩ => ⟨S256x2048, .bf16⟩
  | .hbm, ⟨3, _⟩ => ⟨S2x128x4x512, .bf16⟩
  | .hbm, ⟨4, _⟩ => ⟨S4x2x128x512, .bf16⟩
  | .hbm, ⟨5, _⟩ => ⟨S8x128x512, .bf16⟩
  | .hbm, ⟨6, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1024x512, .bf16⟩
  | .local _ .vmem, ⟨7, _⟩ => ⟨S1024x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmProjRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .f32⟩
  | .hbm, ⟨2, _⟩ => ⟨S4096x256, .f32⟩
  | .hbm, ⟨3, _⟩ => ⟨S4096x2048, .f32⟩
  | .hbm, ⟨4, _⟩ => ⟨S4096x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RmsFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LnFwd.lean ====
abbrev S4096x512 : Shape := ⟨2, ![4096, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnFwdRefIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== LnBwd.lean ====
abbrev S4096x512 : Shape := ⟨2, ![4096, 512]⟩
abbrev S4096x2048 : Shape := ⟨2, ![4096, 2048]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S512, .f32⟩
  | .hbm, ⟨3, _⟩ => ⟨S512, .f32⟩
  | .hbm, ⟨4, _⟩ => ⟨S4096x512, .bf16⟩
  | .hbm, ⟨5, _⟩ => ⟨S1x512, .f32⟩
  | .hbm, ⟨6, _⟩ => ⟨S1x512, .f32⟩
  | .hbm, ⟨7, _⟩ => ⟨S4096x512, .f32⟩
  | .hbm, ⟨8, _⟩ => ⟨S1x512, .f32⟩
  | .hbm, ⟨9, _⟩ => ⟨S1x512, .f32⟩
  | .hbm, ⟨10, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S4096x512 : Shape := ⟨2, ![4096, 512]⟩
abbrev S4096x2048 : Shape := ⟨2, ![4096, 2048]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 100
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S512, .f32⟩
  | .hbm, ⟨3, _⟩ => ⟨S512, .f32⟩
  | .hbm, ⟨4, _⟩ => ⟨S4096x512, .bf16⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S512, .f32⟩
  | .hbm, ⟨67, _⟩ => ⟨S4096x512, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x512, .f32⟩
  | .hbm, ⟨72, _⟩ => ⟨S4096x512, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x512, .f32⟩
  | .hbm, ⟨94, _⟩ => ⟨S4096x512, .f32⟩
  | .hbm, ⟨95, _⟩ => ⟨S1x512, .f32⟩
  | .hbm, ⟨96, _⟩ => ⟨S1x512, .f32⟩
  | .hbm, ⟨97, _⟩ => ⟨S_, .f32⟩
  | .hbm, ⟨98, _⟩ => ⟨S512, .f32⟩
  | .hbm, ⟨99, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v27_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v27_1 : Ref sig .tc := ⟨.hbm, 48, rfl⟩
abbrev main_v27_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩

abbrev nD : Nat := 1
abbrev τ : Topo := Topo.v7x

variable {F : FTy → Type} [FloatOps F]
-- ==== SguFwd.lean ====
abbrev S4096x4096 : Shape := ⟨2, ![4096, 4096]⟩
abbrev S4x128 : Shape := ⟨2, ![4, 128]⟩
abbrev S4x128x128 : Shape := ⟨3, ![4, 128, 128]⟩
abbrev S4x1x128 : Shape := ⟨3, ![4, 1, 128]⟩
abbrev S4x128x1 : Shape := ⟨3, ![4, 128, 1]⟩
abbrev S4096x512 : Shape := ⟨2, ![4096, 512]⟩
abbrev S1024x128 : Shape := ⟨2, ![1024, 128]⟩
abbrev S1x1x128 : Shape := ⟨3, ![1, 1, 128]⟩
abbrev S1x128x128 : Shape := ⟨3, ![1, 128, 128]⟩
abbrev S1x128x1 : Shape := ⟨3, ![1, 128, 1]⟩
abbrev S128x128 : Shape := ⟨2, ![128, 128]⟩
abbrev S128 : Shape := ⟨1, ![128]⟩
abbrev S128x1 : Shape := ⟨2, ![128, 1]⟩
abbrev S1x128 : Shape := ⟨2, ![1, 128]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S4x1x128, .f32⟩
  | .hbm, ⟨6, _⟩ => ⟨S4x1x128, .f32⟩
  | .hbm, ⟨7, _⟩ => ⟨S4x128x1, .f32⟩
  | .hbm, ⟨8, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1024x128, .bf16⟩
  | .local _ .vmem, ⟨13, _⟩ => ⟨S1024x128, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SguFwdIdeal.lean ====
variable {F : FTy → Type} [FloatOps F] [Named F]
def κ : String → Option EReal := fun
  | "gelu_c" => some ((8943 / 200000 : ℝ) : EReal)
  | _ => none
-- ==== SguFwdRefIdeal.lean ====
abbrev S4096x4096 : Shape := ⟨2, ![4096, 4096]⟩
abbrev S4x128 : Shape := ⟨2, ![4, 128]⟩
abbrev S4x128x128 : Shape := ⟨3, ![4, 128, 128]⟩
abbrev S4096x512 : Shape := ⟨2, ![4096, 512]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x4x128, .f32⟩
  | .hbm, ⟨48, _⟩ => ⟨S_, .f32⟩
  | .hbm, ⟨49, _⟩ => ⟨S4096x4, .f32⟩
  | .hbm, ⟨50, _⟩ => ⟨S4096x4x1, .f32⟩
  | .hbm, ⟨51, _⟩ => ⟨S_, .f32⟩
  | .hbm, ⟨52, _⟩ => ⟨S4096x4x1, .f32⟩
  | .hbm, ⟨53, _⟩ => ⟨S4096x4x1, .f32⟩
  | .hbm, ⟨54, _⟩ => ⟨S4096x4x128, .f32⟩
  | .hbm, ⟨55, _⟩ => ⟨S4096x4x128, .f32⟩
  | .hbm, ⟨56, _⟩ => ⟨S4096x4x128, .f32⟩
  | .hbm, ⟨57, _⟩ => ⟨S_, .f32⟩
  | .hbm, ⟨58, _⟩ => ⟨S4096x4, .f32⟩
  | .hbm, ⟨59, _⟩ => ⟨S4096x4x1, .f32⟩
  | .hbm, ⟨60, _⟩ => ⟨S_, .f32⟩
  | .hbm, ⟨61, _⟩ => ⟨S4096x4x1, .f32⟩
  | .hbm, ⟨62, _⟩ => ⟨S4096x4x1, .f32⟩
  | .hbm, ⟨63, _⟩ => ⟨S_, .f32⟩
  | .hbm, ⟨64, _⟩ => ⟨S4096x4x1, .f32⟩
  | .hbm, ⟨65, _⟩ => ⟨S4096x4x1, .f32⟩
  | .hbm, ⟨66, _⟩ => ⟨S4096x4x1, .f32⟩
  | .hbm, ⟨67, _⟩ => ⟨S4096x4x128, .f32⟩
  | .hbm, ⟨68, _⟩ => ⟨S4096x4x128, .f32⟩
  | .hbm, ⟨69, _⟩ => ⟨S1x4x128, .f32⟩
  | .hbm, ⟨70, _⟩ => ⟨S4096x4x128, .f32⟩
  | .hbm, ⟨71, _⟩ => ⟨S4096x4x128, .f32⟩
  | .hbm, ⟨72, _⟩ => ⟨S1x4x128, .f32⟩
  | .hbm, ⟨73, _⟩ => ⟨S4096x4x128, .f32⟩
  | .hbm, ⟨74, _⟩ => ⟨S4096x4x128, .f32⟩
  | .hbm, ⟨75, _⟩ => ⟨S32x128x4x128, .f32⟩
  | .hbm, ⟨76, _⟩ => ⟨S_, .i1⟩
  | .hbm, ⟨77, _⟩ => ⟨S128x128, .i1⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .i1⟩
  | .hbm, ⟨85, _⟩ => ⟨S128x128, .i1⟩
  | .hbm, ⟨86, _⟩ => ⟨S128x128, .i1⟩
  | .hbm, ⟨87, _⟩ => ⟨S1x128x128, .i1⟩
  | .hbm, ⟨88, _⟩ => ⟨S_, .f32⟩
  | .hbm, ⟨89, _⟩ => ⟨S4x128x128, .i1⟩
  | .hbm, ⟨90, _⟩ => ⟨S4x128x128, .f32⟩
  | .hbm, ⟨91, _⟩ => ⟨S4x128x128, .f32⟩
  | .hbm, ⟨92, _⟩ => ⟨S4x32x128x128, .f32⟩
  | .hbm, ⟨93, _⟩ => ⟨S32x128x4x128, .f32⟩
  | .hbm, ⟨94, _⟩ => ⟨S128x4, .f32⟩
  | .hbm, ⟨95, _⟩ => ⟨S128x4x1, .f32⟩
  | .hbm, ⟨96, _⟩ => ⟨S1x128x4x1, .f32⟩
  | .hbm, ⟨97, _⟩ => ⟨S32x128x4x128, .f32⟩
  | .hbm, ⟨98, _⟩ => ⟨S32x128x4x128, .f32⟩
  | .hbm, ⟨99, _⟩ => ⟨S32x128x4x128, .f32⟩
  | .hbm, ⟨100, _⟩ => ⟨S32x128x4x128, .f32⟩
  | .hbm, ⟨101, _⟩ => ⟨S4096x512, .f32⟩
  | .hbm, ⟨102, _⟩ => ⟨S4096x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_v56 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v57 : Ref sig .tc := ⟨.hbm, 86, rfl⟩
abbrev main_v58 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamW.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.DwGateValue.lean ====
/- What the weight gradient of the gate projection leaves in its result array. -/
module

public import proofs.«01_k».proof.Proof.Gen.DwGateIdeal.Frame
public import proofs.«01_k».proof.Proof.Gen.DwGateIdeal.Value
public import proofs.«01_k».proof.Proof.Gen.DwGateRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwGateRefIdeal.Value
open Cert.DwGateRefIdeal Cert.DwGateRefIdeal.Gen

/-- The reference's result as a function of its two arguments. -/
def REF (a0 : FVec Ideal S4096x2048 .bf16) (a1 : FVec Ideal S4096x5632 .bf16) :
    FVec Ideal S4x2048x1408 .bf16 :=
  transpose S4x2048x1408 [1, 0, 2] (shapeCast _ (truncf .bf16 (transpose S2048x5632 [1, 0] (Host.dotGeneral dot_S4096x5632_S4096x2048_S5632x2048_0_0_1_1_n_n none (extf .f32 a1 bitsLt_bf16_f32) (extf .f32 a0 bitsLt_bf16_f32)) transposes_S5632x2048_S2048x5632_1_0) bitsLt_bf16_f32) shapeCasts_S2048x5632_S2048x4x1408) transposes_S2048x4x1408_S4x2048x1408_1_0_2

/-- The same, the sum over the tokens written out. -/
def SUM (a0 : FVec Ideal S4096x2048 .bf16) (a1 : FVec Ideal S4096x5632 .bf16) :
    FVec Ideal S4x2048x1408 .bf16 := fun i =>
  ∑ k : Fin 4096, (show EReal from a0 (ix2 k (i 1)))
    * (show EReal from a1 (ix2 k ⟨(i 0).val * 1408 + (i 2).val, by have := (i 0).isLt; have := (i 2).isLt; simp at *; omega⟩))

theorem REF_eq (a0 : FVec Ideal S4096x2048 .bf16) (a1 : FVec Ideal S4096x5632 .bf16) :
    REF a0 a1 = SUM a0 a1 := by
  funext i
  pointwise [REF, SUM]
  exact Finset.sum_congr rfl fun k _ => mul_comm _ _

end Cert.DwGateRefIdeal.Value

namespace Cert.DwGateIdeal.Value
open Cert.DwGateIdeal Cert.DwGateIdeal.Gen

variable (m : (ℓ : Loc nD τ sig) → Buf (Elt Ideal) ℓ)

theorem idx_val : ∀ t : Fin cfg0.N, win0_0.index t = ![0, t.val % 4]
    ∧ win0_1.index t = ![0, t.val / 4] ∧ win0_2.index t = ![t.val / 4, t.val % 4, 0] :=
  (by decide +kernel : ∀ t : Fin grid0.N, _)

open Cert.DwGateRefIdeal.Value (REF SUM REF_eq) in
theorem final (c : Dev nD) : (dats m 0 c).arrAt 2 (cfgs 0).N
    = REF (m ((c : Thread nD τ).loc main_arg0)) (m ((c : Thread nD τ).loc main_arg1)) := by
  rw [REF_eq]
  refine (dats m 0 c).arrAt_eq_of_covers 2 _ (by decide +kernel) fun t hf y => ?_
  blk_simp
  rw [after0_2]
  unfold outsAt0
  frame_out
  canon_tiles x h using View.cover_of_tiledBy _ ![1, 512, 128] (by sl_kernel_rfl) _
  all_goals
    pointwise [k0_pay1, k0_pay2, k0_pay3, SUM]
    blk_point [iblk, V, idx_val t]

end Cert.DwGateIdeal.Value
end
end
-- ==== Proof.DwDownValue.lean ====
/- What the weight gradient of the down projection leaves in its result array. -/
module

public import proofs.«01_k».proof.Proof.Gen.DwDownIdeal.Frame
public import proofs.«01_k».proof.Proof.Gen.DwDownIdeal.Value
public import proofs.«01_k».proof.Proof.Gen.DwDownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwDownRefIdeal.Value
open Cert.DwDownRefIdeal Cert.DwDownRefIdeal.Gen

/-- The reference's result as a function of its two arguments. -/
def REF (a0 : FVec Ideal S4096x5632 .bf16) (a1 : FVec Ideal S4096x2048 .bf16) :
    FVec Ideal S4x1408x2048 .bf16 :=
  shapeCast _ (truncf .bf16 (transpose S5632x2048 [1, 0] (Host.dotGeneral dot_S4096x2048_S4096x5632_S2048x5632_0_0_1_1_n_n none (extf .f32 a1 bitsLt_bf16_f32) (extf .f32 a0 bitsLt_bf16_f32)) transposes_S2048x5632_S5632x2048_1_0) bitsLt_bf16_f32) shapeCasts_S5632x2048_S4x1408x2048

/-- The same, the sum over the tokens written out. -/
def SUM (a0 : FVec Ideal S4096x5632 .bf16) (a1 : FVec Ideal S4096x2048 .bf16) :
    FVec Ideal S4x1408x2048 .bf16 := fun i =>
  ∑ k : Fin 4096, (show EReal from a0 (ix2 k ⟨(i 0).val * 1408 + (i 1).val, by have := (i 0).isLt; have := (i 1).isLt; simp at *; omega⟩))
    * (show EReal from a1 (ix2 k (i 2)))

theorem REF_eq (a0 : FVec Ideal S4096x5632 .bf16) (a1 : FVec Ideal S4096x2048 .bf16) :
    REF a0 a1 = SUM a0 a1 := by
  funext i
  pointwise [REF, SUM]
  exact Finset.sum_congr rfl fun k _ => mul_comm _ _

end Cert.DwDownRefIdeal.Value

namespace Cert.DwDownIdeal.Value
open Cert.DwDownIdeal Cert.DwDownIdeal.Gen

variable (m : (ℓ : Loc nD τ sig) → Buf (Elt Ideal) ℓ)

theorem idx_val : ∀ t : Fin cfg0.N, win0_0.index t = ![0, t.val / 4]
    ∧ win0_1.index t = ![0, t.val % 4] ∧ win0_2.index t = ![t.val / 4, 0, t.val % 4] :=
  (by decide +kernel : ∀ t : Fin grid0.N, _)

open Cert.DwDownRefIdeal.Value (REF SUM REF_eq) in
theorem final (c : Dev nD) : (dats m 0 c).arrAt 2 (cfgs 0).N
    = REF (m ((c : Thread nD τ).loc main_arg0)) (m ((c : Thread nD τ).loc main_arg1)) := by
  rw [REF_eq]
  refine (dats m 0 c).arrAt_eq_of_covers 2 _ (by decide +kernel) fun t hf y => ?_
  blk_simp
  rw [after0_2]
  frame_out
  pointwise [k0_pay1, SUM]
  blk_point [iblk, V, idx_val t]

end Cert.DwDownIdeal.Value
end
end
-- ==== Proof.DwInValue.lean ====
/- What the weight gradient of the input projection leaves in its result array. -/
module

public import proofs.«01_k».proof.Proof.Gen.DwInIdeal.Frame
public import proofs.«01_k».proof.Proof.Gen.DwInIdeal.Value
public import proofs.«01_k».proof.Proof.Gen.DwInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwInRefIdeal.Value
open Cert.DwInRefIdeal Cert.DwInRefIdeal.Gen

/-- The reference's result as a function of its two arguments. -/
def REF (a0 : FVec Ideal S4096x2048 .bf16) (a1 : FVec Ideal S4096x4096 .bf16) :
    FVec Ideal S4x2048x1024 .bf16 :=
  transpose S4x2048x1024 [1, 0, 2] (shapeCast _ (truncf .bf16 (transpose S2048x4096 [1, 0] (Host.dotGeneral dot_S4096x4096_S4096x2048_S4096x2048_0_0_1_1_n_n none (extf .f32 a1 bitsLt_bf16_f32) (extf .f32 a0 bitsLt_bf16_f32)) transposes_S4096x2048_S2048x4096_1_0) bitsLt_bf16_f32) shapeCasts_S2048x4096_S2048x4x1024) transposes_S2048x4x1024_S4x2048x1024_1_0_2

/-- The same, the sum over the tokens written out. -/
def SUM (a0 : FVec Ideal S4096x2048 .bf16) (a1 : FVec Ideal S4096x4096 .bf16) :
    FVec Ideal S4x2048x1024 .bf16 := fun i =>
  ∑ k : Fin 4096, (show EReal from a0 (ix2 k (i 1)))
    * (show EReal from a1 (ix2 k ⟨(i 0).val * 1024 + (i 2).val, by have := (i 0).isLt; have := (i 2).isLt; simp at *; omega⟩))

theorem REF_eq (a0 : FVec Ideal S4096x2048 .bf16) (a1 : FVec Ideal S4096x4096 .bf16) :
    REF a0 a1 = SUM a0 a1 := by
  funext i
  pointwise [REF, SUM]
  exact Finset.sum_congr rfl fun k _ => mul_comm _ _

end Cert.DwInRefIdeal.Value

namespace Cert.DwInIdeal.Value
open Cert.DwInIdeal Cert.DwInIdeal.Gen

variable (m : (ℓ : Loc nD τ sig) → Buf (Elt Ideal) ℓ)

theorem idx_val : ∀ t : Fin cfg0.N, win0_0.index t = ![0, t.val % 4]
    ∧ win0_1.index t = ![0, t.val / 4] ∧ win0_2.index t = ![t.val / 4, t.val % 4, 0] :=
  (by decide +kernel : ∀ t : Fin grid0.N, _)

open Cert.DwInRefIdeal.Value (REF SUM REF_eq) in
theorem final (c : Dev nD) : (dats m 0 c).arrAt 2 (cfgs 0).N
    = REF (m ((c : Thread nD τ).loc main_arg0)) (m ((c : Thread nD τ).loc main_arg1)) := by
  rw [REF_eq]
  refine (dats m 0 c).arrAt_eq_of_covers 2 _ (by decide +kernel) fun t hf y => ?_
  blk_simp
  rw [after0_2]
  frame_out
  canon_tiles x h using View.cover_of_tiledBy _ ![1, 512, 512] (by sl_kernel_rfl) _
  all_goals
    pointwise [k0_pay1, k0_pay2, SUM]
    blk_point [iblk, V, idx_val t]

end Cert.DwInIdeal.Value
end
end
-- ==== Proof.DwOutValue.lean ====
/- What the weight gradient of the output projection leaves in its result array. -/
module

public import proofs.«01_k».proof.Proof.Gen.DwOutIdeal.Frame
public import proofs.«01_k».proof.Proof.Gen.DwOutIdeal.Value
public import proofs.«01_k».proof.Proof.Gen.DwOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwOutRefIdeal.Value
open Cert.DwOutRefIdeal Cert.DwOutRefIdeal.Gen

/-- The reference's result as a function of its two arguments. -/
def REF (a0 : FVec Ideal S4096x2048 .bf16) (a1 : FVec Ideal S4096x2048 .bf16) :
    FVec Ideal S4x512x2048 .bf16 :=
  shapeCast _ (truncf .bf16 (transpose S2048x2048 [1, 0] (Host.dotGeneral dot_S4096x2048_S4096x2048_S2048x2048_0_0_1_1_n_n none (extf .f32 a1 bitsLt_bf16_f32) (extf .f32 a0 bitsLt_bf16_f32)) transposes_S2048x2048_S2048x2048_1_0) bitsLt_bf16_f32) shapeCasts_S2048x2048_S4x512x2048

/-- The same, the sum over the tokens written out. -/
def SUM (a0 : FVec Ideal S4096x2048 .bf16) (a1 : FVec Ideal S4096x2048 .bf16) :
    FVec Ideal S4x512x2048 .bf16 := fun i =>
  ∑ k : Fin 4096, (show EReal from a0 (ix2 k ⟨(i 0).val * 512 + (i 1).val, by have := (i 0).isLt; have := (i 1).isLt; simp at *; omega⟩))
    * (show EReal from a1 (ix2 k (i 2)))

theorem REF_eq (a0 : FVec Ideal S4096x2048 .bf16) (a1 : FVec Ideal S4096x2048 .bf16) :
    REF a0 a1 = SUM a0 a1 := by
  funext i
  pointwise [REF, SUM]
  exact Finset.sum_congr rfl fun k _ => mul_comm _ _

end Cert.DwOutRefIdeal.Value

namespace Cert.DwOutIdeal.Value
open Cert.DwOutIdeal Cert.DwOutIdeal.Gen

variable (m : (ℓ : Loc nD τ sig) → Buf (Elt Ideal) ℓ)

theorem idx_val : ∀ t : Fin cfg0.N, win0_0.index t = ![0, t.val % 4]
    ∧ win0_1.index t = ![0, t.val / 4] ∧ win0_2.index t = ![t.val % 4, 0, t.val / 4] :=
  (by decide +kernel : ∀ t : Fin grid0.N, _)

open Cert.DwOutRefIdeal.Value (REF SUM REF_eq) in
theorem final (c : Dev nD) : (dats m 0 c).arrAt 2 (cfgs 0).N
    = REF (m ((c : Thread nD τ).loc main_arg0)) (m ((c : Thread nD τ).loc main_arg1)) := by
  rw [REF_eq]
  refine (dats m 0 c).arrAt_eq_of_covers 2 _ (by decide +kernel) fun t hf y => ?_
  blk_simp
  rw [after0_2]
  frame_out
  canon_tiles x h using View.cover_of_tiledBy _ ![1, 512, 512] (by sl_kernel_rfl) _
  all_goals
    pointwise [k0_pay1, k0_pay2, SUM]
    blk_point [iblk, V, idx_val t]

end Cert.DwOutIdeal.Value
end
end
-- ==== Proof.DwProjValue.lean ====
/- What the weight gradient of the embedding projection leaves in its result array. -/
module

public import proofs.«01_k».proof.Proof.Gen.DwProjIdeal.Frame
public import proofs.«01_k».proof.Proof.Gen.DwProjIdeal.Value
public import proofs.«01_k».proof.Proof.Gen.DwProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwProjRefIdeal.Value
open Cert.DwProjRefIdeal Cert.DwProjRefIdeal.Gen

/-- The reference's result as a function of its two arguments. -/
def REF (a0 : FVec Ideal S4096x256 .bf16) (a1 : FVec Ideal S4096x2048 .bf16) :
    FVec Ideal S4x256x512 .bf16 :=
  transpose S4x256x512 [1, 0, 2] (shapeCast _ (truncf .bf16 (transpose S256x2048 [1, 0] (Host.dotGeneral dot_S4096x2048_S4096x256_S2048x256_0_0_1_1_n_n none (extf .f32 a1 bitsLt_bf16_f32) (extf .f32 a0 bitsLt_bf16_f32)) transposes_S2048x256_S256x2048_1_0) bitsLt_bf16_f32) shapeCasts_S256x2048_S256x4x512) transposes_S256x4x512_S4x256x512_1_0_2

/-- The same, the sum over the tokens written out. -/
def SUM (a0 : FVec Ideal S4096x256 .bf16) (a1 : FVec Ideal S4096x2048 .bf16) :
    FVec Ideal S4x256x512 .bf16 := fun i =>
  ∑ k : Fin 4096, (show EReal from a0 (ix2 k (i 1)))
    * (show EReal from a1 (ix2 k ⟨(i 0).val * 512 + (i 2).val, by have := (i 0).isLt; have := (i 2).isLt; simp at *; omega⟩))

theorem REF_eq (a0 : FVec Ideal S4096x256 .bf16) (a1 : FVec Ideal S4096x2048 .bf16) :
    REF a0 a1 = SUM a0 a1 := by
  funext i
  pointwise [REF, SUM]
  exact Finset.sum_congr rfl fun k _ => mul_comm _ _

end Cert.DwProjRefIdeal.Value

namespace Cert.DwProjIdeal.Value
open Cert.DwProjIdeal Cert.DwProjIdeal.Gen

variable (m : (ℓ : Loc nD τ sig) → Buf (Elt Ideal) ℓ)

theorem idx_val : ∀ t : Fin cfg0.N, win0_0.index t = ![0, 0]
    ∧ win0_1.index t = ![0, t.val] ∧ win0_2.index t = ![t.val, 0, 0] :=
  (by decide +kernel : ∀ t : Fin grid0.N, _)

open Cert.DwProjRefIdeal.Value (REF SUM REF_eq) in
theorem final (c : Dev nD) : (dats m 0 c).arrAt 2 (cfgs 0).N
    = REF (m ((c : Thread nD τ).loc main_arg0)) (m ((c : Thread nD τ).loc main_arg1)) := by
  rw [REF_eq]
  refine (dats m 0 c).arrAt_eq_of_covers 2 _ (by decide +kernel) fun t hf y => ?_
  blk_simp
  rw [after0_2]
  frame_out
  pointwise [k0_pay1, SUM]
  blk_point [iblk, V, idx_val t]

end Cert.DwProjIdeal.Value
end
end
-- ==== Proof.Blocks.lean ====
/- Sums over an axis cut into equal blocks. -/
module

public import Idealize.ShloMosaic.Lib.Pipeline.ValueKit

@[expose] public section

noncomputable section

namespace Cert.Blocks

/-- A sum over two blocks of `n`, block by block. -/
theorem sum2 (n : ℕ) (f : Fin (n + n) → EReal) :
    ∑ k, f k = (∑ k : Fin n, f ⟨k.val, by omega⟩) + ∑ k : Fin n, f ⟨n + k.val, by omega⟩ :=
  Fin.sum_univ_add f

/-- A sum over four blocks of `n`, block by block from the left. -/
theorem sum4 (n : ℕ) (f : Fin (n + n + n + n) → EReal) :
    ∑ k, f k = (((∑ k : Fin n, f ⟨k.val, by omega⟩) + ∑ k : Fin n, f ⟨n + k.val, by omega⟩)
      + ∑ k : Fin n, f ⟨n + n + k.val, by omega⟩) + ∑ k : Fin n, f ⟨n + n + n + k.val, by omega⟩ := by
  rw [Fin.sum_univ_add, Fin.sum_univ_add, Fin.sum_univ_add]
  rfl

end Cert.Blocks
end
end
-- ==== Proof.DxInValue.lean ====
/- What the gradient of the input projection's input leaves in its result array. -/
module

public import proofs.«01_k».proof.Proof.Blocks
public import proofs.«01_k».proof.Proof.Gen.DxInIdeal.Frame
public import proofs.«01_k».proof.Proof.Gen.DxInIdeal.Value
public import proofs.«01_k».proof.Proof.Gen.DxInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxInRefIdeal.Value
open Cert.DxInRefIdeal Cert.DxInRefIdeal.Gen

/-- The reference's result as a function of its arguments. -/
def REF (a0 : FVec Ideal S4096x4096 .bf16) (a1 : FVec Ideal S2048x4096 .f32) : FVec Ideal S4096x2048 .bf16 :=
  truncf .bf16 (Host.dotGeneral dot_S4096x4096_S2048x4096_S4096x2048_1_1_0_0_n_n none (extf .f32 a0 bitsLt_bf16_f32) a1) bitsLt_bf16_f32

/-- The same, block by block of the summed axis. -/
def SUM (a0 : FVec Ideal S4096x4096 .bf16) (a1 : FVec Ideal S2048x4096 .f32) : FVec Ideal S4096x2048 .bf16 := fun i =>
  ((((∑ k : Fin 1024, (show EReal from a0 (ix2 (i 0) ⟨k.val, by omega⟩)) * (show EReal from a1 (ix2 (i 1) ⟨k.val, by omega⟩)))
    + (∑ k : Fin 1024, (show EReal from a0 (ix2 (i 0) ⟨1024 + k.val, by omega⟩)) * (show EReal from a1 (ix2 (i 1) ⟨1024 + k.val, by omega⟩))))
    + (∑ k : Fin 1024, (show EReal from a0 (ix2 (i 0) ⟨2048 + k.val, by omega⟩)) * (show EReal from a1 (ix2 (i 1) ⟨2048 + k.val, by omega⟩))))
    + (∑ k : Fin 1024, (show EReal from a0 (ix2 (i 0) ⟨3072 + k.val, by omega⟩)) * (show EReal from a1 (ix2 (i 1) ⟨3072 + k.val, by omega⟩))))

theorem REF_eq (a0 : FVec Ideal S4096x4096 .bf16) (a1 : FVec Ideal S2048x4096 .f32) : REF a0 a1 = SUM a0 a1 := by
  funext i
  pointwise [REF, SUM]
  exact Blocks.sum4 1024 _

end Cert.DxInRefIdeal.Value

namespace Cert.DxInIdeal.Value
open Cert.DxInIdeal Cert.DxInIdeal.Gen

variable (m : (ℓ : Loc nD τ sig) → Buf (Elt Ideal) ℓ)

theorem idx_val : ∀ t : Fin cfg0.N, win0_0.index t = ![t.val / 4, 0]
    ∧ win0_1.index t = ![0 + t.val % 4 / 2, t.val % 4 % 2, 0]
    ∧ win0_2.index t = ![2 + t.val % 4 / 2, t.val % 4 % 2, 0]
    ∧ win0_3.index t = ![4 + t.val % 4 / 2, t.val % 4 % 2, 0]
    ∧ win0_4.index t = ![6 + t.val % 4 / 2, t.val % 4 % 2, 0]
    ∧ win0_5.index t = ![t.val / 4, t.val % 4] :=
  (by decide +kernel : ∀ t : Fin grid0.N, _)

open Cert.DxInRefIdeal.Value (REF SUM REF_eq) in
theorem final (c : Dev nD) : (dats m 0 c).arrAt 5 (cfgs 0).N
    = REF (m ((c : Thread nD τ).loc main_arg0)) (m ((c : Thread nD τ).loc main_arg1)) := by
  rw [REF_eq]
  refine (dats m 0 c).arrAt_eq_of_covers 5 _ (by decide +kernel) fun t hf y => ?_
  blk_simp
  rw [after0_5]
  frame_out
  canon_tiles x h using View.cover_of_tiledBy _ ![1024, 256] (by sl_kernel_rfl) _
  all_goals
    pointwise [k0_pay1, k0_pay2, k0_pay3, SUM]
    blk_point [iblk, V, idx_val t]

end Cert.DxInIdeal.Value
end
end
-- ==== Proof.DxOutValue.lean ====
/- What the gradient of the output projection's input leaves in its result array. -/
module

public import proofs.«01_k».proof.Proof.Blocks
public import proofs.«01_k».proof.Proof.Gen.DxOutIdeal.Frame
public import proofs.«01_k».proof.Proof.Gen.DxOutIdeal.Value
public import proofs.«01_k».proof.Proof.Gen.DxOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxOutRefIdeal.Value
open Cert.DxOutRefIdeal Cert.DxOutRefIdeal.Gen

/-- The reference's result as a function of its two arguments. -/
def REF (a0 : FVec Ideal S4096x2048 .bf16) (a1 : FVec Ideal S2048x2048 .f32) : FVec Ideal S4096x2048 .bf16 :=
  truncf .bf16 (Host.dotGeneral dot_S4096x2048_S2048x2048_S4096x2048_1_1_0_0_n_n none (extf .f32 a0 bitsLt_bf16_f32) a1) bitsLt_bf16_f32

/-- The same, block by block of the summed axis. -/
def SUM (a0 : FVec Ideal S4096x2048 .bf16) (a1 : FVec Ideal S2048x2048 .f32) : FVec Ideal S4096x2048 .bf16 := fun i =>
  (∑ k : Fin 1024, (show EReal from a0 (ix2 (i 0) ⟨k.val, by omega⟩)) * (show EReal from a1 (ix2 (i 1) ⟨k.val, by omega⟩)))
  + ∑ k : Fin 1024, (show EReal from a0 (ix2 (i 0) ⟨1024 + k.val, by omega⟩)) * (show EReal from a1 (ix2 (i 1) ⟨1024 + k.val, by omega⟩))

theorem REF_eq (a0 : FVec Ideal S4096x2048 .bf16) (a1 : FVec Ideal S2048x2048 .f32) : REF a0 a1 = SUM a0 a1 := by
  funext i
  pointwise [REF, SUM]
  exact Blocks.sum2 1024 _

end Cert.DxOutRefIdeal.Value

namespace Cert.DxOutIdeal.Value
open Cert.DxOutIdeal Cert.DxOutIdeal.Gen

variable (m : (ℓ : Loc nD τ sig) → Buf (Elt Ideal) ℓ)

theorem idx_val : ∀ t : Fin cfg0.N, win0_0.index t = ![t.val / 4, 0]
    ∧ win0_1.index t = ![2 * (t.val % 4), 0, 0] ∧ win0_2.index t = ![2 * (t.val % 4) + 1, 0, 0] ∧ win0_3.index t = ![t.val / 4, t.val % 4] :=
  (by decide +kernel : ∀ t : Fin grid0.N, _)

open Cert.DxOutRefIdeal.Value (REF SUM REF_eq) in
theorem final (c : Dev nD) : (dats m 0 c).arrAt 3 (cfgs 0).N
    = REF (m ((c : Thread nD τ).loc main_arg0)) (m ((c : Thread nD τ).loc main_arg1)) := by
  rw [REF_eq]
  refine (dats m 0 c).arrAt_eq_of_covers 3 _ (by decide +kernel) fun t hf y => ?_
  blk_simp
  rw [after0_3]
  frame_out
  canon_tiles x h using View.cover_of_tiledBy _ ![1024, 256] (by sl_kernel_rfl) _
  all_goals
    pointwise [k0_pay1, k0_pay2, SUM]
    blk_point [iblk, V, idx_val t]

end Cert.DxOutIdeal.Value
end
end
-- ==== Proof.DxFfnValue.lean ====
/- What the gradient of the gated products' input leaves in its result array. -/
module

public import proofs.«01_k».proof.Proof.Blocks
public import proofs.«01_k».proof.Proof.Gen.DxFfnIdeal.Frame
public import proofs.«01_k».proof.Proof.Gen.DxFfnIdeal.Value
public import proofs.«01_k».proof.Proof.Gen.DxFfnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxFfnRefIdeal.Value
open Cert.DxFfnRefIdeal Cert.DxFfnRefIdeal.Gen

theorem shuffle (a0 a1 a2 a3 b0 b1 b2 b3 : EReal) :
    (b0 + b1 + b2 + b3) + (a0 + a1 + a2 + a3) = (a0 + b0) + (a1 + b1) + (a2 + b2) + (a3 + b3) := by
  abel

/-- The reference's result as a function of its arguments. -/
def REF (a0 a1 : FVec Ideal S4096x5632 .bf16) (a2 a3 : FVec Ideal S2048x5632 .f32) : FVec Ideal S4096x2048 .bf16 :=
  truncf .bf16 (addf (Host.dotGeneral dot_S4096x5632_S2048x5632_S4096x2048_1_1_0_0_n_n none (extf .f32 a1 bitsLt_bf16_f32) a3) (Host.dotGeneral dot_S4096x5632_S2048x5632_S4096x2048_1_1_0_0_n_n none (extf .f32 a0 bitsLt_bf16_f32) a2)) bitsLt_bf16_f32

/-- The same, block by block of the summed axis. -/
def SUM (a0 a1 : FVec Ideal S4096x5632 .bf16) (a2 a3 : FVec Ideal S2048x5632 .f32) : FVec Ideal S4096x2048 .bf16 := fun i =>
  (((((∑ k : Fin 1408, (show EReal from a0 (ix2 (i 0) ⟨k.val, by omega⟩)) * (show EReal from a2 (ix2 (i 1) ⟨k.val, by omega⟩)))
    + (∑ k : Fin 1408, (show EReal from a1 (ix2 (i 0) ⟨k.val, by omega⟩)) * (show EReal from a3 (ix2 (i 1) ⟨k.val, by omega⟩))))
    + ((∑ k : Fin 1408, (show EReal from a0 (ix2 (i 0) ⟨1408 + k.val, by omega⟩)) * (show EReal from a2 (ix2 (i 1) ⟨1408 + k.val, by omega⟩)))
    + (∑ k : Fin 1408, (show EReal from a1 (ix2 (i 0) ⟨1408 + k.val, by omega⟩)) * (show EReal from a3 (ix2 (i 1) ⟨1408 + k.val, by omega⟩)))))
    + ((∑ k : Fin 1408, (show EReal from a0 (ix2 (i 0) ⟨2816 + k.val, by omega⟩)) * (show EReal from a2 (ix2 (i 1) ⟨2816 + k.val, by omega⟩)))
    + (∑ k : Fin 1408, (show EReal from a1 (ix2 (i 0) ⟨2816 + k.val, by omega⟩)) * (show EReal from a3 (ix2 (i 1) ⟨2816 + k.val, by omega⟩)))))
    + ((∑ k : Fin 1408, (show EReal from a0 (ix2 (i 0) ⟨4224 + k.val, by omega⟩)) * (show EReal from a2 (ix2 (i 1) ⟨4224 + k.val, by omega⟩)))
    + (∑ k : Fin 1408, (show EReal from a1 (ix2 (i 0) ⟨4224 + k.val, by omega⟩)) * (show EReal from a3 (ix2 (i 1) ⟨4224 + k.val, by omega⟩)))))

theorem REF_eq (a0 a1 : FVec Ideal S4096x5632 .bf16) (a2 a3 : FVec Ideal S2048x5632 .f32) : REF a0 a1 a2 a3 = SUM a0 a1 a2 a3 := by
  funext i
  pointwise [REF, SUM]
  exact (congrArg₂ (fun x y : EReal => x + y) (Blocks.sum4 1408 _) (Blocks.sum4 1408 _)).trans (shuffle _ _ _ _ _ _ _ _)

end Cert.DxFfnRefIdeal.Value

namespace Cert.DxFfnIdeal.Value
open Cert.DxFfnIdeal Cert.DxFfnIdeal.Gen

variable (m : (ℓ : Loc nD τ sig) → Buf (Elt Ideal) ℓ)

theorem idx_val : ∀ t : Fin cfg0.N, win0_0.index t = ![t.val / 8, t.val % 4]
    ∧ win0_1.index t = ![t.val / 8, t.val % 4]
    ∧ win0_2.index t = ![2 * (t.val % 4) + t.val / 4 % 2, 0, 0]
    ∧ win0_3.index t = ![2 * (t.val % 4) + t.val / 4 % 2, 0, 0]
    ∧ win0_4.index t = ![t.val / 8, t.val / 4 % 2] :=
  (by decide +kernel : ∀ t : Fin grid0.N, _)

/-- What grid point `t` adds to the accumulator, at a place of the tile. -/
def T (a0 a1 : FVec Ideal S4096x5632 .bf16) (a2 a3 : FVec Ideal S2048x5632 .f32) (t : Fin cfg0.N) (x : S1024x1024.Idx) : EReal :=
  (∑ k : Fin 1408, (show EReal from a0 (ix2 ⟨t.val / 8 * 1024 + (x 0).val, by have := (x 0).isLt; have := lt_of_lt_of_eq t.isLt N_0; simp at *; omega⟩ ⟨t.val % 4 * 1408 + k.val, by omega⟩))
      * (show EReal from a2 (ix2 ⟨t.val / 4 % 2 * 1024 + (x 1).val, by have := (x 1).isLt; simp at *; omega⟩ ⟨t.val % 4 * 1408 + k.val, by omega⟩)))
    + (∑ k : Fin 1408, (show EReal from a1 (ix2 ⟨t.val / 8 * 1024 + (x 0).val, by have := (x 0).isLt; have := lt_of_lt_of_eq t.isLt N_0; simp at *; omega⟩ ⟨t.val % 4 * 1408 + k.val, by omega⟩))
      * (show EReal from a3 (ix2 ⟨t.val / 4 % 2 * 1024 + (x 1).val, by have := (x 1).isLt; simp at *; omega⟩ ⟨t.val % 4 * 1408 + k.val, by omega⟩)))

theorem start (c : Dev nD) (t : Fin cfg0.N) (h : t.val % 4 = 0) (x : S1024x1024.Idx) :
    (show EReal from (outsAt0 m c t.val t.isLt).2 x)
      = 0 + T (m ((c : Thread nD τ).loc main_arg0)) (m ((c : Thread nD τ).loc main_arg1)) (m ((c : Thread nD τ).loc main_arg2)) (m ((c : Thread nD τ).loc main_arg3)) t x := by
  rw [outsAt0_A m c t h (by omega)]
  frame_out
  pointwise [k0_pay1, k0_pay2, k0_pay3, T]
  blk_point [iblk, V, idx_val t]

theorem step (c : Dev nD) (t : Fin cfg0.N) (h : ¬t.val % 4 = 0) (x : S1024x1024.Idx) :
    (show EReal from (outsAt0 m c t.val t.isLt).2 x)
      = (show EReal from (outsAt0 m c (t.val - 1) (Nat.lt_of_le_of_lt (Nat.sub_le _ _) t.isLt)).2 x) + T (m ((c : Thread nD τ).loc main_arg0)) (m ((c : Thread nD τ).loc main_arg1)) (m ((c : Thread nD τ).loc main_arg2)) (m ((c : Thread nD τ).loc main_arg3)) t x := by
  by_cases h3 : t.val % 4 = 3
  · rw [outsAt0_C m c t h h3]
    frame_out
    pointwise [k0_pay2, k0_pay3, T]
    rw [add_assoc]
    blk_point [iblk, V, idx_val t]
    all_goals exact congrFun ((Memref.isWhole_whole cc0_scratch0).read_unread _) x
  · rw [outsAt0_B m c t h h3]
    frame_out
    pointwise [k0_pay2, k0_pay3, T]
    rw [add_assoc]
    blk_point [iblk, V, idx_val t]
    all_goals exact congrFun ((Memref.isWhole_whole cc0_scratch0).read_unread _) x

theorem last (c : Dev nD) (t : Fin cfg0.N) (h : t.val % 4 = 3) (x : S1024x1024.Idx) :
    (show EReal from (outsAt0 m c t.val t.isLt).1 x) = (show EReal from (outsAt0 m c t.val t.isLt).2 x) := by
  rw [outsAt0_C m c t (by omega) h]
  frame_out
  pointwise [k0_pay4]

theorem total (c : Dev nD) (t : Fin cfg0.N) (h : t.val % 4 = 3) (x : S1024x1024.Idx) :
    (show EReal from (outsAt0 m c t.val t.isLt).1 x)
      = 0 + ∑ s : Fin 4, T (m ((c : Thread nD τ).loc main_arg0)) (m ((c : Thread nD τ).loc main_arg1)) (m ((c : Thread nD τ).loc main_arg2)) (m ((c : Thread nD τ).loc main_arg3)) ⟨4 * (t.val / 4) + s.val, Pipeline.run_point_lt_of_flush t h s⟩ x :=
  (last m c t h x).trans
    (Pipeline.eq_sum_fin_of_reset_step_apply_of_flush
      (fun n hn x => (show EReal from (outsAt0 m c n hn).2 x)) 4 (fun _ => 0) (T (m ((c : Thread nD τ).loc main_arg0)) (m ((c : Thread nD τ).loc main_arg1)) (m ((c : Thread nD τ).loc main_arg2)) (m ((c : Thread nD τ).loc main_arg3)))
      (fun t h x => start m c t h x) (fun t h x => step m c t h x) t h x)

open Cert.DxFfnRefIdeal.Value (REF SUM REF_eq) in
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  rw [REF_eq]
  refine (dats m 0 c).arrAt_eq_of_covers 4 _ (by decide +kernel) fun t hf y => ?_
  have h3 : t.val % 4 = 3 := (flush0_4 t).mp hf
  blk_simp
  rw [after0_4]
  refine (total m c t h3 _).trans ?_
  rw [zero_add, Fin.sum_univ_four]
  pointwise [T, SUM]
  blk_point [idx_val t]

end Cert.DxFfnIdeal.Value
end
end
-- ==== Proof.Reals.lean ====
/- Real numbers inside the extended reals: sums, quotients, reciprocal roots and the literals the programs use. -/
module

public import Idealize.ShloMosaic.Lib.Pointwise

@[expose] public section

noncomputable section

open Idealize.ShloMosaic
open scoped BigOperators

namespace Cert.Reals

theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_coe (x : ℝ) {y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  rw [Ideal.rsqrt_coe, if_neg (not_lt.mpr h.le), if_neg h.ne']

theorem zero_coe : (0 : EReal) = ((0 : ℝ) : EReal) := rfl
theorem one_coe : (1 : EReal) = ((1 : ℝ) : EReal) := rfl

/-- The word of 1/2. -/
theorem half_coe : Ideal.ofBits .f32 0x3F000000#32 = ((1 / 2 : ℝ) : EReal) := by
  simp [Ideal.ofBits, Ideal.ieee, -EReal.coe_mul]; norm_num
/-- The word of 128. -/
theorem w128_coe : Ideal.ofBits .f32 0x43000000#32 = ((128 : ℝ) : EReal) := by
  simp [Ideal.ofBits, Ideal.ieee, -EReal.coe_mul]; norm_num
/-- The word of -1/2. -/
theorem neghalf_coe : Ideal.ofBits .f32 0xBF000000#32 = ((-(1 / 2) : ℝ) : EReal) := by
  simp [Ideal.ofBits, Ideal.ieee, -EReal.coe_mul]; norm_num
/-- The word of 44715. -/
theorem w44715_coe : Ideal.ofBits .f32 0x472EAB00#32 = ((44715 : ℝ) : EReal) := by
  simp [Ideal.ofBits, Ideal.ieee, -EReal.coe_mul]; norm_num
/-- The word of 1000000. -/
theorem w1000000_coe : Ideal.ofBits .f32 0x49742400#32 = ((1000000 : ℝ) : EReal) := by
  simp [Ideal.ofBits, Ideal.ieee, -EReal.coe_mul]; norm_num

/-- The square root of 2/π as the programs spell it. -/
def root : ℝ := 13386282 / 2 ^ 24
theorem root_coe : Ideal.ofBits .f32 0x3F4C422A#32 = ((root : ℝ) : EReal) := by
  simp [Ideal.ofBits, Ideal.ieee, root, -EReal.coe_mul]; norm_num

/-- The addend under the root of a normalisation, as the programs spell it. -/
def eps : ℝ := 8796093 / 2 ^ 43
theorem eps_coe : Ideal.ofBits .f32 0x358637BD#32 = ((eps : ℝ) : EReal) := by
  simp [Ideal.ofBits, Ideal.ieee, eps, -EReal.coe_mul]; norm_num
theorem eps_pos : 0 < eps := by unfold eps; positivity

end Cert.Reals

end
-- ==== Proof.Sigmoid.lean ====
/- The sigmoid: the programs' spelling by the hyperbolic tangent and the spelling by the exponential are one function. -/
module

public import proofs.«01_k».proof.Proof.Reals
public import Idealize.ShloMosaic.Lib.IdealHost

@[expose] public section

noncomputable section

open Idealize.ShloMosaic

namespace Cert.Sigmoid

theorem tanh_real (x : ℝ) : 1 / 2 * Real.tanh (1 / 2 * x) + 1 / 2 = (1 + Real.exp (-x))⁻¹ := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have ha := Real.exp_pos (1 / 2 * x)
  have hb := Real.exp_pos (-(1 / 2 * x))
  rw [Real.tanh_eq_sinh_div_cosh, Real.sinh_eq, Real.cosh_eq, h1]
  generalize Real.exp (1 / 2 * x) = a at *
  generalize Real.exp (-(1 / 2 * x)) = b at *
  have hab : a + b ≠ 0 := (add_pos ha hb).ne'
  have hbb : 1 + b * b ≠ 0 := (by positivity : 0 < 1 + b * b).ne'
  field_simp
  linear_combination (2 * b) * h2

/-- Half the hyperbolic tangent of half the argument, plus a half, is the sigmoid. -/
theorem tanh_form (x : EReal) :
    Ideal.ofBits .f32 0x3F000000#32 * Ideal.tanh (Ideal.ofBits .f32 0x3F000000#32 * x) + Ideal.ofBits .f32 0x3F000000#32
      = Ideal.logistic x := by
  rw [Reals.half_coe]
  induction x using EReal.rec with
  | bot =>
    rw [EReal.coe_mul_bot_of_pos (by norm_num), Ideal.tanh_bot, Ideal.logistic_bot,
      show (-1 : EReal) = ((-1 : ℝ) : EReal) from rfl, ← EReal.coe_mul, ← EReal.coe_add, Reals.zero_coe]
    congr 1; norm_num
  | top =>
    rw [EReal.coe_mul_top_of_pos (by norm_num), Ideal.tanh_top, Ideal.logistic_top,
      Reals.one_coe, ← EReal.coe_mul, ← EReal.coe_add]
    congr 1; norm_num
  | coe r =>
    rw [← EReal.coe_mul, Ideal.tanh_coe, ← EReal.coe_mul, ← EReal.coe_add, Ideal.logistic_coe, tanh_real]

/-- One over one plus the exponential of the negated argument is the sigmoid. -/
theorem exp_form (x : EReal) : Ideal.div 1 (1 + Ideal.exp (-x)) = Ideal.logistic x := rfl

/-- The derivative of a gate times its sigmoid, in its two spellings, against a real cotangent. -/
theorem gate_form {x : EReal} (h : ∃ c : ℝ, x = ((c : ℝ) : EReal)) (g : EReal) :
    x * Ideal.logistic g + g * x * (Ideal.logistic g * (1 - Ideal.logistic g))
      = x * Ideal.logistic g * (1 + g * (1 - Ideal.logistic g)) := by
  obtain ⟨c, rfl⟩ := h
  induction g using EReal.rec with
  | bot => simp [Ideal.logistic_bot]
  | top =>
    have e : (1 : EReal) - 1 = 0 := by
      rw [Reals.one_coe, ← EReal.coe_sub, sub_self]; rfl
    simp [Ideal.logistic_top, e]
  | coe r =>
    rw [Ideal.logistic_coe, Reals.one_coe]
    simp only [← EReal.coe_sub, ← EReal.coe_mul, ← EReal.coe_add]
    congr 1; ring

theorem real_mul {x y : EReal} (hx : ∃ r : ℝ, x = ((r : ℝ) : EReal)) (hy : ∃ r : ℝ, y = ((r : ℝ) : EReal)) :
    ∃ r : ℝ, x * y = ((r : ℝ) : EReal) := by
  obtain ⟨a, rfl⟩ := hx
  obtain ⟨b, rfl⟩ := hy
  exact ⟨a * b, (EReal.coe_mul a b).symm⟩

theorem real_sum {n : Nat} (x y : Fin n → EReal) (hx : ∀ k, ∃ r : ℝ, x k = ((r : ℝ) : EReal))
    (hy : ∀ k, ∃ r : ℝ, y k = ((r : ℝ) : EReal)) : ∃ r : ℝ, ∑ k, x k * y k = ((r : ℝ) : EReal) := by
  choose c hc using fun k => real_mul (hx k) (hy k)
  exact ⟨∑ k, c k, by rw [← Reals.coe_sum]; exact Finset.sum_congr rfl fun k _ => hc k⟩

end Cert.Sigmoid

end
-- ==== Proof.SwigluBwdValue.lean ====
/- What the backward pass of the gated products leaves in its result arrays. -/
module

public import proofs.«01_k».proof.Proof.Blocks
public import proofs.«01_k».proof.Proof.Sigmoid
public import proofs.«01_k».proof.Proof.Gen.SwigluBwdIdeal.Frame
public import proofs.«01_k».proof.Proof.Gen.SwigluBwdIdeal.Value
public import proofs.«01_k».proof.Proof.Gen.SwigluBwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluBwdRefIdeal.Value
open Cert.SwigluBwdRefIdeal Cert.SwigluBwdRefIdeal.Gen

/-- Result gate of the reference as a function of its arguments. -/
def REF_gate (a0 : FVec Ideal S4096x2048 .bf16) (a1 : FVec Ideal S5632x2048 .f32) (a2 a3 : FVec Ideal S4096x5632 .bf16) : FVec Ideal S4096x5632 .bf16 :=
  truncf .bf16 (addf (mulf (mulf (Host.dotGeneral dot_S4096x2048_S5632x2048_S4096x5632_1_1_0_0_n_n none (extf .f32 a0 bitsLt_bf16_f32) a1) (extf .f32 a3 bitsLt_bf16_f32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 a2 bitsLt_bf16_f32)))))) (mulf (mulf (extf .f32 a2 bitsLt_bf16_f32) (mulf (Host.dotGeneral dot_S4096x2048_S5632x2048_S4096x5632_1_1_0_0_n_n none (extf .f32 a0 bitsLt_bf16_f32) a1) (extf .f32 a3 bitsLt_bf16_f32))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 a2 bitsLt_bf16_f32))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 a2 bitsLt_bf16_f32))))))))) bitsLt_bf16_f32

/-- The same, as the kernel computes it. -/
def SUM_gate (a0 : FVec Ideal S4096x2048 .bf16) (a1 : FVec Ideal S5632x2048 .f32) (a2 a3 : FVec Ideal S4096x5632 .bf16) : FVec Ideal S4096x5632 .bf16 := fun i =>
  ((∑ k : Fin 1024, (show EReal from a0 (ix2 (i 0) ⟨k.val, by omega⟩)) * (show EReal from a1 (ix2 (i 1) ⟨k.val, by omega⟩)))
    + (∑ k : Fin 1024, (show EReal from a0 (ix2 (i 0) ⟨1024 + k.val, by omega⟩)) * (show EReal from a1 (ix2 (i 1) ⟨1024 + k.val, by omega⟩))))
    * (show EReal from a3 i) * Ideal.logistic (show EReal from a2 i) * (1 + (show EReal from a2 i) * (1 - Ideal.logistic (show EReal from a2 i)))

theorem REF_gate_eq (a0 : FVec Ideal S4096x2048 .bf16) (a1 : FVec Ideal S5632x2048 .f32) (a2 a3 : FVec Ideal S4096x5632 .bf16)
    (h0 : ∀ j, ∃ r : ℝ, (show EReal from a0 j) = ((r : ℝ) : EReal))
    (h1 : ∀ j, ∃ r : ℝ, (show EReal from a1 j) = ((r : ℝ) : EReal))
    (h3 : ∀ j, ∃ r : ℝ, (show EReal from a3 j) = ((r : ℝ) : EReal)) : REF_gate a0 a1 a2 a3 = SUM_gate a0 a1 a2 a3 := by
  funext i
  pointwise [REF_gate, SUM_gate]
  refine (Sigmoid.gate_form ?_ _).trans
    (congrArg (fun z : EReal => z * (show EReal from a3 i) * Ideal.logistic (show EReal from a2 i) * (1 + (show EReal from a2 i) * (1 - Ideal.logistic (show EReal from a2 i)))) (Blocks.sum2 1024 _))
  exact Sigmoid.real_mul (Sigmoid.real_sum _ _ (fun k => h0 _) (fun k => h1 _)) (h3 i)

/-- Result up of the reference as a function of its arguments. -/
def REF_up (a0 : FVec Ideal S4096x2048 .bf16) (a1 : FVec Ideal S5632x2048 .f32) (a2 a3 : FVec Ideal S4096x5632 .bf16) : FVec Ideal S4096x5632 .bf16 :=
  truncf .bf16 (mulf (mulf (extf .f32 a2 bitsLt_bf16_f32) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 a2 bitsLt_bf16_f32)))))) (Host.dotGeneral dot_S4096x2048_S5632x2048_S4096x5632_1_1_0_0_n_n none (extf .f32 a0 bitsLt_bf16_f32) a1)) bitsLt_bf16_f32

/-- The same, as the kernel computes it. -/
def SUM_up (a0 : FVec Ideal S4096x2048 .bf16) (a1 : FVec Ideal S5632x2048 .f32) (a2 a3 : FVec Ideal S4096x5632 .bf16) : FVec Ideal S4096x5632 .bf16 := fun i =>
  ((∑ k : Fin 1024, (show EReal from a0 (ix2 (i 0) ⟨k.val, by omega⟩)) * (show EReal from a1 (ix2 (i 1) ⟨k.val, by omega⟩)))
    + (∑ k : Fin 1024, (show EReal from a0 (ix2 (i 0) ⟨1024 + k.val, by omega⟩)) * (show EReal from a1 (ix2 (i 1) ⟨1024 + k.val, by omega⟩))))
    * (show EReal from a2 i) * Ideal.logistic (show EReal from a2 i)

theorem REF_up_eq (a0 : FVec Ideal S4096x2048 .bf16) (a1 : FVec Ideal S5632x2048 .f32) (a2 a3 : FVec Ideal S4096x5632 .bf16) : REF_up a0 a1 a2 a3 = SUM_up a0 a1 a2 a3 := by
  funext i
  pointwise [REF_up, SUM_up]
  rw [mul_comm]
  refine (mul_assoc _ _ _).symm.trans ?_
  exact congrArg (fun z : EReal => z * (show EReal from a2 i) * Ideal.logistic (show EReal from a2 i)) (Blocks.sum2 1024 _)

/-- Result act of the reference as a function of its arguments. -/
def REF_act (a0 : FVec Ideal S4096x2048 .bf16) (a1 : FVec Ideal S5632x2048 .f32) (a2 a3 : FVec Ideal S4096x5632 .bf16) : FVec Ideal S4096x5632 .bf16 :=
  truncf .bf16 (mulf (mulf (extf .f32 a2 bitsLt_bf16_f32) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 a2 bitsLt_bf16_f32)))))) (extf .f32 a3 bitsLt_bf16_f32)) bitsLt_bf16_f32

/-- The same, as the kernel computes it. -/
def SUM_act (a0 : FVec Ideal S4096x2048 .bf16) (a1 : FVec Ideal S5632x2048 .f32) (a2 a3 : FVec Ideal S4096x5632 .bf16) : FVec Ideal S4096x5632 .bf16 := fun i =>
  (show EReal from a2 i) * Ideal.logistic (show EReal from a2 i) * (show EReal from a3 i)

theorem REF_act_eq (a0 : FVec Ideal S4096x2048 .bf16) (a1 : FVec Ideal S5632x2048 .f32) (a2 a3 : FVec Ideal S4096x5632 .bf16) : REF_act a0 a1 a2 a3 = SUM_act a0 a1 a2 a3 := by
  funext i
  pointwise [REF_act, SUM_act]
  rfl

end Cert.SwigluBwdRefIdeal.Value

namespace Cert.SwigluBwdIdeal.Value
open Cert.SwigluBwdIdeal Cert.SwigluBwdIdeal.Gen

variable (m : (ℓ : Loc nD τ sig) → Buf (Elt Ideal) ℓ)

theorem idx_val : ∀ t : Fin cfg0.N, win0_0.index t = ![t.val / 4, 0]
    ∧ win0_1.index t = ![2 * (t.val % 4) + 0, 0, 0]
    ∧ win0_2.index t = ![2 * (t.val % 4) + 1, 0, 0]
    ∧ win0_3.index t = ![t.val / 4, t.val % 4]
    ∧ win0_4.index t = ![t.val / 4, t.val % 4]
    ∧ win0_5.index t = ![t.val / 4, t.val % 4]
    ∧ win0_6.index t = ![t.val / 4, t.val % 4]
    ∧ win0_7.index t = ![t.val / 4, t.val % 4] :=
  (by decide +kernel : ∀ t : Fin grid0.N, _)

open Cert.SwigluBwdRefIdeal.Value (REF_gate SUM_gate REF_gate_eq) in
theorem final_gate (c : Dev nD)
    (h0 : ∀ j, ∃ r : ℝ, (show EReal from (m ((c : Thread nD τ).loc main_arg0) : FVec Ideal _ _) j) = ((r : ℝ) : EReal))
    (h1 : ∀ j, ∃ r : ℝ, (show EReal from (m ((c : Thread nD τ).loc main_arg1) : FVec Ideal _ _) j) = ((r : ℝ) : EReal))
    (h3 : ∀ j, ∃ r : ℝ, (show EReal from (m ((c : Thread nD τ).loc main_arg3) : FVec Ideal _ _) j) = ((r : ℝ) : EReal)) : (dats m 0 c).arrAt 5 (cfgs 0).N
    = REF_gate (m ((c : Thread nD τ).loc main_arg0)) (m ((c : Thread nD τ).loc main_arg1)) (m ((c : Thread nD τ).loc main_arg2)) (m ((c : Thread nD τ).loc main_arg3)) := by
  rw [REF_gate_eq _ _ _ _ h0 h1 h3]
  refine (dats m 0 c).arrAt_eq_of_covers 5 _ (by decide +kernel) fun t hf y => ?_
  blk_simp
  rw [after0_5]
  unfold outsAt0
  frame_out
  canon_tiles x h using View.cover_of_tiledBy _ ![512, 128] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, SUM_gate]
    simp only [Sigmoid.tanh_form]
    blk_point [iblk, V, idx_val t]

open Cert.SwigluBwdRefIdeal.Value (REF_up SUM_up REF_up_eq) in
theorem final_up (c : Dev nD) : (dats m 0 c).arrAt 6 (cfgs 0).N
    = REF_up (m ((c : Thread nD τ).loc main_arg0)) (m ((c : Thread nD τ).loc main_arg1)) (m ((c : Thread nD τ).loc main_arg2)) (m ((c : Thread nD τ).loc main_arg3)) := by
  rw [REF_up_eq]
  refine (dats m 0 c).arrAt_eq_of_covers 6 _ (by decide +kernel) fun t hf y => ?_
  blk_simp
  rw [after0_6]
  unfold outsAt0
  frame_out
  canon_tiles x h using View.cover_of_tiledBy _ ![512, 128] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, SUM_up]
    simp only [Sigmoid.tanh_form]
    blk_point [iblk, V, idx_val t]

open Cert.SwigluBwdRefIdeal.Value (REF_act SUM_act REF_act_eq) in
theorem final_act (c : Dev nD) : (dats m 0 c).arrAt 7 (cfgs 0).N
    = REF_act (m ((c : Thread nD τ).loc main_arg0)) (m ((c : Thread nD τ).loc main_arg1)) (m ((c : Thread nD τ).loc main_arg2)) (m ((c : Thread nD τ).loc main_arg3)) := by
  rw [REF_act_eq]
  refine (dats m 0 c).arrAt_eq_of_covers 7 _ (by decide +kernel) fun t hf y => ?_
  blk_simp
  rw [after0_7]
  unfold outsAt0
  frame_out
  canon_tiles x h using View.cover_of_tiledBy _ ![512, 128] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, SUM_act]
    simp only [Sigmoid.tanh_form]
    blk_point [iblk, V, idx_val t]

end Cert.SwigluBwdIdeal.Value
end
end
-- ==== Proof.PleBwdValue.lean ====
/- What the backward pass of the gated embedding leaves in its result arrays. -/
module

public import proofs.«01_k».proof.Proof.Blocks
public import proofs.«01_k».proof.Proof.Sigmoid
public import proofs.«01_k».proof.Proof.Gen.PleBwdIdeal.Frame
public import proofs.«01_k».proof.Proof.Gen.PleBwdIdeal.Value
public import proofs.«01_k».proof.Proof.Gen.PleBwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleBwdRefIdeal.Value
open Cert.PleBwdRefIdeal Cert.PleBwdRefIdeal.Gen

/-- Result dpp of the reference as a function of its arguments. -/
def REF_dpp (a0 : FVec Ideal S4096x2048 .f32) (a1 a2 : FVec Ideal S4096x2048 .bf16) : FVec Ideal S4096x2048 .bf16 :=
  truncf .bf16 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 a1 bitsLt_bf16_f32))))) a0) bitsLt_bf16_f32

/-- The same, as the kernel computes it. -/
def SUM_dpp (a0 : FVec Ideal S4096x2048 .f32) (a1 a2 : FVec Ideal S4096x2048 .bf16) : FVec Ideal S4096x2048 .bf16 := fun i =>
  (show EReal from a0 i) * Ideal.logistic (show EReal from a1 i)

theorem REF_dpp_eq (a0 : FVec Ideal S4096x2048 .f32) (a1 a2 : FVec Ideal S4096x2048 .bf16) : REF_dpp a0 a1 a2 = SUM_dpp a0 a1 a2 := by
  funext i
  pointwise [REF_dpp, SUM_dpp]
  exact mul_comm _ _

/-- Result dpg of the reference as a function of its arguments. -/
def REF_dpg (a0 : FVec Ideal S4096x2048 .f32) (a1 a2 : FVec Ideal S4096x2048 .bf16) : FVec Ideal S4096x2048 .bf16 :=
  truncf .bf16 (mulf (mulf a0 (extf .f32 a2 bitsLt_bf16_f32)) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 a1 bitsLt_bf16_f32))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 a1 bitsLt_bf16_f32)))))))) bitsLt_bf16_f32

/-- The same, as the kernel computes it. -/
def SUM_dpg (a0 : FVec Ideal S4096x2048 .f32) (a1 a2 : FVec Ideal S4096x2048 .bf16) : FVec Ideal S4096x2048 .bf16 := fun i =>
  (show EReal from a0 i) * (show EReal from a2 i) * Ideal.logistic (show EReal from a1 i) * (1 - Ideal.logistic (show EReal from a1 i))

theorem REF_dpg_eq (a0 : FVec Ideal S4096x2048 .f32) (a1 a2 : FVec Ideal S4096x2048 .bf16) : REF_dpg a0 a1 a2 = SUM_dpg a0 a1 a2 := by
  funext i
  pointwise [REF_dpg, SUM_dpg]
  exact (mul_assoc _ _ _).symm

end Cert.PleBwdRefIdeal.Value

namespace Cert.PleBwdIdeal.Value
open Cert.PleBwdIdeal Cert.PleBwdIdeal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0] :=
  (by decide +kernel : ∀ t : Fin grid0.N, _)

open Cert.PleBwdRefIdeal.Value (REF_dpp SUM_dpp REF_dpp_eq) in
theorem final_dpp (c : Dev nD) : (dats m 0 c).arrAt 3 (cfgs 0).N
    = REF_dpp (m ((c : Thread nD τ).loc main_arg0)) (m ((c : Thread nD τ).loc main_arg1)) (m ((c : Thread nD τ).loc main_arg2)) := by
  rw [REF_dpp_eq]
  refine (dats m 0 c).arrAt_eq_of_covers 3 _ (by decide +kernel) fun t hf y => ?_
  blk_simp
  rw [after0_3]
  frame_out
  all_goals
    pointwise [k0_pay1, k0_pay2, k0_pay3, SUM_dpp]
    simp only [Sigmoid.tanh_form]
    blk_point [iblk, V, idx_val t]

open Cert.PleBwdRefIdeal.Value (REF_dpg SUM_dpg REF_dpg_eq) in
theorem final_dpg (c : Dev nD) : (dats m 0 c).arrAt 4 (cfgs 0).N
    = REF_dpg (m ((c : Thread nD τ).loc main_arg0)) (m ((c : Thread nD τ).loc main_arg1)) (m ((c : Thread nD τ).loc main_arg2)) := by
  rw [REF_dpg_eq]
  refine (dats m 0 c).arrAt_eq_of_covers 4 _ (by decide +kernel) fun t hf y => ?_
  blk_simp
  rw [after0_4]
  frame_out
  all_goals
    pointwise [k0_pay1, k0_pay2, k0_pay3, SUM_dpg]
    simp only [Sigmoid.tanh_form]
    blk_point [iblk, V, idx_val t]

end Cert.PleBwdIdeal.Value
end
end
-- ==== Proof.MmInValue.lean ====
/- What the input projection leaves in its result array. -/
module

public import proofs.«01_k».proof.Proof.Blocks
public import proofs.«01_k».proof.Proof.Gen.MmInIdeal.Frame
public import proofs.«01_k».proof.Proof.Gen.MmInIdeal.Value
public import proofs.«01_k».proof.Proof.Gen.MmInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MmInRefIdeal.Value
open Cert.MmInRefIdeal Cert.MmInRefIdeal.Gen

/-- The reference's result as a function of its arguments. -/
def REF (a0 : FVec Ideal S4096x2048 .bf16) (a1 : FVec Ideal S2048x4096 .f32) : FVec Ideal S4096x4096 .f32 :=
  Host.dotGeneral dot_S4096x2048_S2048x4096_S4096x4096_1_0_0_1_n_n none (extf .f32 a0 bitsLt_bf16_f32) a1

/-- The same, block by block of the summed axis. -/
def SUM (a0 : FVec Ideal S4096x2048 .bf16) (a1 : FVec Ideal S2048x4096 .f32) : FVec Ideal S4096x4096 .f32 := fun i =>
  ((∑ k : Fin 1024, (show EReal from a0 (ix2 (i 0) ⟨k.val, by omega⟩)) * (show EReal from a1 (ix2 ⟨k.val, by omega⟩ (i 1))))
    + (∑ k : Fin 1024, (show EReal from a0 (ix2 (i 0) ⟨1024 + k.val, by omega⟩)) * (show EReal from a1 (ix2 ⟨1024 + k.val, by omega⟩ (i 1)))))

theorem REF_eq (a0 : FVec Ideal S4096x2048 .bf16) (a1 : FVec Ideal S2048x4096 .f32) : REF a0 a1 = SUM a0 a1 := by
  funext i
  pointwise [REF, SUM]
  exact Blocks.sum2 1024 _

end Cert.MmInRefIdeal.Value

namespace Cert.MmInIdeal.Value
open Cert.MmInIdeal Cert.MmInIdeal.Gen

variable (m : (ℓ : Loc nD τ sig) → Buf (Elt Ideal) ℓ)

theorem idx_val : ∀ t : Fin cfg0.N, win0_0.index t = ![t.val / 4, 0]
    ∧ win0_1.index t = ![2 * (t.val % 4) + 0, 0, 0]
    ∧ win0_2.index t = ![2 * (t.val % 4) + 1, 0, 0]
    ∧ win0_3.index t = ![t.val / 4, t.val % 4] :=
  (by decide +kernel : ∀ t : Fin grid0.N, _)

open Cert.MmInRefIdeal.Value (REF SUM REF_eq) in
theorem final (c : Dev nD) : (dats m 0 c).arrAt 3 (cfgs 0).N
    = REF (m ((c : Thread nD τ).loc main_arg0)) (m ((c : Thread nD τ).loc main_arg1)) := by
  rw [REF_eq]
  refine (dats m 0 c).arrAt_eq_of_covers 3 _ (by decide +kernel) fun t hf y => ?_
  blk_simp
  rw [after0_3]
  frame_out
  canon_tiles x h using View.cover_of_tiledBy _ ![1024, 256] (by sl_kernel_rfl) _
  all_goals
    pointwise [k0_pay1, k0_pay2, k0_pay3, k0_pay4, k0_pay5, SUM]
    blk_point [iblk, V, idx_val t]

end Cert.MmInIdeal.Value
end
end
-- ==== Proof.MmOutValue.lean ====
/- What the output projection leaves in its result array. -/
module

public import proofs.«01_k».proof.Proof.Blocks
public import proofs.«01_k».proof.Proof.Gen.MmOutIdeal.Frame
public import proofs.«01_k».proof.Proof.Gen.MmOutIdeal.Value
public import proofs.«01_k».proof.Proof.Gen.MmOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MmOutRefIdeal.Value
open Cert.MmOutRefIdeal Cert.MmOutRefIdeal.Gen

/-- The reference's result as a function of its arguments. -/
def REF (a0 : FVec Ideal S4096x2048 .bf16) (a1 : FVec Ideal S2048x2048 .f32) (a2 : FVec Ideal S4096x2048 .f32) : FVec Ideal S4096x2048 .f32 :=
  addf a2 (Host.dotGeneral dot_S4096x2048_S2048x2048_S4096x2048_1_0_0_1_n_n none (extf .f32 a0 bitsLt_bf16_f32) a1)

/-- The same, block by block of the summed axis. -/
def SUM (a0 : FVec Ideal S4096x2048 .bf16) (a1 : FVec Ideal S2048x2048 .f32) (a2 : FVec Ideal S4096x2048 .f32) : FVec Ideal S4096x2048 .f32 := fun i =>
  (show EReal from a2 i) + ((((∑ k : Fin 512, (show EReal from a0 (ix2 (i 0) ⟨k.val, by omega⟩)) * (show EReal from a1 (ix2 ⟨k.val, by omega⟩ (i 1))))
    + (∑ k : Fin 512, (show EReal from a0 (ix2 (i 0) ⟨512 + k.val, by omega⟩)) * (show EReal from a1 (ix2 ⟨512 + k.val, by omega⟩ (i 1)))))
    + (∑ k : Fin 512, (show EReal from a0 (ix2 (i 0) ⟨1024 + k.val, by omega⟩)) * (show EReal from a1 (ix2 ⟨1024 + k.val, by omega⟩ (i 1)))))
    + (∑ k : Fin 512, (show EReal from a0 (ix2 (i 0) ⟨1536 + k.val, by omega⟩)) * (show EReal from a1 (ix2 ⟨1536 + k.val, by omega⟩ (i 1)))))

theorem REF_eq (a0 : FVec Ideal S4096x2048 .bf16) (a1 : FVec Ideal S2048x2048 .f32) (a2 : FVec Ideal S4096x2048 .f32) : REF a0 a1 a2 = SUM a0 a1 a2 := by
  funext i
  pointwise [REF, SUM]
  exact congrArg ((show EReal from a2 i) + ·) (Blocks.sum4 512 _)

end Cert.MmOutRefIdeal.Value

namespace Cert.MmOutIdeal.Value
open Cert.MmOutIdeal Cert.MmOutIdeal.Gen

variable (m : (ℓ : Loc nD τ sig) → Buf (Elt Ideal) ℓ)

theorem idx_val : ∀ t : Fin cfg0.N, win0_0.index t = ![t.val / 2, 0]
    ∧ win0_1.index t = ![0 + t.val % 2, 0, 0]
    ∧ win0_2.index t = ![2 + t.val % 2, 0, 0]
    ∧ win0_3.index t = ![4 + t.val % 2, 0, 0]
    ∧ win0_4.index t = ![6 + t.val % 2, 0, 0]
    ∧ win0_5.index t = ![t.val / 2, t.val % 2]
    ∧ win0_6.index t = ![t.val / 2, t.val % 2] :=
  (by decide +kernel : ∀ t : Fin grid0.N, _)

open Cert.MmOutRefIdeal.Value (REF SUM REF_eq) in
theorem final (c : Dev nD) : (dats m 0 c).arrAt 6 (cfgs 0).N
    = REF (m ((c : Thread nD τ).loc main_arg0)) (m ((c : Thread nD τ).loc main_arg1)) (m ((c : Thread nD τ).loc main_arg2)) := by
  rw [REF_eq]
  refine (dats m 0 c).arrAt_eq_of_covers 6 _ (by decide +kernel) fun t hf y => ?_
  blk_simp
  rw [after0_6]
  frame_out
  canon_tiles x h using View.cover_of_tiledBy _ ![1024, 256] (by sl_kernel_rfl) _
  all_goals
    pointwise [k0_pay1, k0_pay2, k0_pay3, k0_pay4, k0_pay5, k0_pay6, k0_pay7, k0_pay8, SUM]
    blk_point [iblk, V, idx_val t]

end Cert.MmOutIdeal.Value
end
end
-- ==== Proof.MmDownValue.lean ====
/- What the down projection leaves in its result array. -/
module

public import proofs.«01_k».proof.Proof.Blocks
public import proofs.«01_k».proof.Proof.Gen.MmDownIdeal.Frame
public import proofs.«01_k».proof.Proof.Gen.MmDownIdeal.Value
public import proofs.«01_k».proof.Proof.Gen.MmDownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MmDownRefIdeal.Value
open Cert.MmDownRefIdeal Cert.MmDownRefIdeal.Gen

/-- The reference's result as a function of its arguments. -/
def REF (a0 : FVec Ideal S4096x5632 .bf16) (a1 : FVec Ideal S5632x2048 .f32) (a2 : FVec Ideal S4096x2048 .f32) : FVec Ideal S4096x2048 .f32 :=
  addf a2 (Host.dotGeneral dot_S4096x5632_S5632x2048_S4096x2048_1_0_0_1_n_n none (extf .f32 a0 bitsLt_bf16_f32) a1)

/-- The same, block by block of the summed axis. -/
def SUM (a0 : FVec Ideal S4096x5632 .bf16) (a1 : FVec Ideal S5632x2048 .f32) (a2 : FVec Ideal S4096x2048 .f32) : FVec Ideal S4096x2048 .f32 := fun i =>
  (show EReal from a2 i) + ((((∑ k : Fin 1408, (show EReal from a0 (ix2 (i 0) ⟨k.val, by omega⟩)) * (show EReal from a1 (ix2 ⟨k.val, by omega⟩ (i 1))))
    + (∑ k : Fin 1408, (show EReal from a0 (ix2 (i 0) ⟨1408 + k.val, by omega⟩)) * (show EReal from a1 (ix2 ⟨1408 + k.val, by omega⟩ (i 1)))))
    + (∑ k : Fin 1408, (show EReal from a0 (ix2 (i 0) ⟨2816 + k.val, by omega⟩)) * (show EReal from a1 (ix2 ⟨2816 + k.val, by omega⟩ (i 1)))))
    + (∑ k : Fin 1408, (show EReal from a0 (ix2 (i 0) ⟨4224 + k.val, by omega⟩)) * (show EReal from a1 (ix2 ⟨4224 + k.val, by omega⟩ (i 1)))))

theorem REF_eq (a0 : FVec Ideal S4096x5632 .bf16) (a1 : FVec Ideal S5632x2048 .f32) (a2 : FVec Ideal S4096x2048 .f32) : REF a0 a1 a2 = SUM a0 a1 a2 := by
  funext i
  pointwise [REF, SUM]
  exact congrArg ((show EReal from a2 i) + ·) (Blocks.sum4 1408 _)

end Cert.MmDownRefIdeal.Value

namespace Cert.MmDownIdeal.Value
open Cert.MmDownIdeal Cert.MmDownIdeal.Gen

variable (m : (ℓ : Loc nD τ sig) → Buf (Elt Ideal) ℓ)

theorem idx_val : ∀ t : Fin cfg0.N, win0_0.index t = ![t.val / 4, 0]
    ∧ win0_1.index t = ![0 + t.val % 4 / 2, 0, t.val % 4 % 2]
    ∧ win0_2.index t = ![2 + t.val % 4 / 2, 0, t.val % 4 % 2]
    ∧ win0_3.index t = ![4 + t.val % 4 / 2, 0, t.val % 4 % 2]
    ∧ win0_4.index t = ![6 + t.val % 4 / 2, 0, t.val % 4 % 2]
    ∧ win0_5.index t = ![t.val / 4, t.val % 4]
    ∧ win0_6.index t = ![t.val / 4, t.val % 4] :=
  (by decide +kernel : ∀ t : Fin grid0.N, _)

open Cert.MmDownRefIdeal.Value (REF SUM REF_eq) in
theorem final (c : Dev nD) : (dats m 0 c).arrAt 6 (cfgs 0).N
    = REF (m ((c : Thread nD τ).loc main_arg0)) (m ((c : Thread nD τ).loc main_arg1)) (m ((c : Thread nD τ).loc main_arg2)) := by
  rw [REF_eq]
  refine (dats m 0 c).arrAt_eq_of_covers 6 _ (by decide +kernel) fun t hf y => ?_
  blk_simp
  rw [after0_6]
  frame_out
  canon_tiles x h using View.cover_of_tiledBy _ ![1024, 256] (by sl_kernel_rfl) _
  all_goals
    pointwise [k0_pay1, k0_pay2, k0_pay3, SUM]
    blk_point [iblk, V, idx_val t]

end Cert.MmDownIdeal.Value
end
end
-- ==== Proof.SwigluFwdValue.lean ====
/- What the gated forward products leaves in its result arrays. -/
module

public import proofs.«01_k».proof.Proof.Blocks
public import proofs.«01_k».proof.Proof.Sigmoid
public import proofs.«01_k».proof.Proof.Gen.SwigluFwdIdeal.Frame
public import proofs.«01_k».proof.Proof.Gen.SwigluFwdIdeal.Value
public import proofs.«01_k».proof.Proof.Gen.SwigluFwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluFwdRefIdeal.Value
open Cert.SwigluFwdRefIdeal Cert.SwigluFwdRefIdeal.Gen

/-- Result act of the reference as a function of its arguments. -/
def REF_act (a0 : FVec Ideal S4096x2048 .bf16) (a1 a2 : FVec Ideal S2048x5632 .f32) : FVec Ideal S4096x5632 .bf16 :=
  truncf .bf16 (mulf (mulf (Host.dotGeneral dot_S4096x2048_S2048x5632_S4096x5632_1_0_0_1_n_n none (extf .f32 a0 bitsLt_bf16_f32) a1) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (Host.dotGeneral dot_S4096x2048_S2048x5632_S4096x5632_1_0_0_1_n_n none (extf .f32 a0 bitsLt_bf16_f32) a1)))))) (Host.dotGeneral dot_S4096x2048_S2048x5632_S4096x5632_1_0_0_1_n_n none (extf .f32 a0 bitsLt_bf16_f32) a2)) bitsLt_bf16_f32

/-- The same, as the kernel computes it. -/
def SUM_act (a0 : FVec Ideal S4096x2048 .bf16) (a1 a2 : FVec Ideal S2048x5632 .f32) : FVec Ideal S4096x5632 .bf16 := fun i =>
  ((∑ k : Fin 1024, (show EReal from a0 (ix2 (i 0) ⟨k.val, by omega⟩)) * (show EReal from a1 (ix2 ⟨k.val, by omega⟩ (i 1))))
    + (∑ k : Fin 1024, (show EReal from a0 (ix2 (i 0) ⟨1024 + k.val, by omega⟩)) * (show EReal from a1 (ix2 ⟨1024 + k.val, by omega⟩ (i 1)))))
    * Ideal.logistic (((∑ k : Fin 1024, (show EReal from a0 (ix2 (i 0) ⟨k.val, by omega⟩)) * (show EReal from a1 (ix2 ⟨k.val, by omega⟩ (i 1))))
    + (∑ k : Fin 1024, (show EReal from a0 (ix2 (i 0) ⟨1024 + k.val, by omega⟩)) * (show EReal from a1 (ix2 ⟨1024 + k.val, by omega⟩ (i 1))))))
    * (((∑ k : Fin 1024, (show EReal from a0 (ix2 (i 0) ⟨k.val, by omega⟩)) * (show EReal from a2 (ix2 ⟨k.val, by omega⟩ (i 1))))
    + (∑ k : Fin 1024, (show EReal from a0 (ix2 (i 0) ⟨1024 + k.val, by omega⟩)) * (show EReal from a2 (ix2 ⟨1024 + k.val, by omega⟩ (i 1))))))

theorem REF_act_eq (a0 : FVec Ideal S4096x2048 .bf16) (a1 a2 : FVec Ideal S2048x5632 .f32) : REF_act a0 a1 a2 = SUM_act a0 a1 a2 := by
  funext i
  pointwise [REF_act, SUM_act]
  exact congrArg₂ (fun z u : EReal => z * Ideal.logistic z * u) (Blocks.sum2 1024 _) (Blocks.sum2 1024 _)

/-- Result gate of the reference as a function of its arguments. -/
def REF_gate (a0 : FVec Ideal S4096x2048 .bf16) (a1 a2 : FVec Ideal S2048x5632 .f32) : FVec Ideal S4096x5632 .bf16 :=
  truncf .bf16 (Host.dotGeneral dot_S4096x2048_S2048x5632_S4096x5632_1_0_0_1_n_n none (extf .f32 a0 bitsLt_bf16_f32) a1) bitsLt_bf16_f32

/-- The same, as the kernel computes it. -/
def SUM_gate (a0 : FVec Ideal S4096x2048 .bf16) (a1 a2 : FVec Ideal S2048x5632 .f32) : FVec Ideal S4096x5632 .bf16 := fun i =>
  ((∑ k : Fin 1024, (show EReal from a0 (ix2 (i 0) ⟨k.val, by omega⟩)) * (show EReal from a1 (ix2 ⟨k.val, by omega⟩ (i 1))))
    + (∑ k : Fin 1024, (show EReal from a0 (ix2 (i 0) ⟨1024 + k.val, by omega⟩)) * (show EReal from a1 (ix2 ⟨1024 + k.val, by omega⟩ (i 1)))))

theorem REF_gate_eq (a0 : FVec Ideal S4096x2048 .bf16) (a1 a2 : FVec Ideal S2048x5632 .f32) : REF_gate a0 a1 a2 = SUM_gate a0 a1 a2 := by
  funext i
  pointwise [REF_gate, SUM_gate]
  exact Blocks.sum2 1024 _

/-- Result up of the reference as a function of its arguments. -/
def REF_up (a0 : FVec Ideal S4096x2048 .bf16) (a1 a2 : FVec Ideal S2048x5632 .f32) : FVec Ideal S4096x5632 .bf16 :=
  truncf .bf16 (Host.dotGeneral dot_S4096x2048_S2048x5632_S4096x5632_1_0_0_1_n_n none (extf .f32 a0 bitsLt_bf16_f32) a2) bitsLt_bf16_f32

/-- The same, as the kernel computes it. -/
def SUM_up (a0 : FVec Ideal S4096x2048 .bf16) (a1 a2 : FVec Ideal S2048x5632 .f32) : FVec Ideal S4096x5632 .bf16 := fun i =>
  ((∑ k : Fin 1024, (show EReal from a0 (ix2 (i 0) ⟨k.val, by omega⟩)) * (show EReal from a2 (ix2 ⟨k.val, by omega⟩ (i 1))))
    + (∑ k : Fin 1024, (show EReal from a0 (ix2 (i 0) ⟨1024 + k.val, by omega⟩)) * (show EReal from a2 (ix2 ⟨1024 + k.val, by omega⟩ (i 1)))))

theorem REF_up_eq (a0 : FVec Ideal S4096x2048 .bf16) (a1 a2 : FVec Ideal S2048x5632 .f32) : REF_up a0 a1 a2 = SUM_up a0 a1 a2 := by
  funext i
  pointwise [REF_up, SUM_up]
  exact Blocks.sum2 1024 _

end Cert.SwigluFwdRefIdeal.Value

namespace Cert.SwigluFwdIdeal.Value
open Cert.SwigluFwdIdeal Cert.SwigluFwdIdeal.Gen

variable (m : (ℓ : Loc nD τ sig) → Buf (Elt Ideal) ℓ)

theorem idx_val : ∀ t : Fin cfg0.N, win0_0.index t = ![t.val / 4, 0]
    ∧ win0_1.index t = ![2 * (t.val % 4) + 0, 0, 0]
    ∧ win0_2.index t = ![2 * (t.val % 4) + 1, 0, 0]
    ∧ win0_3.index t = ![2 * (t.val % 4) + 0, 0, 0]
    ∧ win0_4.index t = ![2 * (t.val % 4) + 1, 0, 0]
    ∧ win0_5.index t = ![t.val / 4, t.val % 4]
    ∧ win0_6.index t = ![t.val / 4, t.val % 4]
    ∧ win0_7.index t = ![t.val / 4, t.val % 4] :=
  (by decide +kernel : ∀ t : Fin grid0.N, _)

open Cert.SwigluFwdRefIdeal.Value (REF_act SUM_act REF_act_eq) in
theorem final_act (c : Dev nD) : (dats m 0 c).arrAt 5 (cfgs 0).N
    = REF_act (m ((c : Thread nD τ).loc main_arg0)) (m ((c : Thread nD τ).loc main_arg1)) (m ((c : Thread nD τ).loc main_arg2)) := by
  rw [REF_act_eq]
  refine (dats m 0 c).arrAt_eq_of_covers 5 _ (by decide +kernel) fun t hf y => ?_
  blk_simp
  rw [after0_5]
  unfold outsAt0
  frame_out
  canon_tiles x h using View.cover_of_tiledBy _ ![512, 128] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, SUM_act]
    simp only [Sigmoid.tanh_form]
    blk_point [iblk, V, idx_val t]

open Cert.SwigluFwdRefIdeal.Value (REF_gate SUM_gate REF_gate_eq) in
theorem final_gate (c : Dev nD) : (dats m 0 c).arrAt 6 (cfgs 0).N
    = REF_gate (m ((c : Thread nD τ).loc main_arg0)) (m ((c : Thread nD τ).loc main_arg1)) (m ((c : Thread nD τ).loc main_arg2)) := by
  rw [REF_gate_eq]
  refine (dats m 0 c).arrAt_eq_of_covers 6 _ (by decide +kernel) fun t hf y => ?_
  blk_simp
  rw [after0_6]
  unfold outsAt0
  frame_out
  canon_tiles x h using View.cover_of_tiledBy _ ![512, 128] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, SUM_gate]
    blk_point [iblk, V, idx_val t]

open Cert.SwigluFwdRefIdeal.Value (REF_up SUM_up REF_up_eq) in
theorem final_up (c : Dev nD) : (dats m 0 c).arrAt 7 (cfgs 0).N
    = REF_up (m ((c : Thread nD τ).loc main_arg0)) (m ((c : Thread nD τ).loc main_arg1)) (m ((c : Thread nD τ).loc main_arg2)) := by
  rw [REF_up_eq]
  refine (dats m 0 c).arrAt_eq_of_covers 7 _ (by decide +kernel) fun t hf y => ?_
  blk_simp
  rw [after0_7]
  unfold outsAt0
  frame_out
  canon_tiles x h using View.cover_of_tiledBy _ ![512, 128] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, SUM_up]
    blk_point [iblk, V, idx_val t]

end Cert.SwigluFwdIdeal.Value
end
end
-- ==== Proof.PleFwdValue.lean ====
/- What the gated embedding leaves in its result arrays. -/
module

public import proofs.«01_k».proof.Proof.Blocks
public import proofs.«01_k».proof.Proof.Sigmoid
public import proofs.«01_k».proof.Proof.Gen.PleFwdIdeal.Frame
public import proofs.«01_k».proof.Proof.Gen.PleFwdIdeal.Value
public import proofs.«01_k».proof.Proof.Gen.PleFwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleFwdRefIdeal.Value
open Cert.PleFwdRefIdeal Cert.PleFwdRefIdeal.Gen

/-- Result h of the reference as a function of its arguments. -/
def REF_h (a0 : FVec Ideal S4096x2048 .bf16) (a1 : FVec Ideal S2048x2048 .f32) (a2 : FVec Ideal S4096x2048 .f32) (a3 : FVec Ideal S4096x2048 .bf16) : FVec Ideal S4096x2048 .f32 :=
  addf a2 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (Host.dotGeneral dot_S4096x2048_S2048x2048_S4096x2048_1_0_0_1_n_n none (extf .f32 a0 bitsLt_bf16_f32) a1))))) (extf .f32 a3 bitsLt_bf16_f32))

/-- The same, as the kernel computes it. -/
def SUM_h (a0 : FVec Ideal S4096x2048 .bf16) (a1 : FVec Ideal S2048x2048 .f32) (a2 : FVec Ideal S4096x2048 .f32) (a3 : FVec Ideal S4096x2048 .bf16) : FVec Ideal S4096x2048 .f32 := fun i =>
  (show EReal from a2 i) + Ideal.logistic (((((∑ k : Fin 512, (show EReal from a0 (ix2 (i 0) ⟨k.val, by omega⟩)) * (show EReal from a1 (ix2 ⟨k.val, by omega⟩ (i 1))))
    + (∑ k : Fin 512, (show EReal from a0 (ix2 (i 0) ⟨512 + k.val, by omega⟩)) * (show EReal from a1 (ix2 ⟨512 + k.val, by omega⟩ (i 1)))))
    + (∑ k : Fin 512, (show EReal from a0 (ix2 (i 0) ⟨1024 + k.val, by omega⟩)) * (show EReal from a1 (ix2 ⟨1024 + k.val, by omega⟩ (i 1)))))
    + (∑ k : Fin 512, (show EReal from a0 (ix2 (i 0) ⟨1536 + k.val, by omega⟩)) * (show EReal from a1 (ix2 ⟨1536 + k.val, by omega⟩ (i 1))))))
    * (show EReal from a3 i)

theorem REF_h_eq (a0 : FVec Ideal S4096x2048 .bf16) (a1 : FVec Ideal S2048x2048 .f32) (a2 : FVec Ideal S4096x2048 .f32) (a3 : FVec Ideal S4096x2048 .bf16) : REF_h a0 a1 a2 a3 = SUM_h a0 a1 a2 a3 := by
  funext i
  pointwise [REF_h, SUM_h]
  exact congrArg (fun z : EReal => (show EReal from a2 i) + Ideal.logistic z * (show EReal from a3 i)) (Blocks.sum4 512 _)

/-- Result pg of the reference as a function of its arguments. -/
def REF_pg (a0 : FVec Ideal S4096x2048 .bf16) (a1 : FVec Ideal S2048x2048 .f32) (a2 : FVec Ideal S4096x2048 .f32) (a3 : FVec Ideal S4096x2048 .bf16) : FVec Ideal S4096x2048 .bf16 :=
  truncf .bf16 (Host.dotGeneral dot_S4096x2048_S2048x2048_S4096x2048_1_0_0_1_n_n none (extf .f32 a0 bitsLt_bf16_f32) a1) bitsLt_bf16_f32

/-- The same, as the kernel computes it. -/
def SUM_pg (a0 : FVec Ideal S4096x2048 .bf16) (a1 : FVec Ideal S2048x2048 .f32) (a2 : FVec Ideal S4096x2048 .f32) (a3 : FVec Ideal S4096x2048 .bf16) : FVec Ideal S4096x2048 .bf16 := fun i =>
  ((((∑ k : Fin 512, (show EReal from a0 (ix2 (i 0) ⟨k.val, by omega⟩)) * (show EReal from a1 (ix2 ⟨k.val, by omega⟩ (i 1))))
    + (∑ k : Fin 512, (show EReal from a0 (ix2 (i 0) ⟨512 + k.val, by omega⟩)) * (show EReal from a1 (ix2 ⟨512 + k.val, by omega⟩ (i 1)))))
    + (∑ k : Fin 512, (show EReal from a0 (ix2 (i 0) ⟨1024 + k.val, by omega⟩)) * (show EReal from a1 (ix2 ⟨1024 + k.val, by omega⟩ (i 1)))))
    + (∑ k : Fin 512, (show EReal from a0 (ix2 (i 0) ⟨1536 + k.val, by omega⟩)) * (show EReal from a1 (ix2 ⟨1536 + k.val, by omega⟩ (i 1)))))

theorem REF_pg_eq (a0 : FVec Ideal S4096x2048 .bf16) (a1 : FVec Ideal S2048x2048 .f32) (a2 : FVec Ideal S4096x2048 .f32) (a3 : FVec Ideal S4096x2048 .bf16) : REF_pg a0 a1 a2 a3 = SUM_pg a0 a1 a2 a3 := by
  funext i
  pointwise [REF_pg, SUM_pg]
  exact Blocks.sum4 512 _

end Cert.PleFwdRefIdeal.Value

namespace Cert.PleFwdIdeal.Value
open Cert.PleFwdIdeal Cert.PleFwdIdeal.Gen

variable (m : (ℓ : Loc nD τ sig) → Buf (Elt Ideal) ℓ)

theorem idx_val : ∀ t : Fin cfg0.N, win0_0.index t = ![t.val / 2, 0]
    ∧ win0_1.index t = ![0 + t.val % 2, 0, 0]
    ∧ win0_2.index t = ![2 + t.val % 2, 0, 0]
    ∧ win0_3.index t = ![4 + t.val % 2, 0, 0]
    ∧ win0_4.index t = ![6 + t.val % 2, 0, 0]
    ∧ win0_5.index t = ![t.val / 2, t.val % 2]
    ∧ win0_6.index t = ![t.val / 2, t.val % 2]
    ∧ win0_7.index t = ![t.val / 2, t.val % 2]
    ∧ win0_8.index t = ![t.val / 2, t.val % 2] :=
  (by decide +kernel : ∀ t : Fin grid0.N, _)

open Cert.PleFwdRefIdeal.Value (REF_h SUM_h REF_h_eq) in
theorem final_h (c : Dev nD) : (dats m 0 c).arrAt 7 (cfgs 0).N
    = REF_h (m ((c : Thread nD τ).loc main_arg0)) (m ((c : Thread nD τ).loc main_arg1)) (m ((c : Thread nD τ).loc main_arg2)) (m ((c : Thread nD τ).loc main_arg3)) := by
  rw [REF_h_eq]
  refine (dats m 0 c).arrAt_eq_of_covers 7 _ (by decide +kernel) fun t hf y => ?_
  blk_simp
  rw [after0_7]
  frame_out
  canon_tiles x h using View.cover_of_tiledBy _ ![1024, 256] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, SUM_h]
    simp only [Sigmoid.tanh_form]
    blk_point [iblk, V, idx_val t]

open Cert.PleFwdRefIdeal.Value (REF_pg SUM_pg REF_pg_eq) in
theorem final_pg (c : Dev nD) : (dats m 0 c).arrAt 8 (cfgs 0).N
    = REF_pg (m ((c : Thread nD τ).loc main_arg0)) (m ((c : Thread nD τ).loc main_arg1)) (m ((c : Thread nD τ).loc main_arg2)) (m ((c : Thread nD τ).loc main_arg3)) := by
  rw [REF_pg_eq]
  refine (dats m 0 c).arrAt_eq_of_covers 8 _ (by decide +kernel) fun t hf y => ?_
  blk_simp
  rw [after0_8]
  frame_out
  canon_tiles x h using View.cover_of_tiledBy _ ![1024, 256] (by sl_kernel_rfl) _
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, SUM_pg]
    blk_point [iblk, V, idx_val t]

end Cert.PleFwdIdeal.Value
end
end
-- ==== Proof.MmProjValue.lean ====
/- What the layer embedding's projection leaves in its result array. -/
module

public import proofs.«01_k».proof.Proof.Blocks
public import proofs.«01_k».proof.Proof.Gen.MmProjIdeal.Frame
public import proofs.«01_k».proof.Proof.Gen.MmProjIdeal.Value
public import proofs.«01_k».proof.Proof.Gen.MmProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MmProjRefIdeal.Value
open Cert.MmProjRefIdeal Cert.MmProjRefIdeal.Gen

/-- The reference's result as a function of its arguments. -/
def REF (a0 : FVec Ideal S4096x256 .bf16) (a1 : FVec Ideal S256x2048 .f32) : FVec Ideal S4096x2048 .bf16 :=
  truncf .bf16 (Host.dotGeneral dot_S4096x256_S256x2048_S4096x2048_1_0_0_1_n_n none (extf .f32 a0 bitsLt_bf16_f32) a1) bitsLt_bf16_f32

/-- The same, block by block of the summed axis. -/
def SUM (a0 : FVec Ideal S4096x256 .bf16) (a1 : FVec Ideal S256x2048 .f32) : FVec Ideal S4096x2048 .bf16 := fun i =>
  ((∑ k : Fin 128, (show EReal from a0 (ix2 (i 0) ⟨k.val, by omega⟩)) * (show EReal from a1 (ix2 ⟨k.val, by omega⟩ (i 1))))
    + (∑ k : Fin 128, (show EReal from a0 (ix2 (i 0) ⟨128 + k.val, by omega⟩)) * (show EReal from a1 (ix2 ⟨128 + k.val, by omega⟩ (i 1)))))

theorem REF_eq (a0 : FVec Ideal S4096x256 .bf16) (a1 : FVec Ideal S256x2048 .f32) : REF a0 a1 = SUM a0 a1 := by
  funext i
  pointwise [REF, SUM]
  exact Blocks.sum2 128 _

end Cert.MmProjRefIdeal.Value

namespace Cert.MmProjIdeal.Value
open Cert.MmProjIdeal Cert.MmProjIdeal.Gen

variable (m : (ℓ : Loc nD τ sig) → Buf (Elt Ideal) ℓ)

theorem idx_val : ∀ t : Fin cfg0.N, win0_0.index t = ![t.val / 4, 0]
    ∧ win0_1.index t = ![2 * (t.val % 4) + 0, 0, 0]
    ∧ win0_2.index t = ![2 * (t.val % 4) + 1, 0, 0]
    ∧ win0_3.index t = ![t.val / 4, t.val % 4] :=
  (by decide +kernel : ∀ t : Fin grid0.N, _)

open Cert.MmProjRefIdeal.Value (REF SUM REF_eq) in
theorem final (c : Dev nD) : (dats m 0 c).arrAt 3 (cfgs 0).N
    = REF (m ((c : Thread nD τ).loc main_arg0)) (m ((c : Thread nD τ).loc main_arg1)) := by
  rw [REF_eq]
  refine (dats m 0 c).arrAt_eq_of_covers 3 _ (by decide +kernel) fun t hf y => ?_
  blk_simp
  rw [after0_3]
  frame_out
  canon_tiles x h using View.cover_of_tiledBy _ ![1024, 256] (by sl_kernel_rfl) _
  all_goals
    pointwise [k0_pay1, k0_pay2, SUM]
    blk_point [iblk, V, idx_val t]

end Cert.MmProjIdeal.Value
end
end
-- ==== Proof.RmsFwdValue.lean ====
/- What the norm leaves in its result arrays. -/
module

public import proofs.«01_k».proof.Proof.Blocks
public import proofs.«01_k».proof.Proof.Sigmoid
public import proofs.«01_k».proof.Proof.Gen.RmsFwdIdeal.Frame
public import proofs.«01_k».proof.Proof.Gen.RmsFwdIdeal.Value
public import proofs.«01_k».proof.Proof.Gen.RmsFwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RmsFwdRefIdeal.Value
open Cert.RmsFwdRefIdeal Cert.RmsFwdRefIdeal.Gen

/-- Result y of the reference as a function of its arguments. -/
def REF_y (a0 : FVec Ideal S4096x2048 .f32) (a1 : FVec Ideal S2048 .f32) : FVec Ideal S4096x2048 .bf16 :=
  truncf .bf16 (mulf (mulf a0 (broadcastInDim S4096x2048 ![0, 1] bcast_S4096x1_S4096x2048_0_1 (Host.rsqrt (addf (Host.divf (broadcastInDim S4096x1 ![0] bcast_S4096_S4096x1_0 (Host.reduceAdd (mulf a0 a0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 a1))) bitsLt_bf16_f32

/-- The same, as the kernel computes it. -/
def SUM_y (a0 : FVec Ideal S4096x2048 .f32) (a1 : FVec Ideal S2048 .f32) : FVec Ideal S4096x2048 .bf16 := fun i =>
  (show EReal from a0 i) * Ideal.rsqrt (Ideal.div (∑ k : Fin 2048, (show EReal from a0 (ix2 (i 0) k)) * (show EReal from a0 (ix2 (i 0) k))) (Ideal.ofBits .f32 0x45000000#32) + Ideal.ofBits .f32 0x358637BD#32)
    * (show EReal from a1 (ix1 (i 1)))

theorem REF_y_eq (a0 : FVec Ideal S4096x2048 .f32) (a1 : FVec Ideal S2048 .f32) : REF_y a0 a1 = SUM_y a0 a1 := by
  funext i
  pointwise [REF_y, SUM_y]

end Cert.RmsFwdRefIdeal.Value

namespace Cert.RmsFwdIdeal.Value
open Cert.RmsFwdIdeal Cert.RmsFwdIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0] :=
  (by decide +kernel : ∀ t : Fin grid0.N, _)

open Cert.RmsFwdRefIdeal.Value (REF_y SUM_y REF_y_eq) in
theorem final_y (c : Dev nD) : (dats m 0 c).arrAt 2 (cfgs 0).N
    = REF_y (m ((c : Thread nD τ).loc main_arg0)) (m ((c : Thread nD τ).loc main_arg1)) := by
  rw [REF_y_eq]
  refine (dats m 0 c).arrAt_eq_of_covers 2 _ (by decide +kernel) fun t hf y => ?_
  blk_simp
  rw [after0_2]
  frame_out
  all_goals
    pointwise [k0_pay1, SUM_y]
    blk_point [iblk, V, idx_val t]

end Cert.RmsFwdIdeal.Value
end
end
-- ==== Proof.LnFwdValue.lean ====
/- What the layer norm and the swish after it leaves in its result arrays. -/
module

public import proofs.«01_k».proof.Proof.Blocks
public import proofs.«01_k».proof.Proof.Sigmoid
public import proofs.«01_k».proof.Proof.Gen.LnFwdIdeal.Frame
public import proofs.«01_k».proof.Proof.Gen.LnFwdIdeal.Value
public import proofs.«01_k».proof.Proof.Gen.LnFwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LnFwdRefIdeal.Value
open Cert.LnFwdRefIdeal Cert.LnFwdRefIdeal.Gen

/-- A row's entry less the row's mean. -/
def CEN (a0 : FVec Ideal S4096x512 .f32) (r : Fin 4096) (k : Fin 512) : EReal :=
  (show EReal from a0 (ix2 r k)) - Ideal.div (∑ k : Fin 512, (show EReal from a0 (ix2 r k))) (Ideal.ofBits .f32 0x44000000#32)

/-- The normalised entry, scaled and shifted. -/
def LAY (a0 : FVec Ideal S4096x512 .f32) (a1 a2 : FVec Ideal S512 .f32) (r : Fin 4096) (k : Fin 512) : EReal :=
  CEN a0 r k * Ideal.rsqrt (Ideal.div (∑ k : Fin 512, CEN a0 r k * CEN a0 r k) (Ideal.ofBits .f32 0x44000000#32) + Ideal.ofBits .f32 0x358637BD#32)
    * (show EReal from a1 (ix1 k)) + (show EReal from a2 (ix1 k))

/-- Result y of the reference as a function of its arguments. -/
def REF_y (a0 : FVec Ideal S4096x512 .f32) (a1 a2 : FVec Ideal S512 .f32) : FVec Ideal S4096x512 .bf16 :=
  truncf .bf16 (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (broadcastInDim S1x512 ![1] bcast_S512_S1x512_1 a1))) (broadcastInDim S4096x512 ![0, 1] bcast_S1x512_S4096x512_0_1 (broadcastInDim S1x512 ![1] bcast_S512_S1x512_1 a2))) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (broadcastInDim S1x512 ![1] bcast_S512_S1x512_1 a1))) (broadcastInDim S4096x512 ![0, 1] bcast_S1x512_S4096x512_0_1 (broadcastInDim S1x512 ![1] bcast_S512_S1x512_1 a2)))))))) bitsLt_bf16_f32

/-- The same, as the kernel computes it. -/
def SUM_y (a0 : FVec Ideal S4096x512 .f32) (a1 a2 : FVec Ideal S512 .f32) : FVec Ideal S4096x512 .bf16 := fun i =>
  LAY a0 a1 a2 (i 0) (i 1) * Ideal.logistic (LAY a0 a1 a2 (i 0) (i 1))

theorem REF_y_eq (a0 : FVec Ideal S4096x512 .f32) (a1 a2 : FVec Ideal S512 .f32) : REF_y a0 a1 a2 = SUM_y a0 a1 a2 := by
  funext i
  pointwise [REF_y, SUM_y, LAY, CEN]
  rfl

end Cert.LnFwdRefIdeal.Value

namespace Cert.LnFwdIdeal.Value
open Cert.LnFwdIdeal Cert.LnFwdIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

open Cert.LnFwdRefIdeal.Value (REF_y SUM_y REF_y_eq) in
theorem final_y (c : Dev nD) : (dats m 0 c).arrAt 3 (cfgs 0).N
    = REF_y (m ((c : Thread nD τ).loc main_arg0)) (m ((c : Thread nD τ).loc main_arg1)) (m ((c : Thread nD τ).loc main_arg2)) := by
  rw [REF_y_eq]
  refine (dats m 0 c).arrAt_eq_of_covers 3 _ (by decide +kernel) fun t hf y => ?_
  blk_simp
  rw [after0_3]
  frame_out
  all_goals
    pointwise [k0_pay1, SUM_y, Cert.LnFwdRefIdeal.Value.LAY, Cert.LnFwdRefIdeal.Value.CEN]
    simp only [Sigmoid.tanh_form]
    blk_point [iblk, V, idx_val t]

end Cert.LnFwdIdeal.Value
end
end
-- ==== Proof.LnSpec.lean ====
/- The gradient of swish after a layer norm, over the real numbers: per entry and per row of 512. -/
module

public import proofs.«01_k».proof.Proof.Reals

@[expose] public section

noncomputable section

open Idealize.ShloMosaic
open Cert.Reals
open scoped BigOperators

namespace Cert.Ln

/-- The word of 512. -/
theorem w512_coe : Ideal.ofBits .f32 0x44000000#32 = ((512 : ℝ) : EReal) := by
  simp [Ideal.ofBits, Ideal.ieee, -EReal.coe_mul]; norm_num
theorem n512 : (512 : ℝ) ≠ 0 := by norm_num

abbrev Row := Fin 512 → ℝ

def mean (v : Row) : ℝ := (∑ d, v d) / 512
def cen (v : Row) : Row := fun d => v d - mean v
def spread (v : Row) : ℝ := mean fun d => cen v d * cen v d
def rstd (v : Row) : ℝ := (Real.sqrt (spread v + eps))⁻¹
def unit (v : Row) : Row := fun d => cen v d * rstd v
def norm (g b v : Row) : Row := fun d => unit v d * g d + b d
def sig (x : ℝ) : ℝ := (1 + Real.exp (-x))⁻¹
/-- What comes back through the swish to the normalised row, `y` what comes back to the result. -/
def swishBack (g b v y : Row) : Row := fun d =>
  y d * sig (norm g b v d) * (1 + norm g b v d * (1 - sig (norm g b v d)))
/-- The gradient of the normalisation: `y` what comes back for the normalised row. -/
def normBack (g v y : Row) : Row := fun d =>
  rstd v * (y d * g d - mean (fun e => y e * g e) - unit v d * mean fun e => y e * g e * unit v e)
/-- The gradient of a row. -/
def back (g b v y : Row) : Row := normBack g v (swishBack g b v y)

theorem spread_nonneg (v : Row) : 0 ≤ spread v :=
  div_nonneg (Finset.sum_nonneg fun d _ => mul_self_nonneg _) (by norm_num)
theorem root_pos (v : Row) : 0 < spread v + eps := add_pos_of_nonneg_of_pos (spread_nonneg v) eps_pos

theorem cen_sum (v : Row) : ∑ d, cen v d = 0 := by
  unfold cen mean
  rw [Finset.sum_sub_distrib, Finset.sum_const, Finset.card_univ, Fintype.card_fin, nsmul_eq_mul]
  push_cast
  ring
theorem rstd_cube (v : Row) : rstd v / (spread v + eps) = rstd v * rstd v * rstd v := by
  have hp := root_pos v
  unfold rstd
  rw [div_eq_mul_inv, mul_assoc, ← mul_inv (Real.sqrt _) (Real.sqrt _), Real.mul_self_sqrt hp.le]
/-- The gradient as the derivative rules of its single steps give it. -/
theorem normBack_ref (g v y : Row) (d : Fin 512) (F : ℝ)
    (hF : F = (∑ e, cen v e * (y e * g e)) * (-(1 / 2) * (rstd v / (spread v + eps))) / 512) :
    (y d * g d * rstd v + cen v d * F + F * cen v d) + (∑ e, -(y e * g e * rstd v + cen v e * F + F * cen v e)) / 512 = normBack g v y d := by
  have h1 : ∑ e, -(y e * g e * rstd v + cen v e * F + F * cen v e) = -(rstd v * ∑ e, y e * g e) := by
    have : ∀ e, -(y e * g e * rstd v + cen v e * F + F * cen v e) = -(rstd v) * (y e * g e) + (-2 * F) * cen v e := fun e => by ring
    rw [Finset.sum_congr rfl fun e _ => this e, Finset.sum_add_distrib, ← Finset.mul_sum, ← Finset.mul_sum, cen_sum]
    ring
  have h2 : ∑ e, y e * g e * unit v e = rstd v * ∑ e, cen v e * (y e * g e) := by
    rw [Finset.mul_sum]
    exact Finset.sum_congr rfl fun e _ => by unfold unit; ring
  rw [h1]
  unfold normBack mean
  rw [h2, hF, rstd_cube]
  unfold unit
  ring
theorem swishBack_ref (g b v y : Row) (d : Fin 512) :
    y d * sig (norm g b v d) + norm g b v d * y d * (sig (norm g b v d) * (1 - sig (norm g b v d))) = swishBack g b v y d := by
  unfold swishBack; ring

/-- The real arrays the arguments hold. -/
structure Args where
  x : Fin 4096 → Row
  y : Fin 4096 → Fin 2048 → ℝ
  g : Row
  b : Row

namespace Args
variable (a : Args)
/-- The columns of the third group of heads. -/
def yc (r : Fin 4096) : Row := fun d => a.y r ⟨1024 + d.val, by omega⟩
def dl (r : Fin 4096) : Row := swishBack a.g a.b (a.x r) (a.yc r)
def dx (r : Fin 4096) : Row := back a.g a.b (a.x r) (a.yc r)
def dg : Row := fun d => ∑ r, a.dl r d * unit (a.x r) d
def db : Row := fun d => ∑ r, a.dl r d
def dxs : Row := fun d => ∑ r, a.dx r d
end Args

/-- A sum over the tokens, tile by tile. -/
theorem sum_tiles (f : Fin 4096 → ℝ) : ∑ s : Fin 8, ∑ k : Fin 512, f ⟨s.val * 512 + k.val, by omega⟩ = ∑ r, f r := by
  rw [← Equiv.sum_comp (finProdFinEquiv (m := 8) (n := 512)), Fintype.sum_prod_type]
  refine Finset.sum_congr rfl fun n _ => Finset.sum_congr rfl fun s _ => congrArg f (Fin.ext ?_)
  simp only [finProdFinEquiv_apply_val]; omega

end Cert.Ln

end
-- ==== Proof.LnRef.lean ====
/- What the reference of the layer norm's and swish's gradient holds, at real arguments. -/
module

public import proofs.«01_k».proof.Proof.LnSpec
public import proofs.«01_k».proof.Proof.Gen.LnBwdRefIdeal.Run
public import Idealize.ShloMosaic.Lib.Pipeline.Value

@[expose] public section

set_option maxRecDepth 16384

noncomputable section

open Idealize.ShloMosaic Idealize.ShloMosaic.TcCoe Idealize.SL.Sem

namespace Cert.LnBwdRefIdeal.Value
open Cert.LnBwdRefIdeal Cert.LnBwdRefIdeal.Gen Cert.Reals Cert.Ln

abbrev BIG := FVec Ideal S4096x512 .f32
abbrev COL := FVec Ideal S4096x1 .f32

/-- A column repeated along the rows, the sums of the rows, a constant column. -/
def ALONG (x : COL) : BIG := broadcastInDim S4096x512 ![0, 1] bcast_S4096x1_S4096x512_0_1 x
def ROWS (x : BIG) : FVec Ideal S4096 .f32 := Host.reduceAdd x (constant S_ .f32 0x00000000#32) reducesTo_S4096x512_S4096_d1 h_S_
def SAME (w : BitVec 32) : COL := broadcastInDim S4096x1 ![] bcast_S_S4096x1 (constant S_ .f32 w)
def MEAN (x : BIG) : COL := Host.divf (broadcastInDim S4096x1 ![0] bcast_S4096_S4096x1_0 (ROWS x)) (SAME 0x44000000#32)
/-- A row repeated for every token. -/
def DOWN (x : FVec Ideal S512 .f32) : BIG := broadcastInDim S4096x512 ![0, 1] bcast_S1x512_S4096x512_0_1 (broadcastInDim S1x512 ![1] bcast_S512_S1x512_1 x)
/-- The sums of the columns. -/
def COLS (x : BIG) : FVec Ideal S512 .f32 := Host.reduceAdd x (constant S_ .f32 0x00000000#32) reducesTo_S4096x512_S512_d0 h_S_
def ONES : BIG := broadcastInDim S4096x512 ![] bcast_S_S4096x512 (constant S_ .f32 0x3F800000#32)

def CEN (a0 : BIG) : BIG := subf a0 (ALONG (MEAN a0))
def VAR (a0 : BIG) : COL := addf (MEAN (mulf (CEN a0) (CEN a0))) (SAME 0x358637BD#32)
def RST (a0 : BIG) : COL := Host.rsqrt (VAR a0)
def UNI (a0 : BIG) : BIG := mulf (CEN a0) (ALONG (RST a0))
def LAY (a0 : BIG) (a2 a3 : FVec Ideal S512 .f32) : BIG := addf (mulf (UNI a0) (DOWN a2)) (DOWN a3)
def SIG (l : BIG) : BIG := Host.divf ONES (addf ONES (Host.exp (Host.negf l)))
def YC (a1 : FVec Ideal S4096x2048 .bf16) : BIG := extf .f32 (extractStridedSlice S4096x512 ![0, 1024] a1 slices_S4096x2048_S4096x512_0_1024) bitsLt_bf16_f32
def DL (a0 : BIG) (a1 : FVec Ideal S4096x2048 .bf16) (a2 a3 : FVec Ideal S512 .f32) : BIG :=
  addf (mulf (YC a1) (SIG (LAY a0 a2 a3))) (mulf (mulf (LAY a0 a2 a3) (YC a1)) (mulf (SIG (LAY a0 a2 a3)) (subf ONES (SIG (LAY a0 a2 a3)))))
def DN (a0 : BIG) (a1 : FVec Ideal S4096x2048 .bf16) (a2 a3 : FVec Ideal S512 .f32) : BIG := mulf (DL a0 a1 a2 a3) (DOWN a2)
/-- A column of one entry a row summed over that entry and repeated along the row. -/
def SPREAD (x : COL) : BIG := broadcastInDim S4096x512 ![0] bcast_S4096_S4096x512_0 (Host.reduceAdd x (constant S_ .f32 0x00000000#32) reducesTo_S4096x1_S4096_d1 h_S_)
def FAC (a0 : BIG) (a1 : FVec Ideal S4096x2048 .bf16) (a2 a3 : FVec Ideal S512 .f32) : BIG :=
  SPREAD (Host.divf (mulf (shapeCast S4096x1 (ROWS (mulf (CEN a0) (DN a0 a1 a2 a3))) shapeCasts_S4096_S4096x1) (mulf (SAME 0xBF000000#32) (Host.divf (RST a0) (VAR a0)))) (SAME 0x44000000#32))
def PRE (a0 : BIG) (a1 : FVec Ideal S4096x2048 .bf16) (a2 a3 : FVec Ideal S512 .f32) : BIG :=
  addf (addf (mulf (DN a0 a1 a2 a3) (ALONG (RST a0))) (mulf (CEN a0) (FAC a0 a1 a2 a3))) (mulf (FAC a0 a1 a2 a3) (CEN a0))

/-- The four results of the reference as functions of its arguments. -/
def REF_dcc (a0 : BIG) (a1 : FVec Ideal S4096x2048 .bf16) (a2 a3 : FVec Ideal S512 .f32) : BIG :=
  addf (PRE a0 a1 a2 a3) (SPREAD (Host.divf (shapeCast S4096x1 (ROWS (Host.negf (PRE a0 a1 a2 a3))) shapeCasts_S4096_S4096x1) (SAME 0x44000000#32)))
def ONEROW (x : FVec Ideal S512 .f32) : FVec Ideal S1x512 .f32 :=
  broadcastInDim S1x512 ![1] bcast_S512_S1x512_1 (Host.reduceAdd (shapeCast S1x512 x shapeCasts_S512_S1x512) (constant S_ .f32 0x00000000#32) reducesTo_S1x512_S512_d0 h_S_)
def REF_dg (a0 : BIG) (a1 : FVec Ideal S4096x2048 .bf16) (a2 a3 : FVec Ideal S512 .f32) : FVec Ideal S1x512 .f32 :=
  ONEROW (COLS (mulf (UNI a0) (DL a0 a1 a2 a3)))
def REF_db (a0 : BIG) (a1 : FVec Ideal S4096x2048 .bf16) (a2 a3 : FVec Ideal S512 .f32) : FVec Ideal S1x512 .f32 :=
  ONEROW (COLS (DL a0 a1 a2 a3))
def REF_dcb (a0 : BIG) (a1 : FVec Ideal S4096x2048 .bf16) (a2 a3 : FVec Ideal S512 .f32) : FVec Ideal S1x512 .f32 :=
  broadcastInDim S1x512 ![1] bcast_S512_S1x512_1 (COLS (REF_dcc a0 a1 a2 a3))

/-- Real values by token and column, by token, by column. -/
def wide (f : Fin 4096 → Row) : BIG := fun i => ((f (i 0) (i 1) : ℝ) : EReal)
def stat (f : Fin 4096 → ℝ) : COL := fun i => ((f (i 0) : ℝ) : EReal)
def vec (f : Row) : FVec Ideal S512 .f32 := fun i => ((f (i 0) : ℝ) : EReal)
def line (f : Row) : FVec Ideal S1x512 .f32 := fun i => ((f (i 1) : ℝ) : EReal)
def outs (f : Fin 4096 → Fin 2048 → ℝ) : FVec Ideal S4096x2048 .bf16 := fun i => ((f (i 0) (i 1) : ℝ) : EReal)

theorem cen_eq (x : Fin 4096 → Row) : CEN (wide x) = wide fun r => cen (x r) := by
  funext i
  pointwise [CEN, ALONG, MEAN, ROWS, SAME, wide]
  simp only [w512_coe, coe_sum, div_coe _ n512, ← EReal.coe_sub]
  rfl
theorem var_eq (x : Fin 4096 → Row) : VAR (wide x) = stat fun r => spread (x r) + eps := by
  unfold VAR
  rw [cen_eq]
  funext i
  pointwise [MEAN, ROWS, SAME, wide, stat]
  simp only [w512_coe, eps_coe, coe_sum, div_coe _ n512, ← EReal.coe_mul, ← EReal.coe_add]
  rfl
theorem rst_eq (x : Fin 4096 → Row) : RST (wide x) = stat fun r => rstd (x r) := by
  unfold RST
  rw [var_eq]
  funext i
  pointwise [stat]
  exact rsqrt_coe (root_pos _)
theorem uni_eq (x : Fin 4096 → Row) : UNI (wide x) = wide fun r => unit (x r) := by
  unfold UNI
  rw [cen_eq, rst_eq]
  funext i
  pointwise [ALONG, wide, stat]
  simp only [← EReal.coe_mul]
  rfl
theorem lay_eq (x : Fin 4096 → Row) (g b : Row) : LAY (wide x) (vec g) (vec b) = wide fun r => norm g b (x r) := by
  unfold LAY
  rw [uni_eq]
  funext i
  pointwise [DOWN, wide, vec]
  simp only [← EReal.coe_mul, ← EReal.coe_add]
  rfl
theorem sig_eq (l : Fin 4096 → Row) : SIG (wide l) = wide fun r d => Ln.sig (l r d) := by
  funext i
  pointwise [SIG, ONES, wide]
  exact Ideal.logistic_coe _
theorem yc_eq (a : Args) : YC (outs a.y) = wide a.yc := by
  funext i
  pointwise [YC, outs, wide, Args.yc]
  all_goals exact congrArg (fun x : ℝ => (x : EReal)) (congrArg₂ a.y (Fin.ext (by simp only; omega)) (Fin.ext (by simp only; omega)))
theorem dl_eq (a : Args) : DL (wide a.x) (outs a.y) (vec a.g) (vec a.b) = wide a.dl := by
  unfold DL
  rw [lay_eq, sig_eq, yc_eq]
  funext i
  pointwise [ONES, wide]
  simp only [one_coe, ← EReal.coe_mul, ← EReal.coe_add, ← EReal.coe_sub]
  exact congrArg (fun x : ℝ => (x : EReal)) (swishBack_ref _ _ _ _ _)
theorem dn_eq (a : Args) : DN (wide a.x) (outs a.y) (vec a.g) (vec a.b) = wide fun r d => a.dl r d * a.g d := by
  unfold DN
  rw [dl_eq]
  funext i
  pointwise [DOWN, wide, vec]
  simp only [← EReal.coe_mul]
/-- The factor of a row. -/
def fac (a : Args) (r : Fin 4096) : ℝ :=
  (∑ e, cen (a.x r) e * (a.dl r e * a.g e)) * (-(1 / 2) * (rstd (a.x r) / (spread (a.x r) + eps))) / 512
theorem fac_eq (a : Args) : FAC (wide a.x) (outs a.y) (vec a.g) (vec a.b) = wide fun r _ => fac a r := by
  unfold FAC
  rw [cen_eq, dn_eq, rst_eq, var_eq]
  funext i
  pointwise [SPREAD, ROWS, SAME, wide, stat]
  have hp := (root_pos (a.x (i 0))).ne'
  simp only [w512_coe, neghalf_coe, coe_sum, div_coe _ hp, div_coe _ n512, ← EReal.coe_mul]
  try rw [Fin.sum_univ_one]
  rfl
theorem pre_eq (a : Args) : PRE (wide a.x) (outs a.y) (vec a.g) (vec a.b)
    = wide fun r d => a.dl r d * a.g d * rstd (a.x r) + cen (a.x r) d * fac a r + fac a r * cen (a.x r) d := by
  unfold PRE
  rw [cen_eq, dn_eq, rst_eq, fac_eq]
  funext i
  pointwise [ALONG, wide, stat]
  simp only [← EReal.coe_mul, ← EReal.coe_add]
theorem dcc_eq (a : Args) : REF_dcc (wide a.x) (outs a.y) (vec a.g) (vec a.b) = wide a.dx := by
  unfold REF_dcc
  rw [pre_eq]
  funext i
  pointwise [SPREAD, ROWS, SAME, wide, stat]
  simp only [w512_coe, coe_sum, div_coe _ n512, ← EReal.coe_mul, ← EReal.coe_add, ← EReal.coe_neg]
  try rw [Fin.sum_univ_one]
  exact congrArg (fun x : ℝ => (x : EReal)) (normBack_ref _ _ _ _ _ rfl)
theorem dg_eq (a : Args) : REF_dg (wide a.x) (outs a.y) (vec a.g) (vec a.b) = line a.dg := by
  unfold REF_dg
  rw [uni_eq, dl_eq]
  funext i
  pointwise [ONEROW, COLS, wide, line]
  simp only [← EReal.coe_mul, coe_sum]
  try rw [Fin.sum_univ_one]
  exact congrArg (fun x : ℝ => (x : EReal)) (Finset.sum_congr rfl fun r _ => mul_comm _ _)
theorem db_eq (a : Args) : REF_db (wide a.x) (outs a.y) (vec a.g) (vec a.b) = line a.db := by
  unfold REF_db
  rw [dl_eq]
  funext i
  pointwise [ONEROW, COLS, wide, line]
  simp only [coe_sum]
  try rw [Fin.sum_univ_one]
  rfl
theorem dcb_eq (a : Args) : REF_dcb (wide a.x) (outs a.y) (vec a.g) (vec a.b) = line a.dxs := by
  unfold REF_dcb
  rw [dcc_eq]
  funext i
  pointwise [COLS, wide, line]
  simp only [coe_sum]
  rfl

end Cert.LnBwdRefIdeal.Value
end
-- ==== Proof.LnBwdValue.lean ====
/- What the gradient of the layer norm and the swish after it leaves in its four result arrays, at real arguments. -/
module

public import proofs.«01_k».proof.Proof.Blocks
public import proofs.«01_k».proof.Proof.Sigmoid
public import proofs.«01_k».proof.Proof.LnRef
public import proofs.«01_k».proof.Proof.Gen.LnBwdIdeal.Frame
public import proofs.«01_k».proof.Proof.Gen.LnBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LnBwdIdeal.Value
open Cert.LnBwdIdeal Cert.LnBwdIdeal.Gen Cert.Reals Cert.Ln

/-- A tile of 512 tokens. -/
abbrev Tile := Fin 512 → Row
def mat (f : Tile) : FVec Ideal S512x512 .f32 := fun i => ((f (i 0) (i 1) : ℝ) : EReal)
def matb (f : Tile) : FVec Ideal S512x512 .bf16 := fun i => ((f (i 0) (i 1) : ℝ) : EReal)
def colv (f : Row) : FVec Ideal S512x1 .f32 := fun i => ((f (i 0) : ℝ) : EReal)
def rowv (f : Row) : FVec Ideal S1x512 .f32 := fun i => ((f (i 1) : ℝ) : EReal)

theorem pay2 (x : Tile) : k0_pay2 (F := Ideal) (mat x) = mat fun s => cen (x s) := by
  funext i
  pointwise [k0_pay2, mat]
  simp only [w512_coe, coe_sum, div_coe _ n512, ← EReal.coe_sub]
  rfl
theorem pay3 (x : Tile) : k0_pay3 (F := Ideal) (mat x) = colv fun s => rstd (x s) := by
  funext i
  pointwise [k0_pay3, pay2, mat, colv]
  simp only [w512_coe, eps_coe, ← EReal.coe_mul, coe_sum, div_coe _ n512, ← EReal.coe_add]
  exact rsqrt_coe (root_pos (x (i 0)))
theorem pay4 (x : Tile) : k0_pay4 (F := Ideal) (mat x) = mat fun s => unit (x s) := by
  funext i
  pointwise [k0_pay4, pay2, pay3, mat, colv]
  simp only [← EReal.coe_mul]
  rfl
theorem pay5 (x : Tile) (g b : Row) : k0_pay5 (F := Ideal) (mat x) (rowv g) (rowv b) = mat fun s => norm g b (x s) := by
  funext i
  pointwise [k0_pay5, pay4, mat, rowv]
  simp only [← EReal.coe_mul, ← EReal.coe_add]
  rfl
theorem pay6 (x : Tile) (g b : Row) : k0_pay6 (F := Ideal) (mat x) (rowv g) (rowv b) = mat fun s d => Ln.sig (norm g b (x s) d) := by
  funext i
  pointwise [k0_pay6, pay5, mat]
  simp only [Sigmoid.tanh_form]
  exact Ideal.logistic_coe _
theorem pay7 (x y : Tile) (g b : Row) : k0_pay7 (F := Ideal) (mat x) (rowv g) (rowv b) (matb y) = mat fun s d => y s d * Ln.sig (norm g b (x s) d) := by
  funext i
  pointwise [k0_pay7, pay6, mat, matb]
  simp only [← EReal.coe_mul]
theorem pay8 (x : Tile) (g b : Row) : k0_pay8 (F := Ideal) (mat x) (rowv g) (rowv b) = mat fun s d => 1 + norm g b (x s) d * (1 - Ln.sig (norm g b (x s) d)) := by
  funext i
  pointwise [k0_pay8, pay5, pay6, mat]
  simp only [one_coe, ← EReal.coe_mul, ← EReal.coe_add, ← EReal.coe_sub]
theorem pay9 (x y : Tile) (g b : Row) : k0_pay9 (F := Ideal) (k0_pay7 (mat x) (rowv g) (rowv b) (matb y)) (k0_pay8 (mat x) (rowv g) (rowv b))
    = mat fun s => swishBack g b (x s) (y s) := by
  funext i
  pointwise [k0_pay9, pay7, pay8, mat]
  simp only [← EReal.coe_mul]
  rfl
theorem pay10 (x y : Tile) (g b : Row) : k0_pay10 (F := Ideal) (k0_pay3 (mat x)) (k0_pay4 (mat x)) (k0_pay7 (mat x) (rowv g) (rowv b) (matb y)) (k0_pay8 (mat x) (rowv g) (rowv b)) (rowv g)
    = mat fun s => back g b (x s) (y s) := by
  funext i
  pointwise [k0_pay10, pay9, pay3, pay4, mat, rowv, colv]
  simp only [w512_coe, coe_sum, div_coe _ n512, ← EReal.coe_mul, ← EReal.coe_sub]
  rfl
theorem pay14 (x y : Tile) (g b : Row) (v : FVec Ideal S1x512 .f32) (i) :
    (show EReal from k0_pay14 (F := Ideal) (k0_pay4 (mat x)) (k0_pay7 (mat x) (rowv g) (rowv b) (matb y)) (k0_pay8 (mat x) (rowv g) (rowv b)) v i)
      = (show EReal from v i) + ((∑ s, swishBack g b (x s) (y s) (i 1) * unit (x s) (i 1) : ℝ) : EReal) := by
  pointwise [k0_pay14, pay9, pay4, mat]
  simp only [← EReal.coe_mul, coe_sum]
theorem pay15 (x y : Tile) (g b : Row) (v : FVec Ideal S1x512 .f32) (i) :
    (show EReal from k0_pay15 (F := Ideal) (k0_pay7 (mat x) (rowv g) (rowv b) (matb y)) (k0_pay8 (mat x) (rowv g) (rowv b)) v i)
      = (show EReal from v i) + ((∑ s, swishBack g b (x s) (y s) (i 1) : ℝ) : EReal) := by
  pointwise [k0_pay15, pay9, mat]
  simp only [coe_sum]
theorem pay1 (f : Tile) (v : FVec Ideal S1x512 .f32) (i) :
    (show EReal from k0_pay1 (F := Ideal) (mat f) v i) = (show EReal from v i) + ((∑ s, f s (i 1) : ℝ) : EReal) := by
  pointwise [k0_pay1, mat]
  simp only [coe_sum]

variable (m : (ℓ : Loc nD τ sig) → Buf (Elt Ideal) ℓ)

theorem idx_val : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![0, 0] ∧ win0_6.index t = ![0, 0] ∧ win0_7.index t = ![0, 0] :=
  (by decide +kernel : ∀ t : Fin grid0.N, _)

theorem lt8 (t : Fin cfg0.N) : t.val < 8 := by
  have h := t.isLt; exact lt_of_lt_of_eq h N_0

open Cert.LnBwdRefIdeal.Value (wide outs vec line)

/-- The arguments hold the real arrays of `a`. -/
def Holds (c : Dev nD) (a : Args) : Prop :=
  m ((c : Thread nD τ).loc main_arg0) = wide a.x
  ∧ m ((c : Thread nD τ).loc main_arg1) = outs a.y
  ∧ m ((c : Thread nD τ).loc main_arg2) = vec a.g
  ∧ m ((c : Thread nD τ).loc main_arg3) = vec a.b

/-- The tile of a grid point. -/
def tok (t : Fin cfg0.N) (s : Fin 512) : Fin 4096 := ⟨t.val * 512 + s.val, by have := lt8 t; omega⟩
def tx (a : Args) (t : Fin cfg0.N) : Tile := fun s => a.x (tok t s)
def ty (a : Args) (t : Fin cfg0.N) : Tile := fun s => a.yc (tok t s)

section
variable {m} {c : Dev nD} {a : Args} (h : Holds m c a)
include h

theorem blk0 (t : Fin cfg0.N) : iblk m c 0 t = mat (tx a t) := by
  funext y
  have e := congrFun (idx_val t).1 0
  have e' := congrFun (idx_val t).1 1
  refine Eq.trans ?_ (b := wide a.x (ix2 (tok t (y 0)) (y 1))) rfl
  rw [← h.1]
  blk_point [iblk, V, idx_val t]
  all_goals simp only [tok]
theorem blk1 (t : Fin cfg0.N) : iblk m c 1 t = matb (ty a t) := by
  funext y
  refine Eq.trans ?_ (b := outs a.y (ix2 (tok t (y 0)) ⟨1024 + (y 1).val, by have : (y 1).val < 512 := (y 1).isLt; omega⟩)) rfl
  rw [← h.2.1]
  blk_point [iblk, V, idx_val t]
  all_goals simp only [tok]
theorem blk2 (t : Fin cfg0.N) : iblk m c 2 t = rowv a.g := by
  funext y
  refine Eq.trans ?_ (b := vec a.g (ix1 (y 1))) rfl
  rw [← h.2.2.1]
  blk_point [iblk, V, idx_val t]
theorem blk3 (t : Fin cfg0.N) : iblk m c 3 t = rowv a.b := by
  funext y
  refine Eq.trans ?_ (b := vec a.b (ix1 (y 1))) rfl
  rw [← h.2.2.2]
  blk_point [iblk, V, idx_val t]

theorem point_dx (t : Fin cfg0.N) (i) : (show EReal from (outsAt0 m c t.val t.isLt).1 i) = ((a.dx (tok t (i 0)) (i 1) : ℝ) : EReal) := by
  by_cases h0 : t.val % 8 = 0
  · rw [outsAt0_A m c t h0]
    frame_out
    rw [blk0 h t, blk1 h t, blk2 h t, blk3 h t, pay10]
    rfl
  · rw [outsAt0_B m c t h0]
    frame_out
    rw [blk0 h t, blk1 h t, blk2 h t, blk3 h t, pay10]
    rfl
theorem dg_first (t : Fin cfg0.N) (h0 : t.val % 8 = 0) (i) : (show EReal from (outsAt0 m c t.val t.isLt).2.1 i)
    = ((∑ s, a.dl (tok t s) (i 1) * unit (a.x (tok t s)) (i 1) : ℝ) : EReal) := by
  rw [outsAt0_A m c t h0]
  frame_out
  rw [blk0 h t, blk1 h t, blk2 h t, blk3 h t]
  refine (pay14 _ _ _ _ _ i).trans ?_
  pointwise [k0_pay11]
  rfl
theorem dg_next (t : Fin cfg0.N) (h0 : ¬t.val % 8 = 0) (i) : (show EReal from (outsAt0 m c t.val t.isLt).2.1 i)
    = (show EReal from (outsAt0 m c (t.val - 1) (Nat.lt_of_le_of_lt (Nat.sub_le _ _) t.isLt)).2.1 i)
      + ((∑ s, a.dl (tok t s) (i 1) * unit (a.x (tok t s)) (i 1) : ℝ) : EReal) := by
  rw [outsAt0_B m c t h0]
  frame_out
  rw [blk0 h t, blk1 h t, blk2 h t, blk3 h t]
  exact pay14 _ _ _ _ _ i
theorem db_first (t : Fin cfg0.N) (h0 : t.val % 8 = 0) (i) : (show EReal from (outsAt0 m c t.val t.isLt).2.2.1 i)
    = ((∑ s, a.dl (tok t s) (i 1) : ℝ) : EReal) := by
  rw [outsAt0_A m c t h0]
  frame_out
  rw [blk0 h t, blk1 h t, blk2 h t, blk3 h t]
  refine (pay15 _ _ _ _ _ i).trans ?_
  pointwise [k0_pay12]
  rfl
theorem db_next (t : Fin cfg0.N) (h0 : ¬t.val % 8 = 0) (i) : (show EReal from (outsAt0 m c t.val t.isLt).2.2.1 i)
    = (show EReal from (outsAt0 m c (t.val - 1) (Nat.lt_of_le_of_lt (Nat.sub_le _ _) t.isLt)).2.2.1 i)
      + ((∑ s, a.dl (tok t s) (i 1) : ℝ) : EReal) := by
  rw [outsAt0_B m c t h0]
  frame_out
  rw [blk0 h t, blk1 h t, blk2 h t, blk3 h t]
  exact pay15 _ _ _ _ _ i
theorem dxs_first (t : Fin cfg0.N) (h0 : t.val % 8 = 0) (i) : (show EReal from (outsAt0 m c t.val t.isLt).2.2.2 i)
    = ((∑ s, a.dx (tok t s) (i 1) : ℝ) : EReal) := by
  rw [outsAt0_A m c t h0]
  frame_out
  rw [blk0 h t, blk1 h t, blk2 h t, blk3 h t, pay10]
  refine (pay1 _ _ i).trans ?_
  pointwise [k0_pay13]
  rfl
theorem dxs_next (t : Fin cfg0.N) (h0 : ¬t.val % 8 = 0) (i) : (show EReal from (outsAt0 m c t.val t.isLt).2.2.2 i)
    = (show EReal from (outsAt0 m c (t.val - 1) (Nat.lt_of_le_of_lt (Nat.sub_le _ _) t.isLt)).2.2.2 i)
      + ((∑ s, a.dx (tok t s) (i 1) : ℝ) : EReal) := by
  rw [outsAt0_B m c t h0]
  frame_out
  rw [blk0 h t, blk1 h t, blk2 h t, blk3 h t, pay10]
  exact pay1 _ _ i

omit h in
/-- An array begun at the first point and added to at the others holds, after the last, the sum over the tokens. -/
theorem carried {ι : Type} (f : (n : ℕ) → n < cfg0.N → ι → EReal) (g : Fin 4096 → ι → ℝ)
    (h0 : ∀ t : Fin cfg0.N, t.val % 8 = 0 → ∀ i, f t.val t.isLt i = ((∑ s, g (tok t s) i : ℝ) : EReal))
    (hs : ∀ t : Fin cfg0.N, ¬t.val % 8 = 0 → ∀ i, f t.val t.isLt i = f (t.val - 1) (Nat.lt_of_le_of_lt (Nat.sub_le _ _) t.isLt) i
      + ((∑ s, g (tok t s) i : ℝ) : EReal))
    (t : Fin cfg0.N) (hr : t.val % 8 = 7) (i : ι) : f t.val t.isLt i = ((∑ r, g r i : ℝ) : EReal) := by
  have ht := lt8 t
  rw [Pipeline.eq_sum_fin_of_reset_step_apply_of_flush f 8 (fun _ => 0) (fun t i => ((∑ s, g (tok t s) i : ℝ) : EReal))
    (fun t h i => by rw [h0 t h i, zero_add]) hs t hr i, zero_add, coe_sum, EReal.coe_eq_coe_iff, ← sum_tiles]
  refine Finset.sum_congr rfl fun s _ => Finset.sum_congr rfl fun k _ => ?_
  exact congrArg (fun r => g r i) (Fin.ext (by simp only [tok]; omega))

theorem value_dcc : (dats m 0 c).arrAt 4 (cfgs 0).N = wide a.dx := by
  refine (dats m 0 c).arrAt_eq_of_covers 4 _ (by decide +kernel) fun t hf y => ?_
  blk_simp
  rw [after0_4]
  refine (point_dx h t _).trans ?_
  refine Eq.trans (b := wide a.dx (ix2 (tok t (y 0)) (y 1))) rfl ?_
  generalize wide a.dx = L
  blk_point [idx_val t]
  all_goals simp only [tok]
theorem value_dg : (dats m 0 c).arrAt 5 (cfgs 0).N = line a.dg := by
  refine (dats m 0 c).arrAt_eq_of_covers 5 _ (by decide +kernel) fun t hf y => ?_
  blk_simp
  rw [after0_5]
  refine (carried (fun n h => (outsAt0 m c n h).2.1) (fun r i => a.dl r (i 1) * unit (a.x r) (i 1)) (dg_first h) (dg_next h) t ((flush0_5 t).mp hf) _).trans ?_
  refine Eq.trans (b := line a.dg (ix2 (y 0) (y 1))) rfl ?_
  generalize line a.dg = L
  blk_point [idx_val t]
theorem value_db : (dats m 0 c).arrAt 6 (cfgs 0).N = line a.db := by
  refine (dats m 0 c).arrAt_eq_of_covers 6 _ (by decide +kernel) fun t hf y => ?_
  blk_simp
  rw [after0_6]
  refine (carried (fun n h => (outsAt0 m c n h).2.2.1) (fun r i => a.dl r (i 1)) (db_first h) (db_next h) t ((flush0_6 t).mp hf) _).trans ?_
  refine Eq.trans (b := line a.db (ix2 (y 0) (y 1))) rfl ?_
  generalize line a.db = L
  blk_point [idx_val t]
theorem value_dcb : (dats m 0 c).arrAt 7 (cfgs 0).N = line a.dxs := by
  refine (dats m 0 c).arrAt_eq_of_covers 7 _ (by decide +kernel) fun t hf y => ?_
  blk_simp
  rw [after0_7]
  refine (carried (fun n h => (outsAt0 m c n h).2.2.2) (fun r i => a.dx r (i 1)) (dxs_first h) (dxs_next h) t ((flush0_7 t).mp hf) _).trans ?_
  refine Eq.trans (b := line a.dxs (ix2 (y 0) (y 1))) rfl ?_
  generalize line a.dxs = L
  blk_point [idx_val t]

end

open Cert.LnBwdRefIdeal.Value (REF_dcc REF_dg REF_db REF_dcb dcc_eq dg_eq db_eq dcb_eq)

theorem final_dcc (m : (ℓ : Loc nD τ sig) → Buf (Elt Ideal) ℓ) (c : Dev nD) {a : Args} (h : Holds m c a) : (dats m 0 c).arrAt 4 (cfgs 0).N
    = REF_dcc (m ((c : Thread nD τ).loc main_arg0)) (m ((c : Thread nD τ).loc main_arg1)) (m ((c : Thread nD τ).loc main_arg2)) (m ((c : Thread nD τ).loc main_arg3)) := by
  rw [h.1, h.2.1, h.2.2.1, h.2.2.2]
  exact (value_dcc h).trans (dcc_eq a).symm
theorem final_dg (m : (ℓ : Loc nD τ sig) → Buf (Elt Ideal) ℓ) (c : Dev nD) {a : Args} (h : Holds m c a) : (dats m 0 c).arrAt 5 (cfgs 0).N
    = REF_dg (m ((c : Thread nD τ).loc main_arg0)) (m ((c : Thread nD τ).loc main_arg1)) (m ((c : Thread nD τ).loc main_arg2)) (m ((c : Thread nD τ).loc main_arg3)) := by
  rw [h.1, h.2.1, h.2.2.1, h.2.2.2]
  exact (value_dg h).trans (dg_eq a).symm
theorem final_db (m : (ℓ : Loc nD τ sig) → Buf (Elt Ideal) ℓ) (c : Dev nD) {a : Args} (h : Holds m c a) : (dats m 0 c).arrAt 6 (cfgs 0).N
    = REF_db (m ((c : Thread nD τ).loc main_arg0)) (m ((c : Thread nD τ).loc main_arg1)) (m ((c : Thread nD τ).loc main_arg2)) (m ((c : Thread nD τ).loc main_arg3)) := by
  rw [h.1, h.2.1, h.2.2.1, h.2.2.2]
  exact (value_db h).trans (db_eq a).symm
theorem final_dcb (m : (ℓ : Loc nD τ sig) → Buf (Elt Ideal) ℓ) (c : Dev nD) {a : Args} (h : Holds m c a) : (dats m 0 c).arrAt 7 (cfgs 0).N
    = REF_dcb (m ((c : Thread nD τ).loc main_arg0)) (m ((c : Thread nD τ).loc main_arg1)) (m ((c : Thread nD τ).loc main_arg2)) (m ((c : Thread nD τ).loc main_arg3)) := by
  rw [h.1, h.2.1, h.2.2.1, h.2.2.2]
  exact (value_dcb h).trans (dcb_eq a).symm

end Cert.LnBwdIdeal.Value
end
-- ==== Proof.SguFwdSpec.lean ====
/- The spatial gating unit over the extended real numbers: per entry, per row, per chunk of 128 rows of one head. -/
module

public import proofs.«01_k».proof.Proof.Reals
public import Idealize.ShloMosaic.Lib.Pipeline.ValueKit

@[expose] public section

noncomputable section

open Idealize.ShloMosaic Cert.Reals
open scoped BigOperators

namespace Cert.SguFwd

/-- A row of one head. -/
abbrev Row := Fin 128 → EReal
/-- A chunk of one head. -/
abbrev Mat := Fin 128 → Fin 128 → EReal

def gelu (x : EReal) : EReal :=
  ((1 / 2 : ℝ) : EReal) * x * (1 + Ideal.tanh ((root : EReal) * (x + ((8943 / 200000 : ℝ) : EReal) * x * x * x)))

/-- The cube's coefficient written as a quotient, and the half next to the bracket. -/
theorem gelu_eq (x : EReal) : x * (((1 / 2 : ℝ) : EReal) * (1 + Ideal.tanh ((root : EReal) * (x
    + Ideal.div (x * x * x * ((44715 : ℝ) : EReal)) ((1000000 : ℝ) : EReal))))) = gelu x := by
  have e : x * x * x * ((44715 : ℝ) : EReal) * ((1 / 1000000 : ℝ) : EReal) = ((8943 / 200000 : ℝ) : EReal) * x * x * x := by
    rw [mul_assoc (x * x * x), ← EReal.coe_mul, show (44715 * (1 / 1000000) : ℝ) = 8943 / 200000 by norm_num, mul_comm (x * x * x)]
    simp only [mul_assoc]
  rw [Ideal.div_coe (by norm_num : (1000000 : ℝ) ≠ 0), e, gelu, ← mul_assoc, mul_comm x]

/-- A row's entry less the row's mean. -/
def cen (v : Row) : Row := fun d => v d - Ideal.div (∑ k, v k) ((128 : ℝ) : EReal)
/-- The normalised row, scaled and shifted. -/
def norm (g b v : Row) : Row := fun d =>
  cen v d * Ideal.rsqrt (Ideal.div (∑ k, cen v k * cen v k) ((128 : ℝ) : EReal) + (eps : EReal)) * g d + b d
/-- The lower triangle. -/
def low (w : Mat) : Mat := fun t s => if s.val ≤ t.val then w t s else 0
/-- The gated chunk. -/
def gated (w : Mat) (g b c : Row) (zu zv : Mat) : Mat := fun t d =>
  gelu (zu t d) * (∑ s, low w t s * norm g b (fun k => gelu (zv s k)) d + c t)

end Cert.SguFwd
end
end
-- ==== Proof.SguFwdPoint.lean ====
/- What one grid point of the spatial gating unit leaves in its result block. -/
module

public import proofs.«01_k».proof.Proof.SguFwdSpec
public import proofs.«01_k».proof.Proof.Gen.SguFwdIdeal.Value
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.SguFwdIdeal.Value
open Cert.SguFwdIdeal Cert.SguFwdIdeal.Gen Cert.Reals Cert.SguFwd

theorem c_coe : Named.named (F := Ideal) κ "gelu_c" (φ := .f32) 0x3D372713#32 = ((8943 / 200000 : ℝ) : EReal) := by
  rw [IdealRules.named_const.ideal_named_scalar _ _ _ _ rfl]

/-- An array of one chunk by row and column, and the rows and the weight of the small arguments. -/
def matOf (z : FVec Ideal S128x128 .f32) : Mat := fun t d => z (ix2 t d)
def rowOf (g : FVec Ideal S1x1x128 .f32) : Row := fun d => g (ix3 0 0 d)
def colOf (c : FVec Ideal S1x128x1 .f32) : Row := fun t => c (ix3 0 t 0)
def weightOf (w : FVec Ideal S1x128x128 .f32) : Mat := fun t s => w (ix3 0 t s)

theorem pay2 (w : FVec Ideal S1x128x128 .f32) (i) : k0_pay2 (F := Ideal) w i = low (weightOf w) (i 0) (i 1) := by
  pointwise [k0_pay2, low, weightOf]
  rw [WordCmp.cmpi_sge_ofNat (by have : (i 0).val < 128 := (i 0).isLt; omega) (by have : (i 1).val < 128 := (i 1).isLt; omega)]
  by_cases h : (i 1).val ≤ (i 0).val <;> simp [h, Scalar.select]
theorem pay3 (z : FVec Ideal S128x128 .f32) (i) : k0_pay3 (F := Ideal) z i = gelu (z i) := by
  pointwise [k0_pay3, c_coe]
  simp only [half_coe, root_coe]
  rfl
theorem pay4 (z : FVec Ideal S128x128 .f32) (i) : k0_pay4 (F := Ideal) z i = gelu (z i) := by
  pointwise [k0_pay4, c_coe]
  simp only [half_coe, root_coe]
  rfl

/-- What the kernel computes of a chunk. -/
def outC (w : FVec Ideal S1x128x128 .f32) (g b : FVec Ideal S1x1x128 .f32) (c : FVec Ideal S1x128x1 .f32)
    (z v : FVec Ideal S128x128 .f32) : FVec Ideal S128x128 .bf16 :=
  k0_pay6 (k0_pay2 w) (k0_pay3 z) (k0_pay4 v) (k0_pay5 v) g b c

theorem outC_eq (w : FVec Ideal S1x128x128 .f32) (g b : FVec Ideal S1x1x128 .f32) (c : FVec Ideal S1x128x1 .f32)
    (z v : FVec Ideal S128x128 .f32) (i) :
    outC w g b c z v i = gated (weightOf w) (rowOf g) (rowOf b) (colOf c) (matOf z) (matOf v) (i 0) (i 1) := by
  pointwise [outC, k0_pay6, k0_pay5, pay2, pay3, pay4]
  simp only [w128_coe, eps_coe]
  have e : i = ix2 (i 0) (i 1) := by funext k; match k with | ⟨0, _⟩ => rfl | ⟨1, _⟩ => rfl
  rw [congrArg z e]
  rfl

/-- A tile of 1024 rows of one head, and one of its eight chunks. -/
def part (k : Fin 8) (f : FVec Ideal S1024x128 .f32) : Mat := fun s d => f (ix2 ⟨128 * k.val + s.val, by omega⟩ d)

/-- The value of a tile at an index of its chunk `k`. -/
theorem joined_at (f : Fin 8 → Mat) (k : Fin 8) (x : S128x128.Idx) (z : S1024x128.Idx) (h0 : (z 0).val = 128 * k.val + (x 0).val)
    (h1 : (z 1).val = (x 1).val) :
    f ⟨(z 0).val / 128, by have : (z 0).val < 1024 := (z 0).isLt; omega⟩ ⟨(z 0).val % 128, by omega⟩ (z 1) = f k (x 0) (x 1) := by
  have hx : (x 0).val < 128 := (x 0).isLt
  have e0 : (⟨(z 0).val / 128, by have : (z 0).val < 1024 := (z 0).isLt; omega⟩ : Fin 8) = k := Fin.ext (by simp only; omega)
  have e1 : (⟨(z 0).val % 128, by omega⟩ : Fin 128) = x 0 := Fin.ext (by simp only; omega)
  have e2 : (z 1 : Fin 128) = x 1 := Fin.ext h1
  rw [e0, e1, e2]

/-- The eight chunks' payloads are the same function. -/
theorem ck1 (w g b c z v) : k0_pay1 (F := Ideal) (k0_pay2 w) (k0_pay34 z (k0_pay33 z)) (k0_pay35 v g) b c = outC w g b c z v := by sl_kernel_rfl
theorem ck32 (w g b c z v) : k0_pay32 (F := Ideal) (k0_pay2 w) (k0_pay30 z) (k0_pay31 v) g b c = outC w g b c z v := by sl_kernel_rfl
theorem ck29 (w g b c z v) : k0_pay29 (F := Ideal) (k0_pay2 w) (k0_pay27 z (k0_pay25 z) k0_pay26) (k0_pay28 v g) b c = outC w g b c z v := by sl_kernel_rfl
theorem ck24 (w g b c z v) : k0_pay24 (F := Ideal) (k0_pay2 w) (k0_pay21 z) (k0_pay22 v) (k0_pay23 v) g b c = outC w g b c z v := by sl_kernel_rfl
theorem ck20 (w g b c z v) : k0_pay20 (F := Ideal) (k0_pay2 w) (k0_pay17 z (k0_pay16 z)) (k0_pay18 v g) (k0_pay19 b) c = outC w g b c z v := by sl_kernel_rfl
theorem ck15 (w g b c z v) : k0_pay15 (F := Ideal) (k0_pay2 w) (k0_pay12 z) (k0_pay13 v) (k0_pay14 v) (Scalar.ofBits .f32 0x43000000#32) g b c = outC w g b c z v := by sl_kernel_rfl
theorem ck11 (w g b c z v) : k0_pay11 (F := Ideal) (k0_pay2 w) (k0_pay9 z (k0_pay7 z) k0_pay8) (k0_pay10 v g b) c = outC w g b c z v := by sl_kernel_rfl

theorem weight_ld (x0 x1 : Vec Ideal S1024x128 .f32) (x2 x3 : Vec Ideal S1x1x128 .f32) (x4 : Vec Ideal S1x128x128 .f32) (x5 : Vec Ideal S1x128x1 .f32) :
    k0_pay36 (F := Ideal) x0 x1 x2 x3 x4 x5 = k0_pay2 x4 := by
  unfold k0_pay36
  frame_out

theorem point (x0 x1 : Vec Ideal S1024x128 .f32) (x2 x3 : Vec Ideal S1x1x128 .f32) (x4 : Vec Ideal S1x128x128 .f32) (x5 : Vec Ideal S1x128x1 .f32) :
    out0_6 (F := Ideal) x0 x1 x2 x3 x4 x5 = (show FVec Ideal S1024x128 .bf16 from fun y =>
      (fun k => gated (weightOf x4) (rowOf x2) (rowOf x3) (colOf x5) (part k x0) (part k x1)) ⟨(y 0).val / 128, by have : (y 0).val < 1024 := (y 0).isLt; omega⟩
        ⟨(y 0).val % 128, by omega⟩ (y 1)) := by
  frame_out
  funext y
  canon_tiles y h
  · rw [weight_ld]
    refine (congrFun (ck1 x4 x2 x3 x5 _ _) y).trans ((outC_eq x4 x2 x3 x5 _ _ y).trans ?_)
    have hz : matOf (fun i => View.ld (Val := Elt Ideal) (e' := .f32) x0 (Rect.unit ![896, 0] ![128, 128] inb_S1024x128_S128x128_896_0) i) = part 7 x0 := by
      funext s d; pointwise [matOf, part]
    have hv : matOf (fun i => View.ld (Val := Elt Ideal) (e' := .f32) x1 (Rect.unit ![896, 0] ![128, 128] inb_S1024x128_S128x128_896_0) i) = part 7 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 7 y _ h0 h1).symm
  · rw [weight_ld]
    refine (congrFun (ck32 x4 x2 x3 x5 _ _) y).trans ((outC_eq x4 x2 x3 x5 _ _ y).trans ?_)
    have hz : matOf (fun i => View.ld (Val := Elt Ideal) (e' := .f32) x0 (Rect.unit ![768, 0] ![128, 128] inb_S1024x128_S128x128_768_0) i) = part 6 x0 := by
      funext s d; pointwise [matOf, part]
    have hv : matOf (fun i => View.ld (Val := Elt Ideal) (e' := .f32) x1 (Rect.unit ![768, 0] ![128, 128] inb_S1024x128_S128x128_768_0) i) = part 6 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 6 y _ h0 h1).symm
  · rw [weight_ld]
    refine (congrFun (ck29 x4 x2 x3 x5 _ _) y).trans ((outC_eq x4 x2 x3 x5 _ _ y).trans ?_)
    have hz : matOf (fun i => View.ld (Val := Elt Ideal) (e' := .f32) x0 (Rect.unit ![640, 0] ![128, 128] inb_S1024x128_S128x128_640_0) i) = part 5 x0 := by
      funext s d; pointwise [matOf, part]
    have hv : matOf (fun i => View.ld (Val := Elt Ideal) (e' := .f32) x1 (Rect.unit ![640, 0] ![128, 128] inb_S1024x128_S128x128_640_0) i) = part 5 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 5 y _ h0 h1).symm
  · rw [weight_ld]
    refine (congrFun (ck24 x4 x2 x3 x5 _ _) y).trans ((outC_eq x4 x2 x3 x5 _ _ y).trans ?_)
    have hz : matOf (fun i => View.ld (Val := Elt Ideal) (e' := .f32) x0 (Rect.unit ![512, 0] ![128, 128] inb_S1024x128_S128x128_512_0) i) = part 4 x0 := by
      funext s d; pointwise [matOf, part]
    have hv : matOf (fun i => View.ld (Val := Elt Ideal) (e' := .f32) x1 (Rect.unit ![512, 0] ![128, 128] inb_S1024x128_S128x128_512_0) i) = part 4 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 4 y _ h0 h1).symm
  · rw [weight_ld]
    refine (congrFun (ck20 x4 x2 x3 x5 _ _) y).trans ((outC_eq x4 x2 x3 x5 _ _ y).trans ?_)
    have hz : matOf (fun i => View.ld (Val := Elt Ideal) (e' := .f32) x0 (Rect.unit ![384, 0] ![128, 128] inb_S1024x128_S128x128_384_0) i) = part 3 x0 := by
      funext s d; pointwise [matOf, part]
    have hv : matOf (fun i => View.ld (Val := Elt Ideal) (e' := .f32) x1 (Rect.unit ![384, 0] ![128, 128] inb_S1024x128_S128x128_384_0) i) = part 3 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 3 y _ h0 h1).symm
  · rw [weight_ld]
    refine (congrFun (ck15 x4 x2 x3 x5 _ _) y).trans ((outC_eq x4 x2 x3 x5 _ _ y).trans ?_)
    have hz : matOf (fun i => View.ld (Val := Elt Ideal) (e' := .f32) x0 (Rect.unit ![256, 0] ![128, 128] inb_S1024x128_S128x128_256_0) i) = part 2 x0 := by
      funext s d; pointwise [matOf, part]
    have hv : matOf (fun i => View.ld (Val := Elt Ideal) (e' := .f32) x1 (Rect.unit ![256, 0] ![128, 128] inb_S1024x128_S128x128_256_0) i) = part 2 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 2 y _ h0 h1).symm
  · rw [weight_ld]
    refine (congrFun (ck11 x4 x2 x3 x5 _ _) y).trans ((outC_eq x4 x2 x3 x5 _ _ y).trans ?_)
    have hz : matOf (fun i => View.ld (Val := Elt Ideal) (e' := .f32) x0 (Rect.unit ![128, 0] ![128, 128] inb_S1024x128_S128x128_128_0) i) = part 1 x0 := by
      funext s d; pointwise [matOf, part]
    have hv : matOf (fun i => View.ld (Val := Elt Ideal) (e' := .f32) x1 (Rect.unit ![128, 0] ![128, 128] inb_S1024x128_S128x128_128_0) i) = part 1 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 1 y _ h0 h1).symm
  · rw [weight_ld]
    refine ((outC_eq x4 x2 x3 x5 _ _ y).trans ?_)
    have hz : matOf (fun i => View.ld (Val := Elt Ideal) (e' := .f32) x0 (Rect.unit ![0, 0] ![128, 128] inb_S1024x128_S128x128_0_0) i) = part 0 x0 := by
      funext s d; pointwise [matOf, part]
    have hv : matOf (fun i => View.ld (Val := Elt Ideal) (e' := .f32) x1 (Rect.unit ![0, 0] ![128, 128] inb_S1024x128_S128x128_0_0) i) = part 0 x1 := by
      funext s d; pointwise [matOf, part]
    refine Eq.trans (congrArg₂ (fun zu zv => gated (weightOf x4) (rowOf x2) (rowOf x3) (colOf x5) zu zv (y 0) (y 1)) hz hv) ?_
    exact (joined_at (fun k => gated (weightOf x4) (rowOf x2) (rowOf x3) (colOf x5) (part k x0) (part k x1)) 0 y _ (h0.trans (Nat.zero_add _).symm) h1).symm

end Cert.SguFwdIdeal.Value
end
end
-- ==== Proof.SguFwdRef.lean ====
/- What the spatial gating unit's reference computes, as a function of its arguments. -/
module

public import proofs.«01_k».proof.Proof.SguFwdSpec
public import proofs.«01_k».proof.Proof.Gen.SguFwdRefIdeal.Run
public import Idealize.ShloMosaic.Lib.WordCmp

@[expose] public section

set_option maxRecDepth 16384

noncomputable section

open Idealize.ShloMosaic Idealize.ShloMosaic.TcCoe Idealize.SL.Sem

namespace Cert.SguFwdRefIdeal.Value
open Cert.SguFwdRefIdeal Cert.SguFwdRefIdeal.Gen Cert.Reals Cert.SguFwd

/-- Values by head, chunk, row and column, in the layouts the reference moves between. -/
abbrev Heads := Fin 4 → Fin 32 → Mat
def wide (f : Heads) : FVec Ideal S4096x512 .f32 := fun i =>
  f ⟨(i 1).val / 128, by have : (i 1).val < 512 := (i 1).isLt; omega⟩ ⟨(i 0).val / 128, by have : (i 0).val < 4096 := (i 0).isLt; omega⟩
    ⟨(i 0).val % 128, by omega⟩ ⟨(i 1).val % 128, by omega⟩
def rows (f : Heads) : FVec Ideal S4096x4x128 .f32 := fun i =>
  f (i 1) ⟨(i 0).val / 128, by have : (i 0).val < 4096 := (i 0).isLt; omega⟩ ⟨(i 0).val % 128, by omega⟩ (i 2)
def chunks (f : Heads) : FVec Ideal S32x128x4x128 .f32 := fun i => f (i 2) (i 0) (i 1) (i 3)

theorem wide_rows (f : Heads) (hs) : shapeCast S4096x4x128 (wide f) hs = rows f := by
  funext i
  have h0 : (i 0).val < 4096 := (i 0).isLt
  have h1 : (i 1).val < 4 := (i 1).isLt
  have h2 : (i 2).val < 128 := (i 2).isLt
  pointwise [wide, rows]
  exact congr (congr (congr (congrArg f (Fin.ext (by simp only; omega))) rfl) rfl) (Fin.ext (by simp only; omega))
theorem wide_chunks (f : Heads) (hs) : shapeCast S32x128x4x128 (wide f) hs = chunks f := by
  funext i
  have h0 : (i 0).val < 32 := (i 0).isLt
  have h1 : (i 1).val < 128 := (i 1).isLt
  have h2 : (i 2).val < 4 := (i 2).isLt
  have h3 : (i 3).val < 128 := (i 3).isLt
  pointwise [wide, chunks]
  exact congr (congr (congr (congrArg f (Fin.ext (by simp only; omega))) (Fin.ext (by simp only; omega))) (Fin.ext (by simp only; omega))) (Fin.ext (by simp only; omega))
theorem rows_chunks (f : Heads) (hs) : shapeCast S32x128x4x128 (rows f) hs = chunks f := by
  funext i
  have h0 : (i 0).val < 32 := (i 0).isLt
  have h1 : (i 1).val < 128 := (i 1).isLt
  pointwise [rows, chunks]
  exact congr (congr (congr rfl (Fin.ext (by simp only; omega))) (Fin.ext (by simp only; omega))) rfl
theorem chunks_wide (f : Heads) (hs) : shapeCast S4096x512 (chunks f) hs = wide f := by
  funext i
  pointwise [wide, chunks]

/-- The two halves of the first argument, by head, chunk, row and column. -/
def zu (z : FVec Ideal S4096x4096 .f32) : Heads := fun h n s d => z (ix2 ⟨n.val * 128 + s.val, by omega⟩ ⟨h.val * 128 + d.val, by omega⟩)
def zv (z : FVec Ideal S4096x4096 .f32) : Heads := fun h n s d => z (ix2 ⟨n.val * 128 + s.val, by omega⟩ ⟨512 + h.val * 128 + d.val, by omega⟩)
/-- A head's row of a small argument, and a head's weight. -/
def line (g : FVec Ideal S4x128 .f32) (h : Fin 4) : Row := fun d => g (ix2 h d)
def weight (w : FVec Ideal S4x128x128 .f32) (h : Fin 4) : Mat := fun t s => w (ix3 h t s)

def GELU (x : FVec Ideal S4096x512 .f32) : FVec Ideal S4096x512 .f32 :=
  mulf x (mulf (broadcastInDim S4096x512 ![] bcast_S_S4096x512 (constant S_ .f32 0x3F000000#32)) (addf (broadcastInDim S4096x512 ![] bcast_S_S4096x512 (constant S_ .f32 0x3F800000#32)) (Host.tanh (mulf (broadcastInDim S4096x512 ![] bcast_S_S4096x512 (constant S_ .f32 0x3F4C422A#32)) (addf x (Host.divf (mulf (mulf (mulf x x) x) (broadcastInDim S4096x512 ![] bcast_S_S4096x512 (constant S_ .f32 0x472EAB00#32))) (broadcastInDim S4096x512 ![] bcast_S_S4096x512 (constant S_ .f32 0x49742400#32))))))))

def CEN (y : FVec Ideal S4096x4x128 .f32) : FVec Ideal S4096x4x128 .f32 :=
  subf y (broadcastInDim S4096x4x128 ![0, 1, 2] bcast_S4096x4x1_S4096x4x128_0_1_2 (Host.divf (broadcastInDim S4096x4x1 ![0, 1] bcast_S4096x4_S4096x4x1_0_1 (Host.reduceAdd y (constant S_ .f32 0x00000000#32) reducesTo_S4096x4x128_S4096x4_d2 h_S_)) (broadcastInDim S4096x4x1 ![] bcast_S_S4096x4x1 (constant S_ .f32 0x43000000#32))))

def NORM (x : FVec Ideal S4096x4x128 .f32) (g b : FVec Ideal S4x128 .f32) : FVec Ideal S4096x4x128 .f32 :=
  addf (mulf (mulf x (broadcastInDim S4096x4x128 ![0, 1, 2] bcast_S4096x4x1_S4096x4x128_0_1_2 (Host.rsqrt (addf (Host.divf (broadcastInDim S4096x4x1 ![0, 1] bcast_S4096x4_S4096x4x1_0_1 (Host.reduceAdd (mulf x x) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32)))))) (broadcastInDim S4096x4x128 ![0, 1, 2] bcast_S1x4x128_S4096x4x128_0_1_2 (broadcastInDim S1x4x128 ![1, 2] bcast_S4x128_S1x4x128_1_2 g))) (broadcastInDim S4096x4x128 ![0, 1, 2] bcast_S1x4x128_S4096x4x128_0_1_2 (broadcastInDim S1x4x128 ![1, 2] bcast_S4x128_S1x4x128_1_2 b))

def LOW (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S4x128x128 ![] bcast_S_S4x128x128 (constant S_ .f32 0x00000000#32))

def MIX (x : FVec Ideal S32x128x4x128 .f32) (w : FVec Ideal S4x128x128 .f32) (c : FVec Ideal S4x128 .f32) : FVec Ideal S32x128x4x128 .f32 :=
  addf (transpose S32x128x4x128 [1, 3, 0, 2] (Host.dotGeneral (φ₁ := .f32) (φ₂ := .f32) dot_S32x128x4x128_S4x128x128_S4x32x128x128_1_2_03_1_2_0 none x w) transposes_S4x32x128x128_S32x128x4x128_1_3_0_2) (broadcastInDim S32x128x4x128 ![0, 1, 2, 3] bcast_S1x128x4x1_S32x128x4x128_0_1_2_3 (broadcastInDim S1x128x4x1 ![1, 2, 3] bcast_S128x4x1_S1x128x4x1_1_2_3 (broadcastInDim S128x4x1 ![0, 1] bcast_S128x4_S128x4x1_0_1 (transpose S128x4 [1, 0] c transposes_S4x128_S128x4_1_0))))

/-- The reference's result as a function of its arguments. -/
def REF (z : FVec Ideal S4096x4096 .f32) (g b : FVec Ideal S4x128 .f32) (w : FVec Ideal S4x128x128 .f32) (c : FVec Ideal S4x128 .f32) :
    FVec Ideal S4096x512 .bf16 :=
  truncf .bf16 (shapeCast _ (mulf (shapeCast _ (GELU (extractStridedSlice S4096x512 ![0, 0] z slices_S4096x4096_S4096x512_0_0)) shapeCasts_S4096x512_S32x128x4x128)
    (MIX (shapeCast _ (NORM (CEN (shapeCast _ (GELU (extractStridedSlice S4096x512 ![0, 512] z slices_S4096x4096_S4096x512_0_512)) shapeCasts_S4096x512_S4096x4x128)) g b) shapeCasts_S4096x4x128_S32x128x4x128)
      (LOW w) c)) shapeCasts_S32x128x4x128_S4096x512) bitsLt_bf16_f32

theorem slice_u (z : FVec Ideal S4096x4096 .f32) : extractStridedSlice S4096x512 ![0, 0] z slices_S4096x4096_S4096x512_0_0 = wide (zu z) := by
  funext i
  pointwise [wide, zu]
  exact congrArg z (congrArg₂ ix2 (Fin.ext (by simp only; omega)) (Fin.ext (by simp only; omega)))
theorem slice_v (z : FVec Ideal S4096x4096 .f32) : extractStridedSlice S4096x512 ![0, 512] z slices_S4096x4096_S4096x512_0_512 = wide (zv z) := by
  funext i
  pointwise [wide, zv]
  exact congrArg z (congrArg₂ ix2 (Fin.ext (by simp only; omega)) (Fin.ext (by simp only; omega)))
theorem GELU_eq (f : Heads) : GELU (wide f) = wide fun h n s d => gelu (f h n s d) := by
  funext i
  pointwise [GELU, wide]
  simp only [half_coe, root_coe, w44715_coe, w1000000_coe, gelu_eq]
theorem CEN_eq (f : Heads) : CEN (rows f) = rows fun h n s => cen (f h n s) := by
  funext i
  pointwise [CEN, rows]
  simp only [w128_coe]
  rfl
theorem NORM_eq (f : Heads) (g b : FVec Ideal S4x128 .f32) : NORM (rows fun h n s => cen (f h n s)) g b
    = rows fun h n s => norm (line g h) (line b h) (f h n s) := by
  funext i
  pointwise [NORM, rows]
  simp only [w128_coe, eps_coe]
  rfl
theorem LOW_eq (w : FVec Ideal S4x128x128 .f32) (i) : LOW w i = low (weight w (i 0)) (i 1) (i 2) := by
  have h1 : (i 1).val < 128 := (i 1).isLt
  have h2 : (i 2).val < 128 := (i 2).isLt
  pointwise [LOW, low, weight]
  have e : IntOp.addi (BitVec.ofNat 32 (i 1).val) 0#32 = BitVec.ofNat 32 (i 1).val := by simp [IntOp.addi]
  rw [e, WordCmp.cmpi_sge_ofNat (by omega) (by omega)]
  by_cases hc : (i 2).val ≤ (i 1).val <;> simp [hc, Scalar.select]
theorem MIX_eq (f : Heads) (w : FVec Ideal S4x128x128 .f32) (c : FVec Ideal S4x128 .f32) : MIX (chunks f) (LOW w) c
    = chunks fun h n t d => ∑ s, low (weight w h) t s * f h n s d + line c h t := by
  funext i
  pointwise [MIX, chunks, LOW_eq, line]
  exact congrArg (· + c (ix2 (i 2) (i 1))) (Finset.sum_congr rfl fun k _ => mul_comm _ _)

/-- The result by head, chunk, row and column. -/
def out (z : FVec Ideal S4096x4096 .f32) (g b : FVec Ideal S4x128 .f32) (w : FVec Ideal S4x128x128 .f32) (c : FVec Ideal S4x128 .f32) : Heads :=
  fun h n => gated (weight w h) (line g h) (line b h) (line c h) (zu z h n) (zv z h n)

theorem REF_eq (z : FVec Ideal S4096x4096 .f32) (g b : FVec Ideal S4x128 .f32) (w : FVec Ideal S4x128x128 .f32) (c : FVec Ideal S4x128 .f32) :
    REF z g b w c = fun i => wide (out z g b w c) i := by
  unfold REF
  rw [slice_u, slice_v, GELU_eq, GELU_eq, wide_chunks, wide_rows, CEN_eq, NORM_eq, rows_chunks, MIX_eq]
  rw [show (mulf (chunks fun h n s d => gelu (zu z h n s d)) (chunks fun h n t d => ∑ s, low (weight w h) t s *
      norm (line g h) (line b h) (fun k => gelu (zv z h n s k)) d + line c h t)) = chunks (out z g b w c) from rfl, chunks_wide]
  rfl

end Cert.SguFwdRefIdeal.Value
end
end
-- ==== Proof.SguFwdValue.lean ====
/- What the spatial gating unit leaves in its result array. -/
module

public import proofs.«01_k».proof.Proof.SguFwdPoint
public import proofs.«01_k».proof.Proof.SguFwdRef

@[expose] public section

set_option maxRecDepth 16384

noncomputable section

open Idealize.ShloMosaic Idealize.ShloMosaic.TcCoe Idealize.SL.Sem
open Idealize.ShloMosaic.Pipeline (Dat)

namespace Cert.SguFwdIdeal.Value
open Cert.SguFwdIdeal Cert.SguFwdIdeal.Gen Cert.Reals Cert.SguFwd

variable (m : (ℓ : Loc nD τ sig) → Buf (Elt Ideal) ℓ)

theorem idx_val : ∀ t : Fin cfg0.N, win0_0.index t = ![t.val % 4, t.val / 4] ∧ win0_1.index t = ![t.val % 4, 4 + t.val / 4]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val % 4, t.val / 4] :=
  (by decide +kernel : ∀ t : Fin grid0.N, _)

theorem lt16 (t : Fin cfg0.N) : t.val < 16 := by
  have h := t.isLt; exact lt_of_lt_of_eq h N_0

/-- The head of a grid point, and its chunks. -/
def head (t : Fin cfg0.N) : Fin 4 := ⟨t.val / 4, by have := lt16 t; omega⟩
def chunk (t : Fin cfg0.N) (k : Fin 8) : Fin 32 := ⟨8 * (t.val % 4) + k.val, by omega⟩

section
variable (c : Dev nD) (t : Fin cfg0.N)

theorem ent2 (i : S4x1x128.Idx) : Gen.V m c main_v0 i = m ((c : Thread nD τ).loc main_arg1) (ix2 (i 0) (i 2)) := by
  entry_read
  pointwise []
theorem ent3 (i : S4x1x128.Idx) : Gen.V m c main_v1 i = m ((c : Thread nD τ).loc main_arg2) (ix2 (i 0) (i 2)) := by
  entry_read
  pointwise []
theorem ent5 (i : S4x128x1.Idx) : Gen.V m c main_v2 i = m ((c : Thread nD τ).loc main_arg4) (ix2 (i 0) (i 1)) := by
  entry_read
  pointwise []
theorem read0 (i : S1024x128.Idx) : iblk m c 0 t i = m ((c : Thread nD τ).loc main_arg0)
    (ix2 ⟨t.val % 4 * 1024 + (i 0).val, by have := (i 0).isLt; simp at this; omega⟩ ⟨t.val / 4 * 128 + (i 1).val, by have := lt16 t; have := (i 1).isLt; simp at this; omega⟩) := by
  blk_point [iblk, V, idx_val t]
theorem read1 (i : S1024x128.Idx) : iblk m c 1 t i = m ((c : Thread nD τ).loc main_arg0)
    (ix2 ⟨t.val % 4 * 1024 + (i 0).val, by have := (i 0).isLt; simp at this; omega⟩ ⟨(4 + t.val / 4) * 128 + (i 1).val, by have := lt16 t; have := (i 1).isLt; simp at this; omega⟩) := by
  blk_point [iblk, V, idx_val t]
theorem read2 (i : S1x1x128.Idx) : iblk m c 2 t i = Gen.V m c main_v0 (ix3 (head t) (i 1) (i 2)) := by
  unfold iblk
  blk_ext [idx_val t, head]
theorem read3 (i : S1x1x128.Idx) : iblk m c 3 t i = Gen.V m c main_v1 (ix3 (head t) (i 1) (i 2)) := by
  unfold iblk
  blk_ext [idx_val t, head]
theorem read4 (i : S1x128x128.Idx) : iblk m c 4 t i = m ((c : Thread nD τ).loc main_arg3) (ix3 (head t) (i 1) (i 2)) := by
  blk_point [iblk, V, idx_val t, head]
theorem read5 (i : S1x128x1.Idx) : iblk m c 5 t i = Gen.V m c main_v2 (ix3 (head t) (i 1) (i 2)) := by
  unfold iblk
  blk_ext [idx_val t, head]

open Cert.SguFwdRefIdeal.Value (zu zv line weight wide out REF REF_eq)

theorem part0 (k : Fin 8) : part k (iblk m c 0 t) = zu (m ((c : Thread nD τ).loc main_arg0)) (head t) (chunk t k) := by
  funext s d
  exact (read0 m c t _).trans (congrArg (m ((c : Thread nD τ).loc main_arg0))
    (congrArg₂ ix2 (Fin.ext (by simp only [chunk, ix2_0]; omega)) (Fin.ext (by simp only [head, ix2_1]))))
theorem part1 (k : Fin 8) : part k (iblk m c 1 t) = zv (m ((c : Thread nD τ).loc main_arg0)) (head t) (chunk t k) := by
  funext s d
  exact (read1 m c t _).trans (congrArg (m ((c : Thread nD τ).loc main_arg0))
    (congrArg₂ ix2 (Fin.ext (by simp only [chunk, ix2_0]; omega)) (Fin.ext (by simp only [head, ix2_1]; omega))))
theorem row2 : rowOf (iblk m c 2 t) = line (m ((c : Thread nD τ).loc main_arg1)) (head t) := by
  funext d; exact (read2 m c t _).trans (ent2 m c _)
theorem row3 : rowOf (iblk m c 3 t) = line (m ((c : Thread nD τ).loc main_arg2)) (head t) := by
  funext d; exact (read3 m c t _).trans (ent3 m c _)
theorem weight4 : weightOf (iblk m c 4 t) = weight (m ((c : Thread nD τ).loc main_arg3)) (head t) := by
  funext s d; exact read4 m c t _
theorem col5 : colOf (iblk m c 5 t) = line (m ((c : Thread nD τ).loc main_arg4)) (head t) := by
  funext d; exact (read5 m c t _).trans (ent5 m c _)

theorem final : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  rw [REF_eq]
  refine (dats m 0 c).arrAt_eq_of_covers 6 _ (by decide +kernel) fun t hf y => ?_
  show (cfg0.win 6).cut (grid0.coords t) ((dats m 0 c).after 6 t) y = _
  rw [after0_6, point, weight4, row2, row3, col5]
  simp only [part0, part1]
  have e0 : win0_6.index t (0 : Fin 2) = t.val % 4 := congrFun (idx_val t).2.2.2.2.2.2 0
  have e1 : win0_6.index t (1 : Fin 2) = t.val / 4 := congrFun (idx_val t).2.2.2.2.2.2 1
  have hb0 : (((cfg0.win 6).blk t).view.emb y 0).val = win0_6.index t (0 : Fin 2) * 1024 + 1 * (y 0).val := rfl
  have hb1 : (((cfg0.win 6).blk t).view.emb y 1).val = win0_6.index t (1 : Fin 2) * 128 + 1 * (y 1).val := rfl
  rw [e0] at hb0
  rw [e1] at hb1
  have h16 := lt16 t
  have hy0 : (y 0).val < 1024 := (y 0).isLt
  have hy1 : (y 1).val < 128 := (y 1).isLt
  refine Eq.trans (b := out (m ((c : Thread nD τ).loc main_arg0)) (m ((c : Thread nD τ).loc main_arg1)) (m ((c : Thread nD τ).loc main_arg2))
      (m ((c : Thread nD τ).loc main_arg3)) (m ((c : Thread nD τ).loc main_arg4)) (head t)
      (chunk t ⟨(y 0).val / 128, by omega⟩) ⟨(y 0).val % 128, by omega⟩ ⟨(y 1).val, hy1⟩) rfl ?_
  generalize out (m ((c : Thread nD τ).loc main_arg0)) (m ((c : Thread nD τ).loc main_arg1)) (m ((c : Thread nD τ).loc main_arg2))
      (m ((c : Thread nD τ).loc main_arg3)) (m ((c : Thread nD τ).loc main_arg4)) = f
  refine congr (congr (congr (congrArg f (Fin.ext ?_)) (Fin.ext ?_)) (Fin.ext ?_)) (Fin.ext ?_)
  · show t.val / 4 = (((cfg0.win 6).blk t).view.emb y 1).val / 128
    omega
  · show 8 * (t.val % 4) + (y 0).val / 128 = (((cfg0.win 6).blk t).view.emb y 0).val / 128
    omega
  · show (y 0).val % 128 = (((cfg0.win 6).blk t).view.emb y 0).val % 128
    omega
  · show (y 1).val = (((cfg0.win 6).blk t).view.emb y 1).val % 128
    omega

end
end Cert.SguFwdIdeal.Value
end
end
-- ==== Proof.HeadSpec.lean ====
/- The squared error after a root-mean-square norm and its gradients, over the real numbers: per row of 2048 and over all rows. -/
module

public import proofs.«01_k».proof.Proof.Reals

@[expose] public section

noncomputable section

open Idealize.ShloMosaic
open Cert.Reals
open scoped BigOperators

namespace Cert.Head

/-- The words of 2048, of its reciprocal and of 2. -/
theorem w2048_coe : Ideal.ofBits .f32 0x45000000#32 = ((2048 : ℝ) : EReal) := by
  simp [Ideal.ofBits, Ideal.ieee, -EReal.coe_mul]; norm_num
theorem wpart_coe : Ideal.ofBits .f32 0x3A000000#32 = ((1 / 2048 : ℝ) : EReal) := by
  simp [Ideal.ofBits, Ideal.ieee, -EReal.coe_mul]; norm_num
theorem two_coe : Ideal.ofBits .f32 0x40000000#32 = ((2 : ℝ) : EReal) := by
  simp [Ideal.ofBits, Ideal.ieee, -EReal.coe_mul]; norm_num
theorem n2048 : (2048 : ℝ) ≠ 0 := by norm_num

abbrev Row := Fin 2048 → ℝ

def mean (v : Row) : ℝ := (∑ d, v d) / 2048
def power (v : Row) : ℝ := mean fun d => v d * v d
def rstd (v : Row) : ℝ := (Real.sqrt (power v + eps))⁻¹
/-- How far the normalised row is from its target. -/
def err (g v t : Row) : Row := fun d => v d * rstd v * g d - t d
/-- What comes back to the normalised row: the derivative of half the mean square. -/
def ct (g v t : Row) : Row := fun d => err g v t d / 2048
/-- The gradient of the norm: `y` what comes back for the normalised row. -/
def back (g v y : Row) : Row := fun d =>
  rstd v * (y d * g d) - v d * (rstd v * rstd v * rstd v) * mean fun e => y e * g e * v e

theorem power_nonneg (v : Row) : 0 ≤ power v :=
  div_nonneg (Finset.sum_nonneg fun d _ => mul_self_nonneg _) (by norm_num)
theorem root_pos (v : Row) : 0 < power v + eps := add_pos_of_nonneg_of_pos (power_nonneg v) eps_pos
theorem rstd_cube (v : Row) : rstd v / (power v + eps) = rstd v * rstd v * rstd v := by
  have hp := root_pos v
  unfold rstd
  rw [div_eq_mul_inv, mul_assoc, ← mul_inv (Real.sqrt _) (Real.sqrt _), Real.mul_self_sqrt hp.le]
/-- The gradient as the derivative rules of its single steps give it. -/
theorem back_ref (g v y : Row) (d : Fin 2048) (F : ℝ)
    (hF : F = (∑ e, v e * (y e * g e)) * (-(1 / 2) * (rstd v / (power v + eps))) / 2048) :
    y d * g d * rstd v + v d * F + F * v d = back g v y d := by
  have h : ∑ e, y e * g e * v e = ∑ e, v e * (y e * g e) := Finset.sum_congr rfl fun e _ => mul_comm _ _
  rw [rstd_cube] at hF
  unfold back mean
  rw [h, hF]
  ring

/-- The real arrays the arguments hold. -/
structure Args where
  x : Fin 4096 → Row
  g : Row
  t : Fin 4096 → Row

namespace Args
variable (a : Args)
def er (r : Fin 4096) : Row := err a.g (a.x r) (a.t r)
def y (r : Fin 4096) : Row := ct a.g (a.x r) (a.t r)
/-- The part of one token in the loss. -/
def part (r : Fin 4096) : ℝ := mean fun d => a.er r d * a.er r d
def loss : ℝ := 1 / 2 * ∑ r, a.part r
def dx (r : Fin 4096) : Row := back a.g (a.x r) (a.y r)
def dg : Row := fun d => ∑ r, a.x r d * rstd (a.x r) * a.y r d
end Args

/-- A sum over the tokens, tile by tile. -/
theorem sum_tiles (f : Fin 4096 → ℝ) : ∑ s : Fin 16, ∑ k : Fin 256, f ⟨s.val * 256 + k.val, by omega⟩ = ∑ r, f r := by
  rw [← Equiv.sum_comp (finProdFinEquiv (m := 16) (n := 256)), Fintype.sum_prod_type]
  refine Finset.sum_congr rfl fun n _ => Finset.sum_congr rfl fun s _ => congrArg f (Fin.ext ?_)
  simp only [finProdFinEquiv_apply_val]; omega

end Cert.Head

end
-- ==== Proof.HeadRef.lean ====
/- What the reference of the loss head holds, at real arguments. -/
module

public import proofs.«01_k».proof.Proof.HeadSpec
public import proofs.«01_k».proof.Proof.Gen.LossHeadRefIdeal.Run
public import Idealize.ShloMosaic.Lib.Pipeline.Value

@[expose] public section

set_option maxRecDepth 16384

noncomputable section

open Idealize.ShloMosaic Idealize.ShloMosaic.TcCoe Idealize.SL.Sem

namespace Cert.LossHeadRefIdeal.Value
open Cert.LossHeadRefIdeal Cert.LossHeadRefIdeal.Gen Cert.Reals Cert.Head

abbrev BIG := FVec Ideal S4096x2048 .f32
abbrev COL := FVec Ideal S4096x1 .f32
abbrev TOK := FVec Ideal S4096 .f32
abbrev VEC := FVec Ideal S2048 .f32

/-- A column repeated along the rows, the sums of the rows, a constant column. -/
def ALONG (x : COL) : BIG := broadcastInDim S4096x2048 ![0, 1] bcast_S4096x1_S4096x2048_0_1 x
def ROWS (x : BIG) : TOK := Host.reduceAdd x (constant S_ .f32 0x00000000#32) reducesTo_S4096x2048_S4096_d1 h_S_
def SAME (w : BitVec 32) : COL := broadcastInDim S4096x1 ![] bcast_S_S4096x1 (constant S_ .f32 w)
def SAMET (w : BitVec 32) : TOK := broadcastInDim S4096 ![] bcast_S_S4096 (constant S_ .f32 w)
/-- A row repeated for every token. -/
def DOWN (x : VEC) : BIG := broadcastInDim S4096x2048 ![0, 1] bcast_S1x2048_S4096x2048_0_1 (broadcastInDim S1x2048 ![1] bcast_S2048_S1x2048_1 x)

def VAR (a0 : BIG) : COL := addf (Host.divf (broadcastInDim S4096x1 ![0] bcast_S4096_S4096x1_0 (ROWS (mulf a0 a0))) (SAME 0x45000000#32)) (SAME 0x358637BD#32)
def RST (a0 : BIG) : COL := Host.rsqrt (VAR a0)
def UNI (a0 : BIG) : BIG := mulf a0 (ALONG (RST a0))
def ERR (a0 : BIG) (a1 : VEC) (a2 : BIG) : BIG := subf (mulf (UNI a0) (DOWN a1)) a2
/-- What comes back to the normalised rows. -/
def BACK (a0 : BIG) (a1 : VEC) (a2 : BIG) : BIG :=
  mulf (broadcastInDim S4096x2048 ![0] bcast_S4096_S4096x2048_0 (Host.divf (broadcastInDim S4096 ![] bcast_S_S4096 (mulf (constant S_ .f32 0x3F000000#32) (constant S_ .f32 0x3F800000#32))) (SAMET 0x45000000#32)))
    (mulf (broadcastInDim S4096x2048 ![] bcast_S_S4096x2048 (constant S_ .f32 0x40000000#32)) (ERR a0 a1 a2))
def DN (a0 : BIG) (a1 : VEC) (a2 : BIG) : BIG := mulf (BACK a0 a1 a2) (DOWN a1)
/-- A column of one entry a row summed over that entry and repeated along the row. -/
def SPREAD (x : COL) : BIG := broadcastInDim S4096x2048 ![0] bcast_S4096_S4096x2048_0 (Host.reduceAdd x (constant S_ .f32 0x00000000#32) reducesTo_S4096x1_S4096_d1 h_S_)
def FAC (a0 : BIG) (a1 : VEC) (a2 : BIG) : BIG :=
  SPREAD (Host.divf (mulf (shapeCast S4096x1 (ROWS (mulf a0 (DN a0 a1 a2))) shapeCasts_S4096_S4096x1) (mulf (SAME 0xBF000000#32) (Host.divf (RST a0) (VAR a0)))) (SAME 0x45000000#32))

/-- The four results of the reference as functions of its arguments. -/
def REF_loss (a0 : BIG) (a1 : VEC) (a2 : BIG) : FVec Ideal S1x1 .f32 :=
  broadcastInDim S1x1 ![] bcast_S_S1x1 (mulf (constant S_ .f32 0x3F000000#32)
    (Host.reduceAdd (Host.divf (ROWS (mulf (ERR a0 a1 a2) (ERR a0 a1 a2))) (SAMET 0x45000000#32)) (constant S_ .f32 0x00000000#32) reducesTo_S4096_S_d0 h_S_))
def REF_dh (a0 : BIG) (a1 : VEC) (a2 : BIG) : BIG :=
  addf (addf (mulf (DN a0 a1 a2) (ALONG (RST a0))) (mulf a0 (FAC a0 a1 a2))) (mulf (FAC a0 a1 a2) a0)
def REF_dhb (a0 : BIG) (a1 : VEC) (a2 : BIG) : FVec Ideal S4096x2048 .bf16 := truncf .bf16 (REF_dh a0 a1 a2) bitsLt_bf16_f32
def REF_dg (a0 : BIG) (a1 : VEC) (a2 : BIG) : FVec Ideal S1x2048 .f32 :=
  broadcastInDim S1x2048 ![1] bcast_S2048_S1x2048_1 (Host.reduceAdd (shapeCast S1x2048
    (Host.reduceAdd (mulf (UNI a0) (BACK a0 a1 a2)) (constant S_ .f32 0x00000000#32) reducesTo_S4096x2048_S2048_d0 h_S_) shapeCasts_S2048_S1x2048)
    (constant S_ .f32 0x00000000#32) reducesTo_S1x2048_S2048_d0 h_S_)

/-- Real values by token and column, by token, by column. -/
def wide (f : Fin 4096 → Row) : BIG := fun i => ((f (i 0) (i 1) : ℝ) : EReal)
def wideb (f : Fin 4096 → Row) : FVec Ideal S4096x2048 .bf16 := fun i => ((f (i 0) (i 1) : ℝ) : EReal)
def stat (f : Fin 4096 → ℝ) : COL := fun i => ((f (i 0) : ℝ) : EReal)
def vec (f : Row) : VEC := fun i => ((f (i 0) : ℝ) : EReal)
def line (f : Row) : FVec Ideal S1x2048 .f32 := fun i => ((f (i 1) : ℝ) : EReal)
def single (v : ℝ) : FVec Ideal S1x1 .f32 := fun _ => ((v : ℝ) : EReal)

theorem var_eq (x : Fin 4096 → Row) : VAR (wide x) = stat fun r => power (x r) + eps := by
  funext i
  pointwise [VAR, ROWS, SAME, wide, stat]
  simp only [w2048_coe, eps_coe, ← EReal.coe_mul, coe_sum, div_coe _ n2048, ← EReal.coe_add]
  rfl
theorem rst_eq (x : Fin 4096 → Row) : RST (wide x) = stat fun r => rstd (x r) := by
  unfold RST
  rw [var_eq]
  funext i
  pointwise [stat]
  exact rsqrt_coe (root_pos _)
theorem uni_eq (x : Fin 4096 → Row) : UNI (wide x) = wide fun r d => x r d * rstd (x r) := by
  unfold UNI
  rw [rst_eq]
  funext i
  pointwise [ALONG, wide, stat]
  simp only [← EReal.coe_mul]
theorem err_eq (a : Args) : ERR (wide a.x) (vec a.g) (wide a.t) = wide a.er := by
  unfold ERR
  rw [uni_eq]
  funext i
  pointwise [DOWN, wide, vec]
  simp only [← EReal.coe_mul, ← EReal.coe_sub]
  rfl
theorem back_eq (a : Args) : BACK (wide a.x) (vec a.g) (wide a.t) = wide a.y := by
  unfold BACK
  rw [err_eq]
  funext i
  pointwise [SAMET, wide]
  simp only [w2048_coe, half_coe, two_coe, one_coe, ← EReal.coe_mul, div_coe _ n2048]
  refine congrArg (fun x : ℝ => (x : EReal)) ?_
  unfold Args.y ct Args.er
  ring
theorem dn_eq (a : Args) : DN (wide a.x) (vec a.g) (wide a.t) = wide fun r d => a.y r d * a.g d := by
  unfold DN
  rw [back_eq]
  funext i
  pointwise [DOWN, wide, vec]
  simp only [← EReal.coe_mul]
/-- The factor of a row. -/
def fac (a : Args) (r : Fin 4096) : ℝ :=
  (∑ e, a.x r e * (a.y r e * a.g e)) * (-(1 / 2) * (rstd (a.x r) / (power (a.x r) + eps))) / 2048
theorem fac_eq (a : Args) : FAC (wide a.x) (vec a.g) (wide a.t) = wide fun r _ => fac a r := by
  unfold FAC
  rw [dn_eq, rst_eq, var_eq]
  funext i
  pointwise [SPREAD, ROWS, SAME, wide, stat]
  have hp := (root_pos (a.x (i 0))).ne'
  simp only [w2048_coe, neghalf_coe, ← EReal.coe_mul, coe_sum, div_coe _ hp, div_coe _ n2048]
  try rw [Fin.sum_univ_one]
  rfl
theorem dh_eq (a : Args) : REF_dh (wide a.x) (vec a.g) (wide a.t) = wide a.dx := by
  unfold REF_dh
  rw [dn_eq, rst_eq, fac_eq]
  funext i
  pointwise [ALONG, wide, stat]
  simp only [← EReal.coe_mul, ← EReal.coe_add]
  exact congrArg (fun x : ℝ => (x : EReal)) (back_ref _ _ _ _ _ rfl)
theorem dhb_eq (a : Args) : REF_dhb (wide a.x) (vec a.g) (wide a.t) = wideb a.dx := by
  unfold REF_dhb
  rw [dh_eq]
  rfl
theorem dg_eq (a : Args) : REF_dg (wide a.x) (vec a.g) (wide a.t) = line a.dg := by
  unfold REF_dg
  rw [uni_eq, back_eq]
  funext i
  pointwise [wide, line]
  simp only [← EReal.coe_mul, coe_sum]
  try rw [Fin.sum_univ_one]
  rfl
theorem loss_eq (a : Args) : REF_loss (wide a.x) (vec a.g) (wide a.t) = single a.loss := by
  unfold REF_loss
  rw [err_eq]
  funext i
  pointwise [ROWS, SAMET, wide, single]
  simp only [w2048_coe, half_coe, ← EReal.coe_mul, coe_sum, div_coe _ n2048]
  rfl

end Cert.LossHeadRefIdeal.Value
end
-- ==== Proof.LossHeadValue.lean ====
/- What the loss head leaves in its four result arrays, at real arguments. -/
module

public import proofs.«01_k».proof.Proof.Blocks
public import proofs.«01_k».proof.Proof.HeadRef
public import proofs.«01_k».proof.Proof.Gen.LossHeadIdeal.Frame
public import proofs.«01_k».proof.Proof.Gen.LossHeadIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossHeadIdeal.Value
open Cert.LossHeadIdeal Cert.LossHeadIdeal.Gen Cert.Reals Cert.Head

/-- A tile of 256 tokens. -/
abbrev Tile := Fin 256 → Row
def mat (f : Tile) : FVec Ideal S256x2048 .f32 := fun i => ((f (i 0) (i 1) : ℝ) : EReal)
def matb (f : Tile) : FVec Ideal S256x2048 .bf16 := fun i => ((f (i 0) (i 1) : ℝ) : EReal)
def colv (f : Fin 256 → ℝ) : FVec Ideal S256x1 .f32 := fun i => ((f (i 0) : ℝ) : EReal)
def rowv (f : Row) : FVec Ideal S1x2048 .f32 := fun i => ((f (i 1) : ℝ) : EReal)

theorem pay8 (x t : Tile) (g : Row) : k0_pay8 (F := Ideal) (mat x) (rowv g) (mat t) = mat fun s => err g (x s) (t s) := by
  funext i
  pointwise [k0_pay8, k0_pay7, mat, rowv]
  simp only [w2048_coe, eps_coe, ← EReal.coe_mul, coe_sum, div_coe _ n2048, ← EReal.coe_add]
  have e := rsqrt_coe (root_pos (x (i 0)))
  unfold power mean at e
  rw [e]
  simp only [← EReal.coe_mul, ← EReal.coe_sub]
  rfl
theorem pay11 (x : Tile) : k0_pay11 (F := Ideal) (mat x) = colv fun s => rstd (x s) := by
  funext i
  pointwise [k0_pay11, mat, colv]
  simp only [w2048_coe, eps_coe, ← EReal.coe_mul, coe_sum, div_coe _ n2048, ← EReal.coe_add]
  exact rsqrt_coe (root_pos (x (i 0)))
theorem pay9 (x t : Tile) (g : Row) : k0_pay9 (F := Ideal) (mat x) (rowv g) (mat t)
    = fun _ => ((∑ s, 1 / 2 * mean fun d => err g (x s) (t s) d * err g (x s) (t s) d : ℝ) : EReal) := by
  funext i
  pointwise [k0_pay9, pay8, mat]
  simp only [wpart_coe, half_coe, ← EReal.coe_mul, coe_sum]
  refine congrArg (fun x : ℝ => (x : EReal)) ?_
  rw [Finset.mul_sum]
  exact Finset.sum_congr rfl fun s _ => by unfold mean; rw [mul_one_div]
theorem pay10 (x t : Tile) (g : Row) : k0_pay10 (F := Ideal) (mat x) (rowv g) (mat t) = mat fun s => ct g (x s) (t s) := by
  funext i
  pointwise [k0_pay10, pay8, mat]
  simp only [wpart_coe, ← EReal.coe_mul, mul_one_div]
  rfl
theorem pay12 (x t : Tile) (g : Row) : k0_pay12 (F := Ideal) (mat x) (rowv g) (mat t) = mat fun s d => ct g (x s) (t s) d * g d := by
  funext i
  pointwise [k0_pay12, k0_pay7, pay10, mat, rowv]
  simp only [← EReal.coe_mul]
theorem pay13 (x t : Tile) (g : Row) : k0_pay13 (F := Ideal) (mat x) (rowv g) (mat t) = colv fun s => ∑ d, ct g (x s) (t s) d * g d * x s d := by
  funext i
  pointwise [k0_pay13, pay12, mat, colv]
  simp only [← EReal.coe_mul, coe_sum]
theorem pay1 (x t : Tile) (g : Row) : k0_pay1 (F := Ideal) (mat x) (k0_pay11 (mat x)) (k0_pay12 (mat x) (rowv g) (mat t)) (k0_pay13 (mat x) (rowv g) (mat t))
    = mat fun s => back g (x s) (ct g (x s) (t s)) := by
  rw [pay11, pay12, pay13]
  funext i
  pointwise [k0_pay1, mat, colv]
  simp only [wpart_coe, ← EReal.coe_mul, mul_one_div, ← EReal.coe_sub]
  rfl
theorem pay2 (x t : Tile) (g : Row) : k0_pay2 (F := Ideal) (mat x) (k0_pay11 (mat x)) (k0_pay12 (mat x) (rowv g) (mat t)) (k0_pay13 (mat x) (rowv g) (mat t))
    = matb fun s => back g (x s) (ct g (x s) (t s)) := by
  unfold k0_pay2
  rw [pay1]
  rfl
theorem pay5 (x t : Tile) (g : Row) (v : FVec Ideal S1x2048 .f32) (i) :
    (show EReal from k0_pay5 (F := Ideal) (mat x) (k0_pay10 (mat x) (rowv g) (mat t)) (k0_pay11 (mat x)) v i)
      = (show EReal from v i) + ((∑ s, x s (i 1) * rstd (x s) * ct g (x s) (t s) (i 1) : ℝ) : EReal) := by
  rw [pay10, pay11]
  pointwise [k0_pay5, mat, colv]
  simp only [← EReal.coe_mul, coe_sum]
  refine congrArg (fun y : ℝ => (show EReal from v i) + (y : EReal)) (Finset.sum_congr rfl fun s _ => ?_)
  ring
theorem pay6 (x t : Tile) (g : Row) (v : FVec Ideal S1x1 .f32) (i) :
    (show EReal from k0_pay6 (F := Ideal) (k0_pay9 (mat x) (rowv g) (mat t)) v i)
      = (show EReal from v i) + ((∑ s, 1 / 2 * mean fun d => err g (x s) (t s) d * err g (x s) (t s) d : ℝ) : EReal) := by
  rw [pay9]
  pointwise [k0_pay6]

variable (m : (ℓ : Loc nD τ sig) → Buf (Elt Ideal) ℓ)

theorem idx_val : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

theorem lt16 (t : Fin cfg0.N) : t.val < 16 := by
  have h := t.isLt; exact lt_of_lt_of_eq h N_0

open Cert.LossHeadRefIdeal.Value (wide wideb vec line single)

/-- The arguments hold the real arrays of `a`. -/
def Holds (c : Dev nD) (a : Args) : Prop :=
  m ((c : Thread nD τ).loc main_arg0) = wide a.x
  ∧ m ((c : Thread nD τ).loc main_arg1) = vec a.g
  ∧ m ((c : Thread nD τ).loc main_arg2) = wide a.t

/-- The tile of a grid point. -/
def tok (t : Fin cfg0.N) (s : Fin 256) : Fin 4096 := ⟨t.val * 256 + s.val, by have := lt16 t; omega⟩
def tx (a : Args) (t : Fin cfg0.N) : Tile := fun s => a.x (tok t s)
def tt (a : Args) (t : Fin cfg0.N) : Tile := fun s => a.t (tok t s)

section
variable {m} {c : Dev nD} {a : Args} (h : Holds m c a)
include h

theorem blk0 (t : Fin cfg0.N) : iblk m c 0 t = mat (tx a t) := by
  funext y
  refine Eq.trans ?_ (b := wide a.x (ix2 (tok t (y 0)) (y 1))) rfl
  rw [← h.1]
  blk_point [iblk, V, idx_val t]
  all_goals simp only [tok]
theorem blk1 (t : Fin cfg0.N) : iblk m c 1 t = rowv a.g := by
  funext y
  refine Eq.trans ?_ (b := vec a.g (ix1 (y 1))) rfl
  rw [← h.2.1]
  blk_point [iblk, V, idx_val t]
theorem blk2 (t : Fin cfg0.N) : iblk m c 2 t = mat (tt a t) := by
  funext y
  refine Eq.trans ?_ (b := wide a.t (ix2 (tok t (y 0)) (y 1))) rfl
  rw [← h.2.2]
  blk_point [iblk, V, idx_val t]
  all_goals simp only [tok]

theorem point_dh (t : Fin cfg0.N) (i) : (show EReal from (outsAt0 m c t.val t.isLt).2.1 i) = ((a.dx (tok t (i 0)) (i 1) : ℝ) : EReal) := by
  by_cases h0 : t.val % 16 = 0
  · rw [outsAt0_A m c t h0]
    frame_out
    rw [blk0 h t, blk1 h t, blk2 h t, pay1]
    rfl
  · rw [outsAt0_B m c t h0]
    frame_out
    rw [blk0 h t, blk1 h t, blk2 h t, pay1]
    rfl
theorem point_dhb (t : Fin cfg0.N) (i) : (show EReal from (outsAt0 m c t.val t.isLt).2.2.1 i) = ((a.dx (tok t (i 0)) (i 1) : ℝ) : EReal) := by
  by_cases h0 : t.val % 16 = 0
  · rw [outsAt0_A m c t h0]
    frame_out
    rw [blk0 h t, blk1 h t, blk2 h t, pay2]
    rfl
  · rw [outsAt0_B m c t h0]
    frame_out
    rw [blk0 h t, blk1 h t, blk2 h t, pay2]
    rfl
theorem dg_first (t : Fin cfg0.N) (h0 : t.val % 16 = 0) (i) : (show EReal from (outsAt0 m c t.val t.isLt).2.2.2 i)
    = ((∑ s, a.x (tok t s) (i 1) * rstd (a.x (tok t s)) * a.y (tok t s) (i 1) : ℝ) : EReal) := by
  rw [outsAt0_A m c t h0]
  frame_out
  rw [blk0 h t, blk1 h t, blk2 h t]
  refine (pay5 _ _ _ _ i).trans ?_
  pointwise [k0_pay3]
  rfl
theorem dg_next (t : Fin cfg0.N) (h0 : ¬t.val % 16 = 0) (i) : (show EReal from (outsAt0 m c t.val t.isLt).2.2.2 i)
    = (show EReal from (outsAt0 m c (t.val - 1) (Nat.lt_of_le_of_lt (Nat.sub_le _ _) t.isLt)).2.2.2 i)
      + ((∑ s, a.x (tok t s) (i 1) * rstd (a.x (tok t s)) * a.y (tok t s) (i 1) : ℝ) : EReal) := by
  rw [outsAt0_B m c t h0]
  frame_out
  rw [blk0 h t, blk1 h t, blk2 h t]
  exact pay5 _ _ _ _ i
theorem loss_first (t : Fin cfg0.N) (h0 : t.val % 16 = 0) (i) : (show EReal from (outsAt0 m c t.val t.isLt).1 i)
    = ((∑ s, 1 / 2 * a.part (tok t s) : ℝ) : EReal) := by
  rw [outsAt0_A m c t h0]
  frame_out
  rw [blk0 h t, blk1 h t, blk2 h t]
  refine (pay6 _ _ _ _ i).trans ?_
  pointwise [k0_pay4]
  rfl
theorem loss_next (t : Fin cfg0.N) (h0 : ¬t.val % 16 = 0) (i) : (show EReal from (outsAt0 m c t.val t.isLt).1 i)
    = (show EReal from (outsAt0 m c (t.val - 1) (Nat.lt_of_le_of_lt (Nat.sub_le _ _) t.isLt)).1 i)
      + ((∑ s, 1 / 2 * a.part (tok t s) : ℝ) : EReal) := by
  rw [outsAt0_B m c t h0]
  frame_out
  rw [blk0 h t, blk1 h t, blk2 h t]
  exact pay6 _ _ _ _ i

omit h in
/-- An array begun at the first point and added to at the others holds, after the last, the sum over the tokens. -/
theorem carried {ι : Type} (f : (n : ℕ) → n < cfg0.N → ι → EReal) (g : Fin 4096 → ι → ℝ)
    (h0 : ∀ t : Fin cfg0.N, t.val % 16 = 0 → ∀ i, f t.val t.isLt i = ((∑ s, g (tok t s) i : ℝ) : EReal))
    (hs : ∀ t : Fin cfg0.N, ¬t.val % 16 = 0 → ∀ i, f t.val t.isLt i = f (t.val - 1) (Nat.lt_of_le_of_lt (Nat.sub_le _ _) t.isLt) i
      + ((∑ s, g (tok t s) i : ℝ) : EReal))
    (t : Fin cfg0.N) (hr : t.val % 16 = 15) (i : ι) : f t.val t.isLt i = ((∑ r, g r i : ℝ) : EReal) := by
  have ht := lt16 t
  rw [Pipeline.eq_sum_fin_of_reset_step_apply_of_flush f 16 (fun _ => 0) (fun t i => ((∑ s, g (tok t s) i : ℝ) : EReal))
    (fun t h i => by rw [h0 t h i, zero_add]) hs t hr i, zero_add, coe_sum, EReal.coe_eq_coe_iff, ← sum_tiles]
  refine Finset.sum_congr rfl fun s _ => Finset.sum_congr rfl fun k _ => ?_
  exact congrArg (fun r => g r i) (Fin.ext (by simp only [tok]; omega))

theorem value_loss : (dats m 0 c).arrAt 3 (cfgs 0).N = single a.loss := by
  refine (dats m 0 c).arrAt_eq_of_covers 3 _ (by decide +kernel) fun t hf y => ?_
  blk_simp
  rw [after0_3]
  refine (carried (fun n h => (outsAt0 m c n h).1) (fun r i => 1 / 2 * a.part r) (loss_first h) (loss_next h) t ((flush0_3 t).mp hf) _).trans ?_
  rw [← Finset.mul_sum]
  rfl
theorem value_dh : (dats m 0 c).arrAt 4 (cfgs 0).N = wide a.dx := by
  refine (dats m 0 c).arrAt_eq_of_covers 4 _ (by decide +kernel) fun t hf y => ?_
  blk_simp
  rw [after0_4]
  refine (point_dh h t _).trans ?_
  refine Eq.trans (b := wide a.dx (ix2 (tok t (y 0)) (y 1))) rfl ?_
  generalize wide a.dx = L
  blk_point [idx_val t]
  all_goals simp only [tok]
theorem value_dhb : (dats m 0 c).arrAt 5 (cfgs 0).N = wideb a.dx := by
  refine (dats m 0 c).arrAt_eq_of_covers 5 _ (by decide +kernel) fun t hf y => ?_
  blk_simp
  rw [after0_5]
  refine (point_dhb h t _).trans ?_
  refine Eq.trans (b := wideb a.dx (ix2 (tok t (y 0)) (y 1))) rfl ?_
  generalize wideb a.dx = L
  blk_point [idx_val t]
  all_goals simp only [tok]
theorem value_dg : (dats m 0 c).arrAt 6 (cfgs 0).N = line a.dg := by
  refine (dats m 0 c).arrAt_eq_of_covers 6 _ (by decide +kernel) fun t hf y => ?_
  blk_simp
  rw [after0_6]
  refine (carried (fun n h => (outsAt0 m c n h).2.2.2) (fun r i => a.x r (i 1) * rstd (a.x r) * a.y r (i 1)) (dg_first h) (dg_next h) t ((flush0_6 t).mp hf) _).trans ?_
  refine Eq.trans (b := line a.dg (ix2 (y 0) (y 1))) rfl ?_
  generalize line a.dg = L
  blk_point [idx_val t]

end

open Cert.LossHeadRefIdeal.Value (REF_loss REF_dh REF_dhb REF_dg loss_eq dh_eq dhb_eq dg_eq)

theorem final_loss (m : (ℓ : Loc nD τ sig) → Buf (Elt Ideal) ℓ) (c : Dev nD) {a : Args} (h : Holds m c a) : (dats m 0 c).arrAt 3 (cfgs 0).N
    = REF_loss (m ((c : Thread nD τ).loc main_arg0)) (m ((c : Thread nD τ).loc main_arg1)) (m ((c : Thread nD τ).loc main_arg2)) := by
  rw [h.1, h.2.1, h.2.2]
  exact (value_loss h).trans (loss_eq a).symm
theorem final_dh (m : (ℓ : Loc nD τ sig) → Buf (Elt Ideal) ℓ) (c : Dev nD) {a : Args} (h : Holds m c a) : (dats m 0 c).arrAt 4 (cfgs 0).N
    = REF_dh (m ((c : Thread nD τ).loc main_arg0)) (m ((c : Thread nD τ).loc main_arg1)) (m ((c : Thread nD τ).loc main_arg2)) := by
  rw [h.1, h.2.1, h.2.2]
  exact (value_dh h).trans (dh_eq a).symm
theorem final_dhb (m : (ℓ : Loc nD τ sig) → Buf (Elt Ideal) ℓ) (c : Dev nD) {a : Args} (h : Holds m c a) : (dats m 0 c).arrAt 5 (cfgs 0).N
    = REF_dhb (m ((c : Thread nD τ).loc main_arg0)) (m ((c : Thread nD τ).loc main_arg1)) (m ((c : Thread nD τ).loc main_arg2)) := by
  rw [h.1, h.2.1, h.2.2]
  exact (value_dhb h).trans (dhb_eq a).symm
theorem final_dg (m : (ℓ : Loc nD τ sig) → Buf (Elt Ideal) ℓ) (c : Dev nD) {a : Args} (h : Holds m c a) : (dats m 0 c).arrAt 6 (cfgs 0).N
    = REF_dg (m ((c : Thread nD τ).loc main_arg0)) (m ((c : Thread nD τ).loc main_arg1)) (m ((c : Thread nD τ).loc main_arg2)) := by
  rw [h.1, h.2.1, h.2.2]
  exact (value_dg h).trans (dg_eq a).symm

end Cert.LossHeadIdeal.Value
end
-- ==== Proof.AdamWValue.lean ====
/- What the optimiser's update leaves in its result arrays. -/
module

public import proofs.«01_k».proof.Proof.Blocks
public import proofs.«01_k».proof.Proof.Sigmoid
public import proofs.«01_k».proof.Proof.Gen.AdamWIdeal.Frame
public import proofs.«01_k».proof.Proof.Gen.AdamWIdeal.Value
public import proofs.«01_k».proof.Proof.Gen.AdamWRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWRefIdeal.Value
open Cert.AdamWRefIdeal Cert.AdamWRefIdeal.Gen

/-- Result delta of the reference as a function of its arguments. -/
def REF_delta (a0 a1 a2 a3 : FVec Ideal S8192x1408 .f32) : FVec Ideal S8192x1408 .f32 :=
  mulf (broadcastInDim S8192x1408 ![] bcast_S_S8192x1408 (constant S_ .f32 0xBA83126F#32)) (addf (Host.divf (Host.divf (addf (mulf (broadcastInDim S8192x1408 ![] bcast_S_S8192x1408 (constant S_ .f32 0x3F666666#32)) a2) (mulf (broadcastInDim S8192x1408 ![] bcast_S_S8192x1408 (constant S_ .f32 0x3DCCCCCD#32)) a1)) (broadcastInDim S8192x1408 ![] bcast_S_S8192x1408 (constant S_ .f32 0x3F26BD02#32))) (addf (Host.sqrt (Host.divf (addf (mulf (broadcastInDim S8192x1408 ![] bcast_S_S8192x1408 (constant S_ .f32 0x3F7FBE77#32)) a3) (mulf (broadcastInDim S8192x1408 ![] bcast_S_S8192x1408 (constant S_ .f32 0x3A83126F#32)) (mulf a1 a1))) (broadcastInDim S8192x1408 ![] bcast_S_S8192x1408 (constant S_ .f32 0x3C231ACC#32)))) (broadcastInDim S8192x1408 ![] bcast_S_S8192x1408 (constant S_ .f32 0x322BCC77#32)))) (mulf (broadcastInDim S8192x1408 ![] bcast_S_S8192x1408 (constant S_ .f32 0x3C23D70A#32)) a0))

/-- The same, as the kernel computes it. -/
def SUM_delta (a0 a1 a2 a3 : FVec Ideal S8192x1408 .f32) : FVec Ideal S8192x1408 .f32 := fun i =>
  Ideal.ofBits .f32 0xBA83126F#32 * (Ideal.div (Ideal.div (Ideal.ofBits .f32 0x3F666666#32 * (show EReal from a2 i) + Ideal.ofBits .f32 0x3DCCCCCD#32 * (show EReal from a1 i)) (Ideal.ofBits .f32 0x3F26BD02#32)) (Ideal.sqrt (Ideal.div (Ideal.ofBits .f32 0x3F7FBE77#32 * (show EReal from a3 i) + Ideal.ofBits .f32 0x3A83126F#32 * ((show EReal from a1 i) * (show EReal from a1 i))) (Ideal.ofBits .f32 0x3C231ACC#32)) + Ideal.ofBits .f32 0x322BCC77#32) + Ideal.ofBits .f32 0x3C23D70A#32 * (show EReal from a0 i))

theorem REF_delta_eq (a0 a1 a2 a3 : FVec Ideal S8192x1408 .f32) : REF_delta a0 a1 a2 a3 = SUM_delta a0 a1 a2 a3 := by
  funext i
  pointwise [REF_delta, SUM_delta]

/-- Result m of the reference as a function of its arguments. -/
def REF_m (a0 a1 a2 a3 : FVec Ideal S8192x1408 .f32) : FVec Ideal S8192x1408 .f32 :=
  (addf (mulf (broadcastInDim S8192x1408 ![] bcast_S_S8192x1408 (constant S_ .f32 0x3F666666#32)) a2) (mulf (broadcastInDim S8192x1408 ![] bcast_S_S8192x1408 (constant S_ .f32 0x3DCCCCCD#32)) a1))

/-- The same, as the kernel computes it. -/
def SUM_m (a0 a1 a2 a3 : FVec Ideal S8192x1408 .f32) : FVec Ideal S8192x1408 .f32 := fun i =>
  (Ideal.ofBits .f32 0x3F666666#32 * (show EReal from a2 i) + Ideal.ofBits .f32 0x3DCCCCCD#32 * (show EReal from a1 i))

theorem REF_m_eq (a0 a1 a2 a3 : FVec Ideal S8192x1408 .f32) : REF_m a0 a1 a2 a3 = SUM_m a0 a1 a2 a3 := by
  funext i
  pointwise [REF_m, SUM_m]

/-- Result v of the reference as a function of its arguments. -/
def REF_v (a0 a1 a2 a3 : FVec Ideal S8192x1408 .f32) : FVec Ideal S8192x1408 .f32 :=
  (addf (mulf (broadcastInDim S8192x1408 ![] bcast_S_S8192x1408 (constant S_ .f32 0x3F7FBE77#32)) a3) (mulf (broadcastInDim S8192x1408 ![] bcast_S_S8192x1408 (constant S_ .f32 0x3A83126F#32)) (mulf a1 a1)))

/-- The same, as the kernel computes it. -/
def SUM_v (a0 a1 a2 a3 : FVec Ideal S8192x1408 .f32) : FVec Ideal S8192x1408 .f32 := fun i =>
  (Ideal.ofBits .f32 0x3F7FBE77#32 * (show EReal from a3 i) + Ideal.ofBits .f32 0x3A83126F#32 * ((show EReal from a1 i) * (show EReal from a1 i)))

theorem REF_v_eq (a0 a1 a2 a3 : FVec Ideal S8192x1408 .f32) : REF_v a0 a1 a2 a3 = SUM_v a0 a1 a2 a3 := by
  funext i
  pointwise [REF_v, SUM_v]

end Cert.AdamWRefIdeal.Value

namespace Cert.AdamWIdeal.Value
open Cert.AdamWIdeal Cert.AdamWIdeal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

open Cert.AdamWRefIdeal.Value (REF_delta SUM_delta REF_delta_eq) in
theorem final_delta (c : Dev nD) : (dats m 0 c).arrAt 4 (cfgs 0).N
    = REF_delta (m ((c : Thread nD τ).loc main_arg0)) (m ((c : Thread nD τ).loc main_arg1)) (m ((c : Thread nD τ).loc main_arg2)) (m ((c : Thread nD τ).loc main_arg3)) := by
  rw [REF_delta_eq]
  refine (dats m 0 c).arrAt_eq_of_covers 4 _ (by decide +kernel) fun t hf y => ?_
  blk_simp
  rw [after0_4]
  frame_out
  all_goals
    pointwise [k0_pay1, k0_pay2, k0_pay3, SUM_delta]
    blk_point [iblk, V, idx_val t]

open Cert.AdamWRefIdeal.Value (REF_m SUM_m REF_m_eq) in
theorem final_m (c : Dev nD) : (dats m 0 c).arrAt 5 (cfgs 0).N
    = REF_m (m ((c : Thread nD τ).loc main_arg0)) (m ((c : Thread nD τ).loc main_arg1)) (m ((c : Thread nD τ).loc main_arg2)) (m ((c : Thread nD τ).loc main_arg3)) := by
  rw [REF_m_eq]
  refine (dats m 0 c).arrAt_eq_of_covers 5 _ (by decide +kernel) fun t hf y => ?_
  blk_simp
  rw [after0_5]
  frame_out
  all_goals
    pointwise [k0_pay1, k0_pay2, k0_pay3, SUM_m]
    blk_point [iblk, V, idx_val t]

open Cert.AdamWRefIdeal.Value (REF_v SUM_v REF_v_eq) in
theorem final_v (c : Dev nD) : (dats m 0 c).arrAt 6 (cfgs 0).N
    = REF_v (m ((c : Thread nD τ).loc main_arg0)) (m ((c : Thread nD τ).loc main_arg1)) (m ((c : Thread nD τ).loc main_arg2)) (m ((c : Thread nD τ).loc main_arg3)) := by
  rw [REF_v_eq]
  refine (dats m 0 c).arrAt_eq_of_covers 6 _ (by decide +kernel) fun t hf y => ?_
  blk_simp
  rw [after0_6]
  frame_out
  all_goals
    pointwise [k0_pay1, k0_pay2, k0_pay3, SUM_v]
    blk_point [iblk, V, idx_val t]

end Cert.AdamWIdeal.Value
end
end
-- ==== Proof.SguSpec.lean ====
/- The gradient of the spatial gating unit over the real numbers: per entry, per row, per chunk of 128 rows of one head. -/
module

public import proofs.«01_k».proof.Proof.Reals

@[expose] public section

noncomputable section

open Cert.Reals
open scoped BigOperators

namespace Cert.Sgu

/-- A row of one head. -/
abbrev Row := Fin 128 → ℝ
/-- A chunk of one head. -/
abbrev Mat := Fin 128 → Fin 128 → ℝ

def th (x : ℝ) : ℝ := Real.tanh (root * (x + 8943 / 200000 * x * x * x))
def gelu (x : ℝ) : ℝ := 1 / 2 * x * (1 + th x)
/-- The derivative of `gelu`. -/
def slope (x : ℝ) : ℝ :=
  1 / 2 * (1 + th x) + 1 / 2 * x * (1 - th x * th x) * root * (1 + 26829 / 200000 * x * x)

def mean (v : Row) : ℝ := (∑ d, v d) / 128
def cen (v : Row) : Row := fun d => v d - mean v
def spread (v : Row) : ℝ := mean fun d => cen v d * cen v d
def rstd (v : Row) : ℝ := (Real.sqrt (spread v + eps))⁻¹
def unit (v : Row) : Row := fun d => cen v d * rstd v
def norm (g b v : Row) : Row := fun d => unit v d * g d + b d
/-- The gradient of the normalisation: `y` what comes back for the normalised row. -/
def normBack (g v y : Row) : Row := fun d =>
  rstd v * (y d * g d - mean (fun e => y e * g e) - unit v d * mean fun e => y e * g e * unit v e)

/-- The lower triangle. -/
def low (w : Mat) : Mat := fun t s => if s ≤ t then w t s else 0
theorem low_of_le (w : Mat) {t s : Fin 128} (h : s.val ≤ t.val) : low w t s = w t s := if_pos (Fin.le_def.mpr h)
theorem low_of_gt (w : Mat) {t s : Fin 128} (h : ¬s.val ≤ t.val) : low w t s = 0 := if_neg fun e => h (Fin.le_def.mp e)
/-- The spatial product. -/
def mix (w x : Mat) (b : Row) : Mat := fun t d => ∑ s, low w t s * x s d + b t
/-- What comes back to the spatial product. -/
def back (u y : Mat) : Mat := fun t d => y t d * gelu (u t d)
/-- What comes back through the spatial product. -/
def mixBack (w y : Mat) : Mat := fun s d => ∑ t, low w t s * y t d

/-- `gelu` of a chunk. -/
abbrev act (z : Mat) : Mat := fun t d => gelu (z t d)

/-- A chunk's part of the six results: of `zu`, of `zv`, of the gain, of the offset, of the weight (not yet masked), of the bias (not yet summed over the row). -/
def duR (w : Mat) (g b c : Row) (zu zv y : Mat) : Mat := fun t d => y t d * mix w (fun s => norm g b (act zv s)) c t d * slope (zu t d)
def dvR (w : Mat) (g : Row) (zu zv y : Mat) : Mat := fun t d => normBack g (act zv t) (mixBack w (back zu y) t) d * slope (zv t d)
def lgR (w zu zv y : Mat) : Row := fun d => ∑ s, mixBack w (back zu y) s d * unit (act zv s) d
def lbR (w zu y : Mat) : Row := fun d => ∑ s, mixBack w (back zu y) s d
def dwR (g b : Row) (zu zv y : Mat) : Mat := fun t s => ∑ d, back zu y t d * norm g b (act zv s) d

/-- A tile of 1024 rows of one head, and its eight chunks. -/
abbrev Full := Fin 1024 → Fin 128 → ℝ
def part (k : Fin 8) (f : Full) : Mat := fun s d => f ⟨128 * k.val + s.val, by omega⟩ d
def joined (f : Fin 8 → Mat) : Full := fun r d => f ⟨r.val / 128, by omega⟩ ⟨r.val % 128, by omega⟩ d

/-- The six arguments as real arrays. -/
structure Args where
  z : Fin 4096 → Fin 4096 → ℝ
  y : Fin 4096 → Fin 2048 → ℝ
  g : Fin 4 → Row
  b : Fin 4 → Row
  w : Fin 4 → Mat
  c : Fin 4 → Row

/-- Chunk `n` of head `h`. -/
def Args.zu (a : Args) (h : Fin 4) (n : Fin 32) : Mat := fun s d => a.z ⟨n.val * 128 + s.val, by omega⟩ ⟨h.val * 128 + d.val, by omega⟩
def Args.zv (a : Args) (h : Fin 4) (n : Fin 32) : Mat := fun s d => a.z ⟨n.val * 128 + s.val, by omega⟩ ⟨512 + h.val * 128 + d.val, by omega⟩
def Args.yc (a : Args) (h : Fin 4) (n : Fin 32) : Mat := fun s d => a.y ⟨n.val * 128 + s.val, by omega⟩ ⟨h.val * 128 + d.val, by omega⟩

/-- The six results. -/
def Args.du (a : Args) (h : Fin 4) (n : Fin 32) : Mat := duR (a.w h) (a.g h) (a.b h) (a.c h) (a.zu h n) (a.zv h n) (a.yc h n)
def Args.dv (a : Args) (h : Fin 4) (n : Fin 32) : Mat := dvR (a.w h) (a.g h) (a.zu h n) (a.zv h n) (a.yc h n)
def Args.dg (a : Args) (h : Fin 4) : Row := fun d => ∑ n, lgR (a.w h) (a.zu h n) (a.zv h n) (a.yc h n) d
def Args.db (a : Args) (h : Fin 4) : Row := fun d => ∑ n, lbR (a.w h) (a.zu h n) (a.yc h n) d
def Args.dw (a : Args) (h : Fin 4) : Mat := low fun t s => ∑ n, dwR (a.g h) (a.b h) (a.zu h n) (a.zv h n) (a.yc h n) t s
def Args.dc (a : Args) (h : Fin 4) : Row := fun t => ∑ n, ∑ d, back (a.zu h n) (a.yc h n) t d

theorem spread_nonneg (v : Row) : 0 ≤ spread v := by
  unfold spread mean
  exact div_nonneg (Finset.sum_nonneg fun d _ => mul_self_nonneg _) (by norm_num)

theorem root_pos (v : Row) : 0 < spread v + eps := by
  have := spread_nonneg v; have := eps_pos; linarith

end Cert.Sgu

end
-- ==== Proof.SguChunk.lean ====
/- What the kernel computes of one chunk of 128 rows of one head, at real arguments. -/
module

public import Idealize.ShloMosaic.Lib.WordCmp
public import proofs.«01_k».proof.Proof.SguSpec
public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem

namespace Cert.KernelIdeal.Value
open Cert.KernelIdeal Cert.KernelIdeal.Gen Cert.Reals Cert.Sgu

theorem c_coe : Named.named (F := Ideal) κ "gelu_c" (φ := .f32) 0x3D372713#32 = ((8943 / 200000 : ℝ) : EReal) := by
  rw [IdealRules.named_const.ideal_named_scalar _ _ _ _ rfl]

theorem c3_coe : Named.named (F := Ideal) κ "gelu_3c" (φ := .f32) 0x3E095D4F#32 = ((26829 / 200000 : ℝ) : EReal) := by
  rw [IdealRules.named_const.ideal_named_scalar _ _ _ _ rfl]

/-- A real chunk as an array, of single and of half precision. -/
def mat (f : Mat) : FVec Ideal S128x128 .f32 := fun i => ((f (i 0) (i 1) : ℝ) : EReal)
def matb (f : Mat) : FVec Ideal S128x128 .bf16 := fun i => ((f (i 0) (i 1) : ℝ) : EReal)
/-- The arrays of one head's gain or offset, bias and weight, of a column and of a row. -/
def gain (g : Row) : FVec Ideal S1x1x128 .f32 := fun i => ((g (i 2) : ℝ) : EReal)
def bias (b : Row) : FVec Ideal S1x128x1 .f32 := fun i => ((b (i 1) : ℝ) : EReal)
def weight (w : Mat) : FVec Ideal S1x128x128 .f32 := fun i => ((w (i 1) (i 2) : ℝ) : EReal)
def colv (v : Row) : FVec Ideal S128x1 .f32 := fun i => ((v (i 0) : ℝ) : EReal)
def rowv (v : Row) : FVec Ideal S1x128 .f32 := fun i => ((v (i 1) : ℝ) : EReal)

theorem pay13 (z : Mat) : k0_pay13 (F := Ideal) (mat z) = mat (act z) := by
  funext i
  pointwise [k0_pay13, mat, c_coe]
  simp only [half_coe, root_coe, one_coe, Ideal.tanh_coe, ← EReal.coe_mul, ← EReal.coe_add]
  rfl

theorem pay14 (z : Mat) : k0_pay14 (F := Ideal) (mat z)
    = mat fun t d => root * (z t d + 8943 / 200000 * z t d * z t d * z t d) := by
  funext i
  pointwise [k0_pay14, mat, c_coe]
  simp only [root_coe, ← EReal.coe_mul, ← EReal.coe_add]

theorem pay15 (z : Mat) : k0_pay15 (F := Ideal) (mat z) (k0_pay14 (mat z)) = mat fun t => cen (act z t) := by
  rw [pay14]
  funext i
  pointwise [k0_pay15, mat]
  simp only [half_coe, root_coe, one_coe, w128_coe, Ideal.tanh_coe, ← EReal.coe_mul, ← EReal.coe_add, coe_sum,
    div_coe _ (by norm_num : (128 : ℝ) ≠ 0), ← EReal.coe_sub]
  rfl

theorem pay16 (z : Mat) : k0_pay16 (F := Ideal) (mat z) (k0_pay14 (mat z)) = colv fun t => rstd (act z t) := by
  funext i
  pointwise [k0_pay16, pay15, mat, colv]
  simp only [w128_coe, eps_coe, ← EReal.coe_mul, ← EReal.coe_add, coe_sum, div_coe _ (by norm_num : (128 : ℝ) ≠ 0)]
  rw [show ((∑ x, cen (act z (i 0)) x * cen (act z (i 0)) x) / 128 + eps : ℝ) = spread (act z (i 0)) + eps from rfl,
    rsqrt_coe (root_pos _)]
  rfl

theorem pay17 (z : Mat) : k0_pay17 (F := Ideal) (mat z) (k0_pay14 (mat z)) = mat fun t => unit (act z t) := by
  funext i
  pointwise [k0_pay17, pay15, pay16, mat, colv]
  simp only [← EReal.coe_mul]
  rfl

theorem pay18 (z : Mat) (g b : Row) : k0_pay18 (F := Ideal) (mat z) (k0_pay14 (mat z)) (gain g) (gain b)
    = matb fun t => norm g b (act z t) := by
  funext i
  pointwise [k0_pay18, pay17, mat, matb, gain]
  simp only [← EReal.coe_mul, ← EReal.coe_add]
  rfl

/-- The masked weight. -/
theorem pay4 (w : Mat) : k0_pay4 (F := Ideal) (weight w) = matb (low w) := by
  funext i
  pointwise [k0_pay4, k0_pay3, matb, weight]
  rw [WordCmp.cmpi_sge_ofNat (by have : (i 0).val < 128 := (i 0).isLt; omega) (by have : (i 1).val < 128 := (i 1).isLt; omega)]
  by_cases h : (i 1).val ≤ (i 0).val
  · have e := low_of_le w (t := i 0) (s := i 1) h; rw [e]; simp [h, Scalar.select]
  · have e := low_of_gt w (t := i 0) (s := i 1) h; rw [e]; simp [h, Scalar.select]

theorem pay20 (w zv y : Mat) (g b c : Row) :
    k0_pay20 (F := Ideal) (matb (low w)) (mat zv) (k0_pay14 (mat zv)) (gain g) (gain b) (bias c) (matb y)
      = mat fun t d => y t d * mix w (fun s => norm g b (act zv s)) c t d := by
  funext i
  pointwise [k0_pay20, k0_pay19, pay18, mat, matb, bias]
  simp only [← EReal.coe_mul, ← EReal.coe_add, coe_sum]
  rfl

theorem pay21 (zu y : Mat) : k0_pay21 (F := Ideal) (mat (act zu)) (matb y) = mat (back zu y) := by
  funext i
  pointwise [k0_pay21, k0_pay19, mat, matb]
  simp only [← EReal.coe_mul]
  rfl

theorem pay23 (w y : Mat) : k0_pay23 (F := Ideal) (matb (low w)) (mat y) = mat (mixBack w y) := by
  funext i
  pointwise [k0_pay23, k0_pay22, mat, matb]
  simp only [← EReal.coe_mul, ← EReal.coe_add, coe_sum]
  rfl

theorem pay24 (a x y : Mat) : k0_pay24 (F := Ideal) (mat a) (matb x) (mat y)
    = mat fun t s => a t s + ∑ d, y t d * x s d := by
  funext i
  pointwise [k0_pay24, k0_pay22, mat, matb]
  simp only [← EReal.coe_mul, ← EReal.coe_add, coe_sum]

theorem pay25 (a y : Mat) : k0_pay25 (F := Ideal) (mat a) (mat y) = mat fun t s => a t s + y t s := by
  funext i
  pointwise [k0_pay25, mat]
  simp only [← EReal.coe_add]

theorem pay26 (w x y : Mat) (a : Row) : k0_pay26 (F := Ideal) (matb (low w)) (rowv a) (mat x) (mat y)
    = rowv fun d => a d + ∑ s, mixBack w y s d * x s d := by
  funext i
  pointwise [k0_pay26, pay23, mat, rowv]
  simp only [← EReal.coe_mul, ← EReal.coe_add, coe_sum]

theorem pay27 (w y : Mat) (a : Row) : k0_pay27 (F := Ideal) (matb (low w)) (rowv a) (mat y)
    = rowv fun d => a d + ∑ s, mixBack w y s d := by
  funext i
  pointwise [k0_pay27, pay23, mat, rowv]
  simp only [← EReal.coe_mul, ← EReal.coe_add, coe_sum]

theorem pay28 (w z y : Mat) (g : Row) :
    k0_pay28 (F := Ideal) (matb (low w)) (colv fun t => rstd (act z t)) (mat fun t => unit (act z t)) (mat y) (gain g)
      = mat fun t => normBack g (act z t) (mixBack w y t) := by
  funext i
  pointwise [k0_pay28, pay23, mat, colv, gain]
  simp only [w128_coe, ← EReal.coe_mul, ← EReal.coe_add, coe_sum, div_coe _ (by norm_num : (128 : ℝ) ≠ 0), ← EReal.coe_sub]
  rfl

theorem pay29 (z : Mat) : k0_pay29 (F := Ideal) (mat z) = mat fun t d => th (z t d) := by
  funext i
  pointwise [k0_pay29, mat, c_coe]
  simp only [root_coe, Ideal.tanh_coe, ← EReal.coe_mul, ← EReal.coe_add]
  rfl

theorem pay30 (z : Mat) : k0_pay30 (F := Ideal) (mat z) = mat fun t d => 1 / 2 * (1 + th (z t d)) := by
  funext i
  pointwise [k0_pay30, pay29, mat]
  simp only [half_coe, one_coe, ← EReal.coe_mul, ← EReal.coe_add]

theorem pay31 (z x : Mat) : k0_pay31 (F := Ideal) (mat z) (mat x) (mat fun t d => th (z t d))
      (mat fun t d => 1 / 2 * (1 + th (z t d))) (Scalar.ofBits .f32 0x3F000000#32)
    = matb fun t d => x t d * slope (z t d) := by
  funext i
  pointwise [k0_pay31, mat, matb, c3_coe]
  simp only [half_coe, one_coe, root_coe, ← EReal.coe_mul, ← EReal.coe_add, ← EReal.coe_sub]
  rfl

theorem pay32 (z : Mat) : k0_pay32 (F := Ideal) (mat z) = mat fun t d => th (z t d) := pay29 z
theorem pay33 (z : Mat) : k0_pay33 (F := Ideal) (mat z) = mat fun t d => 1 / 2 * (1 + th (z t d)) := pay30 z

theorem pay34 (z : Mat) : k0_pay34 (F := Ideal) (mat z)
    = mat fun t d => 1 / 2 * z t d * (1 - th (z t d) * th (z t d)) * root * (1 + 26829 / 200000 * z t d * z t d) := by
  funext i
  pointwise [k0_pay34, pay32, mat, c3_coe]
  simp only [half_coe, one_coe, root_coe, ← EReal.coe_mul, ← EReal.coe_add, ← EReal.coe_sub]

theorem pay35 (x : Mat) (z : Mat) : k0_pay35 (F := Ideal) (mat x) (mat fun t d => 1 / 2 * (1 + th (z t d)))
      (mat fun t d => 1 / 2 * z t d * (1 - th (z t d) * th (z t d)) * root * (1 + 26829 / 200000 * z t d * z t d))
    = matb fun t d => x t d * slope (z t d) := by
  funext i
  pointwise [k0_pay35, mat, matb]
  simp only [← EReal.coe_mul, ← EReal.coe_add]
  rfl

/-- What the kernel computes of a chunk for each result. -/
def duC (w : FVec Ideal S1x128x128 .f32) (lg lb : FVec Ideal S1x1x128 .f32) (b : FVec Ideal S1x128x1 .f32)
    (zu zv : FVec Ideal S128x128 .f32) (y : FVec Ideal S128x128 .bf16) : FVec Ideal S128x128 .bf16 :=
  k0_pay31 zu (k0_pay20 (k0_pay4 w) zv (k0_pay14 zv) lg lb b y) (k0_pay29 zu) (k0_pay30 zu) (Scalar.ofBits .f32 0x3F000000#32)
def dvC (w : FVec Ideal S1x128x128 .f32) (lg : FVec Ideal S1x1x128 .f32)
    (zu zv : FVec Ideal S128x128 .f32) (y : FVec Ideal S128x128 .bf16) : FVec Ideal S128x128 .bf16 :=
  k0_pay35 (k0_pay28 (k0_pay4 w) (k0_pay16 zv (k0_pay14 zv)) (k0_pay17 zv (k0_pay14 zv)) (k0_pay21 (k0_pay13 zu) y) lg)
    (k0_pay33 zv) (k0_pay34 zv)
def lgC (w : FVec Ideal S1x128x128 .f32) (a : FVec Ideal S1x128 .f32)
    (zu zv : FVec Ideal S128x128 .f32) (y : FVec Ideal S128x128 .bf16) : FVec Ideal S1x128 .f32 :=
  k0_pay26 (k0_pay4 w) a (k0_pay17 zv (k0_pay14 zv)) (k0_pay21 (k0_pay13 zu) y)
def lbC (w : FVec Ideal S1x128x128 .f32) (a : FVec Ideal S1x128 .f32)
    (zu : FVec Ideal S128x128 .f32) (y : FVec Ideal S128x128 .bf16) : FVec Ideal S1x128 .f32 :=
  k0_pay27 (k0_pay4 w) a (k0_pay21 (k0_pay13 zu) y)
def dwC (lg lb : FVec Ideal S1x1x128 .f32) (a : FVec Ideal S128x128 .f32)
    (zu zv : FVec Ideal S128x128 .f32) (y : FVec Ideal S128x128 .bf16) : FVec Ideal S128x128 .f32 :=
  k0_pay24 a (k0_pay18 zv (k0_pay14 zv) lg lb) (k0_pay21 (k0_pay13 zu) y)
def spC (a : FVec Ideal S128x128 .f32) (zu : FVec Ideal S128x128 .f32) (y : FVec Ideal S128x128 .bf16) : FVec Ideal S128x128 .f32 :=
  k0_pay25 a (k0_pay21 (k0_pay13 zu) y)

section
variable (w : Mat) (lg lb b : Row) (zu zv y : Mat) (a : Row) (x : Mat)

theorem duC_eq : duC (weight w) (gain lg) (gain lb) (bias b) (mat zu) (mat zv) (matb y) = matb (duR w lg lb b zu zv y) := by
  rw [duC, pay4, pay20, pay29, pay30, pay31]; rfl
theorem dvC_eq : dvC (weight w) (gain lg) (mat zu) (mat zv) (matb y) = matb (dvR w lg zu zv y) := by
  rw [dvC, pay4, pay16, pay17, pay13, pay21 zu, pay28, pay33, pay34, pay35]; rfl
theorem lgC_eq : lgC (weight w) (rowv a) (mat zu) (mat zv) (matb y) = rowv fun d => a d + lgR w zu zv y d := by
  rw [lgC, pay4, pay17, pay13, pay21 zu, pay26]; rfl
theorem lbC_eq : lbC (weight w) (rowv a) (mat zu) (matb y) = rowv fun d => a d + lbR w zu y d := by
  rw [lbC, pay4, pay13, pay21 zu, pay27]; rfl
theorem dwC_eq : dwC (gain lg) (gain lb) (mat x) (mat zu) (mat zv) (matb y) = mat fun t s => x t s + dwR lg lb zu zv y t s := by
  rw [dwC, pay18, pay13, pay21 zu, pay24]; rfl
theorem spC_eq : spC (mat x) (mat zu) (matb y) = mat fun t s => x t s + back zu y t s := by
  rw [spC, pay13, pay21 zu, pay25]
end

theorem pay9 : k0_pay9 (F := Ideal) = rowv fun _ => 0 := by
  funext i; pointwise [k0_pay9, rowv]; simp
theorem pay10 : k0_pay10 (F := Ideal) = rowv fun _ => 0 := by
  funext i; pointwise [k0_pay10, rowv]; simp
theorem pay11 : k0_pay11 (F := Ideal) = mat fun _ _ => 0 := by
  funext i; pointwise [k0_pay11, mat]; simp
theorem pay12 : k0_pay12 (F := Ideal) = mat fun _ _ => 0 := by
  funext i; pointwise [k0_pay12, mat]; simp
theorem pay5 (i) : k0_pay5 (F := Ideal) i = (0 : EReal) := by pointwise [k0_pay5]
theorem pay6 (i) : k0_pay6 (F := Ideal) i = (0 : EReal) := by pointwise [k0_pay6]
theorem pay7 (i) : k0_pay7 (F := Ideal) i = (0 : EReal) := by pointwise [k0_pay7]
theorem pay8 (i) : k0_pay8 (F := Ideal) i = (0 : EReal) := by pointwise [k0_pay8]

/-- What a point adds to the four sums it carries. -/
theorem pay189 (r : Row) (p) (i) : k0_pay189 (F := Ideal) (rowv r) p i = (show EReal from p i) + ((r (i 2) : ℝ) : EReal) := by
  pointwise [k0_pay189, rowv]
theorem pay191 (r : Row) (p) (i) : k0_pay191 (F := Ideal) (k0_pay190 (rowv r) p) i = (show EReal from p i) + ((r (i 2) : ℝ) : EReal) := by
  pointwise [k0_pay191, k0_pay190, rowv]
theorem pay192 (x : Mat) (p) (i) : k0_pay192 (F := Ideal) k0_pay3 (mat x) p i = (show EReal from p i) + ((low x (i 1) (i 2) : ℝ) : EReal) := by
  pointwise [k0_pay192, k0_pay3, mat]
  rw [WordCmp.cmpi_sge_ofNat (by have : (i 1).val < 128 := (i 1).isLt; omega) (by have : (i 2).val < 128 := (i 2).isLt; omega)]
  by_cases h : (i 2).val ≤ (i 1).val
  · have e := low_of_le x (t := i 1) (s := i 2) h; rw [e]; simp [h, Scalar.select]
  · have e := low_of_gt x (t := i 1) (s := i 2) h; rw [e]; simp [h, Scalar.select]
theorem pay193 (x : Mat) (p) (i) : k0_pay1 (F := Ideal) (k0_pay193 (mat x) p) i = (show EReal from p i) + ((x (i 0) (i 1) : ℝ) : EReal) := by
  pointwise [k0_pay1, k0_pay193, mat]
theorem pay2 (p) (i) : k0_pay2 (F := Ideal) p i = ∑ d : Fin 128, (show EReal from p (ix2 (i 1) d)) := by
  pointwise [k0_pay2]

def tile (f : Full) : FVec Ideal S1024x128 .f32 := fun i => ((f (i 0) (i 1) : ℝ) : EReal)
def tileb (f : Full) : FVec Ideal S1024x128 .bf16 := fun i => ((f (i 0) (i 1) : ℝ) : EReal)

theorem joined_at (f : Fin 8 → Mat) (k : Fin 8) (x : S128x128.Idx) (z : S1024x128.Idx) (h0 : (z 0).val = 128 * k.val + (x 0).val)
    (h1 : (z 1).val = (x 1).val) : tileb (joined f) z = matb (f k) x := by
  have hx : (x 0).val < 128 := (x 0).isLt
  have e0 : (⟨(z 0).val / 128, by have : (z 0).val < 1024 := (z 0).isLt; omega⟩ : Fin 8) = k := Fin.ext (by simp only; omega)
  have e1 : (⟨(z 0).val % 128, by omega⟩ : Fin 128) = x 0 := Fin.ext (by simp only; omega)
  have e2 : (z 1 : Fin 128) = x 1 := Fin.ext h1
  show ((f ⟨(z 0).val / 128, _⟩ ⟨(z 0).val % 128, _⟩ (z 1) : ℝ) : EReal) = ((f k (x 0) (x 1) : ℝ) : EReal)
  rw [e0, e1, e2]

end Cert.KernelIdeal.Value
end
-- ==== Proof.SguPoint.lean ====
/- What one grid point leaves in the blocks of its two first results, at real arguments. -/
module

public import proofs.«01_k».proof.Proof.SguChunk
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Reals Cert.Sgu

variable (m : (ℓ : Loc nD τ sig) → Buf (Elt Ideal) ℓ)

theorem point_du (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) :
    (outsAt0 m c t.val t.isLt).1 = tileb (joined fun k => duR w lg lb b (part k zu) (part k zv) (part k y)) := by
  by_cases c0 : t.val % 4 = 0 <;> by_cases c1 : t.val % 4 = 3
  · omega
  all_goals
    first | rw [outsAt0_A m c t c0 c1] | rw [outsAt0_B m c t c0 c1] | rw [outsAt0_C m c t c0 c1]
    frame_out
    rw [e3, e4, e5, e6]
    funext x
    canon_tiles x h
    · have hz' : View.ld (iblk m c 0 t) (Rect.unit ![896, 0] ![128, 128] inb_S1024x128_S128x128_896_0) = mat (part 7 zu) := by
        rw [e0]; funext i; pointwise [tile, mat, part]
      generalize View.ld (iblk m c 0 t) (Rect.unit ![896, 0] ![128, 128] inb_S1024x128_S128x128_896_0) = z' at hz' ⊢
      have hv' : View.ld (iblk m c 1 t) (Rect.unit ![896, 0] ![128, 128] inb_S1024x128_S128x128_896_0) = mat (part 7 zv) := by
        rw [e1]; funext i; pointwise [tile, mat, part]
      generalize View.ld (iblk m c 1 t) (Rect.unit ![896, 0] ![128, 128] inb_S1024x128_S128x128_896_0) = v' at hv' ⊢
      have hx' : View.ld (iblk m c 2 t) (Rect.unit ![896, 0] ![128, 128] inb_S1024x128_S128x128_896_0) = matb (part 7 y) := by
        rw [e2]; funext i; pointwise [tileb, matb, part]
      generalize View.ld (iblk m c 2 t) (Rect.unit ![896, 0] ![128, 128] inb_S1024x128_S128x128_896_0) = x' at hx' ⊢
      refine Eq.trans (b := duC (weight w) (gain lg) (gain lb) (bias b) z' v' x' x) (by sl_kernel_rfl) ?_
      rw [joined_at _ 7 x _ h0 h1, hz', hv', hx', duC_eq]
    · have hz' : View.ld (iblk m c 0 t) (Rect.unit ![768, 0] ![128, 128] inb_S1024x128_S128x128_768_0) = mat (part 6 zu) := by
        rw [e0]; funext i; pointwise [tile, mat, part]
      generalize View.ld (iblk m c 0 t) (Rect.unit ![768, 0] ![128, 128] inb_S1024x128_S128x128_768_0) = z' at hz' ⊢
      have hv' : View.ld (iblk m c 1 t) (Rect.unit ![768, 0] ![128, 128] inb_S1024x128_S128x128_768_0) = mat (part 6 zv) := by
        rw [e1]; funext i; pointwise [tile, mat, part]
      generalize View.ld (iblk m c 1 t) (Rect.unit ![768, 0] ![128, 128] inb_S1024x128_S128x128_768_0) = v' at hv' ⊢
      have hx' : View.ld (iblk m c 2 t) (Rect.unit ![768, 0] ![128, 128] inb_S1024x128_S128x128_768_0) = matb (part 6 y) := by
        rw [e2]; funext i; pointwise [tileb, matb, part]
      generalize View.ld (iblk m c 2 t) (Rect.unit ![768, 0] ![128, 128] inb_S1024x128_S128x128_768_0) = x' at hx' ⊢
      refine Eq.trans (b := duC (weight w) (gain lg) (gain lb) (bias b) z' v' x' x) (by sl_kernel_rfl) ?_
      rw [joined_at _ 6 x _ h0 h1, hz', hv', hx', duC_eq]
    · have hz' : View.ld (iblk m c 0 t) (Rect.unit ![640, 0] ![128, 128] inb_S1024x128_S128x128_640_0) = mat (part 5 zu) := by
        rw [e0]; funext i; pointwise [tile, mat, part]
      generalize View.ld (iblk m c 0 t) (Rect.unit ![640, 0] ![128, 128] inb_S1024x128_S128x128_640_0) = z' at hz' ⊢
      have hv' : View.ld (iblk m c 1 t) (Rect.unit ![640, 0] ![128, 128] inb_S1024x128_S128x128_640_0) = mat (part 5 zv) := by
        rw [e1]; funext i; pointwise [tile, mat, part]
      generalize View.ld (iblk m c 1 t) (Rect.unit ![640, 0] ![128, 128] inb_S1024x128_S128x128_640_0) = v' at hv' ⊢
      have hx' : View.ld (iblk m c 2 t) (Rect.unit ![640, 0] ![128, 128] inb_S1024x128_S128x128_640_0) = matb (part 5 y) := by
        rw [e2]; funext i; pointwise [tileb, matb, part]
      generalize View.ld (iblk m c 2 t) (Rect.unit ![640, 0] ![128, 128] inb_S1024x128_S128x128_640_0) = x' at hx' ⊢
      refine Eq.trans (b := duC (weight w) (gain lg) (gain lb) (bias b) z' v' x' x) (by sl_kernel_rfl) ?_
      rw [joined_at _ 5 x _ h0 h1, hz', hv', hx', duC_eq]
    · have hz' : View.ld (iblk m c 0 t) (Rect.unit ![512, 0] ![128, 128] inb_S1024x128_S128x128_512_0) = mat (part 4 zu) := by
        rw [e0]; funext i; pointwise [tile, mat, part]
      generalize View.ld (iblk m c 0 t) (Rect.unit ![512, 0] ![128, 128] inb_S1024x128_S128x128_512_0) = z' at hz' ⊢
      have hv' : View.ld (iblk m c 1 t) (Rect.unit ![512, 0] ![128, 128] inb_S1024x128_S128x128_512_0) = mat (part 4 zv) := by
        rw [e1]; funext i; pointwise [tile, mat, part]
      generalize View.ld (iblk m c 1 t) (Rect.unit ![512, 0] ![128, 128] inb_S1024x128_S128x128_512_0) = v' at hv' ⊢
      have hx' : View.ld (iblk m c 2 t) (Rect.unit ![512, 0] ![128, 128] inb_S1024x128_S128x128_512_0) = matb (part 4 y) := by
        rw [e2]; funext i; pointwise [tileb, matb, part]
      generalize View.ld (iblk m c 2 t) (Rect.unit ![512, 0] ![128, 128] inb_S1024x128_S128x128_512_0) = x' at hx' ⊢
      refine Eq.trans (b := duC (weight w) (gain lg) (gain lb) (bias b) z' v' x' x) (by sl_kernel_rfl) ?_
      rw [joined_at _ 4 x _ h0 h1, hz', hv', hx', duC_eq]
    · have hz' : View.ld (iblk m c 0 t) (Rect.unit ![384, 0] ![128, 128] inb_S1024x128_S128x128_384_0) = mat (part 3 zu) := by
        rw [e0]; funext i; pointwise [tile, mat, part]
      generalize View.ld (iblk m c 0 t) (Rect.unit ![384, 0] ![128, 128] inb_S1024x128_S128x128_384_0) = z' at hz' ⊢
      have hv' : View.ld (iblk m c 1 t) (Rect.unit ![384, 0] ![128, 128] inb_S1024x128_S128x128_384_0) = mat (part 3 zv) := by
        rw [e1]; funext i; pointwise [tile, mat, part]
      generalize View.ld (iblk m c 1 t) (Rect.unit ![384, 0] ![128, 128] inb_S1024x128_S128x128_384_0) = v' at hv' ⊢
      have hx' : View.ld (iblk m c 2 t) (Rect.unit ![384, 0] ![128, 128] inb_S1024x128_S128x128_384_0) = matb (part 3 y) := by
        rw [e2]; funext i; pointwise [tileb, matb, part]
      generalize View.ld (iblk m c 2 t) (Rect.unit ![384, 0] ![128, 128] inb_S1024x128_S128x128_384_0) = x' at hx' ⊢
      refine Eq.trans (b := duC (weight w) (gain lg) (gain lb) (bias b) z' v' x' x) (by sl_kernel_rfl) ?_
      rw [joined_at _ 3 x _ h0 h1, hz', hv', hx', duC_eq]
    · have hz' : View.ld (iblk m c 0 t) (Rect.unit ![256, 0] ![128, 128] inb_S1024x128_S128x128_256_0) = mat (part 2 zu) := by
        rw [e0]; funext i; pointwise [tile, mat, part]
      generalize View.ld (iblk m c 0 t) (Rect.unit ![256, 0] ![128, 128] inb_S1024x128_S128x128_256_0) = z' at hz' ⊢
      have hv' : View.ld (iblk m c 1 t) (Rect.unit ![256, 0] ![128, 128] inb_S1024x128_S128x128_256_0) = mat (part 2 zv) := by
        rw [e1]; funext i; pointwise [tile, mat, part]
      generalize View.ld (iblk m c 1 t) (Rect.unit ![256, 0] ![128, 128] inb_S1024x128_S128x128_256_0) = v' at hv' ⊢
      have hx' : View.ld (iblk m c 2 t) (Rect.unit ![256, 0] ![128, 128] inb_S1024x128_S128x128_256_0) = matb (part 2 y) := by
        rw [e2]; funext i; pointwise [tileb, matb, part]
      generalize View.ld (iblk m c 2 t) (Rect.unit ![256, 0] ![128, 128] inb_S1024x128_S128x128_256_0) = x' at hx' ⊢
      refine Eq.trans (b := duC (weight w) (gain lg) (gain lb) (bias b) z' v' x' x) (by sl_kernel_rfl) ?_
      rw [joined_at _ 2 x _ h0 h1, hz', hv', hx', duC_eq]
    · have hz' : View.ld (iblk m c 0 t) (Rect.unit ![128, 0] ![128, 128] inb_S1024x128_S128x128_128_0) = mat (part 1 zu) := by
        rw [e0]; funext i; pointwise [tile, mat, part]
      generalize View.ld (iblk m c 0 t) (Rect.unit ![128, 0] ![128, 128] inb_S1024x128_S128x128_128_0) = z' at hz' ⊢
      have hv' : View.ld (iblk m c 1 t) (Rect.unit ![128, 0] ![128, 128] inb_S1024x128_S128x128_128_0) = mat (part 1 zv) := by
        rw [e1]; funext i; pointwise [tile, mat, part]
      generalize View.ld (iblk m c 1 t) (Rect.unit ![128, 0] ![128, 128] inb_S1024x128_S128x128_128_0) = v' at hv' ⊢
      have hx' : View.ld (iblk m c 2 t) (Rect.unit ![128, 0] ![128, 128] inb_S1024x128_S128x128_128_0) = matb (part 1 y) := by
        rw [e2]; funext i; pointwise [tileb, matb, part]
      generalize View.ld (iblk m c 2 t) (Rect.unit ![128, 0] ![128, 128] inb_S1024x128_S128x128_128_0) = x' at hx' ⊢
      refine Eq.trans (b := duC (weight w) (gain lg) (gain lb) (bias b) z' v' x' x) (by sl_kernel_rfl) ?_
      rw [joined_at _ 1 x _ h0 h1, hz', hv', hx', duC_eq]
    · have hz' : View.ld (iblk m c 0 t) (Rect.unit ![0, 0] ![128, 128] inb_S1024x128_S128x128_0_0) = mat (part 0 zu) := by
        rw [e0]; funext i; pointwise [tile, mat, part]
      generalize View.ld (iblk m c 0 t) (Rect.unit ![0, 0] ![128, 128] inb_S1024x128_S128x128_0_0) = z' at hz' ⊢
      have hv' : View.ld (iblk m c 1 t) (Rect.unit ![0, 0] ![128, 128] inb_S1024x128_S128x128_0_0) = mat (part 0 zv) := by
        rw [e1]; funext i; pointwise [tile, mat, part]
      generalize View.ld (iblk m c 1 t) (Rect.unit ![0, 0] ![128, 128] inb_S1024x128_S128x128_0_0) = v' at hv' ⊢
      have hx' : View.ld (iblk m c 2 t) (Rect.unit ![0, 0] ![128, 128] inb_S1024x128_S128x128_0_0) = matb (part 0 y) := by
        rw [e2]; funext i; pointwise [tileb, matb, part]
      generalize View.ld (iblk m c 2 t) (Rect.unit ![0, 0] ![128, 128] inb_S1024x128_S128x128_0_0) = x' at hx' ⊢
      refine Eq.trans (b := duC (weight w) (gain lg) (gain lb) (bias b) z' v' x' x) (by sl_kernel_rfl) ?_
      rw [joined_at _ 0 x _ (h0.trans (Nat.zero_add _).symm) h1, hz', hv', hx', duC_eq]
theorem point_dv (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) :
    (outsAt0 m c t.val t.isLt).2.1 = tileb (joined fun k => dvR w lg (part k zu) (part k zv) (part k y)) := by
  by_cases c0 : t.val % 4 = 0 <;> by_cases c1 : t.val % 4 = 3
  · omega
  all_goals
    first | rw [outsAt0_A m c t c0 c1] | rw [outsAt0_B m c t c0 c1] | rw [outsAt0_C m c t c0 c1]
    frame_out
    rw [e3, e5]
    funext x
    canon_tiles x h
    · have hz' : View.ld (iblk m c 0 t) (Rect.unit ![896, 0] ![128, 128] inb_S1024x128_S128x128_896_0) = mat (part 7 zu) := by
        rw [e0]; funext i; pointwise [tile, mat, part]
      generalize View.ld (iblk m c 0 t) (Rect.unit ![896, 0] ![128, 128] inb_S1024x128_S128x128_896_0) = z' at hz' ⊢
      have hv' : View.ld (iblk m c 1 t) (Rect.unit ![896, 0] ![128, 128] inb_S1024x128_S128x128_896_0) = mat (part 7 zv) := by
        rw [e1]; funext i; pointwise [tile, mat, part]
      generalize View.ld (iblk m c 1 t) (Rect.unit ![896, 0] ![128, 128] inb_S1024x128_S128x128_896_0) = v' at hv' ⊢
      have hx' : View.ld (iblk m c 2 t) (Rect.unit ![896, 0] ![128, 128] inb_S1024x128_S128x128_896_0) = matb (part 7 y) := by
        rw [e2]; funext i; pointwise [tileb, matb, part]
      generalize View.ld (iblk m c 2 t) (Rect.unit ![896, 0] ![128, 128] inb_S1024x128_S128x128_896_0) = x' at hx' ⊢
      refine Eq.trans (b := dvC (weight w) (gain lg) z' v' x' x) (by sl_kernel_rfl) ?_
      rw [joined_at _ 7 x _ h0 h1, hz', hv', hx', dvC_eq]
    · have hz' : View.ld (iblk m c 0 t) (Rect.unit ![768, 0] ![128, 128] inb_S1024x128_S128x128_768_0) = mat (part 6 zu) := by
        rw [e0]; funext i; pointwise [tile, mat, part]
      generalize View.ld (iblk m c 0 t) (Rect.unit ![768, 0] ![128, 128] inb_S1024x128_S128x128_768_0) = z' at hz' ⊢
      have hv' : View.ld (iblk m c 1 t) (Rect.unit ![768, 0] ![128, 128] inb_S1024x128_S128x128_768_0) = mat (part 6 zv) := by
        rw [e1]; funext i; pointwise [tile, mat, part]
      generalize View.ld (iblk m c 1 t) (Rect.unit ![768, 0] ![128, 128] inb_S1024x128_S128x128_768_0) = v' at hv' ⊢
      have hx' : View.ld (iblk m c 2 t) (Rect.unit ![768, 0] ![128, 128] inb_S1024x128_S128x128_768_0) = matb (part 6 y) := by
        rw [e2]; funext i; pointwise [tileb, matb, part]
      generalize View.ld (iblk m c 2 t) (Rect.unit ![768, 0] ![128, 128] inb_S1024x128_S128x128_768_0) = x' at hx' ⊢
      refine Eq.trans (b := dvC (weight w) (gain lg) z' v' x' x) (by sl_kernel_rfl) ?_
      rw [joined_at _ 6 x _ h0 h1, hz', hv', hx', dvC_eq]
    · have hz' : View.ld (iblk m c 0 t) (Rect.unit ![640, 0] ![128, 128] inb_S1024x128_S128x128_640_0) = mat (part 5 zu) := by
        rw [e0]; funext i; pointwise [tile, mat, part]
      generalize View.ld (iblk m c 0 t) (Rect.unit ![640, 0] ![128, 128] inb_S1024x128_S128x128_640_0) = z' at hz' ⊢
      have hv' : View.ld (iblk m c 1 t) (Rect.unit ![640, 0] ![128, 128] inb_S1024x128_S128x128_640_0) = mat (part 5 zv) := by
        rw [e1]; funext i; pointwise [tile, mat, part]
      generalize View.ld (iblk m c 1 t) (Rect.unit ![640, 0] ![128, 128] inb_S1024x128_S128x128_640_0) = v' at hv' ⊢
      have hx' : View.ld (iblk m c 2 t) (Rect.unit ![640, 0] ![128, 128] inb_S1024x128_S128x128_640_0) = matb (part 5 y) := by
        rw [e2]; funext i; pointwise [tileb, matb, part]
      generalize View.ld (iblk m c 2 t) (Rect.unit ![640, 0] ![128, 128] inb_S1024x128_S128x128_640_0) = x' at hx' ⊢
      refine Eq.trans (b := dvC (weight w) (gain lg) z' v' x' x) (by sl_kernel_rfl) ?_
      rw [joined_at _ 5 x _ h0 h1, hz', hv', hx', dvC_eq]
    · have hz' : View.ld (iblk m c 0 t) (Rect.unit ![512, 0] ![128, 128] inb_S1024x128_S128x128_512_0) = mat (part 4 zu) := by
        rw [e0]; funext i; pointwise [tile, mat, part]
      generalize View.ld (iblk m c 0 t) (Rect.unit ![512, 0] ![128, 128] inb_S1024x128_S128x128_512_0) = z' at hz' ⊢
      have hv' : View.ld (iblk m c 1 t) (Rect.unit ![512, 0] ![128, 128] inb_S1024x128_S128x128_512_0) = mat (part 4 zv) := by
        rw [e1]; funext i; pointwise [tile, mat, part]
      generalize View.ld (iblk m c 1 t) (Rect.unit ![512, 0] ![128, 128] inb_S1024x128_S128x128_512_0) = v' at hv' ⊢
      have hx' : View.ld (iblk m c 2 t) (Rect.unit ![512, 0] ![128, 128] inb_S1024x128_S128x128_512_0) = matb (part 4 y) := by
        rw [e2]; funext i; pointwise [tileb, matb, part]
      generalize View.ld (iblk m c 2 t) (Rect.unit ![512, 0] ![128, 128] inb_S1024x128_S128x128_512_0) = x' at hx' ⊢
      refine Eq.trans (b := dvC (weight w) (gain lg) z' v' x' x) (by sl_kernel_rfl) ?_
      rw [joined_at _ 4 x _ h0 h1, hz', hv', hx', dvC_eq]
    · have hz' : View.ld (iblk m c 0 t) (Rect.unit ![384, 0] ![128, 128] inb_S1024x128_S128x128_384_0) = mat (part 3 zu) := by
        rw [e0]; funext i; pointwise [tile, mat, part]
      generalize View.ld (iblk m c 0 t) (Rect.unit ![384, 0] ![128, 128] inb_S1024x128_S128x128_384_0) = z' at hz' ⊢
      have hv' : View.ld (iblk m c 1 t) (Rect.unit ![384, 0] ![128, 128] inb_S1024x128_S128x128_384_0) = mat (part 3 zv) := by
        rw [e1]; funext i; pointwise [tile, mat, part]
      generalize View.ld (iblk m c 1 t) (Rect.unit ![384, 0] ![128, 128] inb_S1024x128_S128x128_384_0) = v' at hv' ⊢
      have hx' : View.ld (iblk m c 2 t) (Rect.unit ![384, 0] ![128, 128] inb_S1024x128_S128x128_384_0) = matb (part 3 y) := by
        rw [e2]; funext i; pointwise [tileb, matb, part]
      generalize View.ld (iblk m c 2 t) (Rect.unit ![384, 0] ![128, 128] inb_S1024x128_S128x128_384_0) = x' at hx' ⊢
      refine Eq.trans (b := dvC (weight w) (gain lg) z' v' x' x) (by sl_kernel_rfl) ?_
      rw [joined_at _ 3 x _ h0 h1, hz', hv', hx', dvC_eq]
    · have hz' : View.ld (iblk m c 0 t) (Rect.unit ![256, 0] ![128, 128] inb_S1024x128_S128x128_256_0) = mat (part 2 zu) := by
        rw [e0]; funext i; pointwise [tile, mat, part]
      generalize View.ld (iblk m c 0 t) (Rect.unit ![256, 0] ![128, 128] inb_S1024x128_S128x128_256_0) = z' at hz' ⊢
      have hv' : View.ld (iblk m c 1 t) (Rect.unit ![256, 0] ![128, 128] inb_S1024x128_S128x128_256_0) = mat (part 2 zv) := by
        rw [e1]; funext i; pointwise [tile, mat, part]
      generalize View.ld (iblk m c 1 t) (Rect.unit ![256, 0] ![128, 128] inb_S1024x128_S128x128_256_0) = v' at hv' ⊢
      have hx' : View.ld (iblk m c 2 t) (Rect.unit ![256, 0] ![128, 128] inb_S1024x128_S128x128_256_0) = matb (part 2 y) := by
        rw [e2]; funext i; pointwise [tileb, matb, part]
      generalize View.ld (iblk m c 2 t) (Rect.unit ![256, 0] ![128, 128] inb_S1024x128_S128x128_256_0) = x' at hx' ⊢
      refine Eq.trans (b := dvC (weight w) (gain lg) z' v' x' x) (by sl_kernel_rfl) ?_
      rw [joined_at _ 2 x _ h0 h1, hz', hv', hx', dvC_eq]
    · have hz' : View.ld (iblk m c 0 t) (Rect.unit ![128, 0] ![128, 128] inb_S1024x128_S128x128_128_0) = mat (part 1 zu) := by
        rw [e0]; funext i; pointwise [tile, mat, part]
      generalize View.ld (iblk m c 0 t) (Rect.unit ![128, 0] ![128, 128] inb_S1024x128_S128x128_128_0) = z' at hz' ⊢
      have hv' : View.ld (iblk m c 1 t) (Rect.unit ![128, 0] ![128, 128] inb_S1024x128_S128x128_128_0) = mat (part 1 zv) := by
        rw [e1]; funext i; pointwise [tile, mat, part]
      generalize View.ld (iblk m c 1 t) (Rect.unit ![128, 0] ![128, 128] inb_S1024x128_S128x128_128_0) = v' at hv' ⊢
      have hx' : View.ld (iblk m c 2 t) (Rect.unit ![128, 0] ![128, 128] inb_S1024x128_S128x128_128_0) = matb (part 1 y) := by
        rw [e2]; funext i; pointwise [tileb, matb, part]
      generalize View.ld (iblk m c 2 t) (Rect.unit ![128, 0] ![128, 128] inb_S1024x128_S128x128_128_0) = x' at hx' ⊢
      refine Eq.trans (b := dvC (weight w) (gain lg) z' v' x' x) (by sl_kernel_rfl) ?_
      rw [joined_at _ 1 x _ h0 h1, hz', hv', hx', dvC_eq]
    · have hz' : View.ld (iblk m c 0 t) (Rect.unit ![0, 0] ![128, 128] inb_S1024x128_S128x128_0_0) = mat (part 0 zu) := by
        rw [e0]; funext i; pointwise [tile, mat, part]
      generalize View.ld (iblk m c 0 t) (Rect.unit ![0, 0] ![128, 128] inb_S1024x128_S128x128_0_0) = z' at hz' ⊢
      have hv' : View.ld (iblk m c 1 t) (Rect.unit ![0, 0] ![128, 128] inb_S1024x128_S128x128_0_0) = mat (part 0 zv) := by
        rw [e1]; funext i; pointwise [tile, mat, part]
      generalize View.ld (iblk m c 1 t) (Rect.unit ![0, 0] ![128, 128] inb_S1024x128_S128x128_0_0) = v' at hv' ⊢
      have hx' : View.ld (iblk m c 2 t) (Rect.unit ![0, 0] ![128, 128] inb_S1024x128_S128x128_0_0) = matb (part 0 y) := by
        rw [e2]; funext i; pointwise [tileb, matb, part]
      generalize View.ld (iblk m c 2 t) (Rect.unit ![0, 0] ![128, 128] inb_S1024x128_S128x128_0_0) = x' at hx' ⊢
      refine Eq.trans (b := dvC (weight w) (gain lg) z' v' x' x) (by sl_kernel_rfl) ?_
      rw [joined_at _ 0 x _ (h0.trans (Nat.zero_add _).symm) h1, hz', hv', hx', dvC_eq]

end Cert.KernelIdeal.Value
end
-- ==== Proof.SguSums.lean ====
/- What one grid point adds to the sums it carries, at real arguments. -/
module

public import proofs.«01_k».proof.Proof.SguChunk
public import proofs.«01_k».proof.Proof.Gen.KernelIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Reals Cert.Sgu

variable (m : (ℓ : Loc nD τ sig) → Buf (Elt Ideal) ℓ)

/-- Eight chunks' terms, from nothing. -/
def sum8 (f : Fin 8 → ℝ) : ℝ := ∑ k, f k
theorem sum8_eq (f : Fin 8 → ℝ) : 0 + f 0 + f 1 + f 2 + f 3 + f 4 + f 5 + f 6 + f 7 = sum8 f := by
  rw [sum8, Fin.sum_univ_eight, zero_add]

theorem point_lg_first (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : t.val % 4 = 0) (i) :
    (outsAt0 m c t.val t.isLt).2.2.1 i = ((sum8 fun k => lgR w (part k zu) (part k zv) (part k y) (i 2) : ℝ) : EReal) := by
  rw [outsAt0_A m c t c0 (by omega)]
  frame_out
  rw [e5]
  have hz0 : View.ld (iblk m c 0 t) (Rect.unit ![0, 0] ![128, 128] inb_S1024x128_S128x128_0_0) = mat (part 0 zu) := by
    rw [e0]; funext i; pointwise [tile, mat, part]
  generalize View.ld (iblk m c 0 t) (Rect.unit ![0, 0] ![128, 128] inb_S1024x128_S128x128_0_0) = z0 at hz0 ⊢
  have hv0 : View.ld (iblk m c 1 t) (Rect.unit ![0, 0] ![128, 128] inb_S1024x128_S128x128_0_0) = mat (part 0 zv) := by
    rw [e1]; funext i; pointwise [tile, mat, part]
  generalize View.ld (iblk m c 1 t) (Rect.unit ![0, 0] ![128, 128] inb_S1024x128_S128x128_0_0) = v0 at hv0 ⊢
  have hx0 : View.ld (iblk m c 2 t) (Rect.unit ![0, 0] ![128, 128] inb_S1024x128_S128x128_0_0) = matb (part 0 y) := by
    rw [e2]; funext i; pointwise [tileb, matb, part]
  generalize View.ld (iblk m c 2 t) (Rect.unit ![0, 0] ![128, 128] inb_S1024x128_S128x128_0_0) = x0 at hx0 ⊢
  have hz1 : View.ld (iblk m c 0 t) (Rect.unit ![128, 0] ![128, 128] inb_S1024x128_S128x128_128_0) = mat (part 1 zu) := by
    rw [e0]; funext i; pointwise [tile, mat, part]
  generalize View.ld (iblk m c 0 t) (Rect.unit ![128, 0] ![128, 128] inb_S1024x128_S128x128_128_0) = z1 at hz1 ⊢
  have hv1 : View.ld (iblk m c 1 t) (Rect.unit ![128, 0] ![128, 128] inb_S1024x128_S128x128_128_0) = mat (part 1 zv) := by
    rw [e1]; funext i; pointwise [tile, mat, part]
  generalize View.ld (iblk m c 1 t) (Rect.unit ![128, 0] ![128, 128] inb_S1024x128_S128x128_128_0) = v1 at hv1 ⊢
  have hx1 : View.ld (iblk m c 2 t) (Rect.unit ![128, 0] ![128, 128] inb_S1024x128_S128x128_128_0) = matb (part 1 y) := by
    rw [e2]; funext i; pointwise [tileb, matb, part]
  generalize View.ld (iblk m c 2 t) (Rect.unit ![128, 0] ![128, 128] inb_S1024x128_S128x128_128_0) = x1 at hx1 ⊢
  have hz2 : View.ld (iblk m c 0 t) (Rect.unit ![256, 0] ![128, 128] inb_S1024x128_S128x128_256_0) = mat (part 2 zu) := by
    rw [e0]; funext i; pointwise [tile, mat, part]
  generalize View.ld (iblk m c 0 t) (Rect.unit ![256, 0] ![128, 128] inb_S1024x128_S128x128_256_0) = z2 at hz2 ⊢
  have hv2 : View.ld (iblk m c 1 t) (Rect.unit ![256, 0] ![128, 128] inb_S1024x128_S128x128_256_0) = mat (part 2 zv) := by
    rw [e1]; funext i; pointwise [tile, mat, part]
  generalize View.ld (iblk m c 1 t) (Rect.unit ![256, 0] ![128, 128] inb_S1024x128_S128x128_256_0) = v2 at hv2 ⊢
  have hx2 : View.ld (iblk m c 2 t) (Rect.unit ![256, 0] ![128, 128] inb_S1024x128_S128x128_256_0) = matb (part 2 y) := by
    rw [e2]; funext i; pointwise [tileb, matb, part]
  generalize View.ld (iblk m c 2 t) (Rect.unit ![256, 0] ![128, 128] inb_S1024x128_S128x128_256_0) = x2 at hx2 ⊢
  have hz3 : View.ld (iblk m c 0 t) (Rect.unit ![384, 0] ![128, 128] inb_S1024x128_S128x128_384_0) = mat (part 3 zu) := by
    rw [e0]; funext i; pointwise [tile, mat, part]
  generalize View.ld (iblk m c 0 t) (Rect.unit ![384, 0] ![128, 128] inb_S1024x128_S128x128_384_0) = z3 at hz3 ⊢
  have hv3 : View.ld (iblk m c 1 t) (Rect.unit ![384, 0] ![128, 128] inb_S1024x128_S128x128_384_0) = mat (part 3 zv) := by
    rw [e1]; funext i; pointwise [tile, mat, part]
  generalize View.ld (iblk m c 1 t) (Rect.unit ![384, 0] ![128, 128] inb_S1024x128_S128x128_384_0) = v3 at hv3 ⊢
  have hx3 : View.ld (iblk m c 2 t) (Rect.unit ![384, 0] ![128, 128] inb_S1024x128_S128x128_384_0) = matb (part 3 y) := by
    rw [e2]; funext i; pointwise [tileb, matb, part]
  generalize View.ld (iblk m c 2 t) (Rect.unit ![384, 0] ![128, 128] inb_S1024x128_S128x128_384_0) = x3 at hx3 ⊢
  have hz4 : View.ld (iblk m c 0 t) (Rect.unit ![512, 0] ![128, 128] inb_S1024x128_S128x128_512_0) = mat (part 4 zu) := by
    rw [e0]; funext i; pointwise [tile, mat, part]
  generalize View.ld (iblk m c 0 t) (Rect.unit ![512, 0] ![128, 128] inb_S1024x128_S128x128_512_0) = z4 at hz4 ⊢
  have hv4 : View.ld (iblk m c 1 t) (Rect.unit ![512, 0] ![128, 128] inb_S1024x128_S128x128_512_0) = mat (part 4 zv) := by
    rw [e1]; funext i; pointwise [tile, mat, part]
  generalize View.ld (iblk m c 1 t) (Rect.unit ![512, 0] ![128, 128] inb_S1024x128_S128x128_512_0) = v4 at hv4 ⊢
  have hx4 : View.ld (iblk m c 2 t) (Rect.unit ![512, 0] ![128, 128] inb_S1024x128_S128x128_512_0) = matb (part 4 y) := by
    rw [e2]; funext i; pointwise [tileb, matb, part]
  generalize View.ld (iblk m c 2 t) (Rect.unit ![512, 0] ![128, 128] inb_S1024x128_S128x128_512_0) = x4 at hx4 ⊢
  have hz5 : View.ld (iblk m c 0 t) (Rect.unit ![640, 0] ![128, 128] inb_S1024x128_S128x128_640_0) = mat (part 5 zu) := by
    rw [e0]; funext i; pointwise [tile, mat, part]
  generalize View.ld (iblk m c 0 t) (Rect.unit ![640, 0] ![128, 128] inb_S1024x128_S128x128_640_0) = z5 at hz5 ⊢
  have hv5 : View.ld (iblk m c 1 t) (Rect.unit ![640, 0] ![128, 128] inb_S1024x128_S128x128_640_0) = mat (part 5 zv) := by
    rw [e1]; funext i; pointwise [tile, mat, part]
  generalize View.ld (iblk m c 1 t) (Rect.unit ![640, 0] ![128, 128] inb_S1024x128_S128x128_640_0) = v5 at hv5 ⊢
  have hx5 : View.ld (iblk m c 2 t) (Rect.unit ![640, 0] ![128, 128] inb_S1024x128_S128x128_640_0) = matb (part 5 y) := by
    rw [e2]; funext i; pointwise [tileb, matb, part]
  generalize View.ld (iblk m c 2 t) (Rect.unit ![640, 0] ![128, 128] inb_S1024x128_S128x128_640_0) = x5 at hx5 ⊢
  have hz6 : View.ld (iblk m c 0 t) (Rect.unit ![768, 0] ![128, 128] inb_S1024x128_S128x128_768_0) = mat (part 6 zu) := by
    rw [e0]; funext i; pointwise [tile, mat, part]
  generalize View.ld (iblk m c 0 t) (Rect.unit ![768, 0] ![128, 128] inb_S1024x128_S128x128_768_0) = z6 at hz6 ⊢
  have hv6 : View.ld (iblk m c 1 t) (Rect.unit ![768, 0] ![128, 128] inb_S1024x128_S128x128_768_0) = mat (part 6 zv) := by
    rw [e1]; funext i; pointwise [tile, mat, part]
  generalize View.ld (iblk m c 1 t) (Rect.unit ![768, 0] ![128, 128] inb_S1024x128_S128x128_768_0) = v6 at hv6 ⊢
  have hx6 : View.ld (iblk m c 2 t) (Rect.unit ![768, 0] ![128, 128] inb_S1024x128_S128x128_768_0) = matb (part 6 y) := by
    rw [e2]; funext i; pointwise [tileb, matb, part]
  generalize View.ld (iblk m c 2 t) (Rect.unit ![768, 0] ![128, 128] inb_S1024x128_S128x128_768_0) = x6 at hx6 ⊢
  have hz7 : View.ld (iblk m c 0 t) (Rect.unit ![896, 0] ![128, 128] inb_S1024x128_S128x128_896_0) = mat (part 7 zu) := by
    rw [e0]; funext i; pointwise [tile, mat, part]
  generalize View.ld (iblk m c 0 t) (Rect.unit ![896, 0] ![128, 128] inb_S1024x128_S128x128_896_0) = z7 at hz7 ⊢
  have hv7 : View.ld (iblk m c 1 t) (Rect.unit ![896, 0] ![128, 128] inb_S1024x128_S128x128_896_0) = mat (part 7 zv) := by
    rw [e1]; funext i; pointwise [tile, mat, part]
  generalize View.ld (iblk m c 1 t) (Rect.unit ![896, 0] ![128, 128] inb_S1024x128_S128x128_896_0) = v7 at hv7 ⊢
  have hx7 : View.ld (iblk m c 2 t) (Rect.unit ![896, 0] ![128, 128] inb_S1024x128_S128x128_896_0) = matb (part 7 y) := by
    rw [e2]; funext i; pointwise [tileb, matb, part]
  generalize View.ld (iblk m c 2 t) (Rect.unit ![896, 0] ![128, 128] inb_S1024x128_S128x128_896_0) = x7 at hx7 ⊢
  refine Eq.trans (b := k0_pay189 (lgC (weight w) (lgC (weight w) (lgC (weight w) (lgC (weight w) (lgC (weight w) (lgC (weight w) (lgC (weight w) (lgC (weight w) k0_pay9 z0 v0 x0) z1 v1 x1) z2 v2 x2) z3 v3 x3) z4 v4 x4) z5 v5 x5) z6 v6 x6) z7 v7 x7) (k0_pay5 (F := Ideal)) i) (by sl_kernel_rfl) ?_
  rw [hz0, hv0, hx0, hz1, hv1, hx1, hz2, hv2, hx2, hz3, hv3, hx3, hz4, hv4, hx4, hz5, hv5, hx5, hz6, hv6, hx6, hz7, hv7, hx7, pay9]
  iterate 8 rw [lgC_eq]
  rw [pay189]
  exact (congrArg (fun r : EReal => r + _) (pay5 i)).trans ((zero_add _).trans (congrArg (fun r : ℝ => (r : EReal)) (sum8_eq fun k => lgR w (part k zu) (part k zv) (part k y) (i 2))))

theorem point_lg_next (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : ¬t.val % 4 = 0) (i) :
    (outsAt0 m c t.val t.isLt).2.2.1 i = (show EReal from (outsAt0 m c (t.val - 1) (Nat.lt_of_le_of_lt (Nat.sub_le _ _) t.isLt)).2.2.1 i) + ((sum8 fun k => lgR w (part k zu) (part k zv) (part k y) (i 2) : ℝ) : EReal) := by
  generalize hp : (outsAt0 m c (t.val - 1) (Nat.lt_of_le_of_lt (Nat.sub_le _ _) t.isLt)).2.2.1 = p
  by_cases c1 : t.val % 4 = 3
  all_goals
    first | rw [outsAt0_B m c t c0 c1] | rw [outsAt0_C m c t c0 c1]
    frame_out
    rw [hp]
    rw [e5]
    have hz0 : View.ld (iblk m c 0 t) (Rect.unit ![0, 0] ![128, 128] inb_S1024x128_S128x128_0_0) = mat (part 0 zu) := by
      rw [e0]; funext i; pointwise [tile, mat, part]
    generalize View.ld (iblk m c 0 t) (Rect.unit ![0, 0] ![128, 128] inb_S1024x128_S128x128_0_0) = z0 at hz0 ⊢
    have hv0 : View.ld (iblk m c 1 t) (Rect.unit ![0, 0] ![128, 128] inb_S1024x128_S128x128_0_0) = mat (part 0 zv) := by
      rw [e1]; funext i; pointwise [tile, mat, part]
    generalize View.ld (iblk m c 1 t) (Rect.unit ![0, 0] ![128, 128] inb_S1024x128_S128x128_0_0) = v0 at hv0 ⊢
    have hx0 : View.ld (iblk m c 2 t) (Rect.unit ![0, 0] ![128, 128] inb_S1024x128_S128x128_0_0) = matb (part 0 y) := by
      rw [e2]; funext i; pointwise [tileb, matb, part]
    generalize View.ld (iblk m c 2 t) (Rect.unit ![0, 0] ![128, 128] inb_S1024x128_S128x128_0_0) = x0 at hx0 ⊢
    have hz1 : View.ld (iblk m c 0 t) (Rect.unit ![128, 0] ![128, 128] inb_S1024x128_S128x128_128_0) = mat (part 1 zu) := by
      rw [e0]; funext i; pointwise [tile, mat, part]
    generalize View.ld (iblk m c 0 t) (Rect.unit ![128, 0] ![128, 128] inb_S1024x128_S128x128_128_0) = z1 at hz1 ⊢
    have hv1 : View.ld (iblk m c 1 t) (Rect.unit ![128, 0] ![128, 128] inb_S1024x128_S128x128_128_0) = mat (part 1 zv) := by
      rw [e1]; funext i; pointwise [tile, mat, part]
    generalize View.ld (iblk m c 1 t) (Rect.unit ![128, 0] ![128, 128] inb_S1024x128_S128x128_128_0) = v1 at hv1 ⊢
    have hx1 : View.ld (iblk m c 2 t) (Rect.unit ![128, 0] ![128, 128] inb_S1024x128_S128x128_128_0) = matb (part 1 y) := by
      rw [e2]; funext i; pointwise [tileb, matb, part]
    generalize View.ld (iblk m c 2 t) (Rect.unit ![128, 0] ![128, 128] inb_S1024x128_S128x128_128_0) = x1 at hx1 ⊢
    have hz2 : View.ld (iblk m c 0 t) (Rect.unit ![256, 0] ![128, 128] inb_S1024x128_S128x128_256_0) = mat (part 2 zu) := by
      rw [e0]; funext i; pointwise [tile, mat, part]
    generalize View.ld (iblk m c 0 t) (Rect.unit ![256, 0] ![128, 128] inb_S1024x128_S128x128_256_0) = z2 at hz2 ⊢
    have hv2 : View.ld (iblk m c 1 t) (Rect.unit ![256, 0] ![128, 128] inb_S1024x128_S128x128_256_0) = mat (part 2 zv) := by
      rw [e1]; funext i; pointwise [tile, mat, part]
    generalize View.ld (iblk m c 1 t) (Rect.unit ![256, 0] ![128, 128] inb_S1024x128_S128x128_256_0) = v2 at hv2 ⊢
    have hx2 : View.ld (iblk m c 2 t) (Rect.unit ![256, 0] ![128, 128] inb_S1024x128_S128x128_256_0) = matb (part 2 y) := by
      rw [e2]; funext i; pointwise [tileb, matb, part]
    generalize View.ld (iblk m c 2 t) (Rect.unit ![256, 0] ![128, 128] inb_S1024x128_S128x128_256_0) = x2 at hx2 ⊢
    have hz3 : View.ld (iblk m c 0 t) (Rect.unit ![384, 0] ![128, 128] inb_S1024x128_S128x128_384_0) = mat (part 3 zu) := by
      rw [e0]; funext i; pointwise [tile, mat, part]
    generalize View.ld (iblk m c 0 t) (Rect.unit ![384, 0] ![128, 128] inb_S1024x128_S128x128_384_0) = z3 at hz3 ⊢
    have hv3 : View.ld (iblk m c 1 t) (Rect.unit ![384, 0] ![128, 128] inb_S1024x128_S128x128_384_0) = mat (part 3 zv) := by
      rw [e1]; funext i; pointwise [tile, mat, part]
    generalize View.ld (iblk m c 1 t) (Rect.unit ![384, 0] ![128, 128] inb_S1024x128_S128x128_384_0) = v3 at hv3 ⊢
    have hx3 : View.ld (iblk m c 2 t) (Rect.unit ![384, 0] ![128, 128] inb_S1024x128_S128x128_384_0) = matb (part 3 y) := by
      rw [e2]; funext i; pointwise [tileb, matb, part]
    generalize View.ld (iblk m c 2 t) (Rect.unit ![384, 0] ![128, 128] inb_S1024x128_S128x128_384_0) = x3 at hx3 ⊢
    have hz4 : View.ld (iblk m c 0 t) (Rect.unit ![512, 0] ![128, 128] inb_S1024x128_S128x128_512_0) = mat (part 4 zu) := by
      rw [e0]; funext i; pointwise [tile, mat, part]
    generalize View.ld (iblk m c 0 t) (Rect.unit ![512, 0] ![128, 128] inb_S1024x128_S128x128_512_0) = z4 at hz4 ⊢
    have hv4 : View.ld (iblk m c 1 t) (Rect.unit ![512, 0] ![128, 128] inb_S1024x128_S128x128_512_0) = mat (part 4 zv) := by
      rw [e1]; funext i; pointwise [tile, mat, part]
    generalize View.ld (iblk m c 1 t) (Rect.unit ![512, 0] ![128, 128] inb_S1024x128_S128x128_512_0) = v4 at hv4 ⊢
    have hx4 : View.ld (iblk m c 2 t) (Rect.unit ![512, 0] ![128, 128] inb_S1024x128_S128x128_512_0) = matb (part 4 y) := by
      rw [e2]; funext i; pointwise [tileb, matb, part]
    generalize View.ld (iblk m c 2 t) (Rect.unit ![512, 0] ![128, 128] inb_S1024x128_S128x128_512_0) = x4 at hx4 ⊢
    have hz5 : View.ld (iblk m c 0 t) (Rect.unit ![640, 0] ![128, 128] inb_S1024x128_S128x128_640_0) = mat (part 5 zu) := by
      rw [e0]; funext i; pointwise [tile, mat, part]
    generalize View.ld (iblk m c 0 t) (Rect.unit ![640, 0] ![128, 128] inb_S1024x128_S128x128_640_0) = z5 at hz5 ⊢
    have hv5 : View.ld (iblk m c 1 t) (Rect.unit ![640, 0] ![128, 128] inb_S1024x128_S128x128_640_0) = mat (part 5 zv) := by
      rw [e1]; funext i; pointwise [tile, mat, part]
    generalize View.ld (iblk m c 1 t) (Rect.unit ![640, 0] ![128, 128] inb_S1024x128_S128x128_640_0) = v5 at hv5 ⊢
    have hx5 : View.ld (iblk m c 2 t) (Rect.unit ![640, 0] ![128, 128] inb_S1024x128_S128x128_640_0) = matb (part 5 y) := by
      rw [e2]; funext i; pointwise [tileb, matb, part]
    generalize View.ld (iblk m c 2 t) (Rect.unit ![640, 0] ![128, 128] inb_S1024x128_S128x128_640_0) = x5 at hx5 ⊢
    have hz6 : View.ld (iblk m c 0 t) (Rect.unit ![768, 0] ![128, 128] inb_S1024x128_S128x128_768_0) = mat (part 6 zu) := by
      rw [e0]; funext i; pointwise [tile, mat, part]
    generalize View.ld (iblk m c 0 t) (Rect.unit ![768, 0] ![128, 128] inb_S1024x128_S128x128_768_0) = z6 at hz6 ⊢
    have hv6 : View.ld (iblk m c 1 t) (Rect.unit ![768, 0] ![128, 128] inb_S1024x128_S128x128_768_0) = mat (part 6 zv) := by
      rw [e1]; funext i; pointwise [tile, mat, part]
    generalize View.ld (iblk m c 1 t) (Rect.unit ![768, 0] ![128, 128] inb_S1024x128_S128x128_768_0) = v6 at hv6 ⊢
    have hx6 : View.ld (iblk m c 2 t) (Rect.unit ![768, 0] ![128, 128] inb_S1024x128_S128x128_768_0) = matb (part 6 y) := by
      rw [e2]; funext i; pointwise [tileb, matb, part]
    generalize View.ld (iblk m c 2 t) (Rect.unit ![768, 0] ![128, 128] inb_S1024x128_S128x128_768_0) = x6 at hx6 ⊢
    have hz7 : View.ld (iblk m c 0 t) (Rect.unit ![896, 0] ![128, 128] inb_S1024x128_S128x128_896_0) = mat (part 7 zu) := by
      rw [e0]; funext i; pointwise [tile, mat, part]
    generalize View.ld (iblk m c 0 t) (Rect.unit ![896, 0] ![128, 128] inb_S1024x128_S128x128_896_0) = z7 at hz7 ⊢
    have hv7 : View.ld (iblk m c 1 t) (Rect.unit ![896, 0] ![128, 128] inb_S1024x128_S128x128_896_0) = mat (part 7 zv) := by
      rw [e1]; funext i; pointwise [tile, mat, part]
    generalize View.ld (iblk m c 1 t) (Rect.unit ![896, 0] ![128, 128] inb_S1024x128_S128x128_896_0) = v7 at hv7 ⊢
    have hx7 : View.ld (iblk m c 2 t) (Rect.unit ![896, 0] ![128, 128] inb_S1024x128_S128x128_896_0) = matb (part 7 y) := by
      rw [e2]; funext i; pointwise [tileb, matb, part]
    generalize View.ld (iblk m c 2 t) (Rect.unit ![896, 0] ![128, 128] inb_S1024x128_S128x128_896_0) = x7 at hx7 ⊢
    refine Eq.trans (b := k0_pay189 (lgC (weight w) (lgC (weight w) (lgC (weight w) (lgC (weight w) (lgC (weight w) (lgC (weight w) (lgC (weight w) (lgC (weight w) k0_pay9 z0 v0 x0) z1 v1 x1) z2 v2 x2) z3 v3 x3) z4 v4 x4) z5 v5 x5) z6 v6 x6) z7 v7 x7) p i) (by sl_kernel_rfl) ?_
    rw [hz0, hv0, hx0, hz1, hv1, hx1, hz2, hv2, hx2, hz3, hv3, hx3, hz4, hv4, hx4, hz5, hv5, hx5, hz6, hv6, hx6, hz7, hv7, hx7, pay9]
    iterate 8 rw [lgC_eq]
    rw [pay189]
    exact congrArg (fun r : ℝ => (show EReal from p i) + (r : EReal)) (sum8_eq fun k => lgR w (part k zu) (part k zv) (part k y) (i 2))

theorem point_lb_first (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : t.val % 4 = 0) (i) :
    (outsAt0 m c t.val t.isLt).2.2.2.1 i = ((sum8 fun k => lbR w (part k zu) (part k y) (i 2) : ℝ) : EReal) := by
  rw [outsAt0_A m c t c0 (by omega)]
  frame_out
  rw [e5]
  have hz0 : View.ld (iblk m c 0 t) (Rect.unit ![0, 0] ![128, 128] inb_S1024x128_S128x128_0_0) = mat (part 0 zu) := by
    rw [e0]; funext i; pointwise [tile, mat, part]
  generalize View.ld (iblk m c 0 t) (Rect.unit ![0, 0] ![128, 128] inb_S1024x128_S128x128_0_0) = z0 at hz0 ⊢
  have hx0 : View.ld (iblk m c 2 t) (Rect.unit ![0, 0] ![128, 128] inb_S1024x128_S128x128_0_0) = matb (part 0 y) := by
    rw [e2]; funext i; pointwise [tileb, matb, part]
  generalize View.ld (iblk m c 2 t) (Rect.unit ![0, 0] ![128, 128] inb_S1024x128_S128x128_0_0) = x0 at hx0 ⊢
  have hz1 : View.ld (iblk m c 0 t) (Rect.unit ![128, 0] ![128, 128] inb_S1024x128_S128x128_128_0) = mat (part 1 zu) := by
    rw [e0]; funext i; pointwise [tile, mat, part]
  generalize View.ld (iblk m c 0 t) (Rect.unit ![128, 0] ![128, 128] inb_S1024x128_S128x128_128_0) = z1 at hz1 ⊢
  have hx1 : View.ld (iblk m c 2 t) (Rect.unit ![128, 0] ![128, 128] inb_S1024x128_S128x128_128_0) = matb (part 1 y) := by
    rw [e2]; funext i; pointwise [tileb, matb, part]
  generalize View.ld (iblk m c 2 t) (Rect.unit ![128, 0] ![128, 128] inb_S1024x128_S128x128_128_0) = x1 at hx1 ⊢
  have hz2 : View.ld (iblk m c 0 t) (Rect.unit ![256, 0] ![128, 128] inb_S1024x128_S128x128_256_0) = mat (part 2 zu) := by
    rw [e0]; funext i; pointwise [tile, mat, part]
  generalize View.ld (iblk m c 0 t) (Rect.unit ![256, 0] ![128, 128] inb_S1024x128_S128x128_256_0) = z2 at hz2 ⊢
  have hx2 : View.ld (iblk m c 2 t) (Rect.unit ![256, 0] ![128, 128] inb_S1024x128_S128x128_256_0) = matb (part 2 y) := by
    rw [e2]; funext i; pointwise [tileb, matb, part]
  generalize View.ld (iblk m c 2 t) (Rect.unit ![256, 0] ![128, 128] inb_S1024x128_S128x128_256_0) = x2 at hx2 ⊢
  have hz3 : View.ld (iblk m c 0 t) (Rect.unit ![384, 0] ![128, 128] inb_S1024x128_S128x128_384_0) = mat (part 3 zu) := by
    rw [e0]; funext i; pointwise [tile, mat, part]
  generalize View.ld (iblk m c 0 t) (Rect.unit ![384, 0] ![128, 128] inb_S1024x128_S128x128_384_0) = z3 at hz3 ⊢
  have hx3 : View.ld (iblk m c 2 t) (Rect.unit ![384, 0] ![128, 128] inb_S1024x128_S128x128_384_0) = matb (part 3 y) := by
    rw [e2]; funext i; pointwise [tileb, matb, part]
  generalize View.ld (iblk m c 2 t) (Rect.unit ![384, 0] ![128, 128] inb_S1024x128_S128x128_384_0) = x3 at hx3 ⊢
  have hz4 : View.ld (iblk m c 0 t) (Rect.unit ![512, 0] ![128, 128] inb_S1024x128_S128x128_512_0) = mat (part 4 zu) := by
    rw [e0]; funext i; pointwise [tile, mat, part]
  generalize View.ld (iblk m c 0 t) (Rect.unit ![512, 0] ![128, 128] inb_S1024x128_S128x128_512_0) = z4 at hz4 ⊢
  have hx4 : View.ld (iblk m c 2 t) (Rect.unit ![512, 0] ![128, 128] inb_S1024x128_S128x128_512_0) = matb (part 4 y) := by
    rw [e2]; funext i; pointwise [tileb, matb, part]
  generalize View.ld (iblk m c 2 t) (Rect.unit ![512, 0] ![128, 128] inb_S1024x128_S128x128_512_0) = x4 at hx4 ⊢
  have hz5 : View.ld (iblk m c 0 t) (Rect.unit ![640, 0] ![128, 128] inb_S1024x128_S128x128_640_0) = mat (part 5 zu) := by
    rw [e0]; funext i; pointwise [tile, mat, part]
  generalize View.ld (iblk m c 0 t) (Rect.unit ![640, 0] ![128, 128] inb_S1024x128_S128x128_640_0) = z5 at hz5 ⊢
  have hx5 : View.ld (iblk m c 2 t) (Rect.unit ![640, 0] ![128, 128] inb_S1024x128_S128x128_640_0) = matb (part 5 y) := by
    rw [e2]; funext i; pointwise [tileb, matb, part]
  generalize View.ld (iblk m c 2 t) (Rect.unit ![640, 0] ![128, 128] inb_S1024x128_S128x128_640_0) = x5 at hx5 ⊢
  have hz6 : View.ld (iblk m c 0 t) (Rect.unit ![768, 0] ![128, 128] inb_S1024x128_S128x128_768_0) = mat (part 6 zu) := by
    rw [e0]; funext i; pointwise [tile, mat, part]
  generalize View.ld (iblk m c 0 t) (Rect.unit ![768, 0] ![128, 128] inb_S1024x128_S128x128_768_0) = z6 at hz6 ⊢
  have hx6 : View.ld (iblk m c 2 t) (Rect.unit ![768, 0] ![128, 128] inb_S1024x128_S128x128_768_0) = matb (part 6 y) := by
    rw [e2]; funext i; pointwise [tileb, matb, part]
  generalize View.ld (iblk m c 2 t) (Rect.unit ![768, 0] ![128, 128] inb_S1024x128_S128x128_768_0) = x6 at hx6 ⊢
  have hz7 : View.ld (iblk m c 0 t) (Rect.unit ![896, 0] ![128, 128] inb_S1024x128_S128x128_896_0) = mat (part 7 zu) := by
    rw [e0]; funext i; pointwise [tile, mat, part]
  generalize View.ld (iblk m c 0 t) (Rect.unit ![896, 0] ![128, 128] inb_S1024x128_S128x128_896_0) = z7 at hz7 ⊢
  have hx7 : View.ld (iblk m c 2 t) (Rect.unit ![896, 0] ![128, 128] inb_S1024x128_S128x128_896_0) = matb (part 7 y) := by
    rw [e2]; funext i; pointwise [tileb, matb, part]
  generalize View.ld (iblk m c 2 t) (Rect.unit ![896, 0] ![128, 128] inb_S1024x128_S128x128_896_0) = x7 at hx7 ⊢
  refine Eq.trans (b := k0_pay191 (k0_pay190 (lbC (weight w) (lbC (weight w) (lbC (weight w) (lbC (weight w) (lbC (weight w) (lbC (weight w) (lbC (weight w) (lbC (weight w) k0_pay10 z0 x0) z1 x1) z2 x2) z3 x3) z4 x4) z5 x5) z6 x6) z7 x7) (k0_pay6 (F := Ideal))) i) (by sl_kernel_rfl) ?_
  rw [hz0, hx0, hz1, hx1, hz2, hx2, hz3, hx3, hz4, hx4, hz5, hx5, hz6, hx6, hz7, hx7, pay10]
  iterate 8 rw [lbC_eq]
  rw [pay191]
  exact (congrArg (fun r : EReal => r + _) (pay6 i)).trans ((zero_add _).trans (congrArg (fun r : ℝ => (r : EReal)) (sum8_eq fun k => lbR w (part k zu) (part k y) (i 2))))

theorem point_lb_next (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : ¬t.val % 4 = 0) (i) :
    (outsAt0 m c t.val t.isLt).2.2.2.1 i = (show EReal from (outsAt0 m c (t.val - 1) (Nat.lt_of_le_of_lt (Nat.sub_le _ _) t.isLt)).2.2.2.1 i) + ((sum8 fun k => lbR w (part k zu) (part k y) (i 2) : ℝ) : EReal) := by
  generalize hp : (outsAt0 m c (t.val - 1) (Nat.lt_of_le_of_lt (Nat.sub_le _ _) t.isLt)).2.2.2.1 = p
  by_cases c1 : t.val % 4 = 3
  all_goals
    first | rw [outsAt0_B m c t c0 c1] | rw [outsAt0_C m c t c0 c1]
    frame_out
    rw [hp]
    rw [e5]
    have hz0 : View.ld (iblk m c 0 t) (Rect.unit ![0, 0] ![128, 128] inb_S1024x128_S128x128_0_0) = mat (part 0 zu) := by
      rw [e0]; funext i; pointwise [tile, mat, part]
    generalize View.ld (iblk m c 0 t) (Rect.unit ![0, 0] ![128, 128] inb_S1024x128_S128x128_0_0) = z0 at hz0 ⊢
    have hx0 : View.ld (iblk m c 2 t) (Rect.unit ![0, 0] ![128, 128] inb_S1024x128_S128x128_0_0) = matb (part 0 y) := by
      rw [e2]; funext i; pointwise [tileb, matb, part]
    generalize View.ld (iblk m c 2 t) (Rect.unit ![0, 0] ![128, 128] inb_S1024x128_S128x128_0_0) = x0 at hx0 ⊢
    have hz1 : View.ld (iblk m c 0 t) (Rect.unit ![128, 0] ![128, 128] inb_S1024x128_S128x128_128_0) = mat (part 1 zu) := by
      rw [e0]; funext i; pointwise [tile, mat, part]
    generalize View.ld (iblk m c 0 t) (Rect.unit ![128, 0] ![128, 128] inb_S1024x128_S128x128_128_0) = z1 at hz1 ⊢
    have hx1 : View.ld (iblk m c 2 t) (Rect.unit ![128, 0] ![128, 128] inb_S1024x128_S128x128_128_0) = matb (part 1 y) := by
      rw [e2]; funext i; pointwise [tileb, matb, part]
    generalize View.ld (iblk m c 2 t) (Rect.unit ![128, 0] ![128, 128] inb_S1024x128_S128x128_128_0) = x1 at hx1 ⊢
    have hz2 : View.ld (iblk m c 0 t) (Rect.unit ![256, 0] ![128, 128] inb_S1024x128_S128x128_256_0) = mat (part 2 zu) := by
      rw [e0]; funext i; pointwise [tile, mat, part]
    generalize View.ld (iblk m c 0 t) (Rect.unit ![256, 0] ![128, 128] inb_S1024x128_S128x128_256_0) = z2 at hz2 ⊢
    have hx2 : View.ld (iblk m c 2 t) (Rect.unit ![256, 0] ![128, 128] inb_S1024x128_S128x128_256_0) = matb (part 2 y) := by
      rw [e2]; funext i; pointwise [tileb, matb, part]
    generalize View.ld (iblk m c 2 t) (Rect.unit ![256, 0] ![128, 128] inb_S1024x128_S128x128_256_0) = x2 at hx2 ⊢
    have hz3 : View.ld (iblk m c 0 t) (Rect.unit ![384, 0] ![128, 128] inb_S1024x128_S128x128_384_0) = mat (part 3 zu) := by
      rw [e0]; funext i; pointwise [tile, mat, part]
    generalize View.ld (iblk m c 0 t) (Rect.unit ![384, 0] ![128, 128] inb_S1024x128_S128x128_384_0) = z3 at hz3 ⊢
    have hx3 : View.ld (iblk m c 2 t) (Rect.unit ![384, 0] ![128, 128] inb_S1024x128_S128x128_384_0) = matb (part 3 y) := by
      rw [e2]; funext i; pointwise [tileb, matb, part]
    generalize View.ld (iblk m c 2 t) (Rect.unit ![384, 0] ![128, 128] inb_S1024x128_S128x128_384_0) = x3 at hx3 ⊢
    have hz4 : View.ld (iblk m c 0 t) (Rect.unit ![512, 0] ![128, 128] inb_S1024x128_S128x128_512_0) = mat (part 4 zu) := by
      rw [e0]; funext i; pointwise [tile, mat, part]
    generalize View.ld (iblk m c 0 t) (Rect.unit ![512, 0] ![128, 128] inb_S1024x128_S128x128_512_0) = z4 at hz4 ⊢
    have hx4 : View.ld (iblk m c 2 t) (Rect.unit ![512, 0] ![128, 128] inb_S1024x128_S128x128_512_0) = matb (part 4 y) := by
      rw [e2]; funext i; pointwise [tileb, matb, part]
    generalize View.ld (iblk m c 2 t) (Rect.unit ![512, 0] ![128, 128] inb_S1024x128_S128x128_512_0) = x4 at hx4 ⊢
    have hz5 : View.ld (iblk m c 0 t) (Rect.unit ![640, 0] ![128, 128] inb_S1024x128_S128x128_640_0) = mat (part 5 zu) := by
      rw [e0]; funext i; pointwise [tile, mat, part]
    generalize View.ld (iblk m c 0 t) (Rect.unit ![640, 0] ![128, 128] inb_S1024x128_S128x128_640_0) = z5 at hz5 ⊢
    have hx5 : View.ld (iblk m c 2 t) (Rect.unit ![640, 0] ![128, 128] inb_S1024x128_S128x128_640_0) = matb (part 5 y) := by
      rw [e2]; funext i; pointwise [tileb, matb, part]
    generalize View.ld (iblk m c 2 t) (Rect.unit ![640, 0] ![128, 128] inb_S1024x128_S128x128_640_0) = x5 at hx5 ⊢
    have hz6 : View.ld (iblk m c 0 t) (Rect.unit ![768, 0] ![128, 128] inb_S1024x128_S128x128_768_0) = mat (part 6 zu) := by
      rw [e0]; funext i; pointwise [tile, mat, part]
    generalize View.ld (iblk m c 0 t) (Rect.unit ![768, 0] ![128, 128] inb_S1024x128_S128x128_768_0) = z6 at hz6 ⊢
    have hx6 : View.ld (iblk m c 2 t) (Rect.unit ![768, 0] ![128, 128] inb_S1024x128_S128x128_768_0) = matb (part 6 y) := by
      rw [e2]; funext i; pointwise [tileb, matb, part]
    generalize View.ld (iblk m c 2 t) (Rect.unit ![768, 0] ![128, 128] inb_S1024x128_S128x128_768_0) = x6 at hx6 ⊢
    have hz7 : View.ld (iblk m c 0 t) (Rect.unit ![896, 0] ![128, 128] inb_S1024x128_S128x128_896_0) = mat (part 7 zu) := by
      rw [e0]; funext i; pointwise [tile, mat, part]
    generalize View.ld (iblk m c 0 t) (Rect.unit ![896, 0] ![128, 128] inb_S1024x128_S128x128_896_0) = z7 at hz7 ⊢
    have hx7 : View.ld (iblk m c 2 t) (Rect.unit ![896, 0] ![128, 128] inb_S1024x128_S128x128_896_0) = matb (part 7 y) := by
      rw [e2]; funext i; pointwise [tileb, matb, part]
    generalize View.ld (iblk m c 2 t) (Rect.unit ![896, 0] ![128, 128] inb_S1024x128_S128x128_896_0) = x7 at hx7 ⊢
    refine Eq.trans (b := k0_pay191 (k0_pay190 (lbC (weight w) (lbC (weight w) (lbC (weight w) (lbC (weight w) (lbC (weight w) (lbC (weight w) (lbC (weight w) (lbC (weight w) k0_pay10 z0 x0) z1 x1) z2 x2) z3 x3) z4 x4) z5 x5) z6 x6) z7 x7) p) i) (by sl_kernel_rfl) ?_
    rw [hz0, hx0, hz1, hx1, hz2, hx2, hz3, hx3, hz4, hx4, hz5, hx5, hz6, hx6, hz7, hx7, pay10]
    iterate 8 rw [lbC_eq]
    rw [pay191]
    exact congrArg (fun r : ℝ => (show EReal from p i) + (r : EReal)) (sum8_eq fun k => lbR w (part k zu) (part k y) (i 2))

theorem point_dw_first (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : t.val % 4 = 0) (i) :
    (outsAt0 m c t.val t.isLt).2.2.2.2.1 i = ((low (fun a s => sum8 fun k => dwR lg lb (part k zu) (part k zv) (part k y) a s) (i 1) (i 2) : ℝ) : EReal) := by
  rw [outsAt0_A m c t c0 (by omega)]
  frame_out
  rw [e3, e4]
  have hz0 : View.ld (iblk m c 0 t) (Rect.unit ![0, 0] ![128, 128] inb_S1024x128_S128x128_0_0) = mat (part 0 zu) := by
    rw [e0]; funext i; pointwise [tile, mat, part]
  generalize View.ld (iblk m c 0 t) (Rect.unit ![0, 0] ![128, 128] inb_S1024x128_S128x128_0_0) = z0 at hz0 ⊢
  have hv0 : View.ld (iblk m c 1 t) (Rect.unit ![0, 0] ![128, 128] inb_S1024x128_S128x128_0_0) = mat (part 0 zv) := by
    rw [e1]; funext i; pointwise [tile, mat, part]
  generalize View.ld (iblk m c 1 t) (Rect.unit ![0, 0] ![128, 128] inb_S1024x128_S128x128_0_0) = v0 at hv0 ⊢
  have hx0 : View.ld (iblk m c 2 t) (Rect.unit ![0, 0] ![128, 128] inb_S1024x128_S128x128_0_0) = matb (part 0 y) := by
    rw [e2]; funext i; pointwise [tileb, matb, part]
  generalize View.ld (iblk m c 2 t) (Rect.unit ![0, 0] ![128, 128] inb_S1024x128_S128x128_0_0) = x0 at hx0 ⊢
  have hz1 : View.ld (iblk m c 0 t) (Rect.unit ![128, 0] ![128, 128] inb_S1024x128_S128x128_128_0) = mat (part 1 zu) := by
    rw [e0]; funext i; pointwise [tile, mat, part]
  generalize View.ld (iblk m c 0 t) (Rect.unit ![128, 0] ![128, 128] inb_S1024x128_S128x128_128_0) = z1 at hz1 ⊢
  have hv1 : View.ld (iblk m c 1 t) (Rect.unit ![128, 0] ![128, 128] inb_S1024x128_S128x128_128_0) = mat (part 1 zv) := by
    rw [e1]; funext i; pointwise [tile, mat, part]
  generalize View.ld (iblk m c 1 t) (Rect.unit ![128, 0] ![128, 128] inb_S1024x128_S128x128_128_0) = v1 at hv1 ⊢
  have hx1 : View.ld (iblk m c 2 t) (Rect.unit ![128, 0] ![128, 128] inb_S1024x128_S128x128_128_0) = matb (part 1 y) := by
    rw [e2]; funext i; pointwise [tileb, matb, part]
  generalize View.ld (iblk m c 2 t) (Rect.unit ![128, 0] ![128, 128] inb_S1024x128_S128x128_128_0) = x1 at hx1 ⊢
  have hz2 : View.ld (iblk m c 0 t) (Rect.unit ![256, 0] ![128, 128] inb_S1024x128_S128x128_256_0) = mat (part 2 zu) := by
    rw [e0]; funext i; pointwise [tile, mat, part]
  generalize View.ld (iblk m c 0 t) (Rect.unit ![256, 0] ![128, 128] inb_S1024x128_S128x128_256_0) = z2 at hz2 ⊢
  have hv2 : View.ld (iblk m c 1 t) (Rect.unit ![256, 0] ![128, 128] inb_S1024x128_S128x128_256_0) = mat (part 2 zv) := by
    rw [e1]; funext i; pointwise [tile, mat, part]
  generalize View.ld (iblk m c 1 t) (Rect.unit ![256, 0] ![128, 128] inb_S1024x128_S128x128_256_0) = v2 at hv2 ⊢
  have hx2 : View.ld (iblk m c 2 t) (Rect.unit ![256, 0] ![128, 128] inb_S1024x128_S128x128_256_0) = matb (part 2 y) := by
    rw [e2]; funext i; pointwise [tileb, matb, part]
  generalize View.ld (iblk m c 2 t) (Rect.unit ![256, 0] ![128, 128] inb_S1024x128_S128x128_256_0) = x2 at hx2 ⊢
  have hz3 : View.ld (iblk m c 0 t) (Rect.unit ![384, 0] ![128, 128] inb_S1024x128_S128x128_384_0) = mat (part 3 zu) := by
    rw [e0]; funext i; pointwise [tile, mat, part]
  generalize View.ld (iblk m c 0 t) (Rect.unit ![384, 0] ![128, 128] inb_S1024x128_S128x128_384_0) = z3 at hz3 ⊢
  have hv3 : View.ld (iblk m c 1 t) (Rect.unit ![384, 0] ![128, 128] inb_S1024x128_S128x128_384_0) = mat (part 3 zv) := by
    rw [e1]; funext i; pointwise [tile, mat, part]
  generalize View.ld (iblk m c 1 t) (Rect.unit ![384, 0] ![128, 128] inb_S1024x128_S128x128_384_0) = v3 at hv3 ⊢
  have hx3 : View.ld (iblk m c 2 t) (Rect.unit ![384, 0] ![128, 128] inb_S1024x128_S128x128_384_0) = matb (part 3 y) := by
    rw [e2]; funext i; pointwise [tileb, matb, part]
  generalize View.ld (iblk m c 2 t) (Rect.unit ![384, 0] ![128, 128] inb_S1024x128_S128x128_384_0) = x3 at hx3 ⊢
  have hz4 : View.ld (iblk m c 0 t) (Rect.unit ![512, 0] ![128, 128] inb_S1024x128_S128x128_512_0) = mat (part 4 zu) := by
    rw [e0]; funext i; pointwise [tile, mat, part]
  generalize View.ld (iblk m c 0 t) (Rect.unit ![512, 0] ![128, 128] inb_S1024x128_S128x128_512_0) = z4 at hz4 ⊢
  have hv4 : View.ld (iblk m c 1 t) (Rect.unit ![512, 0] ![128, 128] inb_S1024x128_S128x128_512_0) = mat (part 4 zv) := by
    rw [e1]; funext i; pointwise [tile, mat, part]
  generalize View.ld (iblk m c 1 t) (Rect.unit ![512, 0] ![128, 128] inb_S1024x128_S128x128_512_0) = v4 at hv4 ⊢
  have hx4 : View.ld (iblk m c 2 t) (Rect.unit ![512, 0] ![128, 128] inb_S1024x128_S128x128_512_0) = matb (part 4 y) := by
    rw [e2]; funext i; pointwise [tileb, matb, part]
  generalize View.ld (iblk m c 2 t) (Rect.unit ![512, 0] ![128, 128] inb_S1024x128_S128x128_512_0) = x4 at hx4 ⊢
  have hz5 : View.ld (iblk m c 0 t) (Rect.unit ![640, 0] ![128, 128] inb_S1024x128_S128x128_640_0) = mat (part 5 zu) := by
    rw [e0]; funext i; pointwise [tile, mat, part]
  generalize View.ld (iblk m c 0 t) (Rect.unit ![640, 0] ![128, 128] inb_S1024x128_S128x128_640_0) = z5 at hz5 ⊢
  have hv5 : View.ld (iblk m c 1 t) (Rect.unit ![640, 0] ![128, 128] inb_S1024x128_S128x128_640_0) = mat (part 5 zv) := by
    rw [e1]; funext i; pointwise [tile, mat, part]
  generalize View.ld (iblk m c 1 t) (Rect.unit ![640, 0] ![128, 128] inb_S1024x128_S128x128_640_0) = v5 at hv5 ⊢
  have hx5 : View.ld (iblk m c 2 t) (Rect.unit ![640, 0] ![128, 128] inb_S1024x128_S128x128_640_0) = matb (part 5 y) := by
    rw [e2]; funext i; pointwise [tileb, matb, part]
  generalize View.ld (iblk m c 2 t) (Rect.unit ![640, 0] ![128, 128] inb_S1024x128_S128x128_640_0) = x5 at hx5 ⊢
  have hz6 : View.ld (iblk m c 0 t) (Rect.unit ![768, 0] ![128, 128] inb_S1024x128_S128x128_768_0) = mat (part 6 zu) := by
    rw [e0]; funext i; pointwise [tile, mat, part]
  generalize View.ld (iblk m c 0 t) (Rect.unit ![768, 0] ![128, 128] inb_S1024x128_S128x128_768_0) = z6 at hz6 ⊢
  have hv6 : View.ld (iblk m c 1 t) (Rect.unit ![768, 0] ![128, 128] inb_S1024x128_S128x128_768_0) = mat (part 6 zv) := by
    rw [e1]; funext i; pointwise [tile, mat, part]
  generalize View.ld (iblk m c 1 t) (Rect.unit ![768, 0] ![128, 128] inb_S1024x128_S128x128_768_0) = v6 at hv6 ⊢
  have hx6 : View.ld (iblk m c 2 t) (Rect.unit ![768, 0] ![128, 128] inb_S1024x128_S128x128_768_0) = matb (part 6 y) := by
    rw [e2]; funext i; pointwise [tileb, matb, part]
  generalize View.ld (iblk m c 2 t) (Rect.unit ![768, 0] ![128, 128] inb_S1024x128_S128x128_768_0) = x6 at hx6 ⊢
  have hz7 : View.ld (iblk m c 0 t) (Rect.unit ![896, 0] ![128, 128] inb_S1024x128_S128x128_896_0) = mat (part 7 zu) := by
    rw [e0]; funext i; pointwise [tile, mat, part]
  generalize View.ld (iblk m c 0 t) (Rect.unit ![896, 0] ![128, 128] inb_S1024x128_S128x128_896_0) = z7 at hz7 ⊢
  have hv7 : View.ld (iblk m c 1 t) (Rect.unit ![896, 0] ![128, 128] inb_S1024x128_S128x128_896_0) = mat (part 7 zv) := by
    rw [e1]; funext i; pointwise [tile, mat, part]
  generalize View.ld (iblk m c 1 t) (Rect.unit ![896, 0] ![128, 128] inb_S1024x128_S128x128_896_0) = v7 at hv7 ⊢
  have hx7 : View.ld (iblk m c 2 t) (Rect.unit ![896, 0] ![128, 128] inb_S1024x128_S128x128_896_0) = matb (part 7 y) := by
    rw [e2]; funext i; pointwise [tileb, matb, part]
  generalize View.ld (iblk m c 2 t) (Rect.unit ![896, 0] ![128, 128] inb_S1024x128_S128x128_896_0) = x7 at hx7 ⊢
  refine Eq.trans (b := k0_pay192 k0_pay3 (dwC (gain lg) (gain lb) (dwC (gain lg) (gain lb) (dwC (gain lg) (gain lb) (dwC (gain lg) (gain lb) (dwC (gain lg) (gain lb) (dwC (gain lg) (gain lb) (dwC (gain lg) (gain lb) (dwC (gain lg) (gain lb) k0_pay11 z0 v0 x0) z1 v1 x1) z2 v2 x2) z3 v3 x3) z4 v4 x4) z5 v5 x5) z6 v6 x6) z7 v7 x7) (k0_pay7 (F := Ideal)) i) (by sl_kernel_rfl) ?_
  rw [hz0, hv0, hx0, hz1, hv1, hx1, hz2, hv2, hx2, hz3, hv3, hx3, hz4, hv4, hx4, hz5, hv5, hx5, hz6, hv6, hx6, hz7, hv7, hx7, pay11]
  iterate 8 rw [dwC_eq]
  rw [pay192]
  exact (congrArg (fun r : EReal => r + _) (pay7 i)).trans ((zero_add _).trans (congrArg (fun f : Mat => ((low f (i 1) (i 2) : ℝ) : EReal)) (funext fun a => funext fun s => sum8_eq fun k => dwR lg lb (part k zu) (part k zv) (part k y) a s)))

theorem point_dw_next (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : ¬t.val % 4 = 0) (i) :
    (outsAt0 m c t.val t.isLt).2.2.2.2.1 i = (show EReal from (outsAt0 m c (t.val - 1) (Nat.lt_of_le_of_lt (Nat.sub_le _ _) t.isLt)).2.2.2.2.1 i) + ((low (fun a s => sum8 fun k => dwR lg lb (part k zu) (part k zv) (part k y) a s) (i 1) (i 2) : ℝ) : EReal) := by
  generalize hp : (outsAt0 m c (t.val - 1) (Nat.lt_of_le_of_lt (Nat.sub_le _ _) t.isLt)).2.2.2.2.1 = p
  by_cases c1 : t.val % 4 = 3
  all_goals
    first | rw [outsAt0_B m c t c0 c1] | rw [outsAt0_C m c t c0 c1]
    frame_out
    rw [hp]
    rw [e3, e4]
    have hz0 : View.ld (iblk m c 0 t) (Rect.unit ![0, 0] ![128, 128] inb_S1024x128_S128x128_0_0) = mat (part 0 zu) := by
      rw [e0]; funext i; pointwise [tile, mat, part]
    generalize View.ld (iblk m c 0 t) (Rect.unit ![0, 0] ![128, 128] inb_S1024x128_S128x128_0_0) = z0 at hz0 ⊢
    have hv0 : View.ld (iblk m c 1 t) (Rect.unit ![0, 0] ![128, 128] inb_S1024x128_S128x128_0_0) = mat (part 0 zv) := by
      rw [e1]; funext i; pointwise [tile, mat, part]
    generalize View.ld (iblk m c 1 t) (Rect.unit ![0, 0] ![128, 128] inb_S1024x128_S128x128_0_0) = v0 at hv0 ⊢
    have hx0 : View.ld (iblk m c 2 t) (Rect.unit ![0, 0] ![128, 128] inb_S1024x128_S128x128_0_0) = matb (part 0 y) := by
      rw [e2]; funext i; pointwise [tileb, matb, part]
    generalize View.ld (iblk m c 2 t) (Rect.unit ![0, 0] ![128, 128] inb_S1024x128_S128x128_0_0) = x0 at hx0 ⊢
    have hz1 : View.ld (iblk m c 0 t) (Rect.unit ![128, 0] ![128, 128] inb_S1024x128_S128x128_128_0) = mat (part 1 zu) := by
      rw [e0]; funext i; pointwise [tile, mat, part]
    generalize View.ld (iblk m c 0 t) (Rect.unit ![128, 0] ![128, 128] inb_S1024x128_S128x128_128_0) = z1 at hz1 ⊢
    have hv1 : View.ld (iblk m c 1 t) (Rect.unit ![128, 0] ![128, 128] inb_S1024x128_S128x128_128_0) = mat (part 1 zv) := by
      rw [e1]; funext i; pointwise [tile, mat, part]
    generalize View.ld (iblk m c 1 t) (Rect.unit ![128, 0] ![128, 128] inb_S1024x128_S128x128_128_0) = v1 at hv1 ⊢
    have hx1 : View.ld (iblk m c 2 t) (Rect.unit ![128, 0] ![128, 128] inb_S1024x128_S128x128_128_0) = matb (part 1 y) := by
      rw [e2]; funext i; pointwise [tileb, matb, part]
    generalize View.ld (iblk m c 2 t) (Rect.unit ![128, 0] ![128, 128] inb_S1024x128_S128x128_128_0) = x1 at hx1 ⊢
    have hz2 : View.ld (iblk m c 0 t) (Rect.unit ![256, 0] ![128, 128] inb_S1024x128_S128x128_256_0) = mat (part 2 zu) := by
      rw [e0]; funext i; pointwise [tile, mat, part]
    generalize View.ld (iblk m c 0 t) (Rect.unit ![256, 0] ![128, 128] inb_S1024x128_S128x128_256_0) = z2 at hz2 ⊢
    have hv2 : View.ld (iblk m c 1 t) (Rect.unit ![256, 0] ![128, 128] inb_S1024x128_S128x128_256_0) = mat (part 2 zv) := by
      rw [e1]; funext i; pointwise [tile, mat, part]
    generalize View.ld (iblk m c 1 t) (Rect.unit ![256, 0] ![128, 128] inb_S1024x128_S128x128_256_0) = v2 at hv2 ⊢
    have hx2 : View.ld (iblk m c 2 t) (Rect.unit ![256, 0] ![128, 128] inb_S1024x128_S128x128_256_0) = matb (part 2 y) := by
      rw [e2]; funext i; pointwise [tileb, matb, part]
    generalize View.ld (iblk m c 2 t) (Rect.unit ![256, 0] ![128, 128] inb_S1024x128_S128x128_256_0) = x2 at hx2 ⊢
    have hz3 : View.ld (iblk m c 0 t) (Rect.unit ![384, 0] ![128, 128] inb_S1024x128_S128x128_384_0) = mat (part 3 zu) := by
      rw [e0]; funext i; pointwise [tile, mat, part]
    generalize View.ld (iblk m c 0 t) (Rect.unit ![384, 0] ![128, 128] inb_S1024x128_S128x128_384_0) = z3 at hz3 ⊢
    have hv3 : View.ld (iblk m c 1 t) (Rect.unit ![384, 0] ![128, 128] inb_S1024x128_S128x128_384_0) = mat (part 3 zv) := by
      rw [e1]; funext i; pointwise [tile, mat, part]
    generalize View.ld (iblk m c 1 t) (Rect.unit ![384, 0] ![128, 128] inb_S1024x128_S128x128_384_0) = v3 at hv3 ⊢
    have hx3 : View.ld (iblk m c 2 t) (Rect.unit ![384, 0] ![128, 128] inb_S1024x128_S128x128_384_0) = matb (part 3 y) := by
      rw [e2]; funext i; pointwise [tileb, matb, part]
    generalize View.ld (iblk m c 2 t) (Rect.unit ![384, 0] ![128, 128] inb_S1024x128_S128x128_384_0) = x3 at hx3 ⊢
    have hz4 : View.ld (iblk m c 0 t) (Rect.unit ![512, 0] ![128, 128] inb_S1024x128_S128x128_512_0) = mat (part 4 zu) := by
      rw [e0]; funext i; pointwise [tile, mat, part]
    generalize View.ld (iblk m c 0 t) (Rect.unit ![512, 0] ![128, 128] inb_S1024x128_S128x128_512_0) = z4 at hz4 ⊢
    have hv4 : View.ld (iblk m c 1 t) (Rect.unit ![512, 0] ![128, 128] inb_S1024x128_S128x128_512_0) = mat (part 4 zv) := by
      rw [e1]; funext i; pointwise [tile, mat, part]
    generalize View.ld (iblk m c 1 t) (Rect.unit ![512, 0] ![128, 128] inb_S1024x128_S128x128_512_0) = v4 at hv4 ⊢
    have hx4 : View.ld (iblk m c 2 t) (Rect.unit ![512, 0] ![128, 128] inb_S1024x128_S128x128_512_0) = matb (part 4 y) := by
      rw [e2]; funext i; pointwise [tileb, matb, part]
    generalize View.ld (iblk m c 2 t) (Rect.unit ![512, 0] ![128, 128] inb_S1024x128_S128x128_512_0) = x4 at hx4 ⊢
    have hz5 : View.ld (iblk m c 0 t) (Rect.unit ![640, 0] ![128, 128] inb_S1024x128_S128x128_640_0) = mat (part 5 zu) := by
      rw [e0]; funext i; pointwise [tile, mat, part]
    generalize View.ld (iblk m c 0 t) (Rect.unit ![640, 0] ![128, 128] inb_S1024x128_S128x128_640_0) = z5 at hz5 ⊢
    have hv5 : View.ld (iblk m c 1 t) (Rect.unit ![640, 0] ![128, 128] inb_S1024x128_S128x128_640_0) = mat (part 5 zv) := by
      rw [e1]; funext i; pointwise [tile, mat, part]
    generalize View.ld (iblk m c 1 t) (Rect.unit ![640, 0] ![128, 128] inb_S1024x128_S128x128_640_0) = v5 at hv5 ⊢
    have hx5 : View.ld (iblk m c 2 t) (Rect.unit ![640, 0] ![128, 128] inb_S1024x128_S128x128_640_0) = matb (part 5 y) := by
      rw [e2]; funext i; pointwise [tileb, matb, part]
    generalize View.ld (iblk m c 2 t) (Rect.unit ![640, 0] ![128, 128] inb_S1024x128_S128x128_640_0) = x5 at hx5 ⊢
    have hz6 : View.ld (iblk m c 0 t) (Rect.unit ![768, 0] ![128, 128] inb_S1024x128_S128x128_768_0) = mat (part 6 zu) := by
      rw [e0]; funext i; pointwise [tile, mat, part]
    generalize View.ld (iblk m c 0 t) (Rect.unit ![768, 0] ![128, 128] inb_S1024x128_S128x128_768_0) = z6 at hz6 ⊢
    have hv6 : View.ld (iblk m c 1 t) (Rect.unit ![768, 0] ![128, 128] inb_S1024x128_S128x128_768_0) = mat (part 6 zv) := by
      rw [e1]; funext i; pointwise [tile, mat, part]
    generalize View.ld (iblk m c 1 t) (Rect.unit ![768, 0] ![128, 128] inb_S1024x128_S128x128_768_0) = v6 at hv6 ⊢
    have hx6 : View.ld (iblk m c 2 t) (Rect.unit ![768, 0] ![128, 128] inb_S1024x128_S128x128_768_0) = matb (part 6 y) := by
      rw [e2]; funext i; pointwise [tileb, matb, part]
    generalize View.ld (iblk m c 2 t) (Rect.unit ![768, 0] ![128, 128] inb_S1024x128_S128x128_768_0) = x6 at hx6 ⊢
    have hz7 : View.ld (iblk m c 0 t) (Rect.unit ![896, 0] ![128, 128] inb_S1024x128_S128x128_896_0) = mat (part 7 zu) := by
      rw [e0]; funext i; pointwise [tile, mat, part]
    generalize View.ld (iblk m c 0 t) (Rect.unit ![896, 0] ![128, 128] inb_S1024x128_S128x128_896_0) = z7 at hz7 ⊢
    have hv7 : View.ld (iblk m c 1 t) (Rect.unit ![896, 0] ![128, 128] inb_S1024x128_S128x128_896_0) = mat (part 7 zv) := by
      rw [e1]; funext i; pointwise [tile, mat, part]
    generalize View.ld (iblk m c 1 t) (Rect.unit ![896, 0] ![128, 128] inb_S1024x128_S128x128_896_0) = v7 at hv7 ⊢
    have hx7 : View.ld (iblk m c 2 t) (Rect.unit ![896, 0] ![128, 128] inb_S1024x128_S128x128_896_0) = matb (part 7 y) := by
      rw [e2]; funext i; pointwise [tileb, matb, part]
    generalize View.ld (iblk m c 2 t) (Rect.unit ![896, 0] ![128, 128] inb_S1024x128_S128x128_896_0) = x7 at hx7 ⊢
    refine Eq.trans (b := k0_pay192 k0_pay3 (dwC (gain lg) (gain lb) (dwC (gain lg) (gain lb) (dwC (gain lg) (gain lb) (dwC (gain lg) (gain lb) (dwC (gain lg) (gain lb) (dwC (gain lg) (gain lb) (dwC (gain lg) (gain lb) (dwC (gain lg) (gain lb) k0_pay11 z0 v0 x0) z1 v1 x1) z2 v2 x2) z3 v3 x3) z4 v4 x4) z5 v5 x5) z6 v6 x6) z7 v7 x7) p i) (by sl_kernel_rfl) ?_
    rw [hz0, hv0, hx0, hz1, hv1, hx1, hz2, hv2, hx2, hz3, hv3, hx3, hz4, hv4, hx4, hz5, hv5, hx5, hz6, hv6, hx6, hz7, hv7, hx7, pay11]
    iterate 8 rw [dwC_eq]
    rw [pay192]
    exact congrArg (fun f : Mat => (show EReal from p i) + ((low f (i 1) (i 2) : ℝ) : EReal)) (funext fun a => funext fun s => sum8_eq fun k => dwR lg lb (part k zu) (part k zv) (part k y) a s)

theorem point_sp_first (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : t.val % 4 = 0) (i) :
    (outsAt0 m c t.val t.isLt).2.2.2.2.2.2 i = ((sum8 fun k => back (part k zu) (part k y) (i 0) (i 1) : ℝ) : EReal) := by
  rw [outsAt0_A m c t c0 (by omega)]
  frame_out
  have hz0 : View.ld (iblk m c 0 t) (Rect.unit ![0, 0] ![128, 128] inb_S1024x128_S128x128_0_0) = mat (part 0 zu) := by
    rw [e0]; funext i; pointwise [tile, mat, part]
  generalize View.ld (iblk m c 0 t) (Rect.unit ![0, 0] ![128, 128] inb_S1024x128_S128x128_0_0) = z0 at hz0 ⊢
  have hx0 : View.ld (iblk m c 2 t) (Rect.unit ![0, 0] ![128, 128] inb_S1024x128_S128x128_0_0) = matb (part 0 y) := by
    rw [e2]; funext i; pointwise [tileb, matb, part]
  generalize View.ld (iblk m c 2 t) (Rect.unit ![0, 0] ![128, 128] inb_S1024x128_S128x128_0_0) = x0 at hx0 ⊢
  have hz1 : View.ld (iblk m c 0 t) (Rect.unit ![128, 0] ![128, 128] inb_S1024x128_S128x128_128_0) = mat (part 1 zu) := by
    rw [e0]; funext i; pointwise [tile, mat, part]
  generalize View.ld (iblk m c 0 t) (Rect.unit ![128, 0] ![128, 128] inb_S1024x128_S128x128_128_0) = z1 at hz1 ⊢
  have hx1 : View.ld (iblk m c 2 t) (Rect.unit ![128, 0] ![128, 128] inb_S1024x128_S128x128_128_0) = matb (part 1 y) := by
    rw [e2]; funext i; pointwise [tileb, matb, part]
  generalize View.ld (iblk m c 2 t) (Rect.unit ![128, 0] ![128, 128] inb_S1024x128_S128x128_128_0) = x1 at hx1 ⊢
  have hz2 : View.ld (iblk m c 0 t) (Rect.unit ![256, 0] ![128, 128] inb_S1024x128_S128x128_256_0) = mat (part 2 zu) := by
    rw [e0]; funext i; pointwise [tile, mat, part]
  generalize View.ld (iblk m c 0 t) (Rect.unit ![256, 0] ![128, 128] inb_S1024x128_S128x128_256_0) = z2 at hz2 ⊢
  have hx2 : View.ld (iblk m c 2 t) (Rect.unit ![256, 0] ![128, 128] inb_S1024x128_S128x128_256_0) = matb (part 2 y) := by
    rw [e2]; funext i; pointwise [tileb, matb, part]
  generalize View.ld (iblk m c 2 t) (Rect.unit ![256, 0] ![128, 128] inb_S1024x128_S128x128_256_0) = x2 at hx2 ⊢
  have hz3 : View.ld (iblk m c 0 t) (Rect.unit ![384, 0] ![128, 128] inb_S1024x128_S128x128_384_0) = mat (part 3 zu) := by
    rw [e0]; funext i; pointwise [tile, mat, part]
  generalize View.ld (iblk m c 0 t) (Rect.unit ![384, 0] ![128, 128] inb_S1024x128_S128x128_384_0) = z3 at hz3 ⊢
  have hx3 : View.ld (iblk m c 2 t) (Rect.unit ![384, 0] ![128, 128] inb_S1024x128_S128x128_384_0) = matb (part 3 y) := by
    rw [e2]; funext i; pointwise [tileb, matb, part]
  generalize View.ld (iblk m c 2 t) (Rect.unit ![384, 0] ![128, 128] inb_S1024x128_S128x128_384_0) = x3 at hx3 ⊢
  have hz4 : View.ld (iblk m c 0 t) (Rect.unit ![512, 0] ![128, 128] inb_S1024x128_S128x128_512_0) = mat (part 4 zu) := by
    rw [e0]; funext i; pointwise [tile, mat, part]
  generalize View.ld (iblk m c 0 t) (Rect.unit ![512, 0] ![128, 128] inb_S1024x128_S128x128_512_0) = z4 at hz4 ⊢
  have hx4 : View.ld (iblk m c 2 t) (Rect.unit ![512, 0] ![128, 128] inb_S1024x128_S128x128_512_0) = matb (part 4 y) := by
    rw [e2]; funext i; pointwise [tileb, matb, part]
  generalize View.ld (iblk m c 2 t) (Rect.unit ![512, 0] ![128, 128] inb_S1024x128_S128x128_512_0) = x4 at hx4 ⊢
  have hz5 : View.ld (iblk m c 0 t) (Rect.unit ![640, 0] ![128, 128] inb_S1024x128_S128x128_640_0) = mat (part 5 zu) := by
    rw [e0]; funext i; pointwise [tile, mat, part]
  generalize View.ld (iblk m c 0 t) (Rect.unit ![640, 0] ![128, 128] inb_S1024x128_S128x128_640_0) = z5 at hz5 ⊢
  have hx5 : View.ld (iblk m c 2 t) (Rect.unit ![640, 0] ![128, 128] inb_S1024x128_S128x128_640_0) = matb (part 5 y) := by
    rw [e2]; funext i; pointwise [tileb, matb, part]
  generalize View.ld (iblk m c 2 t) (Rect.unit ![640, 0] ![128, 128] inb_S1024x128_S128x128_640_0) = x5 at hx5 ⊢
  have hz6 : View.ld (iblk m c 0 t) (Rect.unit ![768, 0] ![128, 128] inb_S1024x128_S128x128_768_0) = mat (part 6 zu) := by
    rw [e0]; funext i; pointwise [tile, mat, part]
  generalize View.ld (iblk m c 0 t) (Rect.unit ![768, 0] ![128, 128] inb_S1024x128_S128x128_768_0) = z6 at hz6 ⊢
  have hx6 : View.ld (iblk m c 2 t) (Rect.unit ![768, 0] ![128, 128] inb_S1024x128_S128x128_768_0) = matb (part 6 y) := by
    rw [e2]; funext i; pointwise [tileb, matb, part]
  generalize View.ld (iblk m c 2 t) (Rect.unit ![768, 0] ![128, 128] inb_S1024x128_S128x128_768_0) = x6 at hx6 ⊢
  have hz7 : View.ld (iblk m c 0 t) (Rect.unit ![896, 0] ![128, 128] inb_S1024x128_S128x128_896_0) = mat (part 7 zu) := by
    rw [e0]; funext i; pointwise [tile, mat, part]
  generalize View.ld (iblk m c 0 t) (Rect.unit ![896, 0] ![128, 128] inb_S1024x128_S128x128_896_0) = z7 at hz7 ⊢
  have hx7 : View.ld (iblk m c 2 t) (Rect.unit ![896, 0] ![128, 128] inb_S1024x128_S128x128_896_0) = matb (part 7 y) := by
    rw [e2]; funext i; pointwise [tileb, matb, part]
  generalize View.ld (iblk m c 2 t) (Rect.unit ![896, 0] ![128, 128] inb_S1024x128_S128x128_896_0) = x7 at hx7 ⊢
  refine Eq.trans (b := k0_pay1 (k0_pay193 (spC  (spC  (spC  (spC  (spC  (spC  (spC  (spC  k0_pay12 z0 x0) z1 x1) z2 x2) z3 x3) z4 x4) z5 x5) z6 x6) z7 x7) (k0_pay8 (F := Ideal))) i) (by sl_kernel_rfl) ?_
  rw [hz0, hx0, hz1, hx1, hz2, hx2, hz3, hx3, hz4, hx4, hz5, hx5, hz6, hx6, hz7, hx7, pay12]
  iterate 8 rw [spC_eq]
  rw [pay193]
  exact (congrArg (fun r : EReal => r + _) (pay8 i)).trans ((zero_add _).trans (congrArg (fun r : ℝ => (r : EReal)) (sum8_eq fun k => back (part k zu) (part k y) (i 0) (i 1))))

theorem point_sp_next (c : Dev nD) (t : Fin cfg0.N) (zu zv y : Full) (lg lb b : Row) (w : Mat)
    (e0 : iblk m c 0 t = tile zu) (e1 : iblk m c 1 t = tile zv) (e2 : iblk m c 2 t = tileb y) (e3 : iblk m c 3 t = gain lg)
    (e4 : iblk m c 4 t = gain lb) (e5 : iblk m c 5 t = weight w) (e6 : iblk m c 6 t = bias b) (c0 : ¬t.val % 4 = 0) (i) :
    (outsAt0 m c t.val t.isLt).2.2.2.2.2.2 i = (show EReal from (outsAt0 m c (t.val - 1) (Nat.lt_of_le_of_lt (Nat.sub_le _ _) t.isLt)).2.2.2.2.2.2 i) + ((sum8 fun k => back (part k zu) (part k y) (i 0) (i 1) : ℝ) : EReal) := by
  generalize hp : (outsAt0 m c (t.val - 1) (Nat.lt_of_le_of_lt (Nat.sub_le _ _) t.isLt)).2.2.2.2.2.2 = p
  by_cases c1 : t.val % 4 = 3
  all_goals
    first | rw [outsAt0_B m c t c0 c1] | rw [outsAt0_C m c t c0 c1]
    frame_out
    rw [read_unread_whole]
    rw [hp]
    have hz0 : View.ld (iblk m c 0 t) (Rect.unit ![0, 0] ![128, 128] inb_S1024x128_S128x128_0_0) = mat (part 0 zu) := by
      rw [e0]; funext i; pointwise [tile, mat, part]
    generalize View.ld (iblk m c 0 t) (Rect.unit ![0, 0] ![128, 128] inb_S1024x128_S128x128_0_0) = z0 at hz0 ⊢
    have hx0 : View.ld (iblk m c 2 t) (Rect.unit ![0, 0] ![128, 128] inb_S1024x128_S128x128_0_0) = matb (part 0 y) := by
      rw [e2]; funext i; pointwise [tileb, matb, part]
    generalize View.ld (iblk m c 2 t) (Rect.unit ![0, 0] ![128, 128] inb_S1024x128_S128x128_0_0) = x0 at hx0 ⊢
    have hz1 : View.ld (iblk m c 0 t) (Rect.unit ![128, 0] ![128, 128] inb_S1024x128_S128x128_128_0) = mat (part 1 zu) := by
      rw [e0]; funext i; pointwise [tile, mat, part]
    generalize View.ld (iblk m c 0 t) (Rect.unit ![128, 0] ![128, 128] inb_S1024x128_S128x128_128_0) = z1 at hz1 ⊢
    have hx1 : View.ld (iblk m c 2 t) (Rect.unit ![128, 0] ![128, 128] inb_S1024x128_S128x128_128_0) = matb (part 1 y) := by
      rw [e2]; funext i; pointwise [tileb, matb, part]
    generalize View.ld (iblk m c 2 t) (Rect.unit ![128, 0] ![128, 128] inb_S1024x128_S128x128_128_0) = x1 at hx1 ⊢
    have hz2 : View.ld (iblk m c 0 t) (Rect.unit ![256, 0] ![128, 128] inb_S1024x128_S128x128_256_0) = mat (part 2 zu) := by
      rw [e0]; funext i; pointwise [tile, mat, part]
    generalize View.ld (iblk m c 0 t) (Rect.unit ![256, 0] ![128, 128] inb_S1024x128_S128x128_256_0) = z2 at hz2 ⊢
    have hx2 : View.ld (iblk m c 2 t) (Rect.unit ![256, 0] ![128, 128] inb_S1024x128_S128x128_256_0) = matb (part 2 y) := by
      rw [e2]; funext i; pointwise [tileb, matb, part]
    generalize View.ld (iblk m c 2 t) (Rect.unit ![256, 0] ![128, 128] inb_S1024x128_S128x128_256_0) = x2 at hx2 ⊢
    have hz3 : View.ld (iblk m c 0 t) (Rect.unit ![384, 0] ![128, 128] inb_S1024x128_S128x128_384_0) = mat (part 3 zu) := by
      rw [e0]; funext i; pointwise [tile, mat, part]
    generalize View.ld (iblk m c 0 t) (Rect.unit ![384, 0] ![128, 128] inb_S1024x128_S128x128_384_0) = z3 at hz3 ⊢
    have hx3 : View.ld (iblk m c 2 t) (Rect.unit ![384, 0] ![128, 128] inb_S1024x128_S128x128_384_0) = matb (part 3 y) := by
      rw [e2]; funext i; pointwise [tileb, matb, part]
    generalize View.ld (iblk m c 2 t) (Rect.unit ![384, 0] ![128, 128] inb_S1024x128_S128x128_384_0) = x3 at hx3 ⊢
    have hz4 : View.ld (iblk m c 0 t) (Rect.unit ![512, 0] ![128, 128] inb_S1024x128_S128x128_512_0) = mat (part 4 zu) := by
      rw [e0]; funext i; pointwise [tile, mat, part]
    generalize View.ld (iblk m c 0 t) (Rect.unit ![512, 0] ![128, 128] inb_S1024x128_S128x128_512_0) = z4 at hz4 ⊢
    have hx4 : View.ld (iblk m c 2 t) (Rect.unit ![512, 0] ![128, 128] inb_S1024x128_S128x128_512_0) = matb (part 4 y) := by
      rw [e2]; funext i; pointwise [tileb, matb, part]
    generalize View.ld (iblk m c 2 t) (Rect.unit ![512, 0] ![128, 128] inb_S1024x128_S128x128_512_0) = x4 at hx4 ⊢
    have hz5 : View.ld (iblk m c 0 t) (Rect.unit ![640, 0] ![128, 128] inb_S1024x128_S128x128_640_0) = mat (part 5 zu) := by
      rw [e0]; funext i; pointwise [tile, mat, part]
    generalize View.ld (iblk m c 0 t) (Rect.unit ![640, 0] ![128, 128] inb_S1024x128_S128x128_640_0) = z5 at hz5 ⊢
    have hx5 : View.ld (iblk m c 2 t) (Rect.unit ![640, 0] ![128, 128] inb_S1024x128_S128x128_640_0) = matb (part 5 y) := by
      rw [e2]; funext i; pointwise [tileb, matb, part]
    generalize View.ld (iblk m c 2 t) (Rect.unit ![640, 0] ![128, 128] inb_S1024x128_S128x128_640_0) = x5 at hx5 ⊢
    have hz6 : View.ld (iblk m c 0 t) (Rect.unit ![768, 0] ![128, 128] inb_S1024x128_S128x128_768_0) = mat (part 6 zu) := by
      rw [e0]; funext i; pointwise [tile, mat, part]
    generalize View.ld (iblk m c 0 t) (Rect.unit ![768, 0] ![128, 128] inb_S1024x128_S128x128_768_0) = z6 at hz6 ⊢
    have hx6 : View.ld (iblk m c 2 t) (Rect.unit ![768, 0] ![128, 128] inb_S1024x128_S128x128_768_0) = matb (part 6 y) := by
      rw [e2]; funext i; pointwise [tileb, matb, part]
    generalize View.ld (iblk m c 2 t) (Rect.unit ![768, 0] ![128, 128] inb_S1024x128_S128x128_768_0) = x6 at hx6 ⊢
    have hz7 : View.ld (iblk m c 0 t) (Rect.unit ![896, 0] ![128, 128] inb_S1024x128_S128x128_896_0) = mat (part 7 zu) := by
      rw [e0]; funext i; pointwise [tile, mat, part]
    generalize View.ld (iblk m c 0 t) (Rect.unit ![896, 0] ![128, 128] inb_S1024x128_S128x128_896_0) = z7 at hz7 ⊢
    have hx7 : View.ld (iblk m c 2 t) (Rect.unit ![896, 0] ![128, 128] inb_S1024x128_S128x128_896_0) = matb (part 7 y) := by
      rw [e2]; funext i; pointwise [tileb, matb, part]
    generalize View.ld (iblk m c 2 t) (Rect.unit ![896, 0] ![128, 128] inb_S1024x128_S128x128_896_0) = x7 at hx7 ⊢
    refine Eq.trans (b := k0_pay1 (k0_pay193 (spC  (spC  (spC  (spC  (spC  (spC  (spC  (spC  k0_pay12 z0 x0) z1 x1) z2 x2) z3 x3) z4 x4) z5 x5) z6 x6) z7 x7) p) i) (by sl_kernel_rfl) ?_
    rw [hz0, hx0, hz1, hx1, hz2, hx2, hz3, hx3, hz4, hx4, hz5, hx5, hz6, hx6, hz7, hx7, pay12]
    iterate 8 rw [spC_eq]
    rw [pay193]
    exact congrArg (fun r : ℝ => (show EReal from p i) + (r : EReal)) (sum8_eq fun k => back (part k zu) (part k y) (i 0) (i 1))

/-- At a head's last tile the bias's gradient is the row sums of what is carried. -/
theorem point_db (c : Dev nD) (t : Fin cfg0.N) (c1 : t.val % 4 = 3) :
    (outsAt0 m c t.val t.isLt).2.2.2.2.2.1 = k0_pay2 (outsAt0 m c t.val t.isLt).2.2.2.2.2.2 := by
  rw [outsAt0_C m c t (by omega) c1]
  frame_out

end Cert.KernelIdeal.Value
end
-- ==== Proof.SguArrays.lean ====
/- What the kernel's six result arrays hold, at real arguments. -/
module

public import proofs.«01_k».proof.Proof.SguPoint
public import proofs.«01_k».proof.Proof.SguSums

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Reals Cert.Sgu

variable (m : (ℓ : Loc nD τ sig) → Buf (Elt Ideal) ℓ)

theorem idx_val : ∀ t : Fin cfg0.N, win0_0.index t = ![t.val % 4, t.val / 4] ∧ win0_1.index t = ![t.val % 4, 4 + t.val / 4]
    ∧ win0_2.index t = ![t.val % 4, t.val / 4] ∧ win0_3.index t = ![t.val / 4, 0, 0] ∧ win0_4.index t = ![t.val / 4, 0, 0]
    ∧ win0_5.index t = ![t.val / 4, 0, 0] ∧ win0_6.index t = ![t.val / 4, 0, 0] ∧ win0_7.index t = ![t.val % 4, t.val / 4]
    ∧ win0_8.index t = ![t.val % 4, t.val / 4] ∧ win0_9.index t = ![t.val / 4, 0, 0] ∧ win0_10.index t = ![t.val / 4, 0, 0]
    ∧ win0_11.index t = ![t.val / 4, 0, 0] ∧ win0_12.index t = ![t.val / 4, 0, 0] :=
  (by decide +kernel : ∀ t : Fin grid0.N, _)

theorem lt16 (t : Fin cfg0.N) : t.val < 16 := by
  have h := t.isLt; exact lt_of_lt_of_eq h N_0

/-- The arguments hold the real arrays of `a`. -/
def Holds (c : Dev nD) (a : Args) : Prop :=
  m ((c : Thread nD τ).loc main_arg0) = (fun i => ((a.z (i 0) (i 1) : ℝ) : EReal))
  ∧ m ((c : Thread nD τ).loc main_arg1) = (fun i => ((a.y (i 0) (i 1) : ℝ) : EReal))
  ∧ m ((c : Thread nD τ).loc main_arg2) = (fun i => ((a.g (i 0) (i 1) : ℝ) : EReal))
  ∧ m ((c : Thread nD τ).loc main_arg3) = (fun i => ((a.b (i 0) (i 1) : ℝ) : EReal))
  ∧ m ((c : Thread nD τ).loc main_arg4) = (fun i => ((a.w (i 0) (i 1) (i 2) : ℝ) : EReal))
  ∧ m ((c : Thread nD τ).loc main_arg5) = (fun i => ((a.c (i 0) (i 1) : ℝ) : EReal))

/-- The head and the tile of a grid point. -/
def head (t : Fin cfg0.N) : Fin 4 := ⟨t.val / 4, by have := lt16 t; omega⟩

def tzu (a : Args) (t : Fin cfg0.N) : Full := fun r d => a.z ⟨t.val % 4 * 1024 + r.val, by omega⟩ ⟨t.val / 4 * 128 + d.val, by have := lt16 t; omega⟩
def tzv (a : Args) (t : Fin cfg0.N) : Full := fun r d => a.z ⟨t.val % 4 * 1024 + r.val, by omega⟩ ⟨(4 + t.val / 4) * 128 + d.val, by have := lt16 t; omega⟩
def ty (a : Args) (t : Fin cfg0.N) : Full := fun r d => a.y ⟨t.val % 4 * 1024 + r.val, by omega⟩ ⟨t.val / 4 * 128 + d.val, by have := lt16 t; omega⟩

def chunk (t : Fin cfg0.N) (k : Fin 8) : Fin 32 := ⟨8 * (t.val % 4) + k.val, by omega⟩

theorem part_zu (a : Args) (t : Fin cfg0.N) (k : Fin 8) : part k (tzu a t) = a.zu (head t) (chunk t k) := by
  funext s d
  exact congrArg₂ a.z (Fin.ext (by simp only [chunk]; omega)) (Fin.ext (by simp only [head]))
theorem part_zv (a : Args) (t : Fin cfg0.N) (k : Fin 8) : part k (tzv a t) = a.zv (head t) (chunk t k) := by
  funext s d
  exact congrArg₂ a.z (Fin.ext (by simp only [chunk]; omega)) (Fin.ext (by simp only [head]; omega))
theorem part_y (a : Args) (t : Fin cfg0.N) (k : Fin 8) : part k (ty a t) = a.yc (head t) (chunk t k) := by
  funext s d
  exact congrArg₂ a.y (Fin.ext (by simp only [chunk]; omega)) (Fin.ext (by simp only [head]))

/-- The two large results as real numbers by row and column. -/
def flat (f : Fin 4 → Fin 32 → Mat) (r : Fin 4096) (q : Fin 512) : ℝ :=
  f ⟨q.val / 128, by omega⟩ ⟨r.val / 128, by omega⟩ ⟨r.val % 128, by omega⟩ ⟨q.val % 128, by omega⟩

theorem flat_at (f : Fin 4 → Fin 32 → Mat) (t : Fin cfg0.N) (y : S1024x128.Idx) (r : Fin 4096) (q : Fin 512)
    (hr : r.val = t.val % 4 * 1024 + 1 * (y 0).val) (hq : q.val = t.val / 4 * 128 + 1 * (y 1).val) :
    tileb (joined fun k => f (head t) (chunk t k)) y = ((flat f r q : ℝ) : EReal) := by
  have hy0 : (y 0).val < 1024 := (y 0).isLt
  have hy1 : (y 1).val < 128 := (y 1).isLt
  have e1 : (⟨q.val / 128, by omega⟩ : Fin 4) = head t := Fin.ext (by simp only [head]; omega)
  have e2 : (⟨r.val / 128, by omega⟩ : Fin 32) = chunk t ⟨(y 0).val / 128, by omega⟩ := Fin.ext (by simp only [chunk]; omega)
  have e3 : (⟨r.val % 128, by omega⟩ : Fin 128) = ⟨(y 0).val % 128, by omega⟩ := Fin.ext (by simp only; omega)
  have e4 : (⟨q.val % 128, by omega⟩ : Fin 128) = y 1 := Fin.ext (by simp only; omega)
  unfold flat
  rw [e1, e2, e3, e4]
  rfl

theorem sum32 (f : Fin 32 → ℝ) : ∑ s : Fin 4, ∑ k : Fin 8, f ⟨8 * s.val + k.val, by omega⟩ = ∑ n, f n := by
  rw [← Equiv.sum_comp (finProdFinEquiv (m := 4) (n := 8)), Fintype.sum_prod_type]
  refine Finset.sum_congr rfl fun s _ => Finset.sum_congr rfl fun k _ => congrArg f (Fin.ext ?_)
  simp only [finProdFinEquiv_apply_val]; omega

/-- Four points' sums of eight are the sum over a head's chunks. -/
theorem carried {ι : Type} (f : (n : ℕ) → n < cfg0.N → ι → EReal) (g : Fin 4 → Fin 32 → ι → ℝ)
    (h0 : ∀ t : Fin cfg0.N, t.val % 4 = 0 → ∀ i, f t.val t.isLt i = ((sum8 fun k => g (head t) (chunk t k) i : ℝ) : EReal))
    (hs : ∀ t : Fin cfg0.N, ¬t.val % 4 = 0 → ∀ i, f t.val t.isLt i = f (t.val - 1) (Nat.lt_of_le_of_lt (Nat.sub_le _ _) t.isLt) i
      + ((sum8 fun k => g (head t) (chunk t k) i : ℝ) : EReal))
    (t : Fin cfg0.N) (hr : t.val % 4 = 3) (i : ι) : f t.val t.isLt i = ((∑ n, g (head t) n i : ℝ) : EReal) := by
  have ht := lt16 t
  rw [Pipeline.eq_sum_fin_of_reset_step_apply_of_flush f 4 (fun _ => 0) (fun t i => ((sum8 fun k => g (head t) (chunk t k) i : ℝ) : EReal))
    (fun t h i => by rw [h0 t h i, zero_add]) hs t hr i, zero_add, coe_sum, EReal.coe_eq_coe_iff, ← sum32]
  refine Finset.sum_congr rfl fun s _ => ?_
  unfold sum8
  refine Finset.sum_congr rfl fun k _ => ?_
  exact congrArg₂ (fun h n => g h n i) (Fin.ext (by simp only [head]; omega)) (Fin.ext (by simp only [chunk]; omega))

theorem low_sum8 (f : Fin 8 → Mat) (t s : Fin 128) : low (fun t s => sum8 fun k => f k t s) t s = sum8 fun k => low (f k) t s := by
  unfold low
  split
  · rfl
  · simp [sum8]
theorem low_sum (f : Fin 32 → Mat) (t s : Fin 128) : ∑ n, low (f n) t s = low (fun t s => ∑ n, f n t s) t s := by
  unfold low
  split
  · rfl
  · simp

section
variable {m} {c : Dev nD} {a : Args} (h : Holds m c a) (t : Fin cfg0.N)

theorem ent2 (i : S4096x512.Idx) : Gen.V m c main_v3 i = m ((c : Thread nD τ).loc main_arg1) (ix2 (i 0) ⟨(i 1).val, by have := (i 1).isLt; simp at this; omega⟩) := by
  entry_read
  pointwise []
theorem ent3 (i : S4x1x128.Idx) : Gen.V m c main_v0 i = m ((c : Thread nD τ).loc main_arg2) (ix2 (i 0) (i 2)) := by
  entry_read
  pointwise []
theorem ent4 (i : S4x1x128.Idx) : Gen.V m c main_v1 i = m ((c : Thread nD τ).loc main_arg3) (ix2 (i 0) (i 2)) := by
  entry_read
  pointwise []
theorem ent6 (i : S4x128x1.Idx) : Gen.V m c main_v2 i = m ((c : Thread nD τ).loc main_arg5) (ix2 (i 0) (i 1)) := by
  entry_read
  pointwise []
theorem read0 (i : S1024x128.Idx) : iblk m c 0 t i = m ((c : Thread nD τ).loc main_arg0)
    (ix2 ⟨t.val % 4 * 1024 + (i 0).val, by have := (i 0).isLt; simp at this; omega⟩ ⟨t.val / 4 * 128 + (i 1).val, by have := lt16 t; have := (i 1).isLt; simp at this; omega⟩) := by
  blk_point [iblk, V, idx_val t]
theorem read1 (i : S1024x128.Idx) : iblk m c 1 t i = m ((c : Thread nD τ).loc main_arg0)
    (ix2 ⟨t.val % 4 * 1024 + (i 0).val, by have := (i 0).isLt; simp at this; omega⟩ ⟨(4 + t.val / 4) * 128 + (i 1).val, by have := lt16 t; have := (i 1).isLt; simp at this; omega⟩) := by
  blk_point [iblk, V, idx_val t]
theorem read2 (i : S1024x128.Idx) : iblk m c 2 t i = Gen.V m c main_v3
    (ix2 ⟨t.val % 4 * 1024 + (i 0).val, by have := (i 0).isLt; simp at this; omega⟩ ⟨t.val / 4 * 128 + (i 1).val, by have := lt16 t; have := (i 1).isLt; simp at this; omega⟩) := by
  unfold iblk
  blk_ext [idx_val t]
theorem read3 (i : S1x1x128.Idx) : iblk m c 3 t i = Gen.V m c main_v0 (ix3 (head t) (i 1) (i 2)) := by
  unfold iblk
  blk_ext [idx_val t, head]
theorem read4 (i : S1x1x128.Idx) : iblk m c 4 t i = Gen.V m c main_v1 (ix3 (head t) (i 1) (i 2)) := by
  unfold iblk
  blk_ext [idx_val t, head]
theorem read5 (i : S1x128x128.Idx) : iblk m c 5 t i = m ((c : Thread nD τ).loc main_arg4) (ix3 (head t) (i 1) (i 2)) := by
  blk_point [iblk, V, idx_val t, head]
theorem read6 (i : S1x128x1.Idx) : iblk m c 6 t i = Gen.V m c main_v2 (ix3 (head t) (i 1) (i 2)) := by
  unfold iblk
  blk_ext [idx_val t, head]

include h

theorem blk0 : iblk m c 0 t = tile (tzu a t) := by
  funext i; exact (read0 t i).trans (congrFun h.1 _)
theorem blk1 : iblk m c 1 t = tile (tzv a t) := by
  funext i; exact (read1 t i).trans (congrFun h.1 _)
theorem blk2 : iblk m c 2 t = tileb (ty a t) := by
  funext i; exact ((read2 t i).trans (ent2 _)).trans (congrFun h.2.1 _)
theorem blk3 : iblk m c 3 t = gain (a.g (head t)) := by
  funext i; exact ((read3 t i).trans (ent3 _)).trans (congrFun h.2.2.1 _)
theorem blk4 : iblk m c 4 t = gain (a.b (head t)) := by
  funext i; exact ((read4 t i).trans (ent4 _)).trans (congrFun h.2.2.2.1 _)
theorem blk5 : iblk m c 5 t = weight (a.w (head t)) := by
  funext i; exact (read5 t i).trans (congrFun h.2.2.2.2.1 _)
theorem blk6 : iblk m c 6 t = bias (a.c (head t)) := by
  funext i; exact ((read6 t i).trans (ent6 _)).trans (congrFun h.2.2.2.2.2 _)

theorem value7 : (dats m 0 c).arrAt 7 cfg0.N = fun i => ((flat a.du (i 0) (i 1) : ℝ) : EReal) := by
  refine (dats m 0 c).arrAt_eq_of_cover 7 _ (fun t hf => ?_) (fun i => (covered_iff7 i).2 (by
    have h0 : (i 0).val < 4096 := (i 0).isLt; have h1 : (i 1).val < 512 := (i 1).isLt; omega))
  show (cfg0.win 7).cut (grid0.coords t) ((dats m 0 c).after 7 t) = _
  rw [after0_7, point_du m c t _ _ _ _ _ _ _ (blk0 h t) (blk1 h t) (blk2 h t) (blk3 h t) (blk4 h t) (blk5 h t) (blk6 h t)]
  funext y
  have e0 : win0_7.index t (0 : Fin 2) = t.val % 4 := congrFun (idx_val t).2.2.2.2.2.2.2.1 0
  have e1 : win0_7.index t (1 : Fin 2) = t.val / 4 := congrFun (idx_val t).2.2.2.2.2.2.2.1 1
  have hb0 : (((cfg0.win 7).blk t).view.emb y 0).val = win0_7.index t (0 : Fin 2) * 1024 + 1 * (y 0).val := rfl
  have hb1 : (((cfg0.win 7).blk t).view.emb y 1).val = win0_7.index t (1 : Fin 2) * 128 + 1 * (y 1).val := rfl
  rw [e0] at hb0
  rw [e1] at hb1
  simp only [part_zu, part_zv, part_y]
  exact flat_at a.du t y _ _ hb0 hb1

theorem value8 : (dats m 0 c).arrAt 8 cfg0.N = fun i => ((flat a.dv (i 0) (i 1) : ℝ) : EReal) := by
  refine (dats m 0 c).arrAt_eq_of_cover 8 _ (fun t hf => ?_) (fun i => (covered_iff8 i).2 (by
    have h0 : (i 0).val < 4096 := (i 0).isLt; have h1 : (i 1).val < 512 := (i 1).isLt; omega))
  show (cfg0.win 8).cut (grid0.coords t) ((dats m 0 c).after 8 t) = _
  rw [after0_8, point_dv m c t _ _ _ _ _ _ _ (blk0 h t) (blk1 h t) (blk2 h t) (blk3 h t) (blk4 h t) (blk5 h t) (blk6 h t)]
  funext y
  have e0 : win0_8.index t (0 : Fin 2) = t.val % 4 := congrFun (idx_val t).2.2.2.2.2.2.2.2.1 0
  have e1 : win0_8.index t (1 : Fin 2) = t.val / 4 := congrFun (idx_val t).2.2.2.2.2.2.2.2.1 1
  have hb0 : (((cfg0.win 8).blk t).view.emb y 0).val = win0_8.index t (0 : Fin 2) * 1024 + 1 * (y 0).val := rfl
  have hb1 : (((cfg0.win 8).blk t).view.emb y 1).val = win0_8.index t (1 : Fin 2) * 128 + 1 * (y 1).val := rfl
  rw [e0] at hb0
  rw [e1] at hb1
  simp only [part_zu, part_zv, part_y]
  exact flat_at a.dv t y _ _ hb0 hb1

theorem point9 (t : Fin cfg0.N) (hr : t.val % 4 = 3) (i) : (outsAt0 m c t.val t.isLt).2.2.1 i = ((∑ n, lgR (a.w (head t)) (a.zu (head t) n) (a.zv (head t) n) (a.yc (head t) n) (i 2) : ℝ) : EReal) :=
  carried (fun n h => (outsAt0 m c n h).2.2.1) (fun hd n i => lgR (a.w hd) (a.zu hd n) (a.zv hd n) (a.yc hd n) (i 2))
    (fun t c0 i => by
      refine (point_lg_first m c t _ _ _ _ _ _ _ (blk0 h t) (blk1 h t) (blk2 h t) (blk3 h t) (blk4 h t) (blk5 h t) (blk6 h t) c0 i).trans ?_
      simp only [part_zu, part_zv, part_y])
    (fun t c0 i => by
      refine (point_lg_next m c t _ _ _ _ _ _ _ (blk0 h t) (blk1 h t) (blk2 h t) (blk3 h t) (blk4 h t) (blk5 h t) (blk6 h t) c0 i).trans ?_
      simp only [part_zu, part_zv, part_y]) t hr i

theorem point10 (t : Fin cfg0.N) (hr : t.val % 4 = 3) (i) : (outsAt0 m c t.val t.isLt).2.2.2.1 i = ((∑ n, lbR (a.w (head t)) (a.zu (head t) n) (a.yc (head t) n) (i 2) : ℝ) : EReal) :=
  carried (fun n h => (outsAt0 m c n h).2.2.2.1) (fun hd n i => lbR (a.w hd) (a.zu hd n) (a.yc hd n) (i 2))
    (fun t c0 i => by
      refine (point_lb_first m c t _ _ _ _ _ _ _ (blk0 h t) (blk1 h t) (blk2 h t) (blk3 h t) (blk4 h t) (blk5 h t) (blk6 h t) c0 i).trans ?_
      simp only [part_zu, part_zv, part_y])
    (fun t c0 i => by
      refine (point_lb_next m c t _ _ _ _ _ _ _ (blk0 h t) (blk1 h t) (blk2 h t) (blk3 h t) (blk4 h t) (blk5 h t) (blk6 h t) c0 i).trans ?_
      simp only [part_zu, part_zv, part_y]) t hr i

theorem point11 (t : Fin cfg0.N) (hr : t.val % 4 = 3) (i) : (outsAt0 m c t.val t.isLt).2.2.2.2.1 i = ((∑ n, low (dwR (a.g (head t)) (a.b (head t)) (a.zu (head t) n) (a.zv (head t) n) (a.yc (head t) n)) (i 1) (i 2) : ℝ) : EReal) :=
  carried (fun n h => (outsAt0 m c n h).2.2.2.2.1) (fun hd n i => low (dwR (a.g hd) (a.b hd) (a.zu hd n) (a.zv hd n) (a.yc hd n)) (i 1) (i 2))
    (fun t c0 i => by
      refine (point_dw_first m c t _ _ _ _ _ _ _ (blk0 h t) (blk1 h t) (blk2 h t) (blk3 h t) (blk4 h t) (blk5 h t) (blk6 h t) c0 i).trans ?_
      simp only [part_zu, part_zv, part_y]
      exact congrArg (fun x : ℝ => (x : EReal)) (low_sum8 (fun k => dwR (a.g (head t)) (a.b (head t)) (a.zu (head t) (chunk t k)) (a.zv (head t) (chunk t k)) (a.yc (head t) (chunk t k))) (i 1) (i 2)))
    (fun t c0 i => by
      refine (point_dw_next m c t _ _ _ _ _ _ _ (blk0 h t) (blk1 h t) (blk2 h t) (blk3 h t) (blk4 h t) (blk5 h t) (blk6 h t) c0 i).trans ?_
      simp only [part_zu, part_zv, part_y]
      exact congrArg (fun x : ℝ => (outsAt0 m c (t.val - 1) (Nat.lt_of_le_of_lt (Nat.sub_le _ _) t.isLt)).2.2.2.2.1 i + (x : EReal)) (low_sum8 (fun k => dwR (a.g (head t)) (a.b (head t)) (a.zu (head t) (chunk t k)) (a.zv (head t) (chunk t k)) (a.yc (head t) (chunk t k))) (i 1) (i 2))) t hr i

theorem point12 (t : Fin cfg0.N) (hr : t.val % 4 = 3) (i) : (outsAt0 m c t.val t.isLt).2.2.2.2.2.2 i = ((∑ n, back (a.zu (head t) n) (a.yc (head t) n) (i 0) (i 1) : ℝ) : EReal) :=
  carried (fun n h => (outsAt0 m c n h).2.2.2.2.2.2) (fun hd n i => back (a.zu hd n) (a.yc hd n) (i 0) (i 1))
    (fun t c0 i => by
      refine (point_sp_first m c t _ _ _ _ _ _ _ (blk0 h t) (blk1 h t) (blk2 h t) (blk3 h t) (blk4 h t) (blk5 h t) (blk6 h t) c0 i).trans ?_
      simp only [part_zu, part_zv, part_y])
    (fun t c0 i => by
      refine (point_sp_next m c t _ _ _ _ _ _ _ (blk0 h t) (blk1 h t) (blk2 h t) (blk3 h t) (blk4 h t) (blk5 h t) (blk6 h t) c0 i).trans ?_
      simp only [part_zu, part_zv, part_y]) t hr i

theorem value9 : (dats m 0 c).arrAt 9 cfg0.N = fun i => ((a.dg (i 0) (i 2) : ℝ) : EReal) := by
  refine (dats m 0 c).arrAt_eq_of_cover 9 _ (fun t hf => ?_) (fun i => (covered_iff9 i).2 (by
    have h0 : (i 0).val < 4 := (i 0).isLt; have h1 : (i 1).val < 1 := (i 1).isLt; have h2 : (i 2).val < 128 := (i 2).isLt; omega))
  show (cfg0.win 9).cut (grid0.coords t) ((dats m 0 c).after 9 t) = _
  have hr := (flush0_9 t).mp hf
  funext y
  have e0 : win0_9.index t (0 : Fin 3) = t.val / 4 := congrFun (idx_val t).2.2.2.2.2.2.2.2.2.1 0
  have e1 : win0_9.index t (1 : Fin 3) = 0 := congrFun (idx_val t).2.2.2.2.2.2.2.2.2.1 1
  have e2 : win0_9.index t (2 : Fin 3) = 0 := congrFun (idx_val t).2.2.2.2.2.2.2.2.2.1 2
  have hy0 : (y 0).val < 1 := (y 0).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 1 + 1 * (y 1).val := rfl
  have hb2 : (((cfg0.win 9).blk t).view.emb y 2).val = win0_9.index t (2 : Fin 3) * 128 + 1 * (y 2).val := rfl
  have q0 : ((cfg0.win 9).blk t).view.emb y 0 = head t := Fin.ext (by rw [hb0, e0]; simp only [head]; omega)
  have q1 : ((cfg0.win 9).blk t).view.emb y 1 = y 1 := Fin.ext (by rw [hb1, e1]; omega)
  have q2 : ((cfg0.win 9).blk t).view.emb y 2 = y 2 := Fin.ext (by rw [hb2, e2]; omega)
  rw [after0_9]
  refine (point9 h t hr y).trans ?_
  show _ = ((a.dg (((cfg0.win 9).blk t).view.emb y 0) (((cfg0.win 9).blk t).view.emb y 2) : ℝ) : EReal)
  rw [q0, q2]
  rfl

theorem value10 : (dats m 0 c).arrAt 10 cfg0.N = fun i => ((a.db (i 0) (i 2) : ℝ) : EReal) := by
  refine (dats m 0 c).arrAt_eq_of_cover 10 _ (fun t hf => ?_) (fun i => (covered_iff10 i).2 (by
    have h0 : (i 0).val < 4 := (i 0).isLt; have h1 : (i 1).val < 1 := (i 1).isLt; have h2 : (i 2).val < 128 := (i 2).isLt; omega))
  show (cfg0.win 10).cut (grid0.coords t) ((dats m 0 c).after 10 t) = _
  have hr := (flush0_10 t).mp hf
  funext y
  have e0 : win0_10.index t (0 : Fin 3) = t.val / 4 := congrFun (idx_val t).2.2.2.2.2.2.2.2.2.2.1 0
  have e1 : win0_10.index t (1 : Fin 3) = 0 := congrFun (idx_val t).2.2.2.2.2.2.2.2.2.2.1 1
  have e2 : win0_10.index t (2 : Fin 3) = 0 := congrFun (idx_val t).2.2.2.2.2.2.2.2.2.2.1 2
  have hy0 : (y 0).val < 1 := (y 0).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 1 + 1 * (y 1).val := rfl
  have hb2 : (((cfg0.win 10).blk t).view.emb y 2).val = win0_10.index t (2 : Fin 3) * 128 + 1 * (y 2).val := rfl
  have q0 : ((cfg0.win 10).blk t).view.emb y 0 = head t := Fin.ext (by rw [hb0, e0]; simp only [head]; omega)
  have q1 : ((cfg0.win 10).blk t).view.emb y 1 = y 1 := Fin.ext (by rw [hb1, e1]; omega)
  have q2 : ((cfg0.win 10).blk t).view.emb y 2 = y 2 := Fin.ext (by rw [hb2, e2]; omega)
  rw [after0_10]
  refine (point10 h t hr y).trans ?_
  show _ = ((a.db (((cfg0.win 10).blk t).view.emb y 0) (((cfg0.win 10).blk t).view.emb y 2) : ℝ) : EReal)
  rw [q0, q2]
  rfl

theorem value11 : (dats m 0 c).arrAt 11 cfg0.N = fun i => ((a.dw (i 0) (i 1) (i 2) : ℝ) : EReal) := by
  refine (dats m 0 c).arrAt_eq_of_cover 11 _ (fun t hf => ?_) (fun i => (covered_iff11 i).2 (by
    have h0 : (i 0).val < 4 := (i 0).isLt; have h1 : (i 1).val < 128 := (i 1).isLt; have h2 : (i 2).val < 128 := (i 2).isLt; omega))
  show (cfg0.win 11).cut (grid0.coords t) ((dats m 0 c).after 11 t) = _
  have hr := (flush0_11 t).mp hf
  funext y
  have e0 : win0_11.index t (0 : Fin 3) = t.val / 4 := congrFun (idx_val t).2.2.2.2.2.2.2.2.2.2.2.1 0
  have e1 : win0_11.index t (1 : Fin 3) = 0 := congrFun (idx_val t).2.2.2.2.2.2.2.2.2.2.2.1 1
  have e2 : win0_11.index t (2 : Fin 3) = 0 := congrFun (idx_val t).2.2.2.2.2.2.2.2.2.2.2.1 2
  have hy0 : (y 0).val < 1 := (y 0).isLt
  have hb0 : (((cfg0.win 11).blk t).view.emb y 0).val = win0_11.index t (0 : Fin 3) * 1 + 1 * (y 0).val := rfl
  have hb1 : (((cfg0.win 11).blk t).view.emb y 1).val = win0_11.index t (1 : Fin 3) * 128 + 1 * (y 1).val := rfl
  have hb2 : (((cfg0.win 11).blk t).view.emb y 2).val = win0_11.index t (2 : Fin 3) * 128 + 1 * (y 2).val := rfl
  have q0 : ((cfg0.win 11).blk t).view.emb y 0 = head t := Fin.ext (by rw [hb0, e0]; simp only [head]; omega)
  have q1 : ((cfg0.win 11).blk t).view.emb y 1 = y 1 := Fin.ext (by rw [hb1, e1]; omega)
  have q2 : ((cfg0.win 11).blk t).view.emb y 2 = y 2 := Fin.ext (by rw [hb2, e2]; omega)
  rw [after0_11]
  refine (point11 h t hr y).trans ?_
  show _ = ((a.dw (((cfg0.win 11).blk t).view.emb y 0) (((cfg0.win 11).blk t).view.emb y 1) (((cfg0.win 11).blk t).view.emb y 2) : ℝ) : EReal)
  rw [q0, q1, q2]
  exact congrArg (fun x : ℝ => (x : EReal)) (low_sum (fun n => dwR (a.g (head t)) (a.b (head t)) (a.zu (head t) n) (a.zv (head t) n) (a.yc (head t) n)) (y 1) (y 2))

theorem value12 : (dats m 0 c).arrAt 12 cfg0.N = fun i => ((a.dc (i 0) (i 1) : ℝ) : EReal) := by
  refine (dats m 0 c).arrAt_eq_of_cover 12 _ (fun t hf => ?_) (fun i => (covered_iff12 i).2 (by
    have h0 : (i 0).val < 4 := (i 0).isLt; have h1 : (i 1).val < 128 := (i 1).isLt; have h2 : (i 2).val < 1 := (i 2).isLt; omega))
  show (cfg0.win 12).cut (grid0.coords t) ((dats m 0 c).after 12 t) = _
  have hr := (flush0_12 t).mp hf
  funext y
  have e0 : win0_12.index t (0 : Fin 3) = t.val / 4 := congrFun (idx_val t).2.2.2.2.2.2.2.2.2.2.2.2 0
  have e1 : win0_12.index t (1 : Fin 3) = 0 := congrFun (idx_val t).2.2.2.2.2.2.2.2.2.2.2.2 1
  have e2 : win0_12.index t (2 : Fin 3) = 0 := congrFun (idx_val t).2.2.2.2.2.2.2.2.2.2.2.2 2
  have hy0 : (y 0).val < 1 := (y 0).isLt
  have hb0 : (((cfg0.win 12).blk t).view.emb y 0).val = win0_12.index t (0 : Fin 3) * 1 + 1 * (y 0).val := rfl
  have hb1 : (((cfg0.win 12).blk t).view.emb y 1).val = win0_12.index t (1 : Fin 3) * 128 + 1 * (y 1).val := rfl
  have hb2 : (((cfg0.win 12).blk t).view.emb y 2).val = win0_12.index t (2 : Fin 3) * 1 + 1 * (y 2).val := rfl
  have q0 : ((cfg0.win 12).blk t).view.emb y 0 = head t := Fin.ext (by rw [hb0, e0]; simp only [head]; omega)
  have q1 : ((cfg0.win 12).blk t).view.emb y 1 = y 1 := Fin.ext (by rw [hb1, e1]; omega)
  have q2 : ((cfg0.win 12).blk t).view.emb y 2 = y 2 := Fin.ext (by rw [hb2, e2]; omega)
  rw [after0_12, point_db m c t hr]
  refine (pay2 _ y).trans ?_
  show _ = ((a.dc (((cfg0.win 12).blk t).view.emb y 0) (((cfg0.win 12).blk t).view.emb y 1) : ℝ) : EReal)
  rw [q0, q1]
  unfold Args.dc
  rw [Finset.sum_comm, ← coe_sum]
  exact Finset.sum_congr rfl fun d _ => point12 h t hr (ix2 (y 1) d)

end
end Cert.KernelIdeal.Value
end
-- ==== Proof.SguRef.lean ====
/- What the reference's named arrays hold, at real arguments. -/
module

public import proofs.«01_k».proof.Proof.SguSpec
public import proofs.«01_k».proof.Proof.Gen.ReferenceIdeal.Run
public import Idealize.ShloMosaic.Lib.Pipeline.Value
public import Idealize.ShloMosaic.Lib.WordCmp

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Cert.Reals Cert.Sgu

/-- Real values by head, chunk, row and column, in the layouts the reference moves between. -/
abbrev Heads := Fin 4 → Fin 32 → Mat
def wide (f : Heads) : FVec Ideal S4096x512 .f32 := fun i =>
  ((f ⟨(i 1).val / 128, by have : (i 1).val < 512 := (i 1).isLt; omega⟩ ⟨(i 0).val / 128, by have : (i 0).val < 4096 := (i 0).isLt; omega⟩
    ⟨(i 0).val % 128, by omega⟩ ⟨(i 1).val % 128, by omega⟩ : ℝ) : EReal)
def rows (f : Heads) : FVec Ideal S4096x4x128 .f32 := fun i =>
  ((f (i 1) ⟨(i 0).val / 128, by have : (i 0).val < 4096 := (i 0).isLt; omega⟩ ⟨(i 0).val % 128, by omega⟩ (i 2) : ℝ) : EReal)
def chunks (f : Heads) : FVec Ideal S32x128x4x128 .f32 := fun i => ((f (i 2) (i 0) (i 1) (i 3) : ℝ) : EReal)
/-- One value per head, chunk and row. -/
def stat (f : Fin 4 → Fin 32 → Row) : FVec Ideal S4096x4x1 .f32 := fun i =>
  ((f (i 1) ⟨(i 0).val / 128, by have : (i 0).val < 4096 := (i 0).isLt; omega⟩ ⟨(i 0).val % 128, by omega⟩ : ℝ) : EReal)

theorem wide_rows (f : Heads) (hs) : shapeCast S4096x4x128 (wide f) hs = rows f := by
  funext i
  have h0 : (i 0).val < 4096 := (i 0).isLt
  have h1 : (i 1).val < 4 := (i 1).isLt
  have h2 : (i 2).val < 128 := (i 2).isLt
  pointwise [wide, rows]
  exact congrArg (fun x : ℝ => (x : EReal)) (congr (congr (congr (congrArg f (Fin.ext (by simp only; omega))) rfl) rfl) (Fin.ext (by simp only; omega)))
theorem wide_chunks (f : Heads) (hs) : shapeCast S32x128x4x128 (wide f) hs = chunks f := by
  funext i
  have h0 : (i 0).val < 32 := (i 0).isLt
  have h1 : (i 1).val < 128 := (i 1).isLt
  have h2 : (i 2).val < 4 := (i 2).isLt
  have h3 : (i 3).val < 128 := (i 3).isLt
  pointwise [wide, chunks]
  exact congrArg (fun x : ℝ => (x : EReal)) (congr (congr (congr (congrArg f (Fin.ext (by simp only; omega))) (Fin.ext (by simp only; omega))) (Fin.ext (by simp only; omega))) (Fin.ext (by simp only; omega)))
theorem rows_chunks (f : Heads) (hs) : shapeCast S32x128x4x128 (rows f) hs = chunks f := by
  funext i
  have h0 : (i 0).val < 32 := (i 0).isLt
  have h1 : (i 1).val < 128 := (i 1).isLt
  pointwise [rows, chunks]
  exact congrArg (fun x : ℝ => (x : EReal)) (congr (congr (congr rfl (Fin.ext (by simp only; omega))) (Fin.ext (by simp only; omega))) rfl)
theorem rows_wide (f : Heads) (hs) : shapeCast S4096x512 (rows f) hs = wide f := by
  funext i
  pointwise [wide, rows]
theorem chunks_wide (f : Heads) (hs) : shapeCast S4096x512 (chunks f) hs = wide f := by
  funext i
  pointwise [wide, chunks]
theorem chunks_rows (f : Heads) (hs) : shapeCast S4096x4x128 (chunks f) hs = rows f := by
  funext i
  pointwise [rows, chunks]

variable (V0 : Valuation τ sig (Elt Ideal)) (a : Args)

def HoldsV : Prop :=
  V0 (Proc.devRef .tc main_arg0) = (fun i => ((a.z (i 0) (i 1) : ℝ) : EReal))
  ∧ V0 (Proc.devRef .tc main_arg1) = (fun i => ((a.y (i 0) (i 1) : ℝ) : EReal))
  ∧ V0 (Proc.devRef .tc main_arg2) = (fun i => ((a.g (i 0) (i 1) : ℝ) : EReal))
  ∧ V0 (Proc.devRef .tc main_arg3) = (fun i => ((a.b (i 0) (i 1) : ℝ) : EReal))
  ∧ V0 (Proc.devRef .tc main_arg4) = (fun i => ((a.w (i 0) (i 1) (i 2) : ℝ) : EReal))
  ∧ V0 (Proc.devRef .tc main_arg5) = (fun i => ((a.c (i 0) (i 1) : ℝ) : EReal))

variable {V0} {a} (h : HoldsV V0 a)
include h

theorem v0 : res_main_v0 V0 = wide a.zu := by
  funext i
  unfold res_main_v0
  rw [h.1]
  pointwise [wide, Args.zu]
  exact congrArg (fun x : ℝ => (x : EReal)) (congrArg₂ a.z (Fin.ext (by simp only; omega)) (Fin.ext (by simp only; omega)))
theorem v1 : res_main_v1 V0 = wide a.zv := by
  funext i
  unfold res_main_v1
  rw [h.1]
  pointwise [wide, Args.zv]
  exact congrArg (fun x : ℝ => (x : EReal)) (congrArg₂ a.z (Fin.ext (by simp only; omega)) (Fin.ext (by simp only; omega)))
theorem v4 : res_main_v4 V0 = wide (fun h n s d => a.zu h n s d * a.zu h n s d) := by
  funext i
  unfold res_main_v4
  rw [v0 h]
  pointwise [wide]
  simp only [← EReal.coe_mul]
theorem v24 : res_main_v24 V0 = wide (fun h n s d => a.zv h n s d * a.zv h n s d) := by
  funext i
  unfold res_main_v24
  rw [v1 h]
  pointwise [wide]
  simp only [← EReal.coe_mul]
omit h in
theorem th_ref (x : ℝ) : Real.tanh (root * (x + x * x * x * 44715 / 1000000)) = th x := by
  unfold th; congr 1; ring
theorem v13 : res_main_v13 V0 = wide (fun h n s d => th (a.zu h n s d)) := by
  funext i
  unfold res_main_v13
  rw [v0 h, v4 h]
  pointwise [wide]
  simp only [root_coe, w44715_coe, w1000000_coe, div_coe _ (by norm_num : (1000000:ℝ) ≠ 0), ← EReal.coe_mul, ← EReal.coe_add, Ideal.tanh_coe, th_ref]
theorem v33 : res_main_v33 V0 = wide (fun h n s d => th (a.zv h n s d)) := by
  funext i
  unfold res_main_v33
  rw [v1 h, v24 h]
  pointwise [wide]
  simp only [root_coe, w44715_coe, w1000000_coe, div_coe _ (by norm_num : (1000000:ℝ) ≠ 0), ← EReal.coe_mul, ← EReal.coe_add, Ideal.tanh_coe, th_ref]
theorem v22 : res_main_v22 V0 = wide (fun h n s d => 1 / 2 * (1 + th (a.zu h n s d))) := by
  funext i
  unfold res_main_v22
  rw [v13 h]
  pointwise [wide]
  simp only [half_coe, one_coe, ← EReal.coe_mul, ← EReal.coe_add]
theorem v42 : res_main_v42 V0 = wide (fun h n s d => 1 / 2 * (1 + th (a.zv h n s d))) := by
  funext i
  unfold res_main_v42
  rw [v33 h]
  pointwise [wide]
  simp only [half_coe, one_coe, ← EReal.coe_mul, ← EReal.coe_add]
omit h in
theorem gelu_ref (x : ℝ) : x * (1 / 2 * (1 + th x)) = gelu x := by
  unfold gelu; ring
theorem v44 : res_main_v44 V0 = rows (fun h n s d => act (a.zv h n) s d) := by
  unfold res_main_v44
  rw [v1 h, v42 h]
  refine Eq.trans (congrArg (fun x => shapeCast _ x _) ?_) (wide_rows _ _)
  funext i
  pointwise [wide]
  simp only [← EReal.coe_mul, gelu_ref]
theorem v82 : res_main_v82 V0 = chunks (fun h n s d => gelu (a.zu h n s d)) := by
  unfold res_main_v82
  rw [v0 h, v22 h]
  refine Eq.trans (congrArg (fun x => shapeCast _ x _) ?_) (wide_chunks _ _)
  funext i
  pointwise [wide]
  simp only [← EReal.coe_mul, gelu_ref]
theorem v50 : res_main_v50 V0 = rows (fun h n s d => cen (act (a.zv h n) s) d) := by
  funext i
  unfold res_main_v50
  rw [v44 h]
  pointwise [rows]
  simp only [w128_coe, coe_sum, div_coe _ (by norm_num : (128:ℝ) ≠ 0), ← EReal.coe_mul, ← EReal.coe_add, ← EReal.coe_sub]
  rfl
theorem v57 : res_main_v57 V0 = stat (fun h n s => spread (act (a.zv h n) s) + eps) := by
  funext i
  unfold res_main_v57
  rw [v50 h]
  pointwise [rows, stat]
  simp only [w128_coe, eps_coe, coe_sum, div_coe _ (by norm_num : (128:ℝ) ≠ 0), ← EReal.coe_mul, ← EReal.coe_add, ← EReal.coe_sub]
  rfl
theorem v58 : res_main_v58 V0 = stat (fun h n s => rstd (act (a.zv h n) s)) := by
  funext i
  unfold res_main_v58
  rw [v57 h]
  pointwise [stat]
  exact rsqrt_coe (root_pos _)
theorem v63 : res_main_v63 V0 = rows (fun h n s d => unit (act (a.zv h n) s) d) := by
  funext i
  unfold res_main_v63
  rw [v50 h, v58 h]
  pointwise [stat, rows]
  simp only [← EReal.coe_mul]
  rfl
theorem v70 : res_main_v70 V0 = chunks (fun h n s d => norm (a.g h) (a.b h) (act (a.zv h n) s) d) := by
  unfold res_main_v70 res_main_v64
  rw [v63 h, h.2.2.1, h.2.2.2.1]
  refine Eq.trans (congrArg (fun x => shapeCast _ x _) ?_) (rows_chunks _ _)
  funext i
  pointwise [rows]
  simp only [← EReal.coe_mul, ← EReal.coe_add]
  rfl
theorem v74_1 (i) : res_main_v74_1 V0 i = if (i 2).val ≤ (i 1).val then 1#1 else 0#1 := by
  have h1 : (i 1).val < 128 := (i 1).isLt
  have h2 : (i 2).val < 128 := (i 2).isLt
  unfold res_main_v74_1
  pointwise []
  have e : IntOp.addi (BitVec.ofNat 32 (i 1).val) 0#32 = BitVec.ofNat 32 (i 1).val := by simp [IntOp.addi]
  rw [e, WordCmp.cmpi_sge_ofNat (by omega) (by omega)]
  by_cases hc : (i 2).val ≤ (i 1).val <;> simp [hc, Scalar.select]
theorem v74_0 (i) : res_main_v74_0 V0 i = ((low (a.w (i 0)) (i 1) (i 2) : ℝ) : EReal) := by
  unfold res_main_v74_0
  rw [h.2.2.2.2.1]
  pointwise [v74_1 h]
  by_cases hc : (i 2).val ≤ (i 1).val
  · have e := low_of_le (a.w (i 0)) (t := i 1) (s := i 2) hc
    rw [e]; simp [hc, Scalar.select]
  · have e := low_of_gt (a.w (i 0)) (t := i 1) (s := i 2) hc
    rw [e]; simp [hc, Scalar.select]
theorem v81 : res_main_v81 V0 = chunks (fun h n s d => mix (a.w h) (fun s => norm (a.g h) (a.b h) (act (a.zv h n) s)) (a.c h) s d) := by
  funext i
  unfold res_main_v81
  rw [v70 h, h.2.2.2.2.2]
  pointwise [chunks, v74_0 h]
  simp only [← EReal.coe_mul, coe_sum, ← EReal.coe_add]
  exact congrArg (fun x : ℝ => (x : EReal)) (congrArg (· + a.c (i 2) (i 1)) (Finset.sum_congr rfl fun k _ => mul_comm _ _))
theorem v85 : res_main_v85 V0 = chunks a.yc := by
  unfold res_main_v85
  rw [h.2.1]
  refine Eq.trans (congrArg (fun x => shapeCast _ x _) ?_) (wide_chunks _ _)
  funext i
  pointwise [wide, Args.yc]
  exact congrArg (fun x : ℝ => (x : EReal)) (congrArg₂ a.y (Fin.ext (by simp only; omega)) (Fin.ext (by simp only; omega)))
theorem v86 : res_main_v86 V0 = chunks (fun h n s d => back (a.zu h n) (a.yc h n) s d) := by
  funext i
  unfold res_main_v86
  rw [v82 h, v85 h]
  pointwise [chunks]
  simp only [← EReal.coe_mul, mul_comm (gelu _)]
  rfl
theorem v88 : res_main_v88 V0 = wide (fun h n s d => a.yc h n s d * mix (a.w h) (fun s => norm (a.g h) (a.b h) (act (a.zv h n) s)) (a.c h) s d) := by
  unfold res_main_v88
  rw [v81 h, v85 h]
  refine Eq.trans (congrArg (fun x => shapeCast _ x _) ?_) (chunks_wide _ _)
  funext i
  pointwise [chunks]
  simp only [← EReal.coe_mul]
theorem v95 (i) : res_main_v95 V0 i = ((back (a.zu (i 0) (i 1)) (a.yc (i 0) (i 1)) (i 3) (i 2) : ℝ) : EReal) := by
  unfold res_main_v95
  rw [v86 h]
  pointwise [chunks]
theorem v100 : res_main_v100 V0 = rows (fun h n s d => mixBack (a.w h) (back (a.zu h n) (a.yc h n)) s d) := by
  unfold res_main_v100
  refine Eq.trans (congrArg (fun x => shapeCast _ x _) ?_) (chunks_rows _ _)
  funext i
  pointwise [chunks, v95 h, v74_0 h]
  simp only [← EReal.coe_mul, coe_sum]
  exact congrArg (fun x : ℝ => (x : EReal)) (Finset.sum_congr rfl fun k _ => mul_comm _ _)
theorem v108 : res_main_v108 V0 = rows (fun h n s d => mixBack (a.w h) (back (a.zu h n) (a.yc h n)) s d * a.g h d) := by
  funext i
  unfold res_main_v108 res_main_v64
  rw [v100 h, h.2.2.1]
  pointwise [rows]
  simp only [← EReal.coe_mul]
theorem v119 : res_main_v119 V0 = rows (fun h n s d =>
    (∑ d, cen (act (a.zv h n) s) d * (mixBack (a.w h) (back (a.zu h n) (a.yc h n)) s d * a.g h d))
      * (-(1 / 2) * (rstd (act (a.zv h n) s) / (spread (act (a.zv h n) s) + eps))) / 128) := by
  funext i
  unfold res_main_v119
  rw [v50 h, v108 h, v58 h, v57 h]
  pointwise [rows, stat]
  have hp := (root_pos (act (a.zv (i 1) ⟨(i 0).val / 128, by have : (i 0).val < 4096 := (i 0).isLt; omega⟩) ⟨(i 0).val % 128, by omega⟩)).ne'
  simp only [w128_coe, neghalf_coe, coe_sum, div_coe _ hp, div_coe _ (by norm_num : (128:ℝ) ≠ 0), ← EReal.coe_mul]
  rw [Fin.sum_univ_one]
theorem v123 : res_main_v123 V0 = rows (fun h n s d =>
    mixBack (a.w h) (back (a.zu h n) (a.yc h n)) s d * a.g h d * rstd (act (a.zv h n) s)
    + cen (act (a.zv h n) s) d * ((∑ d, cen (act (a.zv h n) s) d * (mixBack (a.w h) (back (a.zu h n) (a.yc h n)) s d * a.g h d))
      * (-(1 / 2) * (rstd (act (a.zv h n) s) / (spread (act (a.zv h n) s) + eps))) / 128)
    + ((∑ d, cen (act (a.zv h n) s) d * (mixBack (a.w h) (back (a.zu h n) (a.yc h n)) s d * a.g h d))
      * (-(1 / 2) * (rstd (act (a.zv h n) s) / (spread (act (a.zv h n) s) + eps))) / 128) * cen (act (a.zv h n) s) d) := by
  funext i
  unfold res_main_v123
  rw [v50 h, v108 h, v58 h, v119 h]
  pointwise [rows, stat]
  simp only [← EReal.coe_mul, ← EReal.coe_add]

omit h in
theorem cen_sum (v : Row) : ∑ d, cen v d = 0 := by
  unfold cen mean
  rw [Finset.sum_sub_distrib, Finset.sum_const, Finset.card_univ, Fintype.card_fin, nsmul_eq_mul]
  push_cast
  ring
omit h in
theorem rstd_cube (v : Row) : rstd v / (spread v + eps) = rstd v * rstd v * rstd v := by
  have hp := root_pos v
  unfold rstd
  rw [div_eq_mul_inv, mul_assoc, ← mul_inv (Real.sqrt _) (Real.sqrt _), Real.mul_self_sqrt hp.le]
omit h in
/-- What the reference's rounds of sums come to is the gradient of the normalisation. -/
theorem normBack_ref (g v y : Row) (d : Fin 128) (F : ℝ)
    (hF : F = (∑ e, cen v e * (y e * g e)) * (-(1 / 2) * (rstd v / (spread v + eps))) / 128) :
    (y d * g d * rstd v + cen v d * F + F * cen v d) + (∑ e, -(y e * g e * rstd v + cen v e * F + F * cen v e)) / 128 = normBack g v y d := by
  have h1 : ∑ e, -(y e * g e * rstd v + cen v e * F + F * cen v e) = -(rstd v * ∑ e, y e * g e) := by
    have : ∀ e, -(y e * g e * rstd v + cen v e * F + F * cen v e) = -(rstd v) * (y e * g e) + (-2 * F) * cen v e := fun e => by ring
    rw [Finset.sum_congr rfl fun e _ => this e, Finset.sum_add_distrib, ← Finset.mul_sum, ← Finset.mul_sum, cen_sum]
    ring
  have h2 : ∑ e, y e * g e * unit v e = rstd v * ∑ e, cen v e * (y e * g e) := by
    rw [Finset.mul_sum]
    exact Finset.sum_congr rfl fun e _ => by unfold unit; ring
  rw [h1]
  unfold normBack mean
  rw [h2, hF, rstd_cube]
  unfold unit
  ring
theorem v132 : res_main_v132 V0 = wide (fun h n s d => normBack (a.g h) (act (a.zv h n) s) (mixBack (a.w h) (back (a.zu h n) (a.yc h n)) s) d) := by
  unfold res_main_v132
  rw [v123 h]
  refine Eq.trans (congrArg (fun x => shapeCast _ x _) ?_) (rows_wide _ _)
  funext i
  pointwise [rows]
  simp only [w128_coe, coe_sum, div_coe _ (by norm_num : (128:ℝ) ≠ 0), ← EReal.coe_mul, ← EReal.coe_add, ← EReal.coe_neg]
  rw [Fin.sum_univ_one]
  exact congrArg (fun x : ℝ => (x : EReal)) (normBack_ref _ _ _ _ _ rfl)
theorem v139 : res_main_v139 V0 = wide (fun h n s d => root * ((1 / 2 * (a.zv h n s d * normBack (a.g h) (act (a.zv h n) s) (mixBack (a.w h) (back (a.zu h n) (a.yc h n)) s) d))
    * ((1 + th (a.zv h n s d)) * (1 - th (a.zv h n s d))))) := by
  funext i
  unfold res_main_v139
  rw [v1 h, v132 h, v33 h]
  pointwise [wide]
  simp only [half_coe, one_coe, root_coe, ← EReal.coe_mul, ← EReal.coe_add, ← EReal.coe_sub]
theorem v158 : res_main_v158 V0 = wide (fun h n s d => root * ((1 / 2 * (a.zu h n s d * (a.yc h n s d * mix (a.w h) (fun s => norm (a.g h) (a.b h) (act (a.zv h n) s)) (a.c h) s d)))
    * ((1 + th (a.zu h n s d)) * (1 - th (a.zu h n s d))))) := by
  funext i
  unfold res_main_v158
  rw [v0 h, v88 h, v13 h]
  pointwise [wide]
  simp only [half_coe, one_coe, root_coe, ← EReal.coe_mul, ← EReal.coe_add, ← EReal.coe_sub]
omit h in
theorem slope_ref (x y : ℝ) : y * (1 / 2 * (1 + th x)) + root * (1 / 2 * (x * y) * ((1 + th x) * (1 - th x)))
    + x * x * (root * (1 / 2 * (x * y) * ((1 + th x) * (1 - th x))) / 1000000 * 44715)
    + x * (root * (1 / 2 * (x * y) * ((1 + th x) * (1 - th x))) / 1000000 * 44715 * x)
    + root * (1 / 2 * (x * y) * ((1 + th x) * (1 - th x))) / 1000000 * 44715 * x * x = y * Sgu.slope x := by
  unfold Sgu.slope; ring
theorem du : truncf .bf16 (addf (addf (addf (addf (mulf (res_main_v88 V0) (res_main_v22 V0)) (res_main_v158 V0)) (mulf (res_main_v4 V0) (res_main_v163 V0))) (mulf (res_main_v0 V0) (res_main_v166 V0))) (mulf (res_main_v166 V0) (res_main_v0 V0))) bitsLt_bf16_f32
    = wide a.du := by
  funext i
  unfold res_main_v166 res_main_v163
  rw [v88 h, v22 h, v158 h, v4 h, v0 h]
  pointwise [wide]
  simp only [w44715_coe, w1000000_coe, div_coe _ (by norm_num : (1000000:ℝ) ≠ 0), ← EReal.coe_mul, ← EReal.coe_add]
  exact congrArg (fun x : ℝ => (x : EReal)) (slope_ref _ _)
theorem dv : truncf .bf16 (addf (addf (addf (addf (mulf (res_main_v132 V0) (res_main_v42 V0)) (res_main_v139 V0)) (mulf (res_main_v24 V0) (res_main_v144 V0))) (mulf (res_main_v1 V0) (res_main_v147 V0))) (mulf (res_main_v147 V0) (res_main_v1 V0))) bitsLt_bf16_f32
    = wide a.dv := by
  funext i
  unfold res_main_v147 res_main_v144
  rw [v132 h, v42 h, v139 h, v24 h, v1 h]
  pointwise [wide]
  simp only [w44715_coe, w1000000_coe, div_coe _ (by norm_num : (1000000:ℝ) ≠ 0), ← EReal.coe_mul, ← EReal.coe_add]
  exact congrArg (fun x : ℝ => (x : EReal)) (slope_ref _ _)
omit h in
theorem sum4096 (f : Fin 32 → Fin 128 → ℝ) : ∑ r : Fin 4096, f ⟨r.val / 128, by omega⟩ ⟨r.val % 128, by omega⟩ = ∑ n, ∑ s, f n s := by
  rw [← Equiv.sum_comp (finProdFinEquiv (m := 32) (n := 128)), Fintype.sum_prod_type]
  refine Finset.sum_congr rfl fun n _ => Finset.sum_congr rfl fun s _ => congrArg₂ f (Fin.ext ?_) (Fin.ext ?_)
  · simp only [finProdFinEquiv_apply_val]; omega
  · simp only [finProdFinEquiv_apply_val]; omega
theorem dg : broadcastInDim S4x1x128 ![0, 2] bcast_S4x128_S4x1x128_0_2 (Host.reduceAdd (shapeCast _ (Host.reduceAdd (mulf (res_main_v63 V0) (res_main_v100 V0)) (constant S_ .f32 0x00000000#32) reducesTo_S4096x4x128_S4x128_d0 h_S_) shapeCasts_S4x128_S1x4x128) (constant S_ .f32 0x00000000#32) reducesTo_S1x4x128_S4x128_d0 h_S_)
    = (fun i => ((a.dg (i 0) (i 2) : ℝ) : EReal)) := by
  funext i
  rw [v63 h, v100 h]
  pointwise [rows]
  simp only [← EReal.coe_mul, coe_sum]
  rw [Fin.sum_univ_one]
  refine congrArg (fun x : ℝ => (x : EReal)) ?_
  refine (sum4096 fun n s => unit (act (a.zv (i 0) n) s) (i 2) * mixBack (a.w (i 0)) (back (a.zu (i 0) n) (a.yc (i 0) n)) s (i 2)).trans ?_
  exact Finset.sum_congr rfl fun n _ => Finset.sum_congr rfl fun s _ => mul_comm _ _
theorem db : broadcastInDim S4x1x128 ![0, 2] bcast_S4x128_S4x1x128_0_2 (Host.reduceAdd (shapeCast _ (Host.reduceAdd (res_main_v100 V0) (constant S_ .f32 0x00000000#32) reducesTo_S4096x4x128_S4x128_d0 h_S_) shapeCasts_S4x128_S1x4x128) (constant S_ .f32 0x00000000#32) reducesTo_S1x4x128_S4x128_d0 h_S_)
    = (fun i => ((a.db (i 0) (i 2) : ℝ) : EReal)) := by
  funext i
  rw [v100 h]
  pointwise [rows]
  simp only [coe_sum]
  rw [Fin.sum_univ_one]
  refine congrArg (fun x : ℝ => (x : EReal)) ?_
  exact sum4096 fun n s => mixBack (a.w (i 0)) (back (a.zu (i 0) n) (a.yc (i 0) n)) s (i 2)
theorem dw : select (res_main_v74_1 V0) (Host.dotGeneral (φ₁ := .f32) (φ₂ := .f32) dot_S4x32x128x128_S32x128x4x128_S4x128x128_12_03_3_1_0_2 none (res_main_v95 V0) (res_main_v70 V0)) (broadcastInDim S4x128x128 ![] bcast_S_S4x128x128 (constant S_ .f32 0x00000000#32))
    = (fun i => ((a.dw (i 0) (i 1) (i 2) : ℝ) : EReal)) := by
  funext i
  rw [v70 h]
  pointwise [chunks, v74_1 h, v95 h]
  simp only [← EReal.coe_mul, coe_sum]
  by_cases hc : (i 2).val ≤ (i 1).val
  · have e := low_of_le (fun t s => ∑ n, dwR (a.g (i 0)) (a.b (i 0)) (a.zu (i 0) n) (a.zv (i 0) n) (a.yc (i 0) n) t s) (t := i 1) (s := i 2) hc
    refine Eq.trans ?_ (congrArg (fun x : ℝ => (x : EReal)) e.symm)
    simp only [if_pos hc, Scalar.select]
    rfl
  · have e := low_of_gt (fun t s => ∑ n, dwR (a.g (i 0)) (a.b (i 0)) (a.zu (i 0) n) (a.zv (i 0) n) (a.yc (i 0) n) t s) (t := i 1) (s := i 2) hc
    refine Eq.trans ?_ (congrArg (fun x : ℝ => (x : EReal)) e.symm)
    simp only [if_neg hc, Scalar.select]
    rfl
omit h in
theorem fiber_sum {s t : Shape} {axes : List (Fin s.rank)} (hr : s.ReducesTo axes t) (x : s.Idx → EReal) (init : EReal) (j : t.Idx) {κ : Type} [Fintype κ]
    (e : κ → s.Idx) (he : Function.Injective e) (hf : ∀ i, hr.drop i = j ↔ ∃ k, e k = i) : Ideal.hostReduceAdd hr x init j = init + ∑ k, x (e k) :=
  congrArg (init + ·) (Finset.sum_filter_eq_sum_of_fiber _ e he hf x)
omit h in
/-- A sum over the first and the last of four axes. -/
theorem sum03 {n0 n1 n2 n3 : ℕ} (hr : (⟨4, ![n0, n1, n2, n3]⟩ : Shape).ReducesTo [0, 3] (⟨2, ![n1, n2]⟩ : Shape))
    (x : (⟨4, ![n0, n1, n2, n3]⟩ : Shape).Idx → EReal) (init : EReal) (j : (⟨2, ![n1, n2]⟩ : Shape).Idx) :
    Ideal.hostReduceAdd hr x init j = init + ∑ k0 : Fin n0, ∑ k3 : Fin n3, x (ix4 k0 (j 0) (j 1) k3) := by
  refine (fiber_sum hr x init j (fun k : Fin n0 × Fin n3 => ix4 k.1 (j 0) (j 1) k.2)
    (fun _ _ e => Prod.ext (congrFun e 0) (congrFun e 3)) (fun i => ?_)).trans (congrArg (init + ·) (Fintype.sum_prod_type _))
  constructor
  · intro e
    refine ⟨(i 0, i 3), ?_⟩
    funext b
    apply Fin.ext
    match b with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl
theorem dc : broadcastInDim S4x128x1 ![0, 1] bcast_S4x128_S4x128x1_0_1 (transpose S4x128 [1, 0] (Host.reduceAdd (broadcastInDim S128x4x1 ![0, 1] bcast_S128x4_S128x4x1_0_1 (Host.reduceAdd (shapeCast _ (Host.reduceAdd (res_main_v86 V0) (constant S_ .f32 0x00000000#32) reducesTo_S32x128x4x128_S128x4_d0_3 h_S_) shapeCasts_S128x4_S1x128x4x1) (constant S_ .f32 0x00000000#32) reducesTo_S1x128x4x1_S128x4_d0_3 h_S_)) (constant S_ .f32 0x00000000#32) reducesTo_S128x4x1_S128x4_d2 h_S_) transposes_S128x4_S4x128_1_0)
    = (fun i => ((a.dc (i 0) (i 1) : ℝ) : EReal)) := by
  funext i
  rw [v86 h]
  pointwise [chunks]
  rw [Fin.sum_univ_one, sum03, zero_add, Fin.sum_univ_one, Fin.sum_univ_one]
  pointwise []
  rw [sum03, zero_add]
  pointwise [chunks]
  refine Eq.trans ?_ (coe_sum Finset.univ fun n => ∑ d, back (a.zu (i 0) n) (a.yc (i 0) n) (i 1) d)
  exact Finset.sum_congr rfl fun n _ => coe_sum Finset.univ fun d => back (a.zu (i 0) n) (a.yc (i 0) n) (i 1) d

end Cert.ReferenceIdeal.Value
end
-- ==== Proof.Finite.lean ====
/- What the precondition says: every entry of every argument is a real number. -/
module

public import proofs.«01_k».proof.Pre_finite
public import proofs.«01_k».proof.Proof.SguSpec
public import Idealize.ShloMosaic.Lib.ReduceAll
public import Idealize.ShloMosaic.Lib.WordCmp
public import Idealize.ShloMosaic.Lib.Pipeline.Value

@[expose] public section

noncomputable section

open Idealize.ShloMosaic Idealize.ShloMosaic.TcCoe

namespace Cert.Pre_finite
open Cert.Sgu

theorem real_of_lt {x : EReal} (h : max x (-x) < ⊤) : x = ((x.toReal : ℝ) : EReal) := by
  have h1 : x ≠ ⊤ := fun e => by simp [e] at h
  have h2 : x ≠ ⊥ := fun e => by simp [e] at h
  exact (EReal.coe_toReal h1 h2).symm

theorem both {a b : BitVec 1} (h : IntOp.andi a b = 1#1) : a = 1#1 ∧ b = 1#1 := by
  revert a b; decide

theorem inf_top : Ideal.ofBits .f32 0x7F800000#32 = (⊤ : EReal) := by
  simp [Ideal.ofBits, Ideal.ieee]

theorem real_at {s : Shape} (x y : FVec Ideal s .f32) (i : s.Idx) (hy : y i = Ideal.ofBits .f32 0x7F800000#32)
    (h : cmpf .olt (Host.absf x) y i = 1#1) : x i = (((show EReal from x i).toReal : ℝ) : EReal) := by
  pointwise [hy] at h
  rw [inf_top] at h
  refine real_of_lt ?_
  by_contra hn
  rw [decide_eq_false (show ¬FloatOps.absf (x i) < (⊤ : EReal) from hn)] at h
  exact absurd h (by decide)

instance : Subsingleton S_.Idx := ⟨fun a b => funext fun k => k.elim0⟩

variable [Facts]
theorem finite (z : FVec Ideal S4096x4096 .f32) (y : FVec Ideal S4096x2048 .bf16) (g b : FVec Ideal S4x128 .f32) (w : FVec Ideal S4x128x128 .f32) (c : FVec Ideal S4x128 .f32)
    (h : fn (F := Ideal) z y g b w c = fun _ => 1#1) :
    ∃ a : Args, z = (fun i => ((a.z (i 0) (i 1) : ℝ) : EReal)) ∧ y = (fun i => ((a.y (i 0) (i 1) : ℝ) : EReal))
      ∧ g = (fun i => ((a.g (i 0) (i 1) : ℝ) : EReal)) ∧ b = (fun i => ((a.b (i 0) (i 1) : ℝ) : EReal))
      ∧ w = (fun i => ((a.w (i 0) (i 1) (i 2) : ℝ) : EReal)) ∧ c = (fun i => ((a.c (i 0) (i 1) : ℝ) : EReal)) := by
  have h0 := congrFun h ix0
  unfold fn fn_part1 at h0
  obtain ⟨h0, hc⟩ := both h0
  obtain ⟨h0, hw⟩ := both h0
  obtain ⟨h0, hb⟩ := both h0
  obtain ⟨h0, hg⟩ := both h0
  obtain ⟨hz, hy⟩ := both h0
  have ez := fun i => real_at _ _ i rfl (Host.reduce_andi_all _ _ _ _ _ hz i)
  have ey := fun i => real_at _ _ i rfl (Host.reduce_andi_all _ _ _ _ _ hy i)
  have eg := fun i => real_at _ _ i rfl (Host.reduce_andi_all _ _ _ _ _ hg i)
  have eb := fun i => real_at _ _ i rfl (Host.reduce_andi_all _ _ _ _ _ hb i)
  have ew := fun i => real_at _ _ i rfl (Host.reduce_andi_all _ _ _ _ _ hw i)
  have ec := fun i => real_at _ _ i rfl (Host.reduce_andi_all _ _ _ _ _ hc i)
  refine ⟨⟨fun p q => (show EReal from z (ix2 p q)).toReal, fun p q => (show EReal from y (ix2 p q)).toReal, fun p q => (show EReal from g (ix2 p q)).toReal,
    fun p q => (show EReal from b (ix2 p q)).toReal, fun p q r => (show EReal from w (ix3 p q r)).toReal, fun p q => (show EReal from c (ix2 p q)).toReal⟩, ?_, ?_, ?_, ?_, ?_, ?_⟩
  · funext i
    have e : ix2 (i 0) (i 1) = i := by funext k; match k with | ⟨0, _⟩ => rfl | ⟨1, _⟩ => rfl
    exact (ez i).trans (congrArg (fun k => ((EReal.toReal (show EReal from z k) : ℝ) : EReal)) e.symm)
  · funext i
    have e : ix2 (i 0) (i 1) = i := by funext k; match k with | ⟨0, _⟩ => rfl | ⟨1, _⟩ => rfl
    exact (ey i).trans (congrArg (fun k => ((EReal.toReal (show EReal from y k) : ℝ) : EReal)) e.symm)
  · funext i
    have e : ix2 (i 0) (i 1) = i := by funext k; match k with | ⟨0, _⟩ => rfl | ⟨1, _⟩ => rfl
    exact (eg i).trans (congrArg (fun k => ((EReal.toReal (show EReal from g k) : ℝ) : EReal)) e.symm)
  · funext i
    have e : ix2 (i 0) (i 1) = i := by funext k; match k with | ⟨0, _⟩ => rfl | ⟨1, _⟩ => rfl
    exact (eb i).trans (congrArg (fun k => ((EReal.toReal (show EReal from b k) : ℝ) : EReal)) e.symm)
  · funext i
    have e : ix3 (i 0) (i 1) (i 2) = i := by funext k; match k with | ⟨0, _⟩ => rfl | ⟨1, _⟩ => rfl | ⟨2, _⟩ => rfl
    exact (ew i).trans (congrArg (fun k => ((EReal.toReal (show EReal from w k) : ℝ) : EReal)) e.symm)
  · funext i
    have e : ix2 (i 0) (i 1) = i := by funext k; match k with | ⟨0, _⟩ => rfl | ⟨1, _⟩ => rfl
    exact (ec i).trans (congrArg (fun k => ((EReal.toReal (show EReal from c k) : ℝ) : EReal)) e.symm)

end Cert.Pre_finite
end
-- ==== Proof.FiniteSwiglu.lean ====
/- What the precondition of the gated products' backward pass says: every entry of the cotangent, of the weight and of
   the second branch is a real number. -/
module

public import proofs.«01_k».proof.Pre_finite_swiglu
public import proofs.«01_k».proof.Proof.Finite

@[expose] public section

noncomputable section

open Idealize.ShloMosaic Idealize.ShloMosaic.TcCoe

namespace Cert.Pre_finite_swiglu

instance : Subsingleton S_.Idx := ⟨fun a b => funext fun k => k.elim0⟩

variable [Facts]
theorem real (a0 : FVec Ideal S4096x2048 .bf16) (a1 : FVec Ideal S5632x2048 .f32) (a2 a3 : FVec Ideal S4096x5632 .bf16)
    (h : fn (F := Ideal) a0 a1 a2 a3 = fun _ => 1#1) :
    (∀ j, ∃ r : ℝ, (show EReal from a0 j) = ((r : ℝ) : EReal))
      ∧ (∀ j, ∃ r : ℝ, (show EReal from a1 j) = ((r : ℝ) : EReal))
      ∧ (∀ j, ∃ r : ℝ, (show EReal from a3 j) = ((r : ℝ) : EReal)) := by
  have h0 := congrFun h ix0
  unfold fn at h0
  obtain ⟨h0, h3⟩ := Pre_finite.both h0
  obtain ⟨h1, h0⟩ := Pre_finite.both h0
  exact ⟨fun i => ⟨_, Pre_finite.real_at _ _ i rfl (Host.reduce_andi_all _ _ _ _ _ h0 i)⟩,
    fun i => ⟨_, Pre_finite.real_at _ _ i rfl (Host.reduce_andi_all _ _ _ _ _ h1 i)⟩,
    fun i => ⟨_, Pre_finite.real_at _ _ i rfl (Host.reduce_andi_all _ _ _ _ _ h3 i)⟩⟩

end Cert.Pre_finite_swiglu

end
-- ==== Proof.FiniteLn.lean ====
/- From the precondition of the layer norm's gradient: the entries of its arguments are real numbers. -/
module

public import proofs.«01_k».proof.Proof.Finite
public import proofs.«01_k».proof.Proof.LnSpec
public import proofs.«01_k».proof.Pre_finite_ln

@[expose] public section

noncomputable section

open Idealize.ShloMosaic Idealize.ShloMosaic.TcCoe

namespace Cert.Pre_finite_ln

instance : Subsingleton S_.Idx := ⟨fun a b => funext fun k => k.elim0⟩

variable [Facts]
theorem real (a0 : FVec Ideal S4096x512 .f32) (a1 : FVec Ideal S4096x2048 .bf16) (a2 a3 : FVec Ideal S512 .f32)
    (h : fn (F := Ideal) a0 a1 a2 a3 = fun _ => 1#1) :
    (∀ j, ∃ r : ℝ, (show EReal from a0 j) = ((r : ℝ) : EReal))
      ∧ (∀ j, ∃ r : ℝ, (show EReal from a1 j) = ((r : ℝ) : EReal))
      ∧ (∀ j, ∃ r : ℝ, (show EReal from a2 j) = ((r : ℝ) : EReal))
      ∧ (∀ j, ∃ r : ℝ, (show EReal from a3 j) = ((r : ℝ) : EReal)) := by
  have h0 := congrFun h ix0
  unfold fn fn_part1 at h0
  obtain ⟨h0, h3⟩ := Pre_finite.both h0
  obtain ⟨h0, h2⟩ := Pre_finite.both h0
  obtain ⟨h0, h1⟩ := Pre_finite.both h0
  exact ⟨fun i => ⟨_, Pre_finite.real_at _ _ i rfl (Host.reduce_andi_all _ _ _ _ _ h0 i)⟩,
    fun i => ⟨_, Pre_finite.real_at _ _ i rfl (Host.reduce_andi_all _ _ _ _ _ h1 i)⟩,
    fun i => ⟨_, Pre_finite.real_at _ _ i rfl (Host.reduce_andi_all _ _ _ _ _ h2 i)⟩,
    fun i => ⟨_, Pre_finite.real_at _ _ i rfl (Host.reduce_andi_all _ _ _ _ _ h3 i)⟩⟩

/-- The real arrays themselves. -/
theorem args (a0 : FVec Ideal S4096x512 .f32) (a1 : FVec Ideal S4096x2048 .bf16) (a2 a3 : FVec Ideal S512 .f32)
    (h : fn (F := Ideal) a0 a1 a2 a3 = fun _ => 1#1) : ∃ a : Ln.Args,
      a0 = (fun i => ((a.x (i 0) (i 1) : ℝ) : EReal)) ∧ a1 = (fun i => ((a.y (i 0) (i 1) : ℝ) : EReal))
      ∧ a2 = (fun i => ((a.g (i 0) : ℝ) : EReal)) ∧ a3 = (fun i => ((a.b (i 0) : ℝ) : EReal)) := by
  obtain ⟨h0, h1, h2, h3⟩ := real a0 a1 a2 a3 h
  choose x hx using h0
  choose y hy using h1
  choose g hg using h2
  choose b hb using h3
  refine ⟨⟨fun r d => x (ix2 r d), fun r d => y (ix2 r d), fun d => g (ix1 d), fun d => b (ix1 d)⟩,
    funext fun i => (hx i).trans ?_, funext fun i => (hy i).trans ?_, funext fun i => (hg i).trans ?_, funext fun i => (hb i).trans ?_⟩
  · exact congrArg (fun j => ((x j : ℝ) : EReal)) (eq_ix2 i)
  · exact congrArg (fun j => ((y j : ℝ) : EReal)) (eq_ix2 i)
  · exact congrArg (fun j => ((g j : ℝ) : EReal)) (eq_ix1 i)
  · exact congrArg (fun j => ((b j : ℝ) : EReal)) (eq_ix1 i)

end Cert.Pre_finite_ln

end
-- ==== Proof.FiniteHead.lean ====
/- From the precondition of the loss head: the entries of its arguments are real numbers. -/
module

public import proofs.«01_k».proof.Proof.Finite
public import proofs.«01_k».proof.Proof.HeadSpec
public import proofs.«01_k».proof.Pre_finite_head

@[expose] public section

noncomputable section

open Idealize.ShloMosaic Idealize.ShloMosaic.TcCoe

namespace Cert.Pre_finite_head

instance : Subsingleton S_.Idx := ⟨fun a b => funext fun k => k.elim0⟩

variable [Facts]
theorem real (a0 : FVec Ideal S4096x2048 .f32) (a1 : FVec Ideal S2048 .f32) (a2 : FVec Ideal S4096x2048 .f32)
    (h : fn (F := Ideal) a0 a1 a2 = fun _ => 1#1) :
    (∀ j, ∃ r : ℝ, (show EReal from a0 j) = ((r : ℝ) : EReal))
      ∧ (∀ j, ∃ r : ℝ, (show EReal from a1 j) = ((r : ℝ) : EReal))
      ∧ (∀ j, ∃ r : ℝ, (show EReal from a2 j) = ((r : ℝ) : EReal)) := by
  have h0 := congrFun h ix0
  unfold fn at h0
  obtain ⟨h0, h2⟩ := Pre_finite.both h0
  obtain ⟨h0, h1⟩ := Pre_finite.both h0
  exact ⟨fun i => ⟨_, Pre_finite.real_at _ _ i rfl (Host.reduce_andi_all _ _ _ _ _ h0 i)⟩,
    fun i => ⟨_, Pre_finite.real_at _ _ i rfl (Host.reduce_andi_all _ _ _ _ _ h1 i)⟩,
    fun i => ⟨_, Pre_finite.real_at _ _ i rfl (Host.reduce_andi_all _ _ _ _ _ h2 i)⟩⟩

/-- The real arrays themselves. -/
theorem args (a0 : FVec Ideal S4096x2048 .f32) (a1 : FVec Ideal S2048 .f32) (a2 : FVec Ideal S4096x2048 .f32)
    (h : fn (F := Ideal) a0 a1 a2 = fun _ => 1#1) : ∃ a : Head.Args,
      a0 = (fun i => ((a.x (i 0) (i 1) : ℝ) : EReal)) ∧ a1 = (fun i => ((a.g (i 0) : ℝ) : EReal))
      ∧ a2 = (fun i => ((a.t (i 0) (i 1) : ℝ) : EReal)) := by
  obtain ⟨h0, h1, h2⟩ := real a0 a1 a2 h
  choose x hx using h0
  choose g hg using h1
  choose t ht using h2
  refine ⟨⟨fun r d => x (ix2 r d), fun d => g (ix1 d), fun r d => t (ix2 r d)⟩,
    funext fun i => (hx i).trans ?_, funext fun i => (hg i).trans ?_, funext fun i => (ht i).trans ?_⟩
  · exact congrArg (fun j => ((x j : ℝ) : EReal)) (eq_ix2 i)
  · exact congrArg (fun j => ((g j : ℝ) : EReal)) (eq_ix1 i)
  · exact congrArg (fun j => ((t j : ℝ) : EReal)) (eq_ix2 i)

end Cert.Pre_finite_head

end
-- ==== Proof.lean ====
/- The proof of the claim: the frames are the programs' own runs, the equations come from the value modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateRefIdeal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwProj
public import proofs.«01_k».proof.Proof.Gen.DwProj.Skeleton
public import proofs.«01_k».proof.Proof.Gen.DwProj.Launch
public import proofs.«01_k».proof.Proof.Gen.DwProj.Points
public import proofs.«01_k».proof.Proof.Gen.DwProj.Frame
public import proofs.«01_k».proof.Proof.Gen.DwProjIdeal
public import proofs.«01_k».proof.Proof.Gen.DwProjIdeal.Skeleton
public import proofs.«01_k».proof.Proof.Gen.DwProjIdeal.Launch
public import proofs.«01_k».proof.Proof.Gen.DwProjIdeal.Points
public import proofs.«01_k».proof.Proof.Gen.DwProjIdeal.Frame
public import proofs.«01_k».proof.Proof.Gen.DwProjRefIdeal
public import proofs.«01_k».proof.Proof.Gen.DxIn
public import proofs.«01_k».proof.Proof.Gen.DxIn.Skeleton
public import proofs.«01_k».proof.Proof.Gen.DxIn.Launch
public import proofs.«01_k».proof.Proof.Gen.DxIn.Points
public import proofs.«01_k».proof.Proof.Gen.DxIn.Frame
public import proofs.«01_k».proof.Proof.Gen.DxInIdeal
public import proofs.«01_k».proof.Proof.Gen.DxInIdeal.Skeleton
public import proofs.«01_k».proof.Proof.Gen.DxInIdeal.Launch
public import proofs.«01_k».proof.Proof.Gen.DxInIdeal.Points
public import proofs.«01_k».proof.Proof.Gen.DxInIdeal.Frame
public import proofs.«01_k».proof.Proof.Gen.DxInRefIdeal
public import proofs.«01_k».proof.Proof.Gen.DxOut
public import proofs.«01_k».proof.Proof.Gen.DxOut.Skeleton
public import proofs.«01_k».proof.Proof.Gen.DxOut.Launch
public import proofs.«01_k».proof.Proof.Gen.DxOut.Points
public import proofs.«01_k».proof.Proof.Gen.DxOut.Frame
public import proofs.«01_k».proof.Proof.Gen.DxOutIdeal
public import proofs.«01_k».proof.Proof.Gen.DxOutIdeal.Skeleton
public import proofs.«01_k».proof.Proof.Gen.DxOutIdeal.Launch
public import proofs.«01_k».proof.Proof.Gen.DxOutIdeal.Points
public import proofs.«01_k».proof.Proof.Gen.DxOutIdeal.Frame
public import proofs.«01_k».proof.Proof.Gen.DxOutRefIdeal
public import proofs.«01_k».proof.Proof.Gen.DxFfn
public import proofs.«01_k».proof.Proof.Gen.DxFfn.Skeleton
public import proofs.«01_k».proof.Proof.Gen.DxFfn.Launch
public import proofs.«01_k».proof.Proof.Gen.DxFfn.Points
public import proofs.«01_k».proof.Proof.Gen.DxFfn.Frame
public import proofs.«01_k».proof.Proof.Gen.DxFfnIdeal
public import proofs.«01_k».proof.Proof.Gen.DxFfnIdeal.Skeleton
public import proofs.«01_k».proof.Proof.Gen.DxFfnIdeal.Launch
public import proofs.«01_k».proof.Proof.Gen.DxFfnIdeal.Points
public import proofs.«01_k».proof.Proof.Gen.DxFfnIdeal.Frame
public import proofs.«01_k».proof.Proof.Gen.DxFfnRefIdeal
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdRefIdeal
public import proofs.«01_k».proof.Proof.Gen.PleBwd
public import proofs.«01_k».proof.Proof.Gen.PleBwd.Skeleton
public import proofs.«01_k».proof.Proof.Gen.PleBwd.Launch
public import proofs.«01_k».proof.Proof.Gen.PleBwd.Points
public import proofs.«01_k».proof.Proof.Gen.PleBwd.Frame
public import proofs.«01_k».proof.Proof.Gen.PleBwdIdeal
public import proofs.«01_k».proof.Proof.Gen.PleBwdIdeal.Skeleton
public import proofs.«01_k».proof.Proof.Gen.PleBwdIdeal.Launch
public import proofs.«01_k».proof.Proof.Gen.PleBwdIdeal.Points
public import proofs.«01_k».proof.Proof.Gen.PleBwdIdeal.Frame
public import proofs.«01_k».proof.Proof.Gen.PleBwdRefIdeal
public import proofs.«01_k».proof.Proof.Gen.MmIn
public import proofs.«01_k».proof.Proof.Gen.MmIn.Skeleton
public import proofs.«01_k».proof.Proof.Gen.MmIn.Launch
public import proofs.«01_k».proof.Proof.Gen.MmIn.Points
public import proofs.«01_k».proof.Proof.Gen.MmIn.Frame
public import proofs.«01_k».proof.Proof.Gen.MmInIdeal
public import proofs.«01_k».proof.Proof.Gen.MmInIdeal.Skeleton
public import proofs.«01_k».proof.Proof.Gen.MmInIdeal.Launch
public import proofs.«01_k».proof.Proof.Gen.MmInIdeal.Points
public import proofs.«01_k».proof.Proof.Gen.MmInIdeal.Frame
public import proofs.«01_k».proof.Proof.Gen.MmInRefIdeal
public import proofs.«01_k».proof.Proof.Gen.MmOut
public import proofs.«01_k».proof.Proof.Gen.MmOut.Skeleton
public import proofs.«01_k».proof.Proof.Gen.MmOut.Launch
public import proofs.«01_k».proof.Proof.Gen.MmOut.Points
public import proofs.«01_k».proof.Proof.Gen.MmOut.Frame
public import proofs.«01_k».proof.Proof.Gen.MmOutIdeal
public import proofs.«01_k».proof.Proof.Gen.MmOutIdeal.Skeleton
public import proofs.«01_k».proof.Proof.Gen.MmOutIdeal.Launch
public import proofs.«01_k».proof.Proof.Gen.MmOutIdeal.Points
public import proofs.«01_k».proof.Proof.Gen.MmOutIdeal.Frame
public import proofs.«01_k».proof.Proof.Gen.MmOutRefIdeal
public import proofs.«01_k».proof.Proof.Gen.MmDown
public import proofs.«01_k».proof.Proof.Gen.MmDown.Skeleton
public import proofs.«01_k».proof.Proof.Gen.MmDown.Launch
public import proofs.«01_k».proof.Proof.Gen.MmDown.Points
public import proofs.«01_k».proof.Proof.Gen.MmDown.Frame
public import proofs.«01_k».proof.Proof.Gen.MmDownIdeal
public import proofs.«01_k».proof.Proof.Gen.MmDownIdeal.Skeleton
public import proofs.«01_k».proof.Proof.Gen.MmDownIdeal.Launch
public import proofs.«01_k».proof.Proof.Gen.MmDownIdeal.Points
public import proofs.«01_k».proof.Proof.Gen.MmDownIdeal.Frame
public import proofs.«01_k».proof.Proof.Gen.MmDownRefIdeal
public import proofs.«01_k».proof.Proof.Gen.SwigluFwd
public import proofs.«01_k».proof.Proof.Gen.SwigluFwd.Skeleton
public import proofs.«01_k».proof.Proof.Gen.SwigluFwd.Launch
public import proofs.«01_k».proof.Proof.Gen.SwigluFwd.Points
public import proofs.«01_k».proof.Proof.Gen.SwigluFwd.Frame
public import proofs.«01_k».proof.Proof.Gen.SwigluFwdIdeal
public import proofs.«01_k».proof.Proof.Gen.SwigluFwdIdeal.Skeleton
public import proofs.«01_k».proof.Proof.Gen.SwigluFwdIdeal.Launch
public import proofs.«01_k».proof.Proof.Gen.SwigluFwdIdeal.Points
public import proofs.«01_k».proof.Proof.Gen.SwigluFwdIdeal.Frame
public import proofs.«01_k».proof.Proof.Gen.SwigluFwdRefIdeal
public import proofs.«01_k».proof.Proof.Gen.PleFwd
public import proofs.«01_k».proof.Proof.Gen.PleFwd.Skeleton
public import proofs.«01_k».proof.Proof.Gen.PleFwd.Launch
public import proofs.«01_k».proof.Proof.Gen.PleFwd.Points
public import proofs.«01_k».proof.Proof.Gen.PleFwd.Frame
public import proofs.«01_k».proof.Proof.Gen.PleFwdIdeal
public import proofs.«01_k».proof.Proof.Gen.PleFwdIdeal.Skeleton
public import proofs.«01_k».proof.Proof.Gen.PleFwdIdeal.Launch
public import proofs.«01_k».proof.Proof.Gen.PleFwdIdeal.Points
public import proofs.«01_k».proof.Proof.Gen.PleFwdIdeal.Frame
public import proofs.«01_k».proof.Proof.Gen.PleFwdRefIdeal
public import proofs.«01_k».proof.Proof.Gen.MmProj
public import proofs.«01_k».proof.Proof.Gen.MmProj.Skeleton
public import proofs.«01_k».proof.Proof.Gen.MmProj.Launch
public import proofs.«01_k».proof.Proof.Gen.MmProj.Points
public import proofs.«01_k».proof.Proof.Gen.MmProj.Frame
public import proofs.«01_k».proof.Proof.Gen.MmProjIdeal
public import proofs.«01_k».proof.Proof.Gen.MmProjIdeal.Skeleton
public import proofs.«01_k».proof.Proof.Gen.MmProjIdeal.Launch
public import proofs.«01_k».proof.Proof.Gen.MmProjIdeal.Points
public import proofs.«01_k».proof.Proof.Gen.MmProjIdeal.Frame
public import proofs.«01_k».proof.Proof.Gen.MmProjRefIdeal
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdRefIdeal
public import proofs.«01_k».proof.Proof.Gen.LnFwd
public import proofs.«01_k».proof.Proof.Gen.LnFwd.Skeleton
public import proofs.«01_k».proof.Proof.Gen.LnFwd.Launch
public import proofs.«01_k».proof.Proof.Gen.LnFwd.Points
public import proofs.«01_k».proof.Proof.Gen.LnFwd.Frame
public import proofs.«01_k».proof.Proof.Gen.LnFwdIdeal
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.LnFwdIdeal.Frame
public import proofs.«01_k».proof.Proof.Gen.LnFwdRefIdeal
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwd.Frame
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdIdeal.Frame
public import proofs.«01_k».proof.Proof.Gen.LnBwdRefIdeal
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdRefIdeal
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWRefIdeal
public import proofs.«01_k».proof.Proof.Gen.Pre_finite
public import proofs.«01_k».proof.Proof.Gen.Pre_finite_swiglu
public import proofs.«01_k».proof.Proof.Gen.Pre_finite_ln
public import proofs.«01_k».proof.Proof.DwGateValue
public import proofs.«01_k».proof.Proof.Gen.DwGateIdeal.Value
public import proofs.«01_k».proof.Proof.Gen.DwGateRefIdeal.Run
public import proofs.«01_k».proof.Proof.DwDownValue
public import proofs.«01_k».proof.Proof.Gen.DwDownIdeal.Value
public import proofs.«01_k».proof.Proof.Gen.DwDownRefIdeal.Run
public import proofs.«01_k».proof.Proof.DwInValue
public import proofs.«01_k».proof.Proof.Gen.DwInIdeal.Value
public import proofs.«01_k».proof.Proof.Gen.DwInRefIdeal.Run
public import proofs.«01_k».proof.Proof.DwOutValue
public import proofs.«01_k».proof.Proof.Gen.DwOutIdeal.Value
public import proofs.«01_k».proof.Proof.Gen.DwOutRefIdeal.Run
public import proofs.«01_k».proof.Proof.DwProjValue
public import proofs.«01_k».proof.Proof.Gen.DwProjIdeal.Value
public import proofs.«01_k».proof.Proof.Gen.DwProjRefIdeal.Run
public import proofs.«01_k».proof.Proof.DxInValue
public import proofs.«01_k».proof.Proof.Gen.DxInIdeal.Value
public import proofs.«01_k».proof.Proof.Gen.DxInRefIdeal.Run
public import proofs.«01_k».proof.Proof.DxOutValue
public import proofs.«01_k».proof.Proof.Gen.DxOutIdeal.Value
public import proofs.«01_k».proof.Proof.Gen.DxOutRefIdeal.Run
public import proofs.«01_k».proof.Proof.DxFfnValue
public import proofs.«01_k».proof.Proof.Gen.DxFfnIdeal.Value
public import proofs.«01_k».proof.Proof.Gen.DxFfnRefIdeal.Run
public import proofs.«01_k».proof.Proof.SwigluBwdValue
public import proofs.«01_k».proof.Proof.Gen.SwigluBwdIdeal.Value
public import proofs.«01_k».proof.Proof.Gen.SwigluBwdRefIdeal.Run
public import proofs.«01_k».proof.Proof.PleBwdValue
public import proofs.«01_k».proof.Proof.Gen.PleBwdIdeal.Value
public import proofs.«01_k».proof.Proof.Gen.PleBwdRefIdeal.Run
public import proofs.«01_k».proof.Proof.MmInValue
public import proofs.«01_k».proof.Proof.Gen.MmInIdeal.Value
public import proofs.«01_k».proof.Proof.Gen.MmInRefIdeal.Run
public import proofs.«01_k».proof.Proof.MmOutValue
public import proofs.«01_k».proof.Proof.Gen.MmOutIdeal.Value
public import proofs.«01_k».proof.Proof.Gen.MmOutRefIdeal.Run
public import proofs.«01_k».proof.Proof.MmDownValue
public import proofs.«01_k».proof.Proof.Gen.MmDownIdeal.Value
public import proofs.«01_k».proof.Proof.Gen.MmDownRefIdeal.Run
public import proofs.«01_k».proof.Proof.SwigluFwdValue
public import proofs.«01_k».proof.Proof.Gen.SwigluFwdIdeal.Value
public import proofs.«01_k».proof.Proof.Gen.SwigluFwdRefIdeal.Run
public import proofs.«01_k».proof.Proof.PleFwdValue
public import proofs.«01_k».proof.Proof.Gen.PleFwdIdeal.Value
public import proofs.«01_k».proof.Proof.Gen.PleFwdRefIdeal.Run
public import proofs.«01_k».proof.Proof.MmProjValue
public import proofs.«01_k».proof.Proof.Gen.MmProjIdeal.Value
public import proofs.«01_k».proof.Proof.Gen.MmProjRefIdeal.Run
public import proofs.«01_k».proof.Proof.RmsFwdValue
public import proofs.«01_k».proof.Proof.Gen.RmsFwdIdeal.Value
public import proofs.«01_k».proof.Proof.Gen.RmsFwdRefIdeal.Run
public import proofs.«01_k».proof.Proof.LnFwdValue
public import proofs.«01_k».proof.Proof.Gen.LnFwdIdeal.Value
public import proofs.«01_k».proof.Proof.Gen.LnFwdRefIdeal.Run
public import proofs.«01_k».proof.Proof.LnBwdValue
public import proofs.«01_k».proof.Proof.Gen.LnBwdIdeal.Value
public import proofs.«01_k».proof.Proof.Gen.LnBwdRefIdeal.Run
public import proofs.«01_k».proof.Proof.SguFwdValue
public import proofs.«01_k».proof.Proof.Gen.SguFwdIdeal.Value
public import proofs.«01_k».proof.Proof.Gen.SguFwdRefIdeal.Run
public import proofs.«01_k».proof.Proof.LossHeadValue
public import proofs.«01_k».proof.Proof.Gen.LossHeadIdeal.Value
public import proofs.«01_k».proof.Proof.Gen.LossHeadRefIdeal.Run
public import proofs.«01_k».proof.Proof.AdamWValue
public import proofs.«01_k».proof.Proof.Gen.AdamWIdeal.Value
public import proofs.«01_k».proof.Proof.Gen.AdamWRefIdeal.Run
public import proofs.«01_k».proof.Proof.SguArrays
public import proofs.«01_k».proof.Proof.SguRef
public import proofs.«01_k».proof.Proof.Finite
public import proofs.«01_k».proof.Proof.FiniteSwiglu
public import proofs.«01_k».proof.Proof.FiniteLn
public import proofs.«01_k».proof.Proof.FiniteHead
public import Idealize.ShloMosaic.Adequacy
public import Idealize.ShloMosaic.Init
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.Pre_finite_head

@[expose] public section

set_option maxRecDepth 16384

noncomputable section

namespace Cert.Proof

open Idealize.ShloMosaic Idealize.SL.Sem Cert.Kernel

/-- Both programs end with the six arrays of the real gradients of `a c`. -/
theorem algebraic_Sgu : Cert.algebraic_KernelIdeal_ReferenceIdeal_pre_finite := by
  intro m g m' g' hpre heq
  choose a ha using fun c => Cert.Pre_finite.finite _ _ _ _ _ _ (hpre c)
  have hk : ∀ c, Cert.KernelIdeal.Value.Holds m c (a c) := fun c => ha c
  have hr : ∀ c, Cert.ReferenceIdeal.Value.HoldsV (StableHlo.launchContents m' c) (a c) := fun c =>
    ⟨(heq c).1.trans (hk c).1, (heq c).2.1.trans (hk c).2.1, (heq c).2.2.1.trans (hk c).2.2.1,
      (heq c).2.2.2.1.trans (hk c).2.2.2.1, (heq c).2.2.2.2.1.trans (hk c).2.2.2.2.1,
      (heq c).2.2.2.2.2.trans (hk c).2.2.2.2.2⟩
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks m g,
    (θ_run Cert.ReferenceIdeal.defs _ _).mono (fun r h c => ?_) (Cert.ReferenceIdeal.Value.run m' g')⟩
  obtain ⟨h0, h1, h2, h3, h4, h5, h6⟩ := h c
  exact ⟨h0.trans ((Cert.ReferenceIdeal.Value.du (hr c)).trans (Cert.KernelIdeal.Value.value7 (hk c)).symm),
    h1.trans ((Cert.ReferenceIdeal.Value.dv (hr c)).trans (Cert.KernelIdeal.Value.value8 (hk c)).symm),
    h2.trans ((Cert.ReferenceIdeal.Value.dg (hr c)).trans (Cert.KernelIdeal.Value.value9 (hk c)).symm),
    h3.trans ((Cert.ReferenceIdeal.Value.db (hr c)).trans (Cert.KernelIdeal.Value.value10 (hk c)).symm),
    h4.trans ((Cert.ReferenceIdeal.Value.dw (hr c)).trans (Cert.KernelIdeal.Value.value11 (hk c)).symm),
    h5.trans ((Cert.ReferenceIdeal.Value.dc (hr c)).trans (Cert.KernelIdeal.Value.value12 (hk c)).symm), h6⟩

theorem algebraic_DwGate : Cert.algebraic_DwGateIdeal_DwGateRefIdeal := by
  intro m g m' g' _ heq
  refine ⟨fun c => (Cert.DwGateIdeal.Gen.dats m 0 c).arrAt 2 Cert.DwGateIdeal.cfg0.N,
    Cert.DwGateIdeal.Value.run_blocks m g,
    (θ_run Cert.DwGateRefIdeal.defs _ _).mono (fun r h c => ?_) (Cert.DwGateRefIdeal.Value.run m' g')⟩
  obtain ⟨h0, hk⟩ := h c
  have k0 : Cert.DwGateRefIdeal.Value.REF (m' ((c.tc : Thread Cert.DwGateRefIdeal.nD Cert.DwGateRefIdeal.τ).loc Cert.DwGateRefIdeal.main_arg0)) (m' ((c.tc : Thread Cert.DwGateRefIdeal.nD Cert.DwGateRefIdeal.τ).loc Cert.DwGateRefIdeal.main_arg1))
      = (Cert.DwGateIdeal.Gen.dats m 0 c).arrAt 2 Cert.DwGateIdeal.cfg0.N :=
    (congr (congr (Eq.refl Cert.DwGateRefIdeal.Value.REF) (heq c).1) (heq c).2).trans (Cert.DwGateIdeal.Value.final m c).symm
  exact ⟨h0.trans k0, hk⟩

theorem algebraic_DwDown : Cert.algebraic_DwDownIdeal_DwDownRefIdeal := by
  intro m g m' g' _ heq
  refine ⟨fun c => (Cert.DwDownIdeal.Gen.dats m 0 c).arrAt 2 Cert.DwDownIdeal.cfg0.N,
    Cert.DwDownIdeal.Value.run_blocks m g,
    (θ_run Cert.DwDownRefIdeal.defs _ _).mono (fun r h c => ?_) (Cert.DwDownRefIdeal.Value.run m' g')⟩
  obtain ⟨h0, hk⟩ := h c
  have k0 : Cert.DwDownRefIdeal.Value.REF (m' ((c.tc : Thread Cert.DwDownRefIdeal.nD Cert.DwDownRefIdeal.τ).loc Cert.DwDownRefIdeal.main_arg0)) (m' ((c.tc : Thread Cert.DwDownRefIdeal.nD Cert.DwDownRefIdeal.τ).loc Cert.DwDownRefIdeal.main_arg1))
      = (Cert.DwDownIdeal.Gen.dats m 0 c).arrAt 2 Cert.DwDownIdeal.cfg0.N :=
    (congr (congr (Eq.refl Cert.DwDownRefIdeal.Value.REF) (heq c).1) (heq c).2).trans (Cert.DwDownIdeal.Value.final m c).symm
  exact ⟨h0.trans k0, hk⟩

theorem algebraic_DwIn : Cert.algebraic_DwInIdeal_DwInRefIdeal := by
  intro m g m' g' _ heq
  refine ⟨fun c => (Cert.DwInIdeal.Gen.dats m 0 c).arrAt 2 Cert.DwInIdeal.cfg0.N,
    Cert.DwInIdeal.Value.run_blocks m g,
    (θ_run Cert.DwInRefIdeal.defs _ _).mono (fun r h c => ?_) (Cert.DwInRefIdeal.Value.run m' g')⟩
  obtain ⟨h0, hk⟩ := h c
  have k0 : Cert.DwInRefIdeal.Value.REF (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1))
      = (Cert.DwInIdeal.Gen.dats m 0 c).arrAt 2 Cert.DwInIdeal.cfg0.N :=
    (congr (congr (Eq.refl Cert.DwInRefIdeal.Value.REF) (heq c).1) (heq c).2).trans (Cert.DwInIdeal.Value.final m c).symm
  exact ⟨h0.trans k0, hk⟩

theorem algebraic_DwOut : Cert.algebraic_DwOutIdeal_DwOutRefIdeal := by
  intro m g m' g' _ heq
  refine ⟨fun c => (Cert.DwOutIdeal.Gen.dats m 0 c).arrAt 2 Cert.DwOutIdeal.cfg0.N,
    Cert.DwOutIdeal.Value.run_blocks m g,
    (θ_run Cert.DwOutRefIdeal.defs _ _).mono (fun r h c => ?_) (Cert.DwOutRefIdeal.Value.run m' g')⟩
  obtain ⟨h0, hk⟩ := h c
  have k0 : Cert.DwOutRefIdeal.Value.REF (m' ((c.tc : Thread Cert.DwOutRefIdeal.nD Cert.DwOutRefIdeal.τ).loc Cert.DwOutRefIdeal.main_arg0)) (m' ((c.tc : Thread Cert.DwOutRefIdeal.nD Cert.DwOutRefIdeal.τ).loc Cert.DwOutRefIdeal.main_arg1))
      = (Cert.DwOutIdeal.Gen.dats m 0 c).arrAt 2 Cert.DwOutIdeal.cfg0.N :=
    (congr (congr (Eq.refl Cert.DwOutRefIdeal.Value.REF) (heq c).1) (heq c).2).trans (Cert.DwOutIdeal.Value.final m c).symm
  exact ⟨h0.trans k0, hk⟩

theorem algebraic_DwProj : Cert.algebraic_DwProjIdeal_DwProjRefIdeal := by
  intro m g m' g' _ heq
  refine ⟨fun c => (Cert.DwProjIdeal.Gen.dats m 0 c).arrAt 2 Cert.DwProjIdeal.cfg0.N,
    Cert.DwProjIdeal.Value.run_blocks m g,
    (θ_run Cert.DwProjRefIdeal.defs _ _).mono (fun r h c => ?_) (Cert.DwProjRefIdeal.Value.run m' g')⟩
  obtain ⟨h0, hk⟩ := h c
  have k0 : Cert.DwProjRefIdeal.Value.REF (m' ((c.tc : Thread Cert.DwProjRefIdeal.nD Cert.DwProjRefIdeal.τ).loc Cert.DwProjRefIdeal.main_arg0)) (m' ((c.tc : Thread Cert.DwProjRefIdeal.nD Cert.DwProjRefIdeal.τ).loc Cert.DwProjRefIdeal.main_arg1))
      = (Cert.DwProjIdeal.Gen.dats m 0 c).arrAt 2 Cert.DwProjIdeal.cfg0.N :=
    (congr (congr (Eq.refl Cert.DwProjRefIdeal.Value.REF) (heq c).1) (heq c).2).trans (Cert.DwProjIdeal.Value.final m c).symm
  exact ⟨h0.trans k0, hk⟩

theorem algebraic_DxIn : Cert.algebraic_DxInIdeal_DxInRefIdeal := by
  intro m g m' g' _ heq
  refine ⟨fun c => (Cert.DxInIdeal.Gen.dats m 0 c).arrAt 5 Cert.DxInIdeal.cfg0.N,
    Cert.DxInIdeal.Value.run_blocks m g,
    (θ_run Cert.DxInRefIdeal.defs _ _).mono (fun r h c => ?_) (Cert.DxInRefIdeal.Value.run m' g')⟩
  obtain ⟨h0, hk⟩ := h c
  have k0 : Cert.DxInRefIdeal.Value.REF (m' ((c.tc : Thread Cert.DxInRefIdeal.nD Cert.DxInRefIdeal.τ).loc Cert.DxInRefIdeal.main_arg0)) (m' ((c.tc : Thread Cert.DxInRefIdeal.nD Cert.DxInRefIdeal.τ).loc Cert.DxInRefIdeal.main_arg1))
      = (Cert.DxInIdeal.Gen.dats m 0 c).arrAt 5 Cert.DxInIdeal.cfg0.N :=
    (congr (congr (Eq.refl Cert.DxInRefIdeal.Value.REF) (heq c).1) (heq c).2).trans (Cert.DxInIdeal.Value.final m c).symm
  exact ⟨h0.trans k0, hk⟩

theorem algebraic_DxOut : Cert.algebraic_DxOutIdeal_DxOutRefIdeal := by
  intro m g m' g' _ heq
  refine ⟨fun c => (Cert.DxOutIdeal.Gen.dats m 0 c).arrAt 3 Cert.DxOutIdeal.cfg0.N,
    Cert.DxOutIdeal.Value.run_blocks m g,
    (θ_run Cert.DxOutRefIdeal.defs _ _).mono (fun r h c => ?_) (Cert.DxOutRefIdeal.Value.run m' g')⟩
  obtain ⟨h0, hk⟩ := h c
  have k0 : Cert.DxOutRefIdeal.Value.REF (m' ((c.tc : Thread Cert.DxOutRefIdeal.nD Cert.DxOutRefIdeal.τ).loc Cert.DxOutRefIdeal.main_arg0)) (m' ((c.tc : Thread Cert.DxOutRefIdeal.nD Cert.DxOutRefIdeal.τ).loc Cert.DxOutRefIdeal.main_arg1))
      = (Cert.DxOutIdeal.Gen.dats m 0 c).arrAt 3 Cert.DxOutIdeal.cfg0.N :=
    (congr (congr (Eq.refl Cert.DxOutRefIdeal.Value.REF) (heq c).1) (heq c).2).trans (Cert.DxOutIdeal.Value.final m c).symm
  exact ⟨h0.trans k0, hk⟩

theorem algebraic_DxFfn : Cert.algebraic_DxFfnIdeal_DxFfnRefIdeal := by
  intro m g m' g' _ heq
  refine ⟨fun c => (Cert.DxFfnIdeal.Gen.dats m 0 c).arrAt 4 Cert.DxFfnIdeal.cfg0.N,
    Cert.DxFfnIdeal.Value.run_blocks m g,
    (θ_run Cert.DxFfnRefIdeal.defs _ _).mono (fun r h c => ?_) (Cert.DxFfnRefIdeal.Value.run m' g')⟩
  obtain ⟨h0, hk⟩ := h c
  have k0 : Cert.DxFfnRefIdeal.Value.REF (m' ((c.tc : Thread Cert.DxFfnRefIdeal.nD Cert.DxFfnRefIdeal.τ).loc Cert.DxFfnRefIdeal.main_arg0)) (m' ((c.tc : Thread Cert.DxFfnRefIdeal.nD Cert.DxFfnRefIdeal.τ).loc Cert.DxFfnRefIdeal.main_arg1)) (m' ((c.tc : Thread Cert.DxFfnRefIdeal.nD Cert.DxFfnRefIdeal.τ).loc Cert.DxFfnRefIdeal.main_arg2)) (m' ((c.tc : Thread Cert.DxFfnRefIdeal.nD Cert.DxFfnRefIdeal.τ).loc Cert.DxFfnRefIdeal.main_arg3))
      = (Cert.DxFfnIdeal.Gen.dats m 0 c).arrAt 4 Cert.DxFfnIdeal.cfg0.N :=
    (congr (congr (congr (congr (Eq.refl Cert.DxFfnRefIdeal.Value.REF) (heq c).1) (heq c).2.1) (heq c).2.2.1) (heq c).2.2.2).trans (Cert.DxFfnIdeal.Value.final m c).symm
  exact ⟨h0.trans k0, hk⟩

theorem algebraic_SwigluBwd : Cert.algebraic_SwigluBwdIdeal_SwigluBwdRefIdeal_pre_finite_swiglu := by
  intro m g m' g' hpre heq
  refine ⟨fun c => (Cert.SwigluBwdIdeal.Gen.dats m 0 c).arrAt 5 Cert.SwigluBwdIdeal.cfg0.N,
    fun c => (Cert.SwigluBwdIdeal.Gen.dats m 0 c).arrAt 6 Cert.SwigluBwdIdeal.cfg0.N,
    fun c => (Cert.SwigluBwdIdeal.Gen.dats m 0 c).arrAt 7 Cert.SwigluBwdIdeal.cfg0.N,
    Cert.SwigluBwdIdeal.Value.run_blocks m g,
    (θ_run Cert.SwigluBwdRefIdeal.defs _ _).mono (fun r h c => ?_) (Cert.SwigluBwdRefIdeal.Value.run m' g')⟩
  obtain ⟨h0, h1, h2, hk⟩ := h c
  obtain ⟨r0, r1, r3⟩ := Cert.Pre_finite_swiglu.real _ _ _ _ (hpre c)
  have k0 : Cert.SwigluBwdRefIdeal.Value.REF_gate (m' ((c.tc : Thread Cert.SwigluBwdRefIdeal.nD Cert.SwigluBwdRefIdeal.τ).loc Cert.SwigluBwdRefIdeal.main_arg0)) (m' ((c.tc : Thread Cert.SwigluBwdRefIdeal.nD Cert.SwigluBwdRefIdeal.τ).loc Cert.SwigluBwdRefIdeal.main_arg1)) (m' ((c.tc : Thread Cert.SwigluBwdRefIdeal.nD Cert.SwigluBwdRefIdeal.τ).loc Cert.SwigluBwdRefIdeal.main_arg2)) (m' ((c.tc : Thread Cert.SwigluBwdRefIdeal.nD Cert.SwigluBwdRefIdeal.τ).loc Cert.SwigluBwdRefIdeal.main_arg3))
      = (Cert.SwigluBwdIdeal.Gen.dats m 0 c).arrAt 5 Cert.SwigluBwdIdeal.cfg0.N :=
    (congr (congr (congr (congr (Eq.refl Cert.SwigluBwdRefIdeal.Value.REF_gate) (heq c).1) (heq c).2.1) (heq c).2.2.1) (heq c).2.2.2).trans (Cert.SwigluBwdIdeal.Value.final_gate m c r0 r1 r3).symm
  have k1 : Cert.SwigluBwdRefIdeal.Value.REF_up (m' ((c.tc : Thread Cert.SwigluBwdRefIdeal.nD Cert.SwigluBwdRefIdeal.τ).loc Cert.SwigluBwdRefIdeal.main_arg0)) (m' ((c.tc : Thread Cert.SwigluBwdRefIdeal.nD Cert.SwigluBwdRefIdeal.τ).loc Cert.SwigluBwdRefIdeal.main_arg1)) (m' ((c.tc : Thread Cert.SwigluBwdRefIdeal.nD Cert.SwigluBwdRefIdeal.τ).loc Cert.SwigluBwdRefIdeal.main_arg2)) (m' ((c.tc : Thread Cert.SwigluBwdRefIdeal.nD Cert.SwigluBwdRefIdeal.τ).loc Cert.SwigluBwdRefIdeal.main_arg3))
      = (Cert.SwigluBwdIdeal.Gen.dats m 0 c).arrAt 6 Cert.SwigluBwdIdeal.cfg0.N :=
    (congr (congr (congr (congr (Eq.refl Cert.SwigluBwdRefIdeal.Value.REF_up) (heq c).1) (heq c).2.1) (heq c).2.2.1) (heq c).2.2.2).trans (Cert.SwigluBwdIdeal.Value.final_up m c).symm
  have k2 : Cert.SwigluBwdRefIdeal.Value.REF_act (m' ((c.tc : Thread Cert.SwigluBwdRefIdeal.nD Cert.SwigluBwdRefIdeal.τ).loc Cert.SwigluBwdRefIdeal.main_arg0)) (m' ((c.tc : Thread Cert.SwigluBwdRefIdeal.nD Cert.SwigluBwdRefIdeal.τ).loc Cert.SwigluBwdRefIdeal.main_arg1)) (m' ((c.tc : Thread Cert.SwigluBwdRefIdeal.nD Cert.SwigluBwdRefIdeal.τ).loc Cert.SwigluBwdRefIdeal.main_arg2)) (m' ((c.tc : Thread Cert.SwigluBwdRefIdeal.nD Cert.SwigluBwdRefIdeal.τ).loc Cert.SwigluBwdRefIdeal.main_arg3))
      = (Cert.SwigluBwdIdeal.Gen.dats m 0 c).arrAt 7 Cert.SwigluBwdIdeal.cfg0.N :=
    (congr (congr (congr (congr (Eq.refl Cert.SwigluBwdRefIdeal.Value.REF_act) (heq c).1) (heq c).2.1) (heq c).2.2.1) (heq c).2.2.2).trans (Cert.SwigluBwdIdeal.Value.final_act m c).symm
  exact ⟨h0.trans k0, h1.trans k1, h2.trans k2, hk⟩

theorem algebraic_PleBwd : Cert.algebraic_PleBwdIdeal_PleBwdRefIdeal := by
  intro m g m' g' _ heq
  refine ⟨fun c => (Cert.PleBwdIdeal.Gen.dats m 0 c).arrAt 3 Cert.PleBwdIdeal.cfg0.N,
    fun c => (Cert.PleBwdIdeal.Gen.dats m 0 c).arrAt 4 Cert.PleBwdIdeal.cfg0.N,
    Cert.PleBwdIdeal.Value.run_blocks m g,
    (θ_run Cert.PleBwdRefIdeal.defs _ _).mono (fun r h c => ?_) (Cert.PleBwdRefIdeal.Value.run m' g')⟩
  obtain ⟨h0, h1, hk⟩ := h c
  have k0 : Cert.PleBwdRefIdeal.Value.REF_dpp (m' ((c.tc : Thread Cert.PleBwdRefIdeal.nD Cert.PleBwdRefIdeal.τ).loc Cert.PleBwdRefIdeal.main_arg0)) (m' ((c.tc : Thread Cert.PleBwdRefIdeal.nD Cert.PleBwdRefIdeal.τ).loc Cert.PleBwdRefIdeal.main_arg1)) (m' ((c.tc : Thread Cert.PleBwdRefIdeal.nD Cert.PleBwdRefIdeal.τ).loc Cert.PleBwdRefIdeal.main_arg2))
      = (Cert.PleBwdIdeal.Gen.dats m 0 c).arrAt 3 Cert.PleBwdIdeal.cfg0.N :=
    (congr (congr (congr (Eq.refl Cert.PleBwdRefIdeal.Value.REF_dpp) (heq c).1) (heq c).2.1) (heq c).2.2).trans (Cert.PleBwdIdeal.Value.final_dpp m c).symm
  have k1 : Cert.PleBwdRefIdeal.Value.REF_dpg (m' ((c.tc : Thread Cert.PleBwdRefIdeal.nD Cert.PleBwdRefIdeal.τ).loc Cert.PleBwdRefIdeal.main_arg0)) (m' ((c.tc : Thread Cert.PleBwdRefIdeal.nD Cert.PleBwdRefIdeal.τ).loc Cert.PleBwdRefIdeal.main_arg1)) (m' ((c.tc : Thread Cert.PleBwdRefIdeal.nD Cert.PleBwdRefIdeal.τ).loc Cert.PleBwdRefIdeal.main_arg2))
      = (Cert.PleBwdIdeal.Gen.dats m 0 c).arrAt 4 Cert.PleBwdIdeal.cfg0.N :=
    (congr (congr (congr (Eq.refl Cert.PleBwdRefIdeal.Value.REF_dpg) (heq c).1) (heq c).2.1) (heq c).2.2).trans (Cert.PleBwdIdeal.Value.final_dpg m c).symm
  exact ⟨h0.trans k0, h1.trans k1, hk⟩

theorem algebraic_MmIn : Cert.algebraic_MmInIdeal_MmInRefIdeal := by
  intro m g m' g' _ heq
  refine ⟨fun c => (Cert.MmInIdeal.Gen.dats m 0 c).arrAt 3 Cert.MmInIdeal.cfg0.N,
    Cert.MmInIdeal.Value.run_blocks m g,
    (θ_run Cert.MmInRefIdeal.defs _ _).mono (fun r h c => ?_) (Cert.MmInRefIdeal.Value.run m' g')⟩
  obtain ⟨h0, hk⟩ := h c
  have k0 : Cert.MmInRefIdeal.Value.REF (m' ((c.tc : Thread Cert.MmInRefIdeal.nD Cert.MmInRefIdeal.τ).loc Cert.MmInRefIdeal.main_arg0)) (m' ((c.tc : Thread Cert.MmInRefIdeal.nD Cert.MmInRefIdeal.τ).loc Cert.MmInRefIdeal.main_arg1))
      = (Cert.MmInIdeal.Gen.dats m 0 c).arrAt 3 Cert.MmInIdeal.cfg0.N :=
    (congr (congr (Eq.refl Cert.MmInRefIdeal.Value.REF) (heq c).1) (heq c).2).trans (Cert.MmInIdeal.Value.final m c).symm
  exact ⟨h0.trans k0, hk⟩

theorem algebraic_MmOut : Cert.algebraic_MmOutIdeal_MmOutRefIdeal := by
  intro m g m' g' _ heq
  refine ⟨fun c => (Cert.MmOutIdeal.Gen.dats m 0 c).arrAt 6 Cert.MmOutIdeal.cfg0.N,
    Cert.MmOutIdeal.Value.run_blocks m g,
    (θ_run Cert.MmOutRefIdeal.defs _ _).mono (fun r h c => ?_) (Cert.MmOutRefIdeal.Value.run m' g')⟩
  obtain ⟨h0, hk⟩ := h c
  have k0 : Cert.MmOutRefIdeal.Value.REF (m' ((c.tc : Thread Cert.MmOutRefIdeal.nD Cert.MmOutRefIdeal.τ).loc Cert.MmOutRefIdeal.main_arg0)) (m' ((c.tc : Thread Cert.MmOutRefIdeal.nD Cert.MmOutRefIdeal.τ).loc Cert.MmOutRefIdeal.main_arg1)) (m' ((c.tc : Thread Cert.MmOutRefIdeal.nD Cert.MmOutRefIdeal.τ).loc Cert.MmOutRefIdeal.main_arg2))
      = (Cert.MmOutIdeal.Gen.dats m 0 c).arrAt 6 Cert.MmOutIdeal.cfg0.N :=
    (congr (congr (congr (Eq.refl Cert.MmOutRefIdeal.Value.REF) (heq c).1) (heq c).2.1) (heq c).2.2).trans (Cert.MmOutIdeal.Value.final m c).symm
  exact ⟨h0.trans k0, hk⟩

theorem algebraic_MmDown : Cert.algebraic_MmDownIdeal_MmDownRefIdeal := by
  intro m g m' g' _ heq
  refine ⟨fun c => (Cert.MmDownIdeal.Gen.dats m 0 c).arrAt 6 Cert.MmDownIdeal.cfg0.N,
    Cert.MmDownIdeal.Value.run_blocks m g,
    (θ_run Cert.MmDownRefIdeal.defs _ _).mono (fun r h c => ?_) (Cert.MmDownRefIdeal.Value.run m' g')⟩
  obtain ⟨h0, hk⟩ := h c
  have k0 : Cert.MmDownRefIdeal.Value.REF (m' ((c.tc : Thread Cert.MmDownRefIdeal.nD Cert.MmDownRefIdeal.τ).loc Cert.MmDownRefIdeal.main_arg0)) (m' ((c.tc : Thread Cert.MmDownRefIdeal.nD Cert.MmDownRefIdeal.τ).loc Cert.MmDownRefIdeal.main_arg1)) (m' ((c.tc : Thread Cert.MmDownRefIdeal.nD Cert.MmDownRefIdeal.τ).loc Cert.MmDownRefIdeal.main_arg2))
      = (Cert.MmDownIdeal.Gen.dats m 0 c).arrAt 6 Cert.MmDownIdeal.cfg0.N :=
    (congr (congr (congr (Eq.refl Cert.MmDownRefIdeal.Value.REF) (heq c).1) (heq c).2.1) (heq c).2.2).trans (Cert.MmDownIdeal.Value.final m c).symm
  exact ⟨h0.trans k0, hk⟩

theorem algebraic_SwigluFwd : Cert.algebraic_SwigluFwdIdeal_SwigluFwdRefIdeal := by
  intro m g m' g' _ heq
  refine ⟨fun c => (Cert.SwigluFwdIdeal.Gen.dats m 0 c).arrAt 5 Cert.SwigluFwdIdeal.cfg0.N,
    fun c => (Cert.SwigluFwdIdeal.Gen.dats m 0 c).arrAt 6 Cert.SwigluFwdIdeal.cfg0.N,
    fun c => (Cert.SwigluFwdIdeal.Gen.dats m 0 c).arrAt 7 Cert.SwigluFwdIdeal.cfg0.N,
    Cert.SwigluFwdIdeal.Value.run_blocks m g,
    (θ_run Cert.SwigluFwdRefIdeal.defs _ _).mono (fun r h c => ?_) (Cert.SwigluFwdRefIdeal.Value.run m' g')⟩
  obtain ⟨h0, h1, h2, hk⟩ := h c
  have k0 : Cert.SwigluFwdRefIdeal.Value.REF_act (m' ((c.tc : Thread Cert.SwigluFwdRefIdeal.nD Cert.SwigluFwdRefIdeal.τ).loc Cert.SwigluFwdRefIdeal.main_arg0)) (m' ((c.tc : Thread Cert.SwigluFwdRefIdeal.nD Cert.SwigluFwdRefIdeal.τ).loc Cert.SwigluFwdRefIdeal.main_arg1)) (m' ((c.tc : Thread Cert.SwigluFwdRefIdeal.nD Cert.SwigluFwdRefIdeal.τ).loc Cert.SwigluFwdRefIdeal.main_arg2))
      = (Cert.SwigluFwdIdeal.Gen.dats m 0 c).arrAt 5 Cert.SwigluFwdIdeal.cfg0.N :=
    (congr (congr (congr (Eq.refl Cert.SwigluFwdRefIdeal.Value.REF_act) (heq c).1) (heq c).2.1) (heq c).2.2).trans (Cert.SwigluFwdIdeal.Value.final_act m c).symm
  have k1 : Cert.SwigluFwdRefIdeal.Value.REF_gate (m' ((c.tc : Thread Cert.SwigluFwdRefIdeal.nD Cert.SwigluFwdRefIdeal.τ).loc Cert.SwigluFwdRefIdeal.main_arg0)) (m' ((c.tc : Thread Cert.SwigluFwdRefIdeal.nD Cert.SwigluFwdRefIdeal.τ).loc Cert.SwigluFwdRefIdeal.main_arg1)) (m' ((c.tc : Thread Cert.SwigluFwdRefIdeal.nD Cert.SwigluFwdRefIdeal.τ).loc Cert.SwigluFwdRefIdeal.main_arg2))
      = (Cert.SwigluFwdIdeal.Gen.dats m 0 c).arrAt 6 Cert.SwigluFwdIdeal.cfg0.N :=
    (congr (congr (congr (Eq.refl Cert.SwigluFwdRefIdeal.Value.REF_gate) (heq c).1) (heq c).2.1) (heq c).2.2).trans (Cert.SwigluFwdIdeal.Value.final_gate m c).symm
  have k2 : Cert.SwigluFwdRefIdeal.Value.REF_up (m' ((c.tc : Thread Cert.SwigluFwdRefIdeal.nD Cert.SwigluFwdRefIdeal.τ).loc Cert.SwigluFwdRefIdeal.main_arg0)) (m' ((c.tc : Thread Cert.SwigluFwdRefIdeal.nD Cert.SwigluFwdRefIdeal.τ).loc Cert.SwigluFwdRefIdeal.main_arg1)) (m' ((c.tc : Thread Cert.SwigluFwdRefIdeal.nD Cert.SwigluFwdRefIdeal.τ).loc Cert.SwigluFwdRefIdeal.main_arg2))
      = (Cert.SwigluFwdIdeal.Gen.dats m 0 c).arrAt 7 Cert.SwigluFwdIdeal.cfg0.N :=
    (congr (congr (congr (Eq.refl Cert.SwigluFwdRefIdeal.Value.REF_up) (heq c).1) (heq c).2.1) (heq c).2.2).trans (Cert.SwigluFwdIdeal.Value.final_up m c).symm
  exact ⟨h0.trans k0, h1.trans k1, h2.trans k2, hk⟩

theorem algebraic_PleFwd : Cert.algebraic_PleFwdIdeal_PleFwdRefIdeal := by
  intro m g m' g' _ heq
  refine ⟨fun c => (Cert.PleFwdIdeal.Gen.dats m 0 c).arrAt 7 Cert.PleFwdIdeal.cfg0.N,
    fun c => (Cert.PleFwdIdeal.Gen.dats m 0 c).arrAt 8 Cert.PleFwdIdeal.cfg0.N,
    Cert.PleFwdIdeal.Value.run_blocks m g,
    (θ_run Cert.PleFwdRefIdeal.defs _ _).mono (fun r h c => ?_) (Cert.PleFwdRefIdeal.Value.run m' g')⟩
  obtain ⟨h0, h1, hk⟩ := h c
  have k0 : Cert.PleFwdRefIdeal.Value.REF_h (m' ((c.tc : Thread Cert.PleFwdRefIdeal.nD Cert.PleFwdRefIdeal.τ).loc Cert.PleFwdRefIdeal.main_arg0)) (m' ((c.tc : Thread Cert.PleFwdRefIdeal.nD Cert.PleFwdRefIdeal.τ).loc Cert.PleFwdRefIdeal.main_arg1)) (m' ((c.tc : Thread Cert.PleFwdRefIdeal.nD Cert.PleFwdRefIdeal.τ).loc Cert.PleFwdRefIdeal.main_arg2)) (m' ((c.tc : Thread Cert.PleFwdRefIdeal.nD Cert.PleFwdRefIdeal.τ).loc Cert.PleFwdRefIdeal.main_arg3))
      = (Cert.PleFwdIdeal.Gen.dats m 0 c).arrAt 7 Cert.PleFwdIdeal.cfg0.N :=
    (congr (congr (congr (congr (Eq.refl Cert.PleFwdRefIdeal.Value.REF_h) (heq c).1) (heq c).2.1) (heq c).2.2.1) (heq c).2.2.2).trans (Cert.PleFwdIdeal.Value.final_h m c).symm
  have k1 : Cert.PleFwdRefIdeal.Value.REF_pg (m' ((c.tc : Thread Cert.PleFwdRefIdeal.nD Cert.PleFwdRefIdeal.τ).loc Cert.PleFwdRefIdeal.main_arg0)) (m' ((c.tc : Thread Cert.PleFwdRefIdeal.nD Cert.PleFwdRefIdeal.τ).loc Cert.PleFwdRefIdeal.main_arg1)) (m' ((c.tc : Thread Cert.PleFwdRefIdeal.nD Cert.PleFwdRefIdeal.τ).loc Cert.PleFwdRefIdeal.main_arg2)) (m' ((c.tc : Thread Cert.PleFwdRefIdeal.nD Cert.PleFwdRefIdeal.τ).loc Cert.PleFwdRefIdeal.main_arg3))
      = (Cert.PleFwdIdeal.Gen.dats m 0 c).arrAt 8 Cert.PleFwdIdeal.cfg0.N :=
    (congr (congr (congr (congr (Eq.refl Cert.PleFwdRefIdeal.Value.REF_pg) (heq c).1) (heq c).2.1) (heq c).2.2.1) (heq c).2.2.2).trans (Cert.PleFwdIdeal.Value.final_pg m c).symm
  exact ⟨h0.trans k0, h1.trans k1, hk⟩

theorem algebraic_MmProj : Cert.algebraic_MmProjIdeal_MmProjRefIdeal := by
  intro m g m' g' _ heq
  refine ⟨fun c => (Cert.MmProjIdeal.Gen.dats m 0 c).arrAt 3 Cert.MmProjIdeal.cfg0.N,
    Cert.MmProjIdeal.Value.run_blocks m g,
    (θ_run Cert.MmProjRefIdeal.defs _ _).mono (fun r h c => ?_) (Cert.MmProjRefIdeal.Value.run m' g')⟩
  obtain ⟨h0, hk⟩ := h c
  have k0 : Cert.MmProjRefIdeal.Value.REF (m' ((c.tc : Thread Cert.MmProjRefIdeal.nD Cert.MmProjRefIdeal.τ).loc Cert.MmProjRefIdeal.main_arg0)) (m' ((c.tc : Thread Cert.MmProjRefIdeal.nD Cert.MmProjRefIdeal.τ).loc Cert.MmProjRefIdeal.main_arg1))
      = (Cert.MmProjIdeal.Gen.dats m 0 c).arrAt 3 Cert.MmProjIdeal.cfg0.N :=
    (congr (congr (Eq.refl Cert.MmProjRefIdeal.Value.REF) (heq c).1) (heq c).2).trans (Cert.MmProjIdeal.Value.final m c).symm
  exact ⟨h0.trans k0, hk⟩

theorem algebraic_RmsFwd : Cert.algebraic_RmsFwdIdeal_RmsFwdRefIdeal := by
  intro m g m' g' _ heq
  refine ⟨fun c => (Cert.RmsFwdIdeal.Gen.dats m 0 c).arrAt 2 Cert.RmsFwdIdeal.cfg0.N,
    Cert.RmsFwdIdeal.Value.run_blocks m g,
    (θ_run Cert.RmsFwdRefIdeal.defs _ _).mono (fun r h c => ?_) (Cert.RmsFwdRefIdeal.Value.run m' g')⟩
  obtain ⟨h0, hk⟩ := h c
  have k0 : Cert.RmsFwdRefIdeal.Value.REF_y (m' ((c.tc : Thread Cert.RmsFwdRefIdeal.nD Cert.RmsFwdRefIdeal.τ).loc Cert.RmsFwdRefIdeal.main_arg0)) (m' ((c.tc : Thread Cert.RmsFwdRefIdeal.nD Cert.RmsFwdRefIdeal.τ).loc Cert.RmsFwdRefIdeal.main_arg1))
      = (Cert.RmsFwdIdeal.Gen.dats m 0 c).arrAt 2 Cert.RmsFwdIdeal.cfg0.N :=
    (congr (congr (Eq.refl Cert.RmsFwdRefIdeal.Value.REF_y) (heq c).1) (heq c).2).trans (Cert.RmsFwdIdeal.Value.final_y m c).symm
  exact ⟨h0.trans k0, hk⟩

theorem algebraic_LnFwd : Cert.algebraic_LnFwdIdeal_LnFwdRefIdeal := by
  intro m g m' g' _ heq
  refine ⟨fun c => (Cert.LnFwdIdeal.Gen.dats m 0 c).arrAt 3 Cert.LnFwdIdeal.cfg0.N,
    Cert.LnFwdIdeal.Value.run_blocks m g,
    (θ_run Cert.LnFwdRefIdeal.defs _ _).mono (fun r h c => ?_) (Cert.LnFwdRefIdeal.Value.run m' g')⟩
  obtain ⟨h0, hk⟩ := h c
  have k0 : Cert.LnFwdRefIdeal.Value.REF_y (m' ((c.tc : Thread Cert.LnFwdRefIdeal.nD Cert.LnFwdRefIdeal.τ).loc Cert.LnFwdRefIdeal.main_arg0)) (m' ((c.tc : Thread Cert.LnFwdRefIdeal.nD Cert.LnFwdRefIdeal.τ).loc Cert.LnFwdRefIdeal.main_arg1)) (m' ((c.tc : Thread Cert.LnFwdRefIdeal.nD Cert.LnFwdRefIdeal.τ).loc Cert.LnFwdRefIdeal.main_arg2))
      = (Cert.LnFwdIdeal.Gen.dats m 0 c).arrAt 3 Cert.LnFwdIdeal.cfg0.N :=
    (congr (congr (congr (Eq.refl Cert.LnFwdRefIdeal.Value.REF_y) (heq c).1) (heq c).2.1) (heq c).2.2).trans (Cert.LnFwdIdeal.Value.final_y m c).symm
  exact ⟨h0.trans k0, hk⟩

theorem algebraic_LnBwd : Cert.algebraic_LnBwdIdeal_LnBwdRefIdeal_pre_finite_ln := by
  intro m g m' g' hpre heq
  refine ⟨fun c => (Cert.LnBwdIdeal.Gen.dats m 0 c).arrAt 4 Cert.LnBwdIdeal.cfg0.N,
    fun c => (Cert.LnBwdIdeal.Gen.dats m 0 c).arrAt 5 Cert.LnBwdIdeal.cfg0.N,
    fun c => (Cert.LnBwdIdeal.Gen.dats m 0 c).arrAt 6 Cert.LnBwdIdeal.cfg0.N,
    fun c => (Cert.LnBwdIdeal.Gen.dats m 0 c).arrAt 7 Cert.LnBwdIdeal.cfg0.N,
    Cert.LnBwdIdeal.Value.run_blocks m g,
    (θ_run Cert.LnBwdRefIdeal.defs _ _).mono (fun r h c => ?_) (Cert.LnBwdRefIdeal.Value.run m' g')⟩
  obtain ⟨h0, h1, h2, h3, hk⟩ := h c
  obtain ⟨a, ha⟩ := Cert.Pre_finite_ln.args _ _ _ _ (hpre c)
  have k0 : Cert.LnBwdRefIdeal.Value.REF_dcc (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1)) (m' ((c.tc : Thread Cert.LnBwdRefIdeal.nD Cert.LnBwdRefIdeal.τ).loc Cert.LnBwdRefIdeal.main_arg2)) (m' ((c.tc : Thread Cert.LnBwdRefIdeal.nD Cert.LnBwdRefIdeal.τ).loc Cert.LnBwdRefIdeal.main_arg3))
      = (Cert.LnBwdIdeal.Gen.dats m 0 c).arrAt 4 Cert.LnBwdIdeal.cfg0.N :=
    (congr (congr (congr (congr (Eq.refl Cert.LnBwdRefIdeal.Value.REF_dcc) (heq c).1) (heq c).2.1) (heq c).2.2.1) (heq c).2.2.2).trans (Cert.LnBwdIdeal.Value.final_dcc m c ha).symm
  have k1 : Cert.LnBwdRefIdeal.Value.REF_dg (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1)) (m' ((c.tc : Thread Cert.LnBwdRefIdeal.nD Cert.LnBwdRefIdeal.τ).loc Cert.LnBwdRefIdeal.main_arg2)) (m' ((c.tc : Thread Cert.LnBwdRefIdeal.nD Cert.LnBwdRefIdeal.τ).loc Cert.LnBwdRefIdeal.main_arg3))
      = (Cert.LnBwdIdeal.Gen.dats m 0 c).arrAt 5 Cert.LnBwdIdeal.cfg0.N :=
    (congr (congr (congr (congr (Eq.refl Cert.LnBwdRefIdeal.Value.REF_dg) (heq c).1) (heq c).2.1) (heq c).2.2.1) (heq c).2.2.2).trans (Cert.LnBwdIdeal.Value.final_dg m c ha).symm
  have k2 : Cert.LnBwdRefIdeal.Value.REF_db (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1)) (m' ((c.tc : Thread Cert.LnBwdRefIdeal.nD Cert.LnBwdRefIdeal.τ).loc Cert.LnBwdRefIdeal.main_arg2)) (m' ((c.tc : Thread Cert.LnBwdRefIdeal.nD Cert.LnBwdRefIdeal.τ).loc Cert.LnBwdRefIdeal.main_arg3))
      = (Cert.LnBwdIdeal.Gen.dats m 0 c).arrAt 6 Cert.LnBwdIdeal.cfg0.N :=
    (congr (congr (congr (congr (Eq.refl Cert.LnBwdRefIdeal.Value.REF_db) (heq c).1) (heq c).2.1) (heq c).2.2.1) (heq c).2.2.2).trans (Cert.LnBwdIdeal.Value.final_db m c ha).symm
  have k3 : Cert.LnBwdRefIdeal.Value.REF_dcb (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1)) (m' ((c.tc : Thread Cert.LnBwdRefIdeal.nD Cert.LnBwdRefIdeal.τ).loc Cert.LnBwdRefIdeal.main_arg2)) (m' ((c.tc : Thread Cert.LnBwdRefIdeal.nD Cert.LnBwdRefIdeal.τ).loc Cert.LnBwdRefIdeal.main_arg3))
      = (Cert.LnBwdIdeal.Gen.dats m 0 c).arrAt 7 Cert.LnBwdIdeal.cfg0.N :=
    (congr (congr (congr (congr (Eq.refl Cert.LnBwdRefIdeal.Value.REF_dcb) (heq c).1) (heq c).2.1) (heq c).2.2.1) (heq c).2.2.2).trans (Cert.LnBwdIdeal.Value.final_dcb m c ha).symm
  exact ⟨h0.trans k0, h1.trans k1, h2.trans k2, h3.trans k3, hk⟩

theorem algebraic_SguFwd : Cert.algebraic_SguFwdIdeal_SguFwdRefIdeal := by
  intro m g m' g' _ heq
  refine ⟨fun c => (Cert.SguFwdIdeal.Gen.dats m 0 c).arrAt 6 Cert.SguFwdIdeal.cfg0.N,
    Cert.SguFwdIdeal.Value.run_blocks m g,
    (θ_run Cert.SguFwdRefIdeal.defs _ _).mono (fun r h c => ?_) (Cert.SguFwdRefIdeal.Value.run m' g')⟩
  obtain ⟨h0, hk⟩ := h c
  have k0 : Cert.SguFwdRefIdeal.Value.REF (m' ((c.tc : Thread Cert.SguFwdRefIdeal.nD Cert.SguFwdRefIdeal.τ).loc Cert.SguFwdRefIdeal.main_arg0)) (m' ((c.tc : Thread Cert.SguFwdRefIdeal.nD Cert.SguFwdRefIdeal.τ).loc Cert.SguFwdRefIdeal.main_arg1)) (m' ((c.tc : Thread Cert.SguFwdRefIdeal.nD Cert.SguFwdRefIdeal.τ).loc Cert.SguFwdRefIdeal.main_arg2)) (m' ((c.tc : Thread Cert.SguFwdRefIdeal.nD Cert.SguFwdRefIdeal.τ).loc Cert.SguFwdRefIdeal.main_arg3)) (m' ((c.tc : Thread Cert.SguFwdRefIdeal.nD Cert.SguFwdRefIdeal.τ).loc Cert.SguFwdRefIdeal.main_arg4))
      = (Cert.SguFwdIdeal.Gen.dats m 0 c).arrAt 6 Cert.SguFwdIdeal.cfg0.N :=
    (congr (congr (congr (congr (congr (Eq.refl Cert.SguFwdRefIdeal.Value.REF) (heq c).1) (heq c).2.1) (heq c).2.2.1) (heq c).2.2.2.1) (heq c).2.2.2.2).trans (Cert.SguFwdIdeal.Value.final m c).symm
  exact ⟨h0.trans k0, hk⟩

theorem algebraic_LossHead : Cert.algebraic_LossHeadIdeal_LossHeadRefIdeal_pre_finite_head := by
  intro m g m' g' hpre heq
  refine ⟨fun c => (Cert.LossHeadIdeal.Gen.dats m 0 c).arrAt 3 Cert.LossHeadIdeal.cfg0.N,
    fun c => (Cert.LossHeadIdeal.Gen.dats m 0 c).arrAt 4 Cert.LossHeadIdeal.cfg0.N,
    fun c => (Cert.LossHeadIdeal.Gen.dats m 0 c).arrAt 5 Cert.LossHeadIdeal.cfg0.N,
    fun c => (Cert.LossHeadIdeal.Gen.dats m 0 c).arrAt 6 Cert.LossHeadIdeal.cfg0.N,
    Cert.LossHeadIdeal.Value.run_blocks m g,
    (θ_run Cert.LossHeadRefIdeal.defs _ _).mono (fun r h c => ?_) (Cert.LossHeadRefIdeal.Value.run m' g')⟩
  obtain ⟨h0, h1, h2, h3, hk⟩ := h c
  obtain ⟨a, ha⟩ := Cert.Pre_finite_head.args _ _ _ (hpre c)
  have k0 : Cert.LossHeadRefIdeal.Value.REF_loss (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2))
      = (Cert.LossHeadIdeal.Gen.dats m 0 c).arrAt 3 Cert.LossHeadIdeal.cfg0.N :=
    (congr (congr (congr (Eq.refl Cert.LossHeadRefIdeal.Value.REF_loss) (heq c).1) (heq c).2.1) (heq c).2.2).trans (Cert.LossHeadIdeal.Value.final_loss m c ha).symm
  have k1 : Cert.LossHeadRefIdeal.Value.REF_dh (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2))
      = (Cert.LossHeadIdeal.Gen.dats m 0 c).arrAt 4 Cert.LossHeadIdeal.cfg0.N :=
    (congr (congr (congr (Eq.refl Cert.LossHeadRefIdeal.Value.REF_dh) (heq c).1) (heq c).2.1) (heq c).2.2).trans (Cert.LossHeadIdeal.Value.final_dh m c ha).symm
  have k2 : Cert.LossHeadRefIdeal.Value.REF_dhb (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2))
      = (Cert.LossHeadIdeal.Gen.dats m 0 c).arrAt 5 Cert.LossHeadIdeal.cfg0.N :=
    (congr (congr (congr (Eq.refl Cert.LossHeadRefIdeal.Value.REF_dhb) (heq c).1) (heq c).2.1) (heq c).2.2).trans (Cert.LossHeadIdeal.Value.final_dhb m c ha).symm
  have k3 : Cert.LossHeadRefIdeal.Value.REF_dg (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2))
      = (Cert.LossHeadIdeal.Gen.dats m 0 c).arrAt 6 Cert.LossHeadIdeal.cfg0.N :=
    (congr (congr (congr (Eq.refl Cert.LossHeadRefIdeal.Value.REF_dg) (heq c).1) (heq c).2.1) (heq c).2.2).trans (Cert.LossHeadIdeal.Value.final_dg m c ha).symm
  exact ⟨h0.trans k0, h1.trans k1, h2.trans k2, h3.trans k3, hk⟩

theorem algebraic_AdamW : Cert.algebraic_AdamWIdeal_AdamWRefIdeal := by
  intro m g m' g' _ heq
  refine ⟨fun c => (Cert.AdamWIdeal.Gen.dats m 0 c).arrAt 4 Cert.AdamWIdeal.cfg0.N,
    fun c => (Cert.AdamWIdeal.Gen.dats m 0 c).arrAt 5 Cert.AdamWIdeal.cfg0.N,
    fun c => (Cert.AdamWIdeal.Gen.dats m 0 c).arrAt 6 Cert.AdamWIdeal.cfg0.N,
    Cert.AdamWIdeal.Value.run_blocks m g,
    (θ_run Cert.AdamWRefIdeal.defs _ _).mono (fun r h c => ?_) (Cert.AdamWRefIdeal.Value.run m' g')⟩
  obtain ⟨h0, h1, h2, hk⟩ := h c
  have k0 : Cert.AdamWRefIdeal.Value.REF_delta (m' ((c.tc : Thread Cert.AdamWRefIdeal.nD Cert.AdamWRefIdeal.τ).loc Cert.AdamWRefIdeal.main_arg0)) (m' ((c.tc : Thread Cert.AdamWRefIdeal.nD Cert.AdamWRefIdeal.τ).loc Cert.AdamWRefIdeal.main_arg1)) (m' ((c.tc : Thread Cert.AdamWRefIdeal.nD Cert.AdamWRefIdeal.τ).loc Cert.AdamWRefIdeal.main_arg2)) (m' ((c.tc : Thread Cert.AdamWRefIdeal.nD Cert.AdamWRefIdeal.τ).loc Cert.AdamWRefIdeal.main_arg3))
      = (Cert.AdamWIdeal.Gen.dats m 0 c).arrAt 4 Cert.AdamWIdeal.cfg0.N :=
    (congr (congr (congr (congr (Eq.refl Cert.AdamWRefIdeal.Value.REF_delta) (heq c).1) (heq c).2.1) (heq c).2.2.1) (heq c).2.2.2).trans (Cert.AdamWIdeal.Value.final_delta m c).symm
  have k1 : Cert.AdamWRefIdeal.Value.REF_m (m' ((c.tc : Thread Cert.AdamWRefIdeal.nD Cert.AdamWRefIdeal.τ).loc Cert.AdamWRefIdeal.main_arg0)) (m' ((c.tc : Thread Cert.AdamWRefIdeal.nD Cert.AdamWRefIdeal.τ).loc Cert.AdamWRefIdeal.main_arg1)) (m' ((c.tc : Thread Cert.AdamWRefIdeal.nD Cert.AdamWRefIdeal.τ).loc Cert.AdamWRefIdeal.main_arg2)) (m' ((c.tc : Thread Cert.AdamWRefIdeal.nD Cert.AdamWRefIdeal.τ).loc Cert.AdamWRefIdeal.main_arg3))
      = (Cert.AdamWIdeal.Gen.dats m 0 c).arrAt 5 Cert.AdamWIdeal.cfg0.N :=
    (congr (congr (congr (congr (Eq.refl Cert.AdamWRefIdeal.Value.REF_m) (heq c).1) (heq c).2.1) (heq c).2.2.1) (heq c).2.2.2).trans (Cert.AdamWIdeal.Value.final_m m c).symm
  have k2 : Cert.AdamWRefIdeal.Value.REF_v (m' ((c.tc : Thread Cert.AdamWRefIdeal.nD Cert.AdamWRefIdeal.τ).loc Cert.AdamWRefIdeal.main_arg0)) (m' ((c.tc : Thread Cert.AdamWRefIdeal.nD Cert.AdamWRefIdeal.τ).loc Cert.AdamWRefIdeal.main_arg1)) (m' ((c.tc : Thread Cert.AdamWRefIdeal.nD Cert.AdamWRefIdeal.τ).loc Cert.AdamWRefIdeal.main_arg2)) (m' ((c.tc : Thread Cert.AdamWRefIdeal.nD Cert.AdamWRefIdeal.τ).loc Cert.AdamWRefIdeal.main_arg3))
      = (Cert.AdamWIdeal.Gen.dats m 0 c).arrAt 6 Cert.AdamWIdeal.cfg0.N :=
    (congr (congr (congr (congr (Eq.refl Cert.AdamWRefIdeal.Value.REF_v) (heq c).1) (heq c).2.1) (heq c).2.2.1) (heq c).2.2.2).trans (Cert.AdamWIdeal.Value.final_v m c).symm
  exact ⟨h0.trans k0, h1.trans k1, h2.trans k2, hk⟩

theorem claim : Cert.Claim := ⟨Cert.Kernel.Gen.facts, Cert.KernelIdeal.Gen.facts, Cert.ReferenceIdeal.Gen.facts, Cert.DwGate.Gen.facts, Cert.DwGateIdeal.Gen.facts, Cert.DwGateRefIdeal.Gen.facts, Cert.DwDown.Gen.facts, Cert.DwDownIdeal.Gen.facts, Cert.DwDownRefIdeal.Gen.facts, Cert.DwIn.Gen.facts, Cert.DwInIdeal.Gen.facts, Cert.DwInRefIdeal.Gen.facts, Cert.DwOut.Gen.facts, Cert.DwOutIdeal.Gen.facts, Cert.DwOutRefIdeal.Gen.facts, Cert.DwProj.Gen.facts, Cert.DwProjIdeal.Gen.facts, Cert.DwProjRefIdeal.Gen.facts, Cert.DxIn.Gen.facts, Cert.DxInIdeal.Gen.facts, Cert.DxInRefIdeal.Gen.facts, Cert.DxOut.Gen.facts, Cert.DxOutIdeal.Gen.facts, Cert.DxOutRefIdeal.Gen.facts, Cert.DxFfn.Gen.facts, Cert.DxFfnIdeal.Gen.facts, Cert.DxFfnRefIdeal.Gen.facts, Cert.SwigluBwd.Gen.facts, Cert.SwigluBwdIdeal.Gen.facts, Cert.SwigluBwdRefIdeal.Gen.facts, Cert.PleBwd.Gen.facts, Cert.PleBwdIdeal.Gen.facts, Cert.PleBwdRefIdeal.Gen.facts, Cert.MmIn.Gen.facts, Cert.MmInIdeal.Gen.facts, Cert.MmInRefIdeal.Gen.facts, Cert.MmOut.Gen.facts, Cert.MmOutIdeal.Gen.facts, Cert.MmOutRefIdeal.Gen.facts, Cert.MmDown.Gen.facts, Cert.MmDownIdeal.Gen.facts, Cert.MmDownRefIdeal.Gen.facts, Cert.SwigluFwd.Gen.facts, Cert.SwigluFwdIdeal.Gen.facts, Cert.SwigluFwdRefIdeal.Gen.facts, Cert.PleFwd.Gen.facts, Cert.PleFwdIdeal.Gen.facts, Cert.PleFwdRefIdeal.Gen.facts, Cert.MmProj.Gen.facts, Cert.MmProjIdeal.Gen.facts, Cert.MmProjRefIdeal.Gen.facts, Cert.RmsFwd.Gen.facts, Cert.RmsFwdIdeal.Gen.facts, Cert.RmsFwdRefIdeal.Gen.facts, Cert.LnFwd.Gen.facts, Cert.LnFwdIdeal.Gen.facts, Cert.LnFwdRefIdeal.Gen.facts, Cert.LnBwd.Gen.facts, Cert.LnBwdIdeal.Gen.facts, Cert.LnBwdRefIdeal.Gen.facts, Cert.SguFwd.Gen.facts, Cert.SguFwdIdeal.Gen.facts, Cert.SguFwdRefIdeal.Gen.facts, Cert.LossHead.Gen.facts, Cert.LossHeadIdeal.Gen.facts, Cert.LossHeadRefIdeal.Gen.facts, Cert.AdamW.Gen.facts, Cert.AdamWIdeal.Gen.facts, Cert.AdamWRefIdeal.Gen.facts, Cert.Pre_finite.Gen.facts, Cert.Pre_finite_swiglu.Gen.facts, Cert.Pre_finite_ln.Gen.facts, Cert.Pre_finite_head.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2.2.2.2.2, sem_eq_zero_of_no_sems (by decide) r.2⟩)
    (Cert.ReferenceIdeal.Value.run m ρ),
  fun m ρ _ => (θ_run Cert.ReferenceIdeal.defs _ _).mono (fun r h => ⟨fun c => (h c).2.2.2.2.2.2, sem_eq_zero_of_no_sems (by decide) r.2⟩)
    (Cert.ReferenceIdeal.Value.run m ρ),
  fun m ρ _ => Cert.DwGate.Gen.frame m ρ,
  fun m ρ _ => Cert.DwGateIdeal.Gen.frame m ρ,
  fun m ρ _ => (θ_run Cert.DwGateRefIdeal.defs _ _).mono (fun r h => ⟨fun c => (h c).2, sem_eq_zero_of_no_sems (by decide) r.2⟩)
    (Cert.DwGateRefIdeal.Value.run m ρ),
  fun m ρ _ => Cert.DwDown.Gen.frame m ρ,
  fun m ρ _ => Cert.DwDownIdeal.Gen.frame m ρ,
  fun m ρ _ => (θ_run Cert.DwDownRefIdeal.defs _ _).mono (fun r h => ⟨fun c => (h c).2, sem_eq_zero_of_no_sems (by decide) r.2⟩)
    (Cert.DwDownRefIdeal.Value.run m ρ),
  fun m ρ _ => Cert.DwIn.Gen.frame m ρ,
  fun m ρ _ => Cert.DwInIdeal.Gen.frame m ρ,
  fun m ρ _ => (θ_run Cert.DwInRefIdeal.defs _ _).mono (fun r h => ⟨fun c => (h c).2, sem_eq_zero_of_no_sems (by decide) r.2⟩)
    (Cert.DwInRefIdeal.Value.run m ρ),
  fun m ρ _ => Cert.DwOut.Gen.frame m ρ,
  fun m ρ _ => Cert.DwOutIdeal.Gen.frame m ρ,
  fun m ρ _ => (θ_run Cert.DwOutRefIdeal.defs _ _).mono (fun r h => ⟨fun c => (h c).2, sem_eq_zero_of_no_sems (by decide) r.2⟩)
    (Cert.DwOutRefIdeal.Value.run m ρ),
  fun m ρ _ => Cert.DwProj.Gen.frame m ρ,
  fun m ρ _ => Cert.DwProjIdeal.Gen.frame m ρ,
  fun m ρ _ => (θ_run Cert.DwProjRefIdeal.defs _ _).mono (fun r h => ⟨fun c => (h c).2, sem_eq_zero_of_no_sems (by decide) r.2⟩)
    (Cert.DwProjRefIdeal.Value.run m ρ),
  fun m ρ _ => Cert.DxIn.Gen.frame m ρ,
  fun m ρ _ => Cert.DxInIdeal.Gen.frame m ρ,
  fun m ρ _ => (θ_run Cert.DxInRefIdeal.defs _ _).mono (fun r h => ⟨fun c => (h c).2, sem_eq_zero_of_no_sems (by decide) r.2⟩)
    (Cert.DxInRefIdeal.Value.run m ρ),
  fun m ρ _ => Cert.DxOut.Gen.frame m ρ,
  fun m ρ _ => Cert.DxOutIdeal.Gen.frame m ρ,
  fun m ρ _ => (θ_run Cert.DxOutRefIdeal.defs _ _).mono (fun r h => ⟨fun c => (h c).2, sem_eq_zero_of_no_sems (by decide) r.2⟩)
    (Cert.DxOutRefIdeal.Value.run m ρ),
  fun m ρ _ => Cert.DxFfn.Gen.frame m ρ,
  fun m ρ _ => Cert.DxFfnIdeal.Gen.frame m ρ,
  fun m ρ _ => (θ_run Cert.DxFfnRefIdeal.defs _ _).mono (fun r h => ⟨fun c => (h c).2, sem_eq_zero_of_no_sems (by decide) r.2⟩)
    (Cert.DxFfnRefIdeal.Value.run m ρ),
  fun m ρ _ => Cert.SwigluBwd.Gen.frame m ρ,
  fun m ρ _ => Cert.SwigluBwdIdeal.Gen.frame m ρ,
  fun m ρ _ => Cert.SwigluBwdIdeal.Gen.frame m ρ,
  fun m ρ _ => (θ_run Cert.SwigluBwdRefIdeal.defs _ _).mono (fun r h => ⟨fun c => (h c).2.2.2, sem_eq_zero_of_no_sems (by decide) r.2⟩)
    (Cert.SwigluBwdRefIdeal.Value.run m ρ),
  fun m ρ _ => (θ_run Cert.SwigluBwdRefIdeal.defs _ _).mono (fun r h => ⟨fun c => (h c).2.2.2, sem_eq_zero_of_no_sems (by decide) r.2⟩)
    (Cert.SwigluBwdRefIdeal.Value.run m ρ),
  fun m ρ _ => Cert.PleBwd.Gen.frame m ρ,
  fun m ρ _ => Cert.PleBwdIdeal.Gen.frame m ρ,
  fun m ρ _ => (θ_run Cert.PleBwdRefIdeal.defs _ _).mono (fun r h => ⟨fun c => (h c).2.2, sem_eq_zero_of_no_sems (by decide) r.2⟩)
    (Cert.PleBwdRefIdeal.Value.run m ρ),
  fun m ρ _ => Cert.MmIn.Gen.frame m ρ,
  fun m ρ _ => Cert.MmInIdeal.Gen.frame m ρ,
  fun m ρ _ => (θ_run Cert.MmInRefIdeal.defs _ _).mono (fun r h => ⟨fun c => (h c).2, sem_eq_zero_of_no_sems (by decide) r.2⟩)
    (Cert.MmInRefIdeal.Value.run m ρ),
  fun m ρ _ => Cert.MmOut.Gen.frame m ρ,
  fun m ρ _ => Cert.MmOutIdeal.Gen.frame m ρ,
  fun m ρ _ => (θ_run Cert.MmOutRefIdeal.defs _ _).mono (fun r h => ⟨fun c => (h c).2, sem_eq_zero_of_no_sems (by decide) r.2⟩)
    (Cert.MmOutRefIdeal.Value.run m ρ),
  fun m ρ _ => Cert.MmDown.Gen.frame m ρ,
  fun m ρ _ => Cert.MmDownIdeal.Gen.frame m ρ,
  fun m ρ _ => (θ_run Cert.MmDownRefIdeal.defs _ _).mono (fun r h => ⟨fun c => (h c).2, sem_eq_zero_of_no_sems (by decide) r.2⟩)
    (Cert.MmDownRefIdeal.Value.run m ρ),
  fun m ρ _ => Cert.SwigluFwd.Gen.frame m ρ,
  fun m ρ _ => Cert.SwigluFwdIdeal.Gen.frame m ρ,
  fun m ρ _ => (θ_run Cert.SwigluFwdRefIdeal.defs _ _).mono (fun r h => ⟨fun c => (h c).2.2.2, sem_eq_zero_of_no_sems (by decide) r.2⟩)
    (Cert.SwigluFwdRefIdeal.Value.run m ρ),
  fun m ρ _ => Cert.PleFwd.Gen.frame m ρ,
  fun m ρ _ => Cert.PleFwdIdeal.Gen.frame m ρ,
  fun m ρ _ => (θ_run Cert.PleFwdRefIdeal.defs _ _).mono (fun r h => ⟨fun c => (h c).2.2, sem_eq_zero_of_no_sems (by decide) r.2⟩)
    (Cert.PleFwdRefIdeal.Value.run m ρ),
  fun m ρ _ => Cert.MmProj.Gen.frame m ρ,
  fun m ρ _ => Cert.MmProjIdeal.Gen.frame m ρ,
  fun m ρ _ => (θ_run Cert.MmProjRefIdeal.defs _ _).mono (fun r h => ⟨fun c => (h c).2, sem_eq_zero_of_no_sems (by decide) r.2⟩)
    (Cert.MmProjRefIdeal.Value.run m ρ),
  fun m ρ _ => Cert.RmsFwd.Gen.frame m ρ,
  fun m ρ _ => Cert.RmsFwdIdeal.Gen.frame m ρ,
  fun m ρ _ => (θ_run Cert.RmsFwdRefIdeal.defs _ _).mono (fun r h => ⟨fun c => (h c).2, sem_eq_zero_of_no_sems (by decide) r.2⟩)
    (Cert.RmsFwdRefIdeal.Value.run m ρ),
  fun m ρ _ => Cert.LnFwd.Gen.frame m ρ,
  fun m ρ _ => Cert.LnFwdIdeal.Gen.frame m ρ,
  fun m ρ _ => (θ_run Cert.LnFwdRefIdeal.defs _ _).mono (fun r h => ⟨fun c => (h c).2, sem_eq_zero_of_no_sems (by decide) r.2⟩)
    (Cert.LnFwdRefIdeal.Value.run m ρ),
  fun m ρ _ => Cert.LnBwd.Gen.frame m ρ,
  fun m ρ _ => Cert.LnBwdIdeal.Gen.frame m ρ,
  fun m ρ _ => Cert.LnBwdIdeal.Gen.frame m ρ,
  fun m ρ _ => (θ_run Cert.LnBwdRefIdeal.defs _ _).mono (fun r h => ⟨fun c => (h c).2.2.2.2, sem_eq_zero_of_no_sems (by decide) r.2⟩)
    (Cert.LnBwdRefIdeal.Value.run m ρ),
  fun m ρ _ => (θ_run Cert.LnBwdRefIdeal.defs _ _).mono (fun r h => ⟨fun c => (h c).2.2.2.2, sem_eq_zero_of_no_sems (by decide) r.2⟩)
    (Cert.LnBwdRefIdeal.Value.run m ρ),
  fun m ρ _ => Cert.SguFwd.Gen.frame m ρ,
  fun m ρ _ => Cert.SguFwdIdeal.Gen.frame m ρ,
  fun m ρ _ => (θ_run Cert.SguFwdRefIdeal.defs _ _).mono (fun r h => ⟨fun c => (h c).2, sem_eq_zero_of_no_sems (by decide) r.2⟩)
    (Cert.SguFwdRefIdeal.Value.run m ρ),
  fun m ρ _ => Cert.LossHead.Gen.frame m ρ,
  fun m ρ _ => Cert.LossHeadIdeal.Gen.frame m ρ,
  fun m ρ _ => Cert.LossHeadIdeal.Gen.frame m ρ,
  fun m ρ _ => (θ_run Cert.LossHeadRefIdeal.defs _ _).mono (fun r h => ⟨fun c => (h c).2.2.2.2, sem_eq_zero_of_no_sems (by decide) r.2⟩)
    (Cert.LossHeadRefIdeal.Value.run m ρ),
  fun m ρ _ => (θ_run Cert.LossHeadRefIdeal.defs _ _).mono (fun r h => ⟨fun c => (h c).2.2.2.2, sem_eq_zero_of_no_sems (by decide) r.2⟩)
    (Cert.LossHeadRefIdeal.Value.run m ρ),
  fun m ρ _ => Cert.AdamW.Gen.frame m ρ,
  fun m ρ _ => Cert.AdamWIdeal.Gen.frame m ρ,
  fun m ρ _ => (θ_run Cert.AdamWRefIdeal.defs _ _).mono (fun r h => ⟨fun c => (h c).2.2.2, sem_eq_zero_of_no_sems (by decide) r.2⟩)
    (Cert.AdamWRefIdeal.Value.run m ρ),
  ⟨IdealRules.named_const.statement Cert.KernelIdeal.κ "gelu_c" .f32 0x3D372713#32 ((8943 / 200000 : ℝ) : EReal) rfl,
    IdealRules.named_const.statement Cert.KernelIdeal.κ "gelu_3c" .f32 0x3E095D4F#32 ((26829 / 200000 : ℝ) : EReal) rfl⟩,
  algebraic_Sgu,
  trivial,
  algebraic_DwGate,
  trivial,
  algebraic_DwDown,
  trivial,
  algebraic_DwIn,
  trivial,
  algebraic_DwOut,
  trivial,
  algebraic_DwProj,
  trivial,
  algebraic_DxIn,
  trivial,
  algebraic_DxOut,
  trivial,
  algebraic_DxFfn,
  trivial,
  algebraic_SwigluBwd,
  trivial,
  algebraic_PleBwd,
  trivial,
  algebraic_MmIn,
  trivial,
  algebraic_MmOut,
  trivial,
  algebraic_MmDown,
  trivial,
  algebraic_SwigluFwd,
  trivial,
  algebraic_PleFwd,
  trivial,
  algebraic_MmProj,
  trivial,
  algebraic_RmsFwd,
  trivial,
  algebraic_LnFwd,
  trivial,
  algebraic_LnBwd,
  IdealRules.named_const.statement Cert.SguFwdIdeal.κ "gelu_c" .f32 0x3D372713#32 ((8943 / 200000 : ℝ) : EReal) rfl,
  algebraic_SguFwd,
  trivial,
  algebraic_LossHead,
  trivial,
  algebraic_AdamW⟩

end Cert.Proof

end
